-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite [hPre_finite : Cert.Pre_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))).1 = (fun _ => 1#1)
    ∧ (Cert.Pre_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))).2.1 = (fun _ => 1#1)
    ∧ (Cert.Pre_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))).2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite [hPre_finite : Cert.Pre_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8))).1 = (fun _ => 1#1)
    ∧ (Cert.Pre_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8))).2.1 = (fun _ => 1#1)
    ∧ (Cert.Pre_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Kernel6Ideal_pre_finite [hKernel6Ideal : Cert.Kernel6Ideal.Facts] [hPre_finite : Cert.Pre_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Reference6Ideal_pre_finite [hReference6Ideal : Cert.Reference6Ideal.Facts] [hPre_finite : Cert.Pre_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_v37) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_v15) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel6_Kernel6Ideal : Prop :=
  True

def algebraic_Kernel6Ideal_Reference6Ideal_pre_finite [hKernel6Ideal : Cert.Kernel6Ideal.Facts] [hReference6Ideal : Cert.Reference6Ideal.Facts] [hPre_finite : Cert.Pre_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v11)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v11) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v37) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel6 (hKernel6 := hKernel6)
    ∧ quiescent_Kernel6Ideal (hKernel6Ideal := hKernel6Ideal)
    ∧ quiescent_Kernel6Ideal_pre_finite (hKernel6Ideal := hKernel6Ideal) (hPre_finite := hPre_finite)
    ∧ quiescent_Reference6Ideal (hReference6Ideal := hReference6Ideal)
    ∧ quiescent_Reference6Ideal_pre_finite (hReference6Ideal := hReference6Ideal) (hPre_finite := hPre_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel6_Kernel6Ideal
    ∧ algebraic_Kernel6Ideal_Reference6Ideal_pre_finite (hKernel6Ideal := hKernel6Ideal) (hReference6Ideal := hReference6Ideal) (hPre_finite := hPre_finite)
-- ==== Pre_finite.lean ====
abbrev S4x2048x2048 : Shape := ⟨3, ![4, 2048, 2048]⟩
abbrev S4x2048x1024 : Shape := ⟨3, ![4, 2048, 1024]⟩
abbrev S2048x2048 : Shape := ⟨2, ![2048, 2048]⟩
abbrev S2048 : Shape := ⟨1, ![2048]⟩
abbrev S4x256x4x128 : Shape := ⟨4, ![4, 256, 4, 128]⟩
abbrev S2048x512 : Shape := ⟨2, ![2048, 512]⟩
abbrev S512x2048 : Shape := ⟨2, ![512, 2048]⟩
abbrev S_ : Shape := ⟨0, ![]⟩

class Facts : Prop where
  bcast_S_S2048 : S_.BroadcastsInDim S2048 (![] : Fin 0 → Fin S2048.rank)
  bcast_S_S4x256x4x128 : S_.BroadcastsInDim S4x256x4x128 (![] : Fin 0 → Fin S4x256x4x128.rank)
  bcast_S_S2048x512 : S_.BroadcastsInDim S2048x512 (![] : Fin 0 → Fin S2048x512.rank)

variable [Facts]

def fn {F : FTy → Type} [FloatOps F] (main_arg0 : FVec F S4x2048x2048 .f32) (main_arg1 : FVec F S4x2048x1024 .f32) (main_arg2 : FVec F S4x2048x1024 .f32) (main_arg3 : FVec F S2048x2048 .f32) (main_arg4 : FVec F S2048 .f32) (main_arg5 : FVec F S4x256x4x128 .f32) (main_arg6 : FVec F S4x256x4x128 .f32) (main_arg7 : FVec F S2048x512 .f32) (main_arg8 : FVec F S512x2048 .f32) : IVec S2048 1 × IVec S4x256x4x128 1 × IVec S2048x512 1 :=
  let main_v0 : FVec F S2048 .f32 := Host.absf main_arg4
  let main_cst : FVec F S_ .f32 := constant S_ .f32 0x7F7FFFFF#32
  let main_v1 : FVec F S2048 .f32 := broadcastInDim S2048 ![] bcast_S_S2048 main_cst
  let main_v2 : IVec S2048 1 := cmpf .ole main_v0 main_v1
  let main_v3 : FVec F S4x256x4x128 .f32 := Host.absf main_arg5
  let main_cst_0 : FVec F S_ .f32 := constant S_ .f32 0x7F7FFFFF#32
  let main_v4 : FVec F S4x256x4x128 .f32 := broadcastInDim S4x256x4x128 ![] bcast_S_S4x256x4x128 main_cst_0
  let main_v5 : IVec S4x256x4x128 1 := cmpf .ole main_v3 main_v4
  let main_v6 : FVec F S2048x512 .f32 := Host.absf main_arg7
  let main_cst_1 : FVec F S_ .f32 := constant S_ .f32 0x7F7FFFFF#32
  let main_v7 : FVec F S2048x512 .f32 := broadcastInDim S2048x512 ![] bcast_S_S2048x512 main_cst_1
  let main_v8 : IVec S2048x512 1 := cmpf .ole main_v6 main_v7
  (main_v2, main_v5, main_v8)
-- ==== Kernel.lean ====
abbrev S128x8x2048 : Shape := ⟨3, ![128, 8, 2048]⟩
abbrev S2048 : Shape := ⟨1, ![2048]⟩
abbrev S2048x5632 : Shape := ⟨2, ![2048, 5632]⟩
abbrev S5632x2048 : Shape := ⟨2, ![5632, 2048]⟩
abbrev S1024x2048 : Shape := ⟨2, ![1024, 2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩
abbrev S3x2048x256 : Shape := ⟨3, ![3, 2048, 256]⟩
abbrev S3 : Shape := ⟨1, ![3]⟩
abbrev S3x256x2048 : Shape := ⟨3, ![3, 256, 2048]⟩
abbrev S2x2048x256 : Shape := ⟨3, ![2, 2048, 256]⟩
abbrev S2 : Shape := ⟨1, ![2]⟩
abbrev S2x256x2048 : Shape := ⟨3, ![2, 256, 2048]⟩
abbrev S1 : Shape := ⟨1, ![1]⟩
abbrev S_ : Shape := ⟨0, ![]⟩
abbrev S1x2048x256 : Shape := ⟨3, ![1, 2048, 256]⟩
abbrev S2048x256 : Shape := ⟨2, ![2048, 256]⟩
abbrev S1x256x2048 : Shape := ⟨3, ![1, 256, 2048]⟩
abbrev S256x2048 : Shape := ⟨2, ![256, 2048]⟩
abbrev S1024x256 : Shape := ⟨2, ![1024, 256]⟩

abbrev nBuf : Space → Nat
  | .hbm => 13
  | .vmem => 11
  | .smem => 0
  | _ => 0

abbrev bufTy : (tb : Table) → Fin (tcTables nBuf tb) → BufTy
  | .hbm, ⟨0, _⟩ => ⟨S128x8x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S1024x2048, .f32⟩
  | .hbm, ⟨7, _⟩ => ⟨S1x2048, .f32⟩
  | .hbm, ⟨8, _⟩ => ⟨S1x2048, .f32⟩
  | .hbm, ⟨9, _⟩ => ⟨S1024x2048, .f32⟩
  | .hbm, ⟨10, _⟩ => ⟨S2048x5632, .bf16⟩
  | .hbm, ⟨11, _⟩ => ⟨S2048x5632, .bf16⟩
  | .hbm, ⟨12, _⟩ => ⟨S5632x2048, .bf16⟩
  | .local _ .vmem, ⟨0, _⟩ => ⟨S1024x2048, .f32⟩
  | .local _ .vmem, ⟨1, _⟩ => ⟨S1x2048, .f32⟩
  | .local _ .vmem, ⟨2, _⟩ => ⟨S1x2048, .f32⟩
  | .local _ .vmem, ⟨3, _⟩ => ⟨S1024x2048, .f32⟩
  | .local _ .vmem, ⟨4, _⟩ => ⟨S1024x2048, .bf16⟩
  | .local _ .vmem, ⟨5, _⟩ => ⟨S3x2048x256, .f32⟩
  | .local _ .vmem, ⟨6, _⟩ => ⟨S3x2048x256, .f32⟩
  | .local _ .vmem, ⟨7, _⟩ => ⟨S3x256x2048, .f32⟩
  | .local _ .vmem, ⟨8, _⟩ => ⟨S2x2048x256, .bf16⟩
  | .local _ .vmem, ⟨9, _⟩ => ⟨S2x2048x256, .bf16⟩
  | .local _ .vmem, ⟨10, _⟩ => ⟨S2x256x2048, .bf16⟩
  | _, _ => ⟨S128x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scoped0 : Ref sig .tc := ⟨.vmem, 5, rfl⟩
abbrev cc0_scoped2 : Ref sig .tc := ⟨.vmem, 6, rfl⟩
abbrev cc0_scoped4 : Ref sig .tc := ⟨.vmem, 7, rfl⟩
abbrev cc0_scoped6 : Ref sig .tc := ⟨.vmem, 8, rfl⟩
abbrev cc0_scoped8 : Ref sig .tc := ⟨.vmem, 9, rfl⟩
abbrev cc0_scoped10 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c128_i32 : BitVec 32 := 128#32
  let v2 : BitVec 32 := Scalar.muli arg11 c128_i32
  v2
def k0_off1 (k0_t1 : Fin k0_t1_loop.trips) : Fin 2 → Nat :=
  let c0_i32 : BitVec 32 := 0#32
  let c1_i32 : BitVec 32 := 1#32
  let arg11 : BitVec 32 := Scf.iv c0_i32 c1_i32 k0_t1
  let c128_i32 : BitVec 32 := 128#32
  let v2 : BitVec 32 := Scalar.muli arg11 c128_i32
  let v3 : BitVec 32 := v2
  let v4 : Index := Scalar.indexCast v3
  let c0 : Index := 0#32
  ![v4.toNat, 0]
def k0_off2 : Fin 1 → Nat :=
  let c0_i32_28_r0 : BitVec 32 := 0#32
  let c3_i32_r0 : BitVec 32 := 3#32
  let v26_r0 : BitVec 32 := Scalar.remui c0_i32_28_r0 c3_i32_r0
  ![v26_r0.toNat]
def k0_off3 : Fin 3 → Nat :=
  let c0_i32_28_r0 : BitVec 32 := 0#32
  let c3_i32_r0 : BitVec 32 := 3#32
  let v26_r0 : BitVec 32 := Scalar.remui c0_i32_28_r0 c3_i32_r0
  let c0_i32_29_r0 : BitVec 32 := 0#32
  let c0_i32_30_r0 : BitVec 32 := 0#32
  ![v26_r0.toNat, 0, 0]
def k0_off4 : Fin 3 → Nat :=
  let c0_i32_43_r0 : BitVec 32 := 0#32
  let c3_i32_44_r0 : BitVec 32 := 3#32
  let v40_r0 : BitVec 32 := Scalar.remui c0_i32_43_r0 c3_i32_44_r0
  let c0_i32_45_r0 : BitVec 32 := 0#32
  let c0_i32_46_r0 : BitVec 32 := 0#32
  ![v40_r0.toNat, 0, 0]
def k0_cond1 : BitVec 1 :=
  let true_52_r0 : BitVec 1 := 1#1
  let true_13_r0 : BitVec 1 := 1#1
  let c1_i32_15_r0 : BitVec 32 := 1#32
  let c0_i32_14_r0 : BitVec 32 := 0#32
  let v12_r0 : BitVec 32 := Scalar.select true_13_r0 c1_i32_15_r0 c0_i32_14_r0
  let c22_i32_r0 : BitVec 32 := 22#32
  let v13_r0 : BitVec 1 := Scalar.cmpi .eq v12_r0 c22_i32_r0
  let c0_i32_16_r0 : BitVec 32 := 0#32
  let v14_r0 : BitVec 32 := Scalar.select v13_r0 c0_i32_16_r0 v12_r0
  let c0_i32_17_r0 : BitVec 32 := 0#32
  let v15_r0 : BitVec 32 := Scalar.addi v14_r0 c0_i32_17_r0
  let c0_i32_51_r0 : BitVec 32 := 0#32
  let v47_r0 : BitVec 1 := Scalar.cmpi .ne v15_r0 c0_i32_51_r0
  let v48_r0 : BitVec 1 := Scalar.andi true_52_r0 v47_r0
  let true_53_r0 : BitVec 1 := 1#1
  let v49_r0 : BitVec 1 := Scalar.andi v48_r0 true_53_r0
  let v50_r0 : BitVec 32 := Scalar.extui v49_r0
  let c0_i32_54_r0 : BitVec 32 := 0#32
  let v51_r0 : BitVec 1 := Scalar.cmpi .ne v50_r0 c0_i32_54_r0
  v51_r0

def k0_off5 : Fin 1 → Nat :=
  let c0_i32_33_r0 : BitVec 32 := 0#32
  let c1_i32_34_r0 : BitVec 32 := 1#32
  let v32_r0 : BitVec 32 := Scalar.addi c0_i32_33_r0 c1_i32_34_r0
  let c3_i32_118_r0 : BitVec 32 := 3#32
  let v116_r0 : BitVec 32 := Scalar.remui v32_r0 c3_i32_118_r0
  ![v116_r0.toNat]
def k0_off6 : Fin 3 → Nat :=
  let c0_i32_33_r0 : BitVec 32 := 0#32
  let c1_i32_34_r0 : BitVec 32 := 1#32
  let v32_r0 : BitVec 32 := Scalar.addi c0_i32_33_r0 c1_i32_34_r0
  let c3_i32_118_r0 : BitVec 32 := 3#32
  let v116_r0 : BitVec 32 := Scalar.remui v32_r0 c3_i32_118_r0
  let c0_i32_120_r0 : BitVec 32 := 0#32
  let c0_i32_121_r0 : BitVec 32 := 0#32
  ![v116_r0.toNat, 0, 0]
def k0_off7 : Fin 2 → Nat :=
  let c0_i32_122_r0 : BitVec 32 := 0#32
  let c256_i32_119_r0 : BitVec 32 := 256#32
  let true_13_r0 : BitVec 1 := 1#1
  let c1_i32_15_r0 : BitVec 32 := 1#32
  let c0_i32_14_r0 : BitVec 32 := 0#32
  let v12_r0 : BitVec 32 := Scalar.select true_13_r0 c1_i32_15_r0 c0_i32_14_r0
  let c22_i32_r0 : BitVec 32 := 22#32
  let v13_r0 : BitVec 1 := Scalar.cmpi .eq v12_r0 c22_i32_r0
  let c0_i32_16_r0 : BitVec 32 := 0#32
  let v14_r0 : BitVec 32 := Scalar.select v13_r0 c0_i32_16_r0 v12_r0
  let c0_i32_17_r0 : BitVec 32 := 0#32
  let v15_r0 : BitVec 32 := Scalar.addi v14_r0 c0_i32_17_r0
  let v117_r0 : BitVec 32 := Scalar.muli c256_i32_119_r0 v15_r0
  ![0, v117_r0.toNat]
def k0_cond2 : BitVec 1 :=
  let true_57_r0 : BitVec 1 := 1#1
  let true_13_r0 : BitVec 1 := 1#1
  let c1_i32_15_r0 : BitVec 32 := 1#32
  let c0_i32_14_r0 : BitVec 32 := 0#32
  let v12_r0 : BitVec 32 := Scalar.select true_13_r0 c1_i32_15_r0 c0_i32_14_r0
  let c22_i32_r0 : BitVec 32 := 22#32
  let v13_r0 : BitVec 1 := Scalar.cmpi .eq v12_r0 c22_i32_r0
  let c0_i32_16_r0 : BitVec 32 := 0#32
  let v14_r0 : BitVec 32 := Scalar.select v13_r0 c0_i32_16_r0 v12_r0
  let c0_i32_17_r0 : BitVec 32 := 0#32
  let v15_r0 : BitVec 32 := Scalar.addi v14_r0 c0_i32_17_r0
  let c0_i32_56_r0 : BitVec 32 := 0#32
  let v54_r0 : BitVec 1 := Scalar.cmpi .ne v15_r0 c0_i32_56_r0
  let v55_r0 : BitVec 1 := Scalar.andi true_57_r0 v54_r0
  let true_58_r0 : BitVec 1 := 1#1
  let v56_r0 : BitVec 1 := Scalar.andi v55_r0 true_58_r0
  let v57_r0 : BitVec 32 := Scalar.extui v56_r0
  let c0_i32_59_r0 : BitVec 32 := 0#32
  let v58_r0 : BitVec 1 := Scalar.cmpi .ne v57_r0 c0_i32_59_r0
  v58_r0

def k0_off8 : Fin 1 → Nat :=
  let c0_i32_41_r0 : BitVec 32 := 0#32
  let c1_i32_42_r0 : BitVec 32 := 1#32
  let v39_r0 : BitVec 32 := Scalar.addi c0_i32_41_r0 c1_i32_42_r0
  let c3_i32_118_r0 : BitVec 32 := 3#32
  let v116_r0 : BitVec 32 := Scalar.remui v39_r0 c3_i32_118_r0
  ![v116_r0.toNat]
def k0_off9 : Fin 3 → Nat :=
  let c0_i32_41_r0 : BitVec 32 := 0#32
  let c1_i32_42_r0 : BitVec 32 := 1#32
  let v39_r0 : BitVec 32 := Scalar.addi c0_i32_41_r0 c1_i32_42_r0
  let c3_i32_118_r0 : BitVec 32 := 3#32
  let v116_r0 : BitVec 32 := Scalar.remui v39_r0 c3_i32_118_r0
  let c0_i32_120_r0 : BitVec 32 := 0#32
  let c0_i32_121_r0 : BitVec 32 := 0#32
  ![v116_r0.toNat, 0, 0]
def k0_off10 : Fin 2 → Nat :=
  let c0_i32_122_r0 : BitVec 32 := 0#32
  let c256_i32_119_r0 : BitVec 32 := 256#32
  let true_13_r0 : BitVec 1 := 1#1
  let c1_i32_15_r0 : BitVec 32 := 1#32
  let c0_i32_14_r0 : BitVec 32 := 0#32
  let v12_r0 : BitVec 32 := Scalar.select true_13_r0 c1_i32_15_r0 c0_i32_14_r0
  let c22_i32_r0 : BitVec 32 := 22#32
  let v13_r0 : BitVec 1 := Scalar.cmpi .eq v12_r0 c22_i32_r0
  let c0_i32_16_r0 : BitVec 32 := 0#32
  let v14_r0 : BitVec 32 := Scalar.select v13_r0 c0_i32_16_r0 v12_r0
  let c0_i32_17_r0 : BitVec 32 := 0#32
  let v15_r0 : BitVec 32 := Scalar.addi v14_r0 c0_i32_17_r0
  let v117_r0 : BitVec 32 := Scalar.muli c256_i32_119_r0 v15_r0
  ![0, v117_r0.toNat]
def k0_cond3 : BitVec 1 :=
  let true_62_r0 : BitVec 1 := 1#1
  let true_13_r0 : BitVec 1 := 1#1
  let c1_i32_15_r0 : BitVec 32 := 1#32
  let c0_i32_14_r0 : BitVec 32 := 0#32
  let v12_r0 : BitVec 32 := Scalar.select true_13_r0 c1_i32_15_r0 c0_i32_14_r0
  let c22_i32_r0 : BitVec 32 := 22#32
  let v13_r0 : BitVec 1 := Scalar.cmpi .eq v12_r0 c22_i32_r0
  let c0_i32_16_r0 : BitVec 32 := 0#32
  let v14_r0 : BitVec 32 := Scalar.select v13_r0 c0_i32_16_r0 v12_r0
  let c0_i32_17_r0 : BitVec 32 := 0#32
  let v15_r0 : BitVec 32 := Scalar.addi v14_r0 c0_i32_17_r0
  let c0_i32_61_r0 : BitVec 32 := 0#32
  let v61_r0 : BitVec 1 := Scalar.cmpi .ne v15_r0 c0_i32_61_r0
  let v62_r0 : BitVec 1 := Scalar.andi true_62_r0 v61_r0
  let true_63_r0 : BitVec 1 := 1#1
  let v63_r0 : BitVec 1 := Scalar.andi v62_r0 true_63_r0
  let v64_r0 : BitVec 32 := Scalar.extui v63_r0
  let c0_i32_64_r0 : BitVec 32 := 0#32
  let v65_r0 : BitVec 1 := Scalar.cmpi .ne v64_r0 c0_i32_64_r0
  v65_r0

def k0_off11 : Fin 1 → Nat :=
  let c0_i32_49_r0 : BitVec 32 := 0#32
  let c1_i32_50_r0 : BitVec 32 := 1#32
  let v46_r0 : BitVec 32 := Scalar.addi c0_i32_49_r0 c1_i32_50_r0
  let c3_i32_118_r0 : BitVec 32 := 3#32
  let v116_r0 : BitVec 32 := Scalar.remui v46_r0 c3_i32_118_r0
  ![v116_r0.toNat]
def k0_off12 : Fin 3 → Nat :=
  let c0_i32_49_r0 : BitVec 32 := 0#32
  let c1_i32_50_r0 : BitVec 32 := 1#32
  let v46_r0 : BitVec 32 := Scalar.addi c0_i32_49_r0 c1_i32_50_r0
  let c3_i32_118_r0 : BitVec 32 := 3#32
  let v116_r0 : BitVec 32 := Scalar.remui v46_r0 c3_i32_118_r0
  let c0_i32_120_r0 : BitVec 32 := 0#32
  let c0_i32_121_r0 : BitVec 32 := 0#32
  ![v116_r0.toNat, 0, 0]
def k0_off13 : Fin 2 → Nat :=
  let c256_i32_119_r0 : BitVec 32 := 256#32
  let true_13_r0 : BitVec 1 := 1#1
  let c1_i32_15_r0 : BitVec 32 := 1#32
  let c0_i32_14_r0 : BitVec 32 := 0#32
  let v12_r0 : BitVec 32 := Scalar.select true_13_r0 c1_i32_15_r0 c0_i32_14_r0
  let c22_i32_r0 : BitVec 32 := 22#32
  let v13_r0 : BitVec 1 := Scalar.cmpi .eq v12_r0 c22_i32_r0
  let c0_i32_16_r0 : BitVec 32 := 0#32
  let v14_r0 : BitVec 32 := Scalar.select v13_r0 c0_i32_16_r0 v12_r0
  let c0_i32_17_r0 : BitVec 32 := 0#32
  let v15_r0 : BitVec 32 := Scalar.addi v14_r0 c0_i32_17_r0
  let v117_r0 : BitVec 32 := Scalar.muli c256_i32_119_r0 v15_r0
  let c0_i32_122_r0 : BitVec 32 := 0#32
  ![v117_r0.toNat, 0]
@[reducible] def k0_t2_loop : Scf.Loop 32 :=
  let c0_i32_76_r0 : BitVec 32 := 0#32
  let c22_i32_77_r0 : BitVec 32 := 22#32
  let v68_r0 : BitVec 32 := Scalar.addi c0_i32_76_r0 c22_i32_77_r0
  let c1_i32_78_r0 : BitVec 32 := 1#32
  ⟨c0_i32_76_r0, v68_r0, c1_i32_78_r0⟩
def k0_off14 (arg12_r0 : BitVec 32) : Fin 1 → Nat :=
  let c3_i32_253_r0 : BitVec 32 := 3#32
  let v370_r0 : BitVec 32 := Scalar.remui arg12_r0 c3_i32_253_r0
  ![v370_r0.toNat]
def k0_cond4 (k0_t2 : Fin k0_t2_loop.trips) (arg24_r0 : BitVec 32) : BitVec 1 :=
  let true_127_r0 : BitVec 1 := 1#1
  let c1_i32_126_r0 : BitVec 32 := 1#32
  let v124_r0 : BitVec 32 := Scalar.addi arg24_r0 c1_i32_126_r0
  let v125_r0 : BitVec 32 := Scalar.select true_127_r0 v124_r0 arg24_r0
  let c22_i32_128_r0 : BitVec 32 := 22#32
  let v126_r0 : BitVec 1 := Scalar.cmpi .eq v125_r0 c22_i32_128_r0
  let c0_i32_129_r0 : BitVec 32 := 0#32
  let v127_r0 : BitVec 32 := Scalar.select v126_r0 c0_i32_129_r0 v125_r0
  let c0_i32_130_r0 : BitVec 32 := 0#32
  let v128_r0 : BitVec 32 := Scalar.addi v127_r0 c0_i32_130_r0
  let true_132_r0 : BitVec 1 := 1#1
  let c1_i32_131_r0 : BitVec 32 := 1#32
  let v129_r0 : BitVec 32 := Scalar.addi v127_r0 c1_i32_131_r0
  let v130_r0 : BitVec 32 := Scalar.select true_132_r0 v129_r0 v127_r0
  let c22_i32_133_r0 : BitVec 32 := 22#32
  let v131_r0 : BitVec 1 := Scalar.cmpi .eq v130_r0 c22_i32_133_r0
  let c0_i32_134_r0 : BitVec 32 := 0#32
  let v132_r0 : BitVec 32 := Scalar.select v131_r0 c0_i32_134_r0 v130_r0
  let c0_i32_135_r0 : BitVec 32 := 0#32
  let v133_r0 : BitVec 32 := Scalar.addi v132_r0 c0_i32_135_r0
  let v139_r0 : BitVec 1 := Scalar.cmpi .ne v128_r0 v133_r0
  let c0_i32_76_r0 : BitVec 32 := 0#32
  let c1_i32_78_r0 : BitVec 32 := 1#32
  let arg11_r0 : BitVec 32 := Scf.iv c0_i32_76_r0 c1_i32_78_r0 k0_t2
  let c20_i32_r0 : BitVec 32 := 20#32
  let v140_r0 : BitVec 1 := Scalar.cmpi .sge arg11_r0 c20_i32_r0
  let true_141_r0 : BitVec 1 := 1#1
  let v141_r0 : BitVec 1 := Scalar.xori v140_r0 true_141_r0
  let v142_r0 : BitVec 1 := Scalar.andi v139_r0 v141_r0
  let true_142_r0 : BitVec 1 := 1#1
  let v143_r0 : BitVec 1 := Scalar.andi v142_r0 true_142_r0
  let v144_r0 : BitVec 32 := Scalar.extui v143_r0
  let c0_i32_143_r0 : BitVec 32 := 0#32
  let v145_r0 : BitVec 1 := Scalar.cmpi .ne v144_r0 c0_i32_143_r0
  v145_r0

def k0_off15 (arg12_r0 : BitVec 32) : Fin 3 → Nat :=
  let c3_i32_253_r0 : BitVec 32 := 3#32
  let v370_r0 : BitVec 32 := Scalar.remui arg12_r0 c3_i32_253_r0
  let c0_i32_255_r0 : BitVec 32 := 0#32
  let c0_i32_256_r0 : BitVec 32 := 0#32
  ![v370_r0.toNat, 0, 0]
def k0_off16 (arg24_r0 : BitVec 32) : Fin 2 → Nat :=
  let c0_i32_257_r0 : BitVec 32 := 0#32
  let c256_i32_254_r0 : BitVec 32 := 256#32
  let true_132_r0 : BitVec 1 := 1#1
  let true_127_r0 : BitVec 1 := 1#1
  let c1_i32_126_r0 : BitVec 32 := 1#32
  let v124_r0 : BitVec 32 := Scalar.addi arg24_r0 c1_i32_126_r0
  let v125_r0 : BitVec 32 := Scalar.select true_127_r0 v124_r0 arg24_r0
  let c22_i32_128_r0 : BitVec 32 := 22#32
  let v126_r0 : BitVec 1 := Scalar.cmpi .eq v125_r0 c22_i32_128_r0
  let c0_i32_129_r0 : BitVec 32 := 0#32
  let v127_r0 : BitVec 32 := Scalar.select v126_r0 c0_i32_129_r0 v125_r0
  let c1_i32_131_r0 : BitVec 32 := 1#32
  let v129_r0 : BitVec 32 := Scalar.addi v127_r0 c1_i32_131_r0
  let v130_r0 : BitVec 32 := Scalar.select true_132_r0 v129_r0 v127_r0
  let c22_i32_133_r0 : BitVec 32 := 22#32
  let v131_r0 : BitVec 1 := Scalar.cmpi .eq v130_r0 c22_i32_133_r0
  let c0_i32_134_r0 : BitVec 32 := 0#32
  let v132_r0 : BitVec 32 := Scalar.select v131_r0 c0_i32_134_r0 v130_r0
  let c0_i32_135_r0 : BitVec 32 := 0#32
  let v133_r0 : BitVec 32 := Scalar.addi v132_r0 c0_i32_135_r0
  let v371_r0 : BitVec 32 := Scalar.muli c256_i32_254_r0 v133_r0
  ![0, v371_r0.toNat]
def k0_off17 (arg14_r0 : BitVec 32) : Fin 1 → Nat :=
  let c3_i32_253_r0 : BitVec 32 := 3#32
  let v370_r0 : BitVec 32 := Scalar.remui arg14_r0 c3_i32_253_r0
  ![v370_r0.toNat]
def k0_cond5 (k0_t2 : Fin k0_t2_loop.trips) (arg24_r0 : BitVec 32) : BitVec 1 :=
  let true_127_r0 : BitVec 1 := 1#1
  let c1_i32_126_r0 : BitVec 32 := 1#32
  let v124_r0 : BitVec 32 := Scalar.addi arg24_r0 c1_i32_126_r0
  let v125_r0 : BitVec 32 := Scalar.select true_127_r0 v124_r0 arg24_r0
  let c22_i32_128_r0 : BitVec 32 := 22#32
  let v126_r0 : BitVec 1 := Scalar.cmpi .eq v125_r0 c22_i32_128_r0
  let c0_i32_129_r0 : BitVec 32 := 0#32
  let v127_r0 : BitVec 32 := Scalar.select v126_r0 c0_i32_129_r0 v125_r0
  let c0_i32_130_r0 : BitVec 32 := 0#32
  let v128_r0 : BitVec 32 := Scalar.addi v127_r0 c0_i32_130_r0
  let true_132_r0 : BitVec 1 := 1#1
  let c1_i32_131_r0 : BitVec 32 := 1#32
  let v129_r0 : BitVec 32 := Scalar.addi v127_r0 c1_i32_131_r0
  let v130_r0 : BitVec 32 := Scalar.select true_132_r0 v129_r0 v127_r0
  let c22_i32_133_r0 : BitVec 32 := 22#32
  let v131_r0 : BitVec 1 := Scalar.cmpi .eq v130_r0 c22_i32_133_r0
  let c0_i32_134_r0 : BitVec 32 := 0#32
  let v132_r0 : BitVec 32 := Scalar.select v131_r0 c0_i32_134_r0 v130_r0
  let c0_i32_135_r0 : BitVec 32 := 0#32
  let v133_r0 : BitVec 32 := Scalar.addi v132_r0 c0_i32_135_r0
  let v149_r0 : BitVec 1 := Scalar.cmpi .ne v128_r0 v133_r0
  let c0_i32_76_r0 : BitVec 32 := 0#32
  let c1_i32_78_r0 : BitVec 32 := 1#32
  let arg11_r0 : BitVec 32 := Scf.iv c0_i32_76_r0 c1_i32_78_r0 k0_t2
  let c20_i32_146_r0 : BitVec 32 := 20#32
  let v150_r0 : BitVec 1 := Scalar.cmpi .sge arg11_r0 c20_i32_146_r0
  let true_147_r0 : BitVec 1 := 1#1
  let v151_r0 : BitVec 1 := Scalar.xori v150_r0 true_147_r0
  let v152_r0 : BitVec 1 := Scalar.andi v149_r0 v151_r0
  let true_148_r0 : BitVec 1 := 1#1
  let v153_r0 : BitVec 1 := Scalar.andi v152_r0 true_148_r0
  let v154_r0 : BitVec 32 := Scalar.extui v153_r0
  let c0_i32_149_r0 : BitVec 32 := 0#32
  let v155_r0 : BitVec 1 := Scalar.cmpi .ne v154_r0 c0_i32_149_r0
  v155_r0

def k0_off18 (arg14_r0 : BitVec 32) : Fin 3 → Nat :=
  let c3_i32_253_r0 : BitVec 32 := 3#32
  let v370_r0 : BitVec 32 := Scalar.remui arg14_r0 c3_i32_253_r0
  let c0_i32_255_r0 : BitVec 32 := 0#32
  let c0_i32_256_r0 : BitVec 32 := 0#32
  ![v370_r0.toNat, 0, 0]
def k0_off19 (arg24_r0 : BitVec 32) : Fin 2 → Nat :=
  let c0_i32_257_r0 : BitVec 32 := 0#32
  let c256_i32_254_r0 : BitVec 32 := 256#32
  let true_132_r0 : BitVec 1 := 1#1
  let true_127_r0 : BitVec 1 := 1#1
  let c1_i32_126_r0 : BitVec 32 := 1#32
  let v124_r0 : BitVec 32 := Scalar.addi arg24_r0 c1_i32_126_r0
  let v125_r0 : BitVec 32 := Scalar.select true_127_r0 v124_r0 arg24_r0
  let c22_i32_128_r0 : BitVec 32 := 22#32
  let v126_r0 : BitVec 1 := Scalar.cmpi .eq v125_r0 c22_i32_128_r0
  let c0_i32_129_r0 : BitVec 32 := 0#32
  let v127_r0 : BitVec 32 := Scalar.select v126_r0 c0_i32_129_r0 v125_r0
  let c1_i32_131_r0 : BitVec 32 := 1#32
  let v129_r0 : BitVec 32 := Scalar.addi v127_r0 c1_i32_131_r0
  let v130_r0 : BitVec 32 := Scalar.select true_132_r0 v129_r0 v127_r0
  let c22_i32_133_r0 : BitVec 32 := 22#32
  let v131_r0 : BitVec 1 := Scalar.cmpi .eq v130_r0 c22_i32_133_r0
  let c0_i32_134_r0 : BitVec 32 := 0#32
  let v132_r0 : BitVec 32 := Scalar.select v131_r0 c0_i32_134_r0 v130_r0
  let c0_i32_135_r0 : BitVec 32 := 0#32
  let v133_r0 : BitVec 32 := Scalar.addi v132_r0 c0_i32_135_r0
  let v371_r0 : BitVec 32 := Scalar.muli c256_i32_254_r0 v133_r0
  ![0, v371_r0.toNat]
def k0_off20 (arg16_r0 : BitVec 32) : Fin 1 → Nat :=
  let c3_i32_253_r0 : BitVec 32 := 3#32
  let v370_r0 : BitVec 32 := Scalar.remui arg16_r0 c3_i32_253_r0
  ![v370_r0.toNat]
def k0_cond6 (k0_t2 : Fin k0_t2_loop.trips) (arg24_r0 : BitVec 32) : BitVec 1 :=
  let true_127_r0 : BitVec 1 := 1#1
  let c1_i32_126_r0 : BitVec 32 := 1#32
  let v124_r0 : BitVec 32 := Scalar.addi arg24_r0 c1_i32_126_r0
  let v125_r0 : BitVec 32 := Scalar.select true_127_r0 v124_r0 arg24_r0
  let c22_i32_128_r0 : BitVec 32 := 22#32
  let v126_r0 : BitVec 1 := Scalar.cmpi .eq v125_r0 c22_i32_128_r0
  let c0_i32_129_r0 : BitVec 32 := 0#32
  let v127_r0 : BitVec 32 := Scalar.select v126_r0 c0_i32_129_r0 v125_r0
  let c0_i32_130_r0 : BitVec 32 := 0#32
  let v128_r0 : BitVec 32 := Scalar.addi v127_r0 c0_i32_130_r0
  let true_132_r0 : BitVec 1 := 1#1
  let c1_i32_131_r0 : BitVec 32 := 1#32
  let v129_r0 : BitVec 32 := Scalar.addi v127_r0 c1_i32_131_r0
  let v130_r0 : BitVec 32 := Scalar.select true_132_r0 v129_r0 v127_r0
  let c22_i32_133_r0 : BitVec 32 := 22#32
  let v131_r0 : BitVec 1 := Scalar.cmpi .eq v130_r0 c22_i32_133_r0
  let c0_i32_134_r0 : BitVec 32 := 0#32
  let v132_r0 : BitVec 32 := Scalar.select v131_r0 c0_i32_134_r0 v130_r0
  let c0_i32_135_r0 : BitVec 32 := 0#32
  let v133_r0 : BitVec 32 := Scalar.addi v132_r0 c0_i32_135_r0
  let v159_r0 : BitVec 1 := Scalar.cmpi .ne v128_r0 v133_r0
  let c0_i32_76_r0 : BitVec 32 := 0#32
  let c1_i32_78_r0 : BitVec 32 := 1#32
  let arg11_r0 : BitVec 32 := Scf.iv c0_i32_76_r0 c1_i32_78_r0 k0_t2
  let c20_i32_152_r0 : BitVec 32 := 20#32
  let v160_r0 : BitVec 1 := Scalar.cmpi .sge arg11_r0 c20_i32_152_r0
  let true_153_r0 : BitVec 1 := 1#1
  let v161_r0 : BitVec 1 := Scalar.xori v160_r0 true_153_r0
  let v162_r0 : BitVec 1 := Scalar.andi v159_r0 v161_r0
  let true_154_r0 : BitVec 1 := 1#1
  let v163_r0 : BitVec 1 := Scalar.andi v162_r0 true_154_r0
  let v164_r0 : BitVec 32 := Scalar.extui v163_r0
  let c0_i32_155_r0 : BitVec 32 := 0#32
  let v165_r0 : BitVec 1 := Scalar.cmpi .ne v164_r0 c0_i32_155_r0
  v165_r0

def k0_off21 (arg16_r0 : BitVec 32) : Fin 3 → Nat :=
  let c3_i32_253_r0 : BitVec 32 := 3#32
  let v370_r0 : BitVec 32 := Scalar.remui arg16_r0 c3_i32_253_r0
  let c0_i32_255_r0 : BitVec 32 := 0#32
  let c0_i32_256_r0 : BitVec 32 := 0#32
  ![v370_r0.toNat, 0, 0]
def k0_off22 (arg24_r0 : BitVec 32) : Fin 2 → Nat :=
  let c256_i32_254_r0 : BitVec 32 := 256#32
  let true_132_r0 : BitVec 1 := 1#1
  let true_127_r0 : BitVec 1 := 1#1
  let c1_i32_126_r0 : BitVec 32 := 1#32
  let v124_r0 : BitVec 32 := Scalar.addi arg24_r0 c1_i32_126_r0
  let v125_r0 : BitVec 32 := Scalar.select true_127_r0 v124_r0 arg24_r0
  let c22_i32_128_r0 : BitVec 32 := 22#32
  let v126_r0 : BitVec 1 := Scalar.cmpi .eq v125_r0 c22_i32_128_r0
  let c0_i32_129_r0 : BitVec 32 := 0#32
  let v127_r0 : BitVec 32 := Scalar.select v126_r0 c0_i32_129_r0 v125_r0
  let c1_i32_131_r0 : BitVec 32 := 1#32
  let v129_r0 : BitVec 32 := Scalar.addi v127_r0 c1_i32_131_r0
  let v130_r0 : BitVec 32 := Scalar.select true_132_r0 v129_r0 v127_r0
  let c22_i32_133_r0 : BitVec 32 := 22#32
  let v131_r0 : BitVec 1 := Scalar.cmpi .eq v130_r0 c22_i32_133_r0
  let c0_i32_134_r0 : BitVec 32 := 0#32
  let v132_r0 : BitVec 32 := Scalar.select v131_r0 c0_i32_134_r0 v130_r0
  let c0_i32_135_r0 : BitVec 32 := 0#32
  let v133_r0 : BitVec 32 := Scalar.addi v132_r0 c0_i32_135_r0
  let v371_r0 : BitVec 32 := Scalar.muli c256_i32_254_r0 v133_r0
  let c0_i32_257_r0 : BitVec 32 := 0#32
  ![v371_r0.toNat, 0]
def k0_off23 (arg13_r0 : BitVec 32) : Fin 1 → Nat :=
  let c3_i32_254_r0 : BitVec 32 := 3#32
  let v371_r0 : BitVec 32 := Scalar.remui arg13_r0 c3_i32_254_r0
  ![v371_r0.toNat]
def k0_cond7 (k0_t2 : Fin k0_t2_loop.trips) (arg24_r0 : BitVec 32) : BitVec 1 :=
  let c0_i32_120_r0 : BitVec 32 := 0#32
  let v118_r0 : BitVec 32 := Scalar.addi arg24_r0 c0_i32_120_r0
  let true_122_r0 : BitVec 1 := 1#1
  let c1_i32_121_r0 : BitVec 32 := 1#32
  let v119_r0 : BitVec 32 := Scalar.subi arg24_r0 c1_i32_121_r0
  let v120_r0 : BitVec 32 := Scalar.select true_122_r0 v119_r0 arg24_r0
  let c_m1_i32_123_r0 : BitVec 32 := 4294967295#32
  let v121_r0 : BitVec 1 := Scalar.cmpi .eq v120_r0 c_m1_i32_123_r0
  let c21_i32_124_r0 : BitVec 32 := 21#32
  let v122_r0 : BitVec 32 := Scalar.select v121_r0 c21_i32_124_r0 v120_r0
  let c0_i32_125_r0 : BitVec 32 := 0#32
  let v123_r0 : BitVec 32 := Scalar.addi v122_r0 c0_i32_125_r0
  let v181_r0 : BitVec 1 := Scalar.cmpi .ne v118_r0 v123_r0
  let c0_i32_76_r0 : BitVec 32 := 0#32
  let c1_i32_78_r0 : BitVec 32 := 1#32
  let arg11_r0 : BitVec 32 := Scf.iv c0_i32_76_r0 c1_i32_78_r0 k0_t2
  let c0_i32_118_r0 : BitVec 32 := 0#32
  let v116_r0 : BitVec 1 := Scalar.cmpi .eq arg11_r0 c0_i32_118_r0
  let v182_r0 : BitVec 1 := Scalar.ori v181_r0 v116_r0
  let c0_i32_164_r0 : BitVec 32 := 0#32
  let v183_r0 : BitVec 1 := Scalar.cmpi .sge arg11_r0 c0_i32_164_r0
  let v184_r0 : BitVec 1 := Scalar.andi v182_r0 v183_r0
  let v185_r0 : BitVec 32 := Scalar.extui v184_r0
  let c0_i32_165_r0 : BitVec 32 := 0#32
  let v186_r0 : BitVec 1 := Scalar.cmpi .ne v185_r0 c0_i32_165_r0
  v186_r0

def k0_off24 (arg13_r0 : BitVec 32) : Fin 3 → Nat :=
  let c3_i32_254_r0 : BitVec 32 := 3#32
  let v371_r0 : BitVec 32 := Scalar.remui arg13_r0 c3_i32_254_r0
  let c0_i32_255_r0 : BitVec 32 := 0#32
  let c0_i32_256_r0 : BitVec 32 := 0#32
  ![v371_r0.toNat, 0, 0]
def k0_off25 (arg24_r0 : BitVec 32) : Fin 2 → Nat :=
  let c0_i32_257_r0 : BitVec 32 := 0#32
  let c256_i32_253_r0 : BitVec 32 := 256#32
  let c0_i32_120_r0 : BitVec 32 := 0#32
  let v118_r0 : BitVec 32 := Scalar.addi arg24_r0 c0_i32_120_r0
  let v370_r0 : BitVec 32 := Scalar.muli c256_i32_253_r0 v118_r0
  ![0, v370_r0.toNat]
def k0_off26 (arg15_r0 : BitVec 32) : Fin 1 → Nat :=
  let c3_i32_254_r0 : BitVec 32 := 3#32
  let v371_r0 : BitVec 32 := Scalar.remui arg15_r0 c3_i32_254_r0
  ![v371_r0.toNat]
def k0_cond8 (k0_t2 : Fin k0_t2_loop.trips) (arg24_r0 : BitVec 32) : BitVec 1 :=
  let c0_i32_120_r0 : BitVec 32 := 0#32
  let v118_r0 : BitVec 32 := Scalar.addi arg24_r0 c0_i32_120_r0
  let true_122_r0 : BitVec 1 := 1#1
  let c1_i32_121_r0 : BitVec 32 := 1#32
  let v119_r0 : BitVec 32 := Scalar.subi arg24_r0 c1_i32_121_r0
  let v120_r0 : BitVec 32 := Scalar.select true_122_r0 v119_r0 arg24_r0
  let c_m1_i32_123_r0 : BitVec 32 := 4294967295#32
  let v121_r0 : BitVec 1 := Scalar.cmpi .eq v120_r0 c_m1_i32_123_r0
  let c21_i32_124_r0 : BitVec 32 := 21#32
  let v122_r0 : BitVec 32 := Scalar.select v121_r0 c21_i32_124_r0 v120_r0
  let c0_i32_125_r0 : BitVec 32 := 0#32
  let v123_r0 : BitVec 32 := Scalar.addi v122_r0 c0_i32_125_r0
  let v187_r0 : BitVec 1 := Scalar.cmpi .ne v118_r0 v123_r0
  let c0_i32_76_r0 : BitVec 32 := 0#32
  let c1_i32_78_r0 : BitVec 32 := 1#32
  let arg11_r0 : BitVec 32 := Scf.iv c0_i32_76_r0 c1_i32_78_r0 k0_t2
  let c0_i32_118_r0 : BitVec 32 := 0#32
  let v116_r0 : BitVec 1 := Scalar.cmpi .eq arg11_r0 c0_i32_118_r0
  let v188_r0 : BitVec 1 := Scalar.ori v187_r0 v116_r0
  let c0_i32_166_r0 : BitVec 32 := 0#32
  let v189_r0 : BitVec 1 := Scalar.cmpi .sge arg11_r0 c0_i32_166_r0
  let v190_r0 : BitVec 1 := Scalar.andi v188_r0 v189_r0
  let v191_r0 : BitVec 32 := Scalar.extui v190_r0
  let c0_i32_167_r0 : BitVec 32 := 0#32
  let v192_r0 : BitVec 1 := Scalar.cmpi .ne v191_r0 c0_i32_167_r0
  v192_r0

def k0_off27 (arg15_r0 : BitVec 32) : Fin 3 → Nat :=
  let c3_i32_254_r0 : BitVec 32 := 3#32
  let v371_r0 : BitVec 32 := Scalar.remui arg15_r0 c3_i32_254_r0
  let c0_i32_255_r0 : BitVec 32 := 0#32
  let c0_i32_256_r0 : BitVec 32 := 0#32
  ![v371_r0.toNat, 0, 0]
def k0_off28 (arg24_r0 : BitVec 32) : Fin 2 → Nat :=
  let c0_i32_257_r0 : BitVec 32 := 0#32
  let c256_i32_253_r0 : BitVec 32 := 256#32
  let c0_i32_120_r0 : BitVec 32 := 0#32
  let v118_r0 : BitVec 32 := Scalar.addi arg24_r0 c0_i32_120_r0
  let v370_r0 : BitVec 32 := Scalar.muli c256_i32_253_r0 v118_r0
  ![0, v370_r0.toNat]
def k0_off29 (arg17_r0 : BitVec 32) : Fin 1 → Nat :=
  let c3_i32_254_r0 : BitVec 32 := 3#32
  let v371_r0 : BitVec 32 := Scalar.remui arg17_r0 c3_i32_254_r0
  ![v371_r0.toNat]
def k0_cond9 (k0_t2 : Fin k0_t2_loop.trips) (arg24_r0 : BitVec 32) : BitVec 1 :=
  let c0_i32_120_r0 : BitVec 32 := 0#32
  let v118_r0 : BitVec 32 := Scalar.addi arg24_r0 c0_i32_120_r0
  let true_122_r0 : BitVec 1 := 1#1
  let c1_i32_121_r0 : BitVec 32 := 1#32
  let v119_r0 : BitVec 32 := Scalar.subi arg24_r0 c1_i32_121_r0
  let v120_r0 : BitVec 32 := Scalar.select true_122_r0 v119_r0 arg24_r0
  let c_m1_i32_123_r0 : BitVec 32 := 4294967295#32
  let v121_r0 : BitVec 1 := Scalar.cmpi .eq v120_r0 c_m1_i32_123_r0
  let c21_i32_124_r0 : BitVec 32 := 21#32
  let v122_r0 : BitVec 32 := Scalar.select v121_r0 c21_i32_124_r0 v120_r0
  let c0_i32_125_r0 : BitVec 32 := 0#32
  let v123_r0 : BitVec 32 := Scalar.addi v122_r0 c0_i32_125_r0
  let v193_r0 : BitVec 1 := Scalar.cmpi .ne v118_r0 v123_r0
  let c0_i32_76_r0 : BitVec 32 := 0#32
  let c1_i32_78_r0 : BitVec 32 := 1#32
  let arg11_r0 : BitVec 32 := Scf.iv c0_i32_76_r0 c1_i32_78_r0 k0_t2
  let c0_i32_118_r0 : BitVec 32 := 0#32
  let v116_r0 : BitVec 1 := Scalar.cmpi .eq arg11_r0 c0_i32_118_r0
  let v194_r0 : BitVec 1 := Scalar.ori v193_r0 v116_r0
  let c0_i32_168_r0 : BitVec 32 := 0#32
  let v195_r0 : BitVec 1 := Scalar.cmpi .sge arg11_r0 c0_i32_168_r0
  let v196_r0 : BitVec 1 := Scalar.andi v194_r0 v195_r0
  let v197_r0 : BitVec 32 := Scalar.extui v196_r0
  let c0_i32_169_r0 : BitVec 32 := 0#32
  let v198_r0 : BitVec 1 := Scalar.cmpi .ne v197_r0 c0_i32_169_r0
  v198_r0

def k0_off30 (arg17_r0 : BitVec 32) : Fin 3 → Nat :=
  let c3_i32_254_r0 : BitVec 32 := 3#32
  let v371_r0 : BitVec 32 := Scalar.remui arg17_r0 c3_i32_254_r0
  let c0_i32_255_r0 : BitVec 32 := 0#32
  let c0_i32_256_r0 : BitVec 32 := 0#32
  ![v371_r0.toNat, 0, 0]
def k0_off31 (arg24_r0 : BitVec 32) : Fin 2 → Nat :=
  let c256_i32_253_r0 : BitVec 32 := 256#32
  let c0_i32_120_r0 : BitVec 32 := 0#32
  let v118_r0 : BitVec 32 := Scalar.addi arg24_r0 c0_i32_120_r0
  let v370_r0 : BitVec 32 := Scalar.muli c256_i32_253_r0 v118_r0
  let c0_i32_257_r0 : BitVec 32 := 0#32
  ![v370_r0.toNat, 0]
def k0_off32 (arg13_r0 : BitVec 32) : Fin 3 → Nat :=
  let c3_i32_176_r0 : BitVec 32 := 3#32
  let v217_r0 : BitVec 32 := Scalar.remui arg13_r0 c3_i32_176_r0
  let v223_r0 : Index := Scalar.indexCast v217_r0
  let c0_r0 : Index := 0#32
  let c0_182_r0 : Index := 0#32
  ![v223_r0.toNat, 0, 0]

def k0_chk2 (arg13_r0 : BitVec 32) : Prop :=
  (∀ a, (k0_off32 arg13_r0) a + S1x2048x256.size a ≤ S3x2048x256.size a)
theorem k0_off32_inb : ∀ (arg13_r0 : BitVec 32) (k0_hw2 : k0_chk2 arg13_r0), ∀ a, (k0_off32 arg13_r0) a + S1x2048x256.size a ≤ S3x2048x256.size a := fun arg13_r0 k0_hw2 => k0_hw2

def k0_off33 (arg18_r0 : BitVec 32) : Fin 3 → Nat :=
  let c2_i32_179_r0 : BitVec 32 := 2#32
  let v220_r0 : BitVec 32 := Scalar.remui arg18_r0 c2_i32_179_r0
  let v227_r0 : Index := Scalar.indexCast v220_r0
  let c0_183_r0 : Index := 0#32
  let c0_184_r0 : Index := 0#32
  ![v227_r0.toNat, 0, 0]

def k0_off34 (arg15_r0 : BitVec 32) : Fin 3 → Nat :=
  let c3_i32_177_r0 : BitVec 32 := 3#32
  let v218_r0 : BitVec 32 := Scalar.remui arg15_r0 c3_i32_177_r0
  let v231_r0 : Index := Scalar.indexCast v218_r0
  let c0_185_r0 : Index := 0#32
  let c0_186_r0 : Index := 0#32
  ![v231_r0.toNat, 0, 0]

def k0_chk4 (arg15_r0 : BitVec 32) : Prop :=
  (∀ a, (k0_off34 arg15_r0) a + S1x2048x256.size a ≤ S3x2048x256.size a)
theorem k0_off34_inb : ∀ (arg15_r0 : BitVec 32) (k0_hw4 : k0_chk4 arg15_r0), ∀ a, (k0_off34 arg15_r0) a + S1x2048x256.size a ≤ S3x2048x256.size a := fun arg15_r0 k0_hw4 => k0_hw4

def k0_off35 (arg20_r0 : BitVec 32) : Fin 3 → Nat :=
  let c2_i32_180_r0 : BitVec 32 := 2#32
  let v221_r0 : BitVec 32 := Scalar.remui arg20_r0 c2_i32_180_r0
  let v235_r0 : Index := Scalar.indexCast v221_r0
  let c0_187_r0 : Index := 0#32
  let c0_188_r0 : Index := 0#32
  ![v235_r0.toNat, 0, 0]

def k0_off36 (arg17_r0 : BitVec 32) : Fin 3 → Nat :=
  let c3_i32_178_r0 : BitVec 32 := 3#32
  let v219_r0 : BitVec 32 := Scalar.remui arg17_r0 c3_i32_178_r0
  let v239_r0 : Index := Scalar.indexCast v219_r0
  let c0_189_r0 : Index := 0#32
  let c0_190_r0 : Index := 0#32
  ![v239_r0.toNat, 0, 0]

def k0_chk6 (arg17_r0 : BitVec 32) : Prop :=
  (∀ a, (k0_off36 arg17_r0) a + S1x256x2048.size a ≤ S3x256x2048.size a)
theorem k0_off36_inb : ∀ (arg17_r0 : BitVec 32) (k0_hw6 : k0_chk6 arg17_r0), ∀ a, (k0_off36 arg17_r0) a + S1x256x2048.size a ≤ S3x256x2048.size a := fun arg17_r0 k0_hw6 => k0_hw6

def k0_off37 (arg22_r0 : BitVec 32) : Fin 3 → Nat :=
  let c2_i32_181_r0 : BitVec 32 := 2#32
  let v222_r0 : BitVec 32 := Scalar.remui arg22_r0 c2_i32_181_r0
  let v243_r0 : Index := Scalar.indexCast v222_r0
  let c0_191_r0 : Index := 0#32
  let c0_192_r0 : Index := 0#32
  ![v243_r0.toNat, 0, 0]

def k0_chk7 (arg22_r0 : BitVec 32) : Prop :=
  (∀ a, (k0_off37 arg22_r0) a + S1x256x2048.size a ≤ S2x256x2048.size a) ∧
  (∀ (hinb : ∀ a, (k0_off37 arg22_r0) a + S1x256x2048.size a ≤ S2x256x2048.size a), (Rect.unit (s := S2x256x2048) (k0_off37 arg22_r0) S1x256x2048.size hinb).PackedRows (EltTy.packing .bf16))
theorem k0_off37_inb : ∀ (arg22_r0 : BitVec 32) (k0_hw7 : k0_chk7 arg22_r0), ∀ a, (k0_off37 arg22_r0) a + S1x256x2048.size a ≤ S2x256x2048.size a := fun arg22_r0 k0_hw7 => k0_hw7.1
theorem k0_off37_packedbf16 : ∀ (arg22_r0 : BitVec 32) (k0_hw7 : k0_chk7 arg22_r0), (Rect.unit (s := S2x256x2048) (k0_off37 arg22_r0) S1x256x2048.size (k0_off37_inb arg22_r0 k0_hw7)).PackedRows (EltTy.packing .bf16) := fun arg22_r0 k0_hw7 => k0_hw7.2 (k0_off37_inb arg22_r0 k0_hw7)

def k0_off38 (arg18_r0 : BitVec 32) : Fin 3 → Nat :=
  let c2_i32_179_r0 : BitVec 32 := 2#32
  let v220_r0 : BitVec 32 := Scalar.remui arg18_r0 c2_i32_179_r0
  let v248_r0 : Index := Scalar.indexCast v220_r0
  let c0_195_r0 : Index := 0#32
  let c0_196_r0 : Index := 0#32
  ![v248_r0.toNat, 0, 0]

def k0_chk3 (arg18_r0 : BitVec 32) : Prop :=
  (∀ a, (k0_off33 arg18_r0) a + S1x2048x256.size a ≤ S2x2048x256.size a) ∧
  (∀ (hinb : ∀ a, (k0_off33 arg18_r0) a + S1x2048x256.size a ≤ S2x2048x256.size a), (Rect.unit (s := S2x2048x256) (k0_off33 arg18_r0) S1x2048x256.size hinb).PackedRows (EltTy.packing .bf16)) ∧
  (∀ a, (k0_off38 arg18_r0) a + S1x2048x256.size a ≤ S2x2048x256.size a)
theorem k0_off33_inb : ∀ (arg18_r0 : BitVec 32) (k0_hw3 : k0_chk3 arg18_r0), ∀ a, (k0_off33 arg18_r0) a + S1x2048x256.size a ≤ S2x2048x256.size a := fun arg18_r0 k0_hw3 => k0_hw3.1
theorem k0_off33_packedbf16 : ∀ (arg18_r0 : BitVec 32) (k0_hw3 : k0_chk3 arg18_r0), (Rect.unit (s := S2x2048x256) (k0_off33 arg18_r0) S1x2048x256.size (k0_off33_inb arg18_r0 k0_hw3)).PackedRows (EltTy.packing .bf16) := fun arg18_r0 k0_hw3 => k0_hw3.2.1 (k0_off33_inb arg18_r0 k0_hw3)
theorem k0_off38_inb : ∀ (arg18_r0 : BitVec 32) (k0_hw3 : k0_chk3 arg18_r0), ∀ a, (k0_off38 arg18_r0) a + S1x2048x256.size a ≤ S2x2048x256.size a := fun arg18_r0 k0_hw3 => k0_hw3.2.2

def k0_off39 (arg20_r0 : BitVec 32) : Fin 3 → Nat :=
  let c2_i32_180_r0 : BitVec 32 := 2#32
  let v221_r0 : BitVec 32 := Scalar.remui arg20_r0 c2_i32_180_r0
  let v252_r0 : Index := Scalar.indexCast v221_r0
  let c0_197_r0 : Index := 0#32
  let c0_198_r0 : Index := 0#32
  ![v252_r0.toNat, 0, 0]

def k0_chk5 (arg20_r0 : BitVec 32) : Prop :=
  (∀ a, (k0_off35 arg20_r0) a + S1x2048x256.size a ≤ S2x2048x256.size a) ∧
  (∀ (hinb : ∀ a, (k0_off35 arg20_r0) a + S1x2048x256.size a ≤ S2x2048x256.size a), (Rect.unit (s := S2x2048x256) (k0_off35 arg20_r0) S1x2048x256.size hinb).PackedRows (EltTy.packing .bf16)) ∧
  (∀ a, (k0_off39 arg20_r0) a + S1x2048x256.size a ≤ S2x2048x256.size a)
theorem k0_off35_inb : ∀ (arg20_r0 : BitVec 32) (k0_hw5 : k0_chk5 arg20_r0), ∀ a, (k0_off35 arg20_r0) a + S1x2048x256.size a ≤ S2x2048x256.size a := fun arg20_r0 k0_hw5 => k0_hw5.1
theorem k0_off35_packedbf16 : ∀ (arg20_r0 : BitVec 32) (k0_hw5 : k0_chk5 arg20_r0), (Rect.unit (s := S2x2048x256) (k0_off35 arg20_r0) S1x2048x256.size (k0_off35_inb arg20_r0 k0_hw5)).PackedRows (EltTy.packing .bf16) := fun arg20_r0 k0_hw5 => k0_hw5.2.1 (k0_off35_inb arg20_r0 k0_hw5)
theorem k0_off39_inb : ∀ (arg20_r0 : BitVec 32) (k0_hw5 : k0_chk5 arg20_r0), ∀ a, (k0_off39 arg20_r0) a + S1x2048x256.size a ≤ S2x2048x256.size a := fun arg20_r0 k0_hw5 => k0_hw5.2.2

def k0_off40 (arg18_r0 : BitVec 32) : Fin 1 → Nat :=
  let c2_i32_253_r0 : BitVec 32 := 2#32
  let v370_r0 : BitVec 32 := Scalar.remui arg18_r0 c2_i32_253_r0
  ![v370_r0.toNat]
def k0_cond16 (k0_t2 : Fin k0_t2_loop.trips) (arg24_r0 : BitVec 32) : BitVec 1 :=
  let c0_i32_120_r0 : BitVec 32 := 0#32
  let v118_r0 : BitVec 32 := Scalar.addi arg24_r0 c0_i32_120_r0
  let true_127_r0 : BitVec 1 := 1#1
  let c1_i32_126_r0 : BitVec 32 := 1#32
  let v124_r0 : BitVec 32 := Scalar.addi arg24_r0 c1_i32_126_r0
  let v125_r0 : BitVec 32 := Scalar.select true_127_r0 v124_r0 arg24_r0
  let c22_i32_128_r0 : BitVec 32 := 22#32
  let v126_r0 : BitVec 1 := Scalar.cmpi .eq v125_r0 c22_i32_128_r0
  let c0_i32_129_r0 : BitVec 32 := 0#32
  let v127_r0 : BitVec 32 := Scalar.select v126_r0 c0_i32_129_r0 v125_r0
  let c0_i32_130_r0 : BitVec 32 := 0#32
  let v128_r0 : BitVec 32 := Scalar.addi v127_r0 c0_i32_130_r0
  let v291_r0 : BitVec 1 := Scalar.cmpi .ne v118_r0 v128_r0
  let c0_i32_76_r0 : BitVec 32 := 0#32
  let c1_i32_78_r0 : BitVec 32 := 1#32
  let arg11_r0 : BitVec 32 := Scf.iv c0_i32_76_r0 c1_i32_78_r0 k0_t2
  let c21_i32_119_r0 : BitVec 32 := 21#32
  let v117_r0 : BitVec 1 := Scalar.cmpi .eq arg11_r0 c21_i32_119_r0
  let v292_r0 : BitVec 1 := Scalar.ori v291_r0 v117_r0
  let v293_r0 : BitVec 32 := Scalar.extui v292_r0
  let c0_i32_216_r0 : BitVec 32 := 0#32
  let v294_r0 : BitVec 1 := Scalar.cmpi .ne v293_r0 c0_i32_216_r0
  v294_r0

def k0_off41 (arg24_r0 : BitVec 32) : Fin 2 → Nat :=
  let c0_i32_255_r0 : BitVec 32 := 0#32
  let c256_i32_254_r0 : BitVec 32 := 256#32
  let c0_i32_120_r0 : BitVec 32 := 0#32
  let v118_r0 : BitVec 32 := Scalar.addi arg24_r0 c0_i32_120_r0
  let v371_r0 : BitVec 32 := Scalar.muli c256_i32_254_r0 v118_r0
  ![0, v371_r0.toNat]
def k0_off42 (arg18_r0 : BitVec 32) : Fin 3 → Nat :=
  let c2_i32_253_r0 : BitVec 32 := 2#32
  let v370_r0 : BitVec 32 := Scalar.remui arg18_r0 c2_i32_253_r0
  let c0_i32_256_r0 : BitVec 32 := 0#32
  let c0_i32_257_r0 : BitVec 32 := 0#32
  ![v370_r0.toNat, 0, 0]
def k0_off43 (arg20_r0 : BitVec 32) : Fin 1 → Nat :=
  let c2_i32_253_r0 : BitVec 32 := 2#32
  let v370_r0 : BitVec 32 := Scalar.remui arg20_r0 c2_i32_253_r0
  ![v370_r0.toNat]
def k0_cond17 (k0_t2 : Fin k0_t2_loop.trips) (arg24_r0 : BitVec 32) : BitVec 1 :=
  let c0_i32_120_r0 : BitVec 32 := 0#32
  let v118_r0 : BitVec 32 := Scalar.addi arg24_r0 c0_i32_120_r0
  let true_127_r0 : BitVec 1 := 1#1
  let c1_i32_126_r0 : BitVec 32 := 1#32
  let v124_r0 : BitVec 32 := Scalar.addi arg24_r0 c1_i32_126_r0
  let v125_r0 : BitVec 32 := Scalar.select true_127_r0 v124_r0 arg24_r0
  let c22_i32_128_r0 : BitVec 32 := 22#32
  let v126_r0 : BitVec 1 := Scalar.cmpi .eq v125_r0 c22_i32_128_r0
  let c0_i32_129_r0 : BitVec 32 := 0#32
  let v127_r0 : BitVec 32 := Scalar.select v126_r0 c0_i32_129_r0 v125_r0
  let c0_i32_130_r0 : BitVec 32 := 0#32
  let v128_r0 : BitVec 32 := Scalar.addi v127_r0 c0_i32_130_r0
  let v298_r0 : BitVec 1 := Scalar.cmpi .ne v118_r0 v128_r0
  let c0_i32_76_r0 : BitVec 32 := 0#32
  let c1_i32_78_r0 : BitVec 32 := 1#32
  let arg11_r0 : BitVec 32 := Scf.iv c0_i32_76_r0 c1_i32_78_r0 k0_t2
  let c21_i32_119_r0 : BitVec 32 := 21#32
  let v117_r0 : BitVec 1 := Scalar.cmpi .eq arg11_r0 c21_i32_119_r0
  let v299_r0 : BitVec 1 := Scalar.ori v298_r0 v117_r0
  let v300_r0 : BitVec 32 := Scalar.extui v299_r0
  let c0_i32_219_r0 : BitVec 32 := 0#32
  let v301_r0 : BitVec 1 := Scalar.cmpi .ne v300_r0 c0_i32_219_r0
  v301_r0

def k0_off44 (arg24_r0 : BitVec 32) : Fin 2 → Nat :=
  let c0_i32_255_r0 : BitVec 32 := 0#32
  let c256_i32_254_r0 : BitVec 32 := 256#32
  let c0_i32_120_r0 : BitVec 32 := 0#32
  let v118_r0 : BitVec 32 := Scalar.addi arg24_r0 c0_i32_120_r0
  let v371_r0 : BitVec 32 := Scalar.muli c256_i32_254_r0 v118_r0
  ![0, v371_r0.toNat]
def k0_off45 (arg20_r0 : BitVec 32) : Fin 3 → Nat :=
  let c2_i32_253_r0 : BitVec 32 := 2#32
  let v370_r0 : BitVec 32 := Scalar.remui arg20_r0 c2_i32_253_r0
  let c0_i32_256_r0 : BitVec 32 := 0#32
  let c0_i32_257_r0 : BitVec 32 := 0#32
  ![v370_r0.toNat, 0, 0]
def k0_off46 (arg22_r0 : BitVec 32) : Fin 1 → Nat :=
  let c2_i32_253_r0 : BitVec 32 := 2#32
  let v370_r0 : BitVec 32 := Scalar.remui arg22_r0 c2_i32_253_r0
  ![v370_r0.toNat]
def k0_cond18 (k0_t2 : Fin k0_t2_loop.trips) (arg24_r0 : BitVec 32) : BitVec 1 :=
  let c0_i32_120_r0 : BitVec 32 := 0#32
  let v118_r0 : BitVec 32 := Scalar.addi arg24_r0 c0_i32_120_r0
  let true_127_r0 : BitVec 1 := 1#1
  let c1_i32_126_r0 : BitVec 32 := 1#32
  let v124_r0 : BitVec 32 := Scalar.addi arg24_r0 c1_i32_126_r0
  let v125_r0 : BitVec 32 := Scalar.select true_127_r0 v124_r0 arg24_r0
  let c22_i32_128_r0 : BitVec 32 := 22#32
  let v126_r0 : BitVec 1 := Scalar.cmpi .eq v125_r0 c22_i32_128_r0
  let c0_i32_129_r0 : BitVec 32 := 0#32
  let v127_r0 : BitVec 32 := Scalar.select v126_r0 c0_i32_129_r0 v125_r0
  let c0_i32_130_r0 : BitVec 32 := 0#32
  let v128_r0 : BitVec 32 := Scalar.addi v127_r0 c0_i32_130_r0
  let v305_r0 : BitVec 1 := Scalar.cmpi .ne v118_r0 v128_r0
  let c0_i32_76_r0 : BitVec 32 := 0#32
  let c1_i32_78_r0 : BitVec 32 := 1#32
  let arg11_r0 : BitVec 32 := Scf.iv c0_i32_76_r0 c1_i32_78_r0 k0_t2
  let c21_i32_119_r0 : BitVec 32 := 21#32
  let v117_r0 : BitVec 1 := Scalar.cmpi .eq arg11_r0 c21_i32_119_r0
  let v306_r0 : BitVec 1 := Scalar.ori v305_r0 v117_r0
  let v307_r0 : BitVec 32 := Scalar.extui v306_r0
  let c0_i32_222_r0 : BitVec 32 := 0#32
  let v308_r0 : BitVec 1 := Scalar.cmpi .ne v307_r0 c0_i32_222_r0
  v308_r0

def k0_off47 (arg24_r0 : BitVec 32) : Fin 2 → Nat :=
  let c256_i32_254_r0 : BitVec 32 := 256#32
  let c0_i32_120_r0 : BitVec 32 := 0#32
  let v118_r0 : BitVec 32 := Scalar.addi arg24_r0 c0_i32_120_r0
  let v371_r0 : BitVec 32 := Scalar.muli c256_i32_254_r0 v118_r0
  let c0_i32_255_r0 : BitVec 32 := 0#32
  ![v371_r0.toNat, 0]
def k0_off48 (arg22_r0 : BitVec 32) : Fin 3 → Nat :=
  let c2_i32_253_r0 : BitVec 32 := 2#32
  let v370_r0 : BitVec 32 := Scalar.remui arg22_r0 c2_i32_253_r0
  let c0_i32_256_r0 : BitVec 32 := 0#32
  let c0_i32_257_r0 : BitVec 32 := 0#32
  ![v370_r0.toNat, 0, 0]
def k0_off49 (arg19_r0 : BitVec 32) : Fin 1 → Nat :=
  let c2_i32_253_r0 : BitVec 32 := 2#32
  let v370_r0 : BitVec 32 := Scalar.remui arg19_r0 c2_i32_253_r0
  ![v370_r0.toNat]
def k0_cond22 (k0_t2 : Fin k0_t2_loop.trips) (arg24_r0 : BitVec 32) : BitVec 1 :=
  let c0_i32_120_r0 : BitVec 32 := 0#32
  let v118_r0 : BitVec 32 := Scalar.addi arg24_r0 c0_i32_120_r0
  let true_122_r0 : BitVec 1 := 1#1
  let c1_i32_121_r0 : BitVec 32 := 1#32
  let v119_r0 : BitVec 32 := Scalar.subi arg24_r0 c1_i32_121_r0
  let v120_r0 : BitVec 32 := Scalar.select true_122_r0 v119_r0 arg24_r0
  let c_m1_i32_123_r0 : BitVec 32 := 4294967295#32
  let v121_r0 : BitVec 1 := Scalar.cmpi .eq v120_r0 c_m1_i32_123_r0
  let c21_i32_124_r0 : BitVec 32 := 21#32
  let v122_r0 : BitVec 32 := Scalar.select v121_r0 c21_i32_124_r0 v120_r0
  let c0_i32_125_r0 : BitVec 32 := 0#32
  let v123_r0 : BitVec 32 := Scalar.addi v122_r0 c0_i32_125_r0
  let v330_r0 : BitVec 1 := Scalar.cmpi .ne v118_r0 v123_r0
  let c0_i32_76_r0 : BitVec 32 := 0#32
  let c1_i32_78_r0 : BitVec 32 := 1#32
  let arg11_r0 : BitVec 32 := Scf.iv c0_i32_76_r0 c1_i32_78_r0 k0_t2
  let c0_i32_118_r0 : BitVec 32 := 0#32
  let v116_r0 : BitVec 1 := Scalar.cmpi .eq arg11_r0 c0_i32_118_r0
  let true_234_r0 : BitVec 1 := 1#1
  let v331_r0 : BitVec 1 := Scalar.xori v116_r0 true_234_r0
  let v332_r0 : BitVec 1 := Scalar.andi v330_r0 v331_r0
  let v333_r0 : BitVec 32 := Scalar.extui v332_r0
  let c0_i32_235_r0 : BitVec 32 := 0#32
  let v334_r0 : BitVec 1 := Scalar.cmpi .ne v333_r0 c0_i32_235_r0
  v334_r0

def k0_off50 (arg24_r0 : BitVec 32) : Fin 2 → Nat :=
  let c0_i32_255_r0 : BitVec 32 := 0#32
  let c256_i32_254_r0 : BitVec 32 := 256#32
  let true_122_r0 : BitVec 1 := 1#1
  let c1_i32_121_r0 : BitVec 32 := 1#32
  let v119_r0 : BitVec 32 := Scalar.subi arg24_r0 c1_i32_121_r0
  let v120_r0 : BitVec 32 := Scalar.select true_122_r0 v119_r0 arg24_r0
  let c_m1_i32_123_r0 : BitVec 32 := 4294967295#32
  let v121_r0 : BitVec 1 := Scalar.cmpi .eq v120_r0 c_m1_i32_123_r0
  let c21_i32_124_r0 : BitVec 32 := 21#32
  let v122_r0 : BitVec 32 := Scalar.select v121_r0 c21_i32_124_r0 v120_r0
  let c0_i32_125_r0 : BitVec 32 := 0#32
  let v123_r0 : BitVec 32 := Scalar.addi v122_r0 c0_i32_125_r0
  let v371_r0 : BitVec 32 := Scalar.muli c256_i32_254_r0 v123_r0
  ![0, v371_r0.toNat]
def k0_off51 (arg19_r0 : BitVec 32) : Fin 3 → Nat :=
  let c2_i32_253_r0 : BitVec 32 := 2#32
  let v370_r0 : BitVec 32 := Scalar.remui arg19_r0 c2_i32_253_r0
  let c0_i32_256_r0 : BitVec 32 := 0#32
  let c0_i32_257_r0 : BitVec 32 := 0#32
  ![v370_r0.toNat, 0, 0]
def k0_off52 (arg21_r0 : BitVec 32) : Fin 1 → Nat :=
  let c2_i32_253_r0 : BitVec 32 := 2#32
  let v370_r0 : BitVec 32 := Scalar.remui arg21_r0 c2_i32_253_r0
  ![v370_r0.toNat]
def k0_cond23 (k0_t2 : Fin k0_t2_loop.trips) (arg24_r0 : BitVec 32) : BitVec 1 :=
  let c0_i32_120_r0 : BitVec 32 := 0#32
  let v118_r0 : BitVec 32 := Scalar.addi arg24_r0 c0_i32_120_r0
  let true_122_r0 : BitVec 1 := 1#1
  let c1_i32_121_r0 : BitVec 32 := 1#32
  let v119_r0 : BitVec 32 := Scalar.subi arg24_r0 c1_i32_121_r0
  let v120_r0 : BitVec 32 := Scalar.select true_122_r0 v119_r0 arg24_r0
  let c_m1_i32_123_r0 : BitVec 32 := 4294967295#32
  let v121_r0 : BitVec 1 := Scalar.cmpi .eq v120_r0 c_m1_i32_123_r0
  let c21_i32_124_r0 : BitVec 32 := 21#32
  let v122_r0 : BitVec 32 := Scalar.select v121_r0 c21_i32_124_r0 v120_r0
  let c0_i32_125_r0 : BitVec 32 := 0#32
  let v123_r0 : BitVec 32 := Scalar.addi v122_r0 c0_i32_125_r0
  let v338_r0 : BitVec 1 := Scalar.cmpi .ne v118_r0 v123_r0
  let c0_i32_76_r0 : BitVec 32 := 0#32
  let c1_i32_78_r0 : BitVec 32 := 1#32
  let arg11_r0 : BitVec 32 := Scf.iv c0_i32_76_r0 c1_i32_78_r0 k0_t2
  let c0_i32_118_r0 : BitVec 32 := 0#32
  let v116_r0 : BitVec 1 := Scalar.cmpi .eq arg11_r0 c0_i32_118_r0
  let true_238_r0 : BitVec 1 := 1#1
  let v339_r0 : BitVec 1 := Scalar.xori v116_r0 true_238_r0
  let v340_r0 : BitVec 1 := Scalar.andi v338_r0 v339_r0
  let v341_r0 : BitVec 32 := Scalar.extui v340_r0
  let c0_i32_239_r0 : BitVec 32 := 0#32
  let v342_r0 : BitVec 1 := Scalar.cmpi .ne v341_r0 c0_i32_239_r0
  v342_r0

def k0_off53 (arg24_r0 : BitVec 32) : Fin 2 → Nat :=
  let c0_i32_255_r0 : BitVec 32 := 0#32
  let c256_i32_254_r0 : BitVec 32 := 256#32
  let true_122_r0 : BitVec 1 := 1#1
  let c1_i32_121_r0 : BitVec 32 := 1#32
  let v119_r0 : BitVec 32 := Scalar.subi arg24_r0 c1_i32_121_r0
  let v120_r0 : BitVec 32 := Scalar.select true_122_r0 v119_r0 arg24_r0
  let c_m1_i32_123_r0 : BitVec 32 := 4294967295#32
  let v121_r0 : BitVec 1 := Scalar.cmpi .eq v120_r0 c_m1_i32_123_r0
  let c21_i32_124_r0 : BitVec 32 := 21#32
  let v122_r0 : BitVec 32 := Scalar.select v121_r0 c21_i32_124_r0 v120_r0
  let c0_i32_125_r0 : BitVec 32 := 0#32
  let v123_r0 : BitVec 32 := Scalar.addi v122_r0 c0_i32_125_r0
  let v371_r0 : BitVec 32 := Scalar.muli c256_i32_254_r0 v123_r0
  ![0, v371_r0.toNat]
def k0_off54 (arg21_r0 : BitVec 32) : Fin 3 → Nat :=
  let c2_i32_253_r0 : BitVec 32 := 2#32
  let v370_r0 : BitVec 32 := Scalar.remui arg21_r0 c2_i32_253_r0
  let c0_i32_256_r0 : BitVec 32 := 0#32
  let c0_i32_257_r0 : BitVec 32 := 0#32
  ![v370_r0.toNat, 0, 0]
def k0_off55 (arg23_r0 : BitVec 32) : Fin 1 → Nat :=
  let c2_i32_253_r0 : BitVec 32 := 2#32
  let v370_r0 : BitVec 32 := Scalar.remui arg23_r0 c2_i32_253_r0
  ![v370_r0.toNat]
def k0_cond24 (k0_t2 : Fin k0_t2_loop.trips) (arg24_r0 : BitVec 32) : BitVec 1 :=
  let c0_i32_120_r0 : BitVec 32 := 0#32
  let v118_r0 : BitVec 32 := Scalar.addi arg24_r0 c0_i32_120_r0
  let true_122_r0 : BitVec 1 := 1#1
  let c1_i32_121_r0 : BitVec 32 := 1#32
  let v119_r0 : BitVec 32 := Scalar.subi arg24_r0 c1_i32_121_r0
  let v120_r0 : BitVec 32 := Scalar.select true_122_r0 v119_r0 arg24_r0
  let c_m1_i32_123_r0 : BitVec 32 := 4294967295#32
  let v121_r0 : BitVec 1 := Scalar.cmpi .eq v120_r0 c_m1_i32_123_r0
  let c21_i32_124_r0 : BitVec 32 := 21#32
  let v122_r0 : BitVec 32 := Scalar.select v121_r0 c21_i32_124_r0 v120_r0
  let c0_i32_125_r0 : BitVec 32 := 0#32
  let v123_r0 : BitVec 32 := Scalar.addi v122_r0 c0_i32_125_r0
  let v346_r0 : BitVec 1 := Scalar.cmpi .ne v118_r0 v123_r0
  let c0_i32_76_r0 : BitVec 32 := 0#32
  let c1_i32_78_r0 : BitVec 32 := 1#32
  let arg11_r0 : BitVec 32 := Scf.iv c0_i32_76_r0 c1_i32_78_r0 k0_t2
  let c0_i32_118_r0 : BitVec 32 := 0#32
  let v116_r0 : BitVec 1 := Scalar.cmpi .eq arg11_r0 c0_i32_118_r0
  let true_242_r0 : BitVec 1 := 1#1
  let v347_r0 : BitVec 1 := Scalar.xori v116_r0 true_242_r0
  let v348_r0 : BitVec 1 := Scalar.andi v346_r0 v347_r0
  let v349_r0 : BitVec 32 := Scalar.extui v348_r0
  let c0_i32_243_r0 : BitVec 32 := 0#32
  let v350_r0 : BitVec 1 := Scalar.cmpi .ne v349_r0 c0_i32_243_r0
  v350_r0

def k0_off56 (arg24_r0 : BitVec 32) : Fin 2 → Nat :=
  let c256_i32_254_r0 : BitVec 32 := 256#32
  let true_122_r0 : BitVec 1 := 1#1
  let c1_i32_121_r0 : BitVec 32 := 1#32
  let v119_r0 : BitVec 32 := Scalar.subi arg24_r0 c1_i32_121_r0
  let v120_r0 : BitVec 32 := Scalar.select true_122_r0 v119_r0 arg24_r0
  let c_m1_i32_123_r0 : BitVec 32 := 4294967295#32
  let v121_r0 : BitVec 1 := Scalar.cmpi .eq v120_r0 c_m1_i32_123_r0
  let c21_i32_124_r0 : BitVec 32 := 21#32
  let v122_r0 : BitVec 32 := Scalar.select v121_r0 c21_i32_124_r0 v120_r0
  let c0_i32_125_r0 : BitVec 32 := 0#32
  let v123_r0 : BitVec 32 := Scalar.addi v122_r0 c0_i32_125_r0
  let v371_r0 : BitVec 32 := Scalar.muli c256_i32_254_r0 v123_r0
  let c0_i32_255_r0 : BitVec 32 := 0#32
  ![v371_r0.toNat, 0]
def k0_off57 (arg23_r0 : BitVec 32) : Fin 3 → Nat :=
  let c2_i32_253_r0 : BitVec 32 := 2#32
  let v370_r0 : BitVec 32 := Scalar.remui arg23_r0 c2_i32_253_r0
  let c0_i32_256_r0 : BitVec 32 := 0#32
  let c0_i32_257_r0 : BitVec 32 := 0#32
  ![v370_r0.toNat, 0, 0]

def k0_chk1_0 (k0_t2 : Fin k0_t2_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) : Prop :=
  (∀ (k0_h4 : k0_cond4 k0_t2 arg24_r0 = 1#1), ∀ a, (k0_off14 arg12_r0) a + S1.size a ≤ S3.size a) ∧
  (∀ (k0_h4 : k0_cond4 k0_t2 arg24_r0 = 1#1), ∀ a, (k0_off15 arg12_r0) a + S1x2048x256.size a ≤ S3x2048x256.size a) ∧
  (∀ (k0_h4 : k0_cond4 k0_t2 arg24_r0 = 1#1), ∀ a, (k0_off16 arg24_r0) a + S2048x256.size a ≤ S2048x5632.size a) ∧
  (∀ (k0_h5 : k0_cond5 k0_t2 arg24_r0 = 1#1), ∀ a, (k0_off17 arg14_r0) a + S1.size a ≤ S3.size a) ∧
  (∀ (k0_h5 : k0_cond5 k0_t2 arg24_r0 = 1#1), ∀ a, (k0_off18 arg14_r0) a + S1x2048x256.size a ≤ S3x2048x256.size a) ∧
  (∀ (k0_h5 : k0_cond5 k0_t2 arg24_r0 = 1#1), ∀ a, (k0_off19 arg24_r0) a + S2048x256.size a ≤ S2048x5632.size a) ∧
  (∀ (k0_h6 : k0_cond6 k0_t2 arg24_r0 = 1#1), ∀ a, (k0_off20 arg16_r0) a + S1.size a ≤ S3.size a) ∧
  (∀ (k0_h6 : k0_cond6 k0_t2 arg24_r0 = 1#1), ∀ a, (k0_off21 arg16_r0) a + S1x256x2048.size a ≤ S3x256x2048.size a) ∧
  (∀ (k0_h6 : k0_cond6 k0_t2 arg24_r0 = 1#1), ∀ a, (k0_off22 arg24_r0) a + S256x2048.size a ≤ S5632x2048.size a) ∧
  (∀ (k0_h7 : k0_cond7 k0_t2 arg24_r0 = 1#1), ∀ a, (k0_off23 arg13_r0) a + S1.size a ≤ S3.size a) ∧
  (∀ (k0_h7 : k0_cond7 k0_t2 arg24_r0 = 1#1), ∀ a, (k0_off24 arg13_r0) a + S1x2048x256.size a ≤ S3x2048x256.size a) ∧
  (∀ (k0_h7 : k0_cond7 k0_t2 arg24_r0 = 1#1), ∀ a, (k0_off25 arg24_r0) a + S2048x256.size a ≤ S2048x5632.size a) ∧
  (∀ (k0_h8 : k0_cond8 k0_t2 arg24_r0 = 1#1), ∀ a, (k0_off26 arg15_r0) a + S1.size a ≤ S3.size a) ∧
  (∀ (k0_h8 : k0_cond8 k0_t2 arg24_r0 = 1#1), ∀ a, (k0_off27 arg15_r0) a + S1x2048x256.size a ≤ S3x2048x256.size a) ∧
  (∀ (k0_h8 : k0_cond8 k0_t2 arg24_r0 = 1#1), ∀ a, (k0_off28 arg24_r0) a + S2048x256.size a ≤ S2048x5632.size a) ∧
  (∀ (k0_h9 : k0_cond9 k0_t2 arg24_r0 = 1#1), ∀ a, (k0_off29 arg17_r0) a + S1.size a ≤ S3.size a) ∧
  (∀ (k0_h9 : k0_cond9 k0_t2 arg24_r0 = 1#1), ∀ a, (k0_off30 arg17_r0) a + S1x256x2048.size a ≤ S3x256x2048.size a) ∧
  (∀ (k0_h9 : k0_cond9 k0_t2 arg24_r0 = 1#1), ∀ a, (k0_off31 arg24_r0) a + S256x2048.size a ≤ S5632x2048.size a) ∧
  (∀ (k0_h16 : k0_cond16 k0_t2 arg24_r0 = 1#1), ∀ a, (k0_off40 arg18_r0) a + S1.size a ≤ S2.size a) ∧
  (∀ (k0_h16 : k0_cond16 k0_t2 arg24_r0 = 1#1), ∀ a, (k0_off41 arg24_r0) a + S2048x256.size a ≤ S2048x5632.size a) ∧
  (∀ (k0_h16 : k0_cond16 k0_t2 arg24_r0 = 1#1), ∀ a, (k0_off42 arg18_r0) a + S1x2048x256.size a ≤ S2x2048x256.size a) ∧
  (∀ (k0_h16 : k0_cond16 k0_t2 arg24_r0 = 1#1), ∀ (hinb : ∀ a, (k0_off42 arg18_r0) a + S1x2048x256.size a ≤ S2x2048x256.size a), (Rect.unit (s := S2x2048x256) (k0_off42 arg18_r0) S1x2048x256.size hinb).WholeWords (EltTy.packing .bf16)) ∧
  (∀ (k0_h16 : k0_cond16 k0_t2 arg24_r0 = 1#1), ∀ (hinb : ∀ a, (k0_off41 arg24_r0) a + S2048x256.size a ≤ S2048x5632.size a), (Rect.unit (s := S2048x5632) (k0_off41 arg24_r0) S2048x256.size hinb).WholeWords (EltTy.packing .bf16)) ∧
  (∀ (k0_h17 : k0_cond17 k0_t2 arg24_r0 = 1#1), ∀ a, (k0_off43 arg20_r0) a + S1.size a ≤ S2.size a) ∧
  (∀ (k0_h17 : k0_cond17 k0_t2 arg24_r0 = 1#1), ∀ a, (k0_off44 arg24_r0) a + S2048x256.size a ≤ S2048x5632.size a) ∧
  (∀ (k0_h17 : k0_cond17 k0_t2 arg24_r0 = 1#1), ∀ a, (k0_off45 arg20_r0) a + S1x2048x256.size a ≤ S2x2048x256.size a) ∧
  (∀ (k0_h17 : k0_cond17 k0_t2 arg24_r0 = 1#1), ∀ (hinb : ∀ a, (k0_off45 arg20_r0) a + S1x2048x256.size a ≤ S2x2048x256.size a), (Rect.unit (s := S2x2048x256) (k0_off45 arg20_r0) S1x2048x256.size hinb).WholeWords (EltTy.packing .bf16)) ∧
  (∀ (k0_h17 : k0_cond17 k0_t2 arg24_r0 = 1#1), ∀ (hinb : ∀ a, (k0_off44 arg24_r0) a + S2048x256.size a ≤ S2048x5632.size a), (Rect.unit (s := S2048x5632) (k0_off44 arg24_r0) S2048x256.size hinb).WholeWords (EltTy.packing .bf16)) ∧
  (∀ (k0_h18 : k0_cond18 k0_t2 arg24_r0 = 1#1), ∀ a, (k0_off46 arg22_r0) a + S1.size a ≤ S2.size a) ∧
  (∀ (k0_h18 : k0_cond18 k0_t2 arg24_r0 = 1#1), ∀ a, (k0_off47 arg24_r0) a + S256x2048.size a ≤ S5632x2048.size a) ∧
  (∀ (k0_h18 : k0_cond18 k0_t2 arg24_r0 = 1#1), ∀ a, (k0_off48 arg22_r0) a + S1x256x2048.size a ≤ S2x256x2048.size a) ∧
  (∀ (k0_h18 : k0_cond18 k0_t2 arg24_r0 = 1#1), ∀ (hinb : ∀ a, (k0_off48 arg22_r0) a + S1x256x2048.size a ≤ S2x256x2048.size a), (Rect.unit (s := S2x256x2048) (k0_off48 arg22_r0) S1x256x2048.size hinb).WholeWords (EltTy.packing .bf16))
def k0_chk1_1 (k0_t2 : Fin k0_t2_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) : Prop :=
  (∀ (k0_h18 : k0_cond18 k0_t2 arg24_r0 = 1#1), ∀ (hinb : ∀ a, (k0_off47 arg24_r0) a + S256x2048.size a ≤ S5632x2048.size a), (Rect.unit (s := S5632x2048) (k0_off47 arg24_r0) S256x2048.size hinb).WholeWords (EltTy.packing .bf16)) ∧
  (∀ (k0_h22 : k0_cond22 k0_t2 arg24_r0 = 1#1), ∀ a, (k0_off49 arg19_r0) a + S1.size a ≤ S2.size a) ∧
  (∀ (k0_h22 : k0_cond22 k0_t2 arg24_r0 = 1#1), ∀ a, (k0_off50 arg24_r0) a + S2048x256.size a ≤ S2048x5632.size a) ∧
  (∀ (k0_h22 : k0_cond22 k0_t2 arg24_r0 = 1#1), ∀ a, (k0_off51 arg19_r0) a + S1x2048x256.size a ≤ S2x2048x256.size a) ∧
  (∀ (k0_h22 : k0_cond22 k0_t2 arg24_r0 = 1#1), ∀ (hinb : ∀ a, (k0_off51 arg19_r0) a + S1x2048x256.size a ≤ S2x2048x256.size a), (Rect.unit (s := S2x2048x256) (k0_off51 arg19_r0) S1x2048x256.size hinb).WholeWords (EltTy.packing .bf16)) ∧
  (∀ (k0_h22 : k0_cond22 k0_t2 arg24_r0 = 1#1), ∀ (hinb : ∀ a, (k0_off50 arg24_r0) a + S2048x256.size a ≤ S2048x5632.size a), (Rect.unit (s := S2048x5632) (k0_off50 arg24_r0) S2048x256.size hinb).WholeWords (EltTy.packing .bf16)) ∧
  (∀ (k0_h23 : k0_cond23 k0_t2 arg24_r0 = 1#1), ∀ a, (k0_off52 arg21_r0) a + S1.size a ≤ S2.size a) ∧
  (∀ (k0_h23 : k0_cond23 k0_t2 arg24_r0 = 1#1), ∀ a, (k0_off53 arg24_r0) a + S2048x256.size a ≤ S2048x5632.size a) ∧
  (∀ (k0_h23 : k0_cond23 k0_t2 arg24_r0 = 1#1), ∀ a, (k0_off54 arg21_r0) a + S1x2048x256.size a ≤ S2x2048x256.size a) ∧
  (∀ (k0_h23 : k0_cond23 k0_t2 arg24_r0 = 1#1), ∀ (hinb : ∀ a, (k0_off54 arg21_r0) a + S1x2048x256.size a ≤ S2x2048x256.size a), (Rect.unit (s := S2x2048x256) (k0_off54 arg21_r0) S1x2048x256.size hinb).WholeWords (EltTy.packing .bf16)) ∧
  (∀ (k0_h23 : k0_cond23 k0_t2 arg24_r0 = 1#1), ∀ (hinb : ∀ a, (k0_off53 arg24_r0) a + S2048x256.size a ≤ S2048x5632.size a), (Rect.unit (s := S2048x5632) (k0_off53 arg24_r0) S2048x256.size hinb).WholeWords (EltTy.packing .bf16)) ∧
  (∀ (k0_h24 : k0_cond24 k0_t2 arg24_r0 = 1#1), ∀ a, (k0_off55 arg23_r0) a + S1.size a ≤ S2.size a) ∧
  (∀ (k0_h24 : k0_cond24 k0_t2 arg24_r0 = 1#1), ∀ a, (k0_off56 arg24_r0) a + S256x2048.size a ≤ S5632x2048.size a) ∧
  (∀ (k0_h24 : k0_cond24 k0_t2 arg24_r0 = 1#1), ∀ a, (k0_off57 arg23_r0) a + S1x256x2048.size a ≤ S2x256x2048.size a) ∧
  (∀ (k0_h24 : k0_cond24 k0_t2 arg24_r0 = 1#1), ∀ (hinb : ∀ a, (k0_off57 arg23_r0) a + S1x256x2048.size a ≤ S2x256x2048.size a), (Rect.unit (s := S2x256x2048) (k0_off57 arg23_r0) S1x256x2048.size hinb).WholeWords (EltTy.packing .bf16)) ∧
  (∀ (k0_h24 : k0_cond24 k0_t2 arg24_r0 = 1#1), ∀ (hinb : ∀ a, (k0_off56 arg24_r0) a + S256x2048.size a ≤ S5632x2048.size a), (Rect.unit (s := S5632x2048) (k0_off56 arg24_r0) S256x2048.size hinb).WholeWords (EltTy.packing .bf16))
def k0_chk1 (k0_t2 : Fin k0_t2_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) : Prop :=
  k0_chk1_0 k0_t2 arg12_r0 arg13_r0 arg14_r0 arg15_r0 arg16_r0 arg17_r0 arg18_r0 arg19_r0 arg20_r0 arg21_r0 arg22_r0 arg23_r0 arg24_r0 ∧
  k0_chk1_1 k0_t2 arg12_r0 arg13_r0 arg14_r0 arg15_r0 arg16_r0 arg17_r0 arg18_r0 arg19_r0 arg20_r0 arg21_r0 arg22_r0 arg23_r0 arg24_r0
theorem k0_off14_inb : ∀ (k0_t2 : Fin k0_t2_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t2 arg12_r0 arg13_r0 arg14_r0 arg15_r0 arg16_r0 arg17_r0 arg18_r0 arg19_r0 arg20_r0 arg21_r0 arg22_r0 arg23_r0 arg24_r0), ∀ (k0_h4 : k0_cond4 k0_t2 arg24_r0 = 1#1), ∀ a, (k0_off14 arg12_r0) a + S1.size a ≤ S3.size a := fun k0_t2 arg12_r0 arg13_r0 arg14_r0 arg15_r0 arg16_r0 arg17_r0 arg18_r0 arg19_r0 arg20_r0 arg21_r0 arg22_r0 arg23_r0 arg24_r0 k0_hw1 k0_h4 => k0_hw1.1.1 k0_h4
theorem k0_off15_inb : ∀ (k0_t2 : Fin k0_t2_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t2 arg12_r0 arg13_r0 arg14_r0 arg15_r0 arg16_r0 arg17_r0 arg18_r0 arg19_r0 arg20_r0 arg21_r0 arg22_r0 arg23_r0 arg24_r0), ∀ (k0_h4 : k0_cond4 k0_t2 arg24_r0 = 1#1), ∀ a, (k0_off15 arg12_r0) a + S1x2048x256.size a ≤ S3x2048x256.size a := fun k0_t2 arg12_r0 arg13_r0 arg14_r0 arg15_r0 arg16_r0 arg17_r0 arg18_r0 arg19_r0 arg20_r0 arg21_r0 arg22_r0 arg23_r0 arg24_r0 k0_hw1 k0_h4 => k0_hw1.1.2.1 k0_h4
theorem k0_off16_inb : ∀ (k0_t2 : Fin k0_t2_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t2 arg12_r0 arg13_r0 arg14_r0 arg15_r0 arg16_r0 arg17_r0 arg18_r0 arg19_r0 arg20_r0 arg21_r0 arg22_r0 arg23_r0 arg24_r0), ∀ (k0_h4 : k0_cond4 k0_t2 arg24_r0 = 1#1), ∀ a, (k0_off16 arg24_r0) a + S2048x256.size a ≤ S2048x5632.size a := fun k0_t2 arg12_r0 arg13_r0 arg14_r0 arg15_r0 arg16_r0 arg17_r0 arg18_r0 arg19_r0 arg20_r0 arg21_r0 arg22_r0 arg23_r0 arg24_r0 k0_hw1 k0_h4 => k0_hw1.1.2.2.1 k0_h4
theorem k0_off17_inb : ∀ (k0_t2 : Fin k0_t2_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t2 arg12_r0 arg13_r0 arg14_r0 arg15_r0 arg16_r0 arg17_r0 arg18_r0 arg19_r0 arg20_r0 arg21_r0 arg22_r0 arg23_r0 arg24_r0), ∀ (k0_h5 : k0_cond5 k0_t2 arg24_r0 = 1#1), ∀ a, (k0_off17 arg14_r0) a + S1.size a ≤ S3.size a := fun k0_t2 arg12_r0 arg13_r0 arg14_r0 arg15_r0 arg16_r0 arg17_r0 arg18_r0 arg19_r0 arg20_r0 arg21_r0 arg22_r0 arg23_r0 arg24_r0 k0_hw1 k0_h5 => k0_hw1.1.2.2.2.1 k0_h5
theorem k0_off18_inb : ∀ (k0_t2 : Fin k0_t2_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t2 arg12_r0 arg13_r0 arg14_r0 arg15_r0 arg16_r0 arg17_r0 arg18_r0 arg19_r0 arg20_r0 arg21_r0 arg22_r0 arg23_r0 arg24_r0), ∀ (k0_h5 : k0_cond5 k0_t2 arg24_r0 = 1#1), ∀ a, (k0_off18 arg14_r0) a + S1x2048x256.size a ≤ S3x2048x256.size a := fun k0_t2 arg12_r0 arg13_r0 arg14_r0 arg15_r0 arg16_r0 arg17_r0 arg18_r0 arg19_r0 arg20_r0 arg21_r0 arg22_r0 arg23_r0 arg24_r0 k0_hw1 k0_h5 => k0_hw1.1.2.2.2.2.1 k0_h5
theorem k0_off19_inb : ∀ (k0_t2 : Fin k0_t2_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t2 arg12_r0 arg13_r0 arg14_r0 arg15_r0 arg16_r0 arg17_r0 arg18_r0 arg19_r0 arg20_r0 arg21_r0 arg22_r0 arg23_r0 arg24_r0), ∀ (k0_h5 : k0_cond5 k0_t2 arg24_r0 = 1#1), ∀ a, (k0_off19 arg24_r0) a + S2048x256.size a ≤ S2048x5632.size a := fun k0_t2 arg12_r0 arg13_r0 arg14_r0 arg15_r0 arg16_r0 arg17_r0 arg18_r0 arg19_r0 arg20_r0 arg21_r0 arg22_r0 arg23_r0 arg24_r0 k0_hw1 k0_h5 => k0_hw1.1.2.2.2.2.2.1 k0_h5
theorem k0_off20_inb : ∀ (k0_t2 : Fin k0_t2_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t2 arg12_r0 arg13_r0 arg14_r0 arg15_r0 arg16_r0 arg17_r0 arg18_r0 arg19_r0 arg20_r0 arg21_r0 arg22_r0 arg23_r0 arg24_r0), ∀ (k0_h6 : k0_cond6 k0_t2 arg24_r0 = 1#1), ∀ a, (k0_off20 arg16_r0) a + S1.size a ≤ S3.size a := fun k0_t2 arg12_r0 arg13_r0 arg14_r0 arg15_r0 arg16_r0 arg17_r0 arg18_r0 arg19_r0 arg20_r0 arg21_r0 arg22_r0 arg23_r0 arg24_r0 k0_hw1 k0_h6 => k0_hw1.1.2.2.2.2.2.2.1 k0_h6
theorem k0_off21_inb : ∀ (k0_t2 : Fin k0_t2_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t2 arg12_r0 arg13_r0 arg14_r0 arg15_r0 arg16_r0 arg17_r0 arg18_r0 arg19_r0 arg20_r0 arg21_r0 arg22_r0 arg23_r0 arg24_r0), ∀ (k0_h6 : k0_cond6 k0_t2 arg24_r0 = 1#1), ∀ a, (k0_off21 arg16_r0) a + S1x256x2048.size a ≤ S3x256x2048.size a := fun k0_t2 arg12_r0 arg13_r0 arg14_r0 arg15_r0 arg16_r0 arg17_r0 arg18_r0 arg19_r0 arg20_r0 arg21_r0 arg22_r0 arg23_r0 arg24_r0 k0_hw1 k0_h6 => k0_hw1.1.2.2.2.2.2.2.2.1 k0_h6
theorem k0_off22_inb : ∀ (k0_t2 : Fin k0_t2_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t2 arg12_r0 arg13_r0 arg14_r0 arg15_r0 arg16_r0 arg17_r0 arg18_r0 arg19_r0 arg20_r0 arg21_r0 arg22_r0 arg23_r0 arg24_r0), ∀ (k0_h6 : k0_cond6 k0_t2 arg24_r0 = 1#1), ∀ a, (k0_off22 arg24_r0) a + S256x2048.size a ≤ S5632x2048.size a := fun k0_t2 arg12_r0 arg13_r0 arg14_r0 arg15_r0 arg16_r0 arg17_r0 arg18_r0 arg19_r0 arg20_r0 arg21_r0 arg22_r0 arg23_r0 arg24_r0 k0_hw1 k0_h6 => k0_hw1.1.2.2.2.2.2.2.2.2.1 k0_h6
theorem k0_off23_inb : ∀ (k0_t2 : Fin k0_t2_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t2 arg12_r0 arg13_r0 arg14_r0 arg15_r0 arg16_r0 arg17_r0 arg18_r0 arg19_r0 arg20_r0 arg21_r0 arg22_r0 arg23_r0 arg24_r0), ∀ (k0_h7 : k0_cond7 k0_t2 arg24_r0 = 1#1), ∀ a, (k0_off23 arg13_r0) a + S1.size a ≤ S3.size a := fun k0_t2 arg12_r0 arg13_r0 arg14_r0 arg15_r0 arg16_r0 arg17_r0 arg18_r0 arg19_r0 arg20_r0 arg21_r0 arg22_r0 arg23_r0 arg24_r0 k0_hw1 k0_h7 => k0_hw1.1.2.2.2.2.2.2.2.2.2.1 k0_h7
theorem k0_off24_inb : ∀ (k0_t2 : Fin k0_t2_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t2 arg12_r0 arg13_r0 arg14_r0 arg15_r0 arg16_r0 arg17_r0 arg18_r0 arg19_r0 arg20_r0 arg21_r0 arg22_r0 arg23_r0 arg24_r0), ∀ (k0_h7 : k0_cond7 k0_t2 arg24_r0 = 1#1), ∀ a, (k0_off24 arg13_r0) a + S1x2048x256.size a ≤ S3x2048x256.size a := fun k0_t2 arg12_r0 arg13_r0 arg14_r0 arg15_r0 arg16_r0 arg17_r0 arg18_r0 arg19_r0 arg20_r0 arg21_r0 arg22_r0 arg23_r0 arg24_r0 k0_hw1 k0_h7 => k0_hw1.1.2.2.2.2.2.2.2.2.2.2.1 k0_h7
theorem k0_off25_inb : ∀ (k0_t2 : Fin k0_t2_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t2 arg12_r0 arg13_r0 arg14_r0 arg15_r0 arg16_r0 arg17_r0 arg18_r0 arg19_r0 arg20_r0 arg21_r0 arg22_r0 arg23_r0 arg24_r0), ∀ (k0_h7 : k0_cond7 k0_t2 arg24_r0 = 1#1), ∀ a, (k0_off25 arg24_r0) a + S2048x256.size a ≤ S2048x5632.size a := fun k0_t2 arg12_r0 arg13_r0 arg14_r0 arg15_r0 arg16_r0 arg17_r0 arg18_r0 arg19_r0 arg20_r0 arg21_r0 arg22_r0 arg23_r0 arg24_r0 k0_hw1 k0_h7 => k0_hw1.1.2.2.2.2.2.2.2.2.2.2.2.1 k0_h7
theorem k0_off26_inb : ∀ (k0_t2 : Fin k0_t2_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t2 arg12_r0 arg13_r0 arg14_r0 arg15_r0 arg16_r0 arg17_r0 arg18_r0 arg19_r0 arg20_r0 arg21_r0 arg22_r0 arg23_r0 arg24_r0), ∀ (k0_h8 : k0_cond8 k0_t2 arg24_r0 = 1#1), ∀ a, (k0_off26 arg15_r0) a + S1.size a ≤ S3.size a := fun k0_t2 arg12_r0 arg13_r0 arg14_r0 arg15_r0 arg16_r0 arg17_r0 arg18_r0 arg19_r0 arg20_r0 arg21_r0 arg22_r0 arg23_r0 arg24_r0 k0_hw1 k0_h8 => k0_hw1.1.2.2.2.2.2.2.2.2.2.2.2.2.1 k0_h8
theorem k0_off27_inb : ∀ (k0_t2 : Fin k0_t2_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t2 arg12_r0 arg13_r0 arg14_r0 arg15_r0 arg16_r0 arg17_r0 arg18_r0 arg19_r0 arg20_r0 arg21_r0 arg22_r0 arg23_r0 arg24_r0), ∀ (k0_h8 : k0_cond8 k0_t2 arg24_r0 = 1#1), ∀ a, (k0_off27 arg15_r0) a + S1x2048x256.size a ≤ S3x2048x256.size a := fun k0_t2 arg12_r0 arg13_r0 arg14_r0 arg15_r0 arg16_r0 arg17_r0 arg18_r0 arg19_r0 arg20_r0 arg21_r0 arg22_r0 arg23_r0 arg24_r0 k0_hw1 k0_h8 => k0_hw1.1.2.2.2.2.2.2.2.2.2.2.2.2.2.1 k0_h8
theorem k0_off28_inb : ∀ (k0_t2 : Fin k0_t2_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t2 arg12_r0 arg13_r0 arg14_r0 arg15_r0 arg16_r0 arg17_r0 arg18_r0 arg19_r0 arg20_r0 arg21_r0 arg22_r0 arg23_r0 arg24_r0), ∀ (k0_h8 : k0_cond8 k0_t2 arg24_r0 = 1#1), ∀ a, (k0_off28 arg24_r0) a + S2048x256.size a ≤ S2048x5632.size a := fun k0_t2 arg12_r0 arg13_r0 arg14_r0 arg15_r0 arg16_r0 arg17_r0 arg18_r0 arg19_r0 arg20_r0 arg21_r0 arg22_r0 arg23_r0 arg24_r0 k0_hw1 k0_h8 => k0_hw1.1.2.2.2.2.2.2.2.2.2.2.2.2.2.2.1 k0_h8
theorem k0_off29_inb : ∀ (k0_t2 : Fin k0_t2_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t2 arg12_r0 arg13_r0 arg14_r0 arg15_r0 arg16_r0 arg17_r0 arg18_r0 arg19_r0 arg20_r0 arg21_r0 arg22_r0 arg23_r0 arg24_r0), ∀ (k0_h9 : k0_cond9 k0_t2 arg24_r0 = 1#1), ∀ a, (k0_off29 arg17_r0) a + S1.size a ≤ S3.size a := fun k0_t2 arg12_r0 arg13_r0 arg14_r0 arg15_r0 arg16_r0 arg17_r0 arg18_r0 arg19_r0 arg20_r0 arg21_r0 arg22_r0 arg23_r0 arg24_r0 k0_hw1 k0_h9 => k0_hw1.1.2.2.2.2.2.2.2.2.2.2.2.2.2.2.2.1 k0_h9
theorem k0_off30_inb : ∀ (k0_t2 : Fin k0_t2_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t2 arg12_r0 arg13_r0 arg14_r0 arg15_r0 arg16_r0 arg17_r0 arg18_r0 arg19_r0 arg20_r0 arg21_r0 arg22_r0 arg23_r0 arg24_r0), ∀ (k0_h9 : k0_cond9 k0_t2 arg24_r0 = 1#1), ∀ a, (k0_off30 arg17_r0) a + S1x256x2048.size a ≤ S3x256x2048.size a := fun k0_t2 arg12_r0 arg13_r0 arg14_r0 arg15_r0 arg16_r0 arg17_r0 arg18_r0 arg19_r0 arg20_r0 arg21_r0 arg22_r0 arg23_r0 arg24_r0 k0_hw1 k0_h9 => k0_hw1.1.2.2.2.2.2.2.2.2.2.2.2.2.2.2.2.2.1 k0_h9
theorem k0_off31_inb : ∀ (k0_t2 : Fin k0_t2_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t2 arg12_r0 arg13_r0 arg14_r0 arg15_r0 arg16_r0 arg17_r0 arg18_r0 arg19_r0 arg20_r0 arg21_r0 arg22_r0 arg23_r0 arg24_r0), ∀ (k0_h9 : k0_cond9 k0_t2 arg24_r0 = 1#1), ∀ a, (k0_off31 arg24_r0) a + S256x2048.size a ≤ S5632x2048.size a := fun k0_t2 arg12_r0 arg13_r0 arg14_r0 arg15_r0 arg16_r0 arg17_r0 arg18_r0 arg19_r0 arg20_r0 arg21_r0 arg22_r0 arg23_r0 arg24_r0 k0_hw1 k0_h9 => k0_hw1.1.2.2.2.2.2.2.2.2.2.2.2.2.2.2.2.2.2.1 k0_h9
theorem k0_off40_inb : ∀ (k0_t2 : Fin k0_t2_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t2 arg12_r0 arg13_r0 arg14_r0 arg15_r0 arg16_r0 arg17_r0 arg18_r0 arg19_r0 arg20_r0 arg21_r0 arg22_r0 arg23_r0 arg24_r0), ∀ (k0_h16 : k0_cond16 k0_t2 arg24_r0 = 1#1), ∀ a, (k0_off40 arg18_r0) a + S1.size a ≤ S2.size a := fun k0_t2 arg12_r0 arg13_r0 arg14_r0 arg15_r0 arg16_r0 arg17_r0 arg18_r0 arg19_r0 arg20_r0 arg21_r0 arg22_r0 arg23_r0 arg24_r0 k0_hw1 k0_h16 => k0_hw1.1.2.2.2.2.2.2.2.2.2.2.2.2.2.2.2.2.2.2.1 k0_h16
theorem k0_off41_inb : ∀ (k0_t2 : Fin k0_t2_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t2 arg12_r0 arg13_r0 arg14_r0 arg15_r0 arg16_r0 arg17_r0 arg18_r0 arg19_r0 arg20_r0 arg21_r0 arg22_r0 arg23_r0 arg24_r0), ∀ (k0_h16 : k0_cond16 k0_t2 arg24_r0 = 1#1), ∀ a, (k0_off41 arg24_r0) a + S2048x256.size a ≤ S2048x5632.size a := fun k0_t2 arg12_r0 arg13_r0 arg14_r0 arg15_r0 arg16_r0 arg17_r0 arg18_r0 arg19_r0 arg20_r0 arg21_r0 arg22_r0 arg23_r0 arg24_r0 k0_hw1 k0_h16 => k0_hw1.1.2.2.2.2.2.2.2.2.2.2.2.2.2.2.2.2.2.2.2.1 k0_h16
theorem k0_off42_inb : ∀ (k0_t2 : Fin k0_t2_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t2 arg12_r0 arg13_r0 arg14_r0 arg15_r0 arg16_r0 arg17_r0 arg18_r0 arg19_r0 arg20_r0 arg21_r0 arg22_r0 arg23_r0 arg24_r0), ∀ (k0_h16 : k0_cond16 k0_t2 arg24_r0 = 1#1), ∀ a, (k0_off42 arg18_r0) a + S1x2048x256.size a ≤ S2x2048x256.size a := fun k0_t2 arg12_r0 arg13_r0 arg14_r0 arg15_r0 arg16_r0 arg17_r0 arg18_r0 arg19_r0 arg20_r0 arg21_r0 arg22_r0 arg23_r0 arg24_r0 k0_hw1 k0_h16 => k0_hw1.1.2.2.2.2.2.2.2.2.2.2.2.2.2.2.2.2.2.2.2.2.1 k0_h16
theorem k0_off42_wordsbf16 : ∀ (k0_t2 : Fin k0_t2_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t2 arg12_r0 arg13_r0 arg14_r0 arg15_r0 arg16_r0 arg17_r0 arg18_r0 arg19_r0 arg20_r0 arg21_r0 arg22_r0 arg23_r0 arg24_r0), ∀ (k0_h16 : k0_cond16 k0_t2 arg24_r0 = 1#1), (Rect.unit (s := S2x2048x256) (k0_off42 arg18_r0) S1x2048x256.size (k0_off42_inb k0_t2 arg12_r0 arg13_r0 arg14_r0 arg15_r0 arg16_r0 arg17_r0 arg18_r0 arg19_r0 arg20_r0 arg21_r0 arg22_r0 arg23_r0 arg24_r0 k0_hw1 k0_h16)).WholeWords (EltTy.packing .bf16) := fun k0_t2 arg12_r0 arg13_r0 arg14_r0 arg15_r0 arg16_r0 arg17_r0 arg18_r0 arg19_r0 arg20_r0 arg21_r0 arg22_r0 arg23_r0 arg24_r0 k0_hw1 k0_h16 => k0_hw1.1.2.2.2.2.2.2.2.2.2.2.2.2.2.2.2.2.2.2.2.2.2.1 k0_h16 (k0_off42_inb k0_t2 arg12_r0 arg13_r0 arg14_r0 arg15_r0 arg16_r0 arg17_r0 arg18_r0 arg19_r0 arg20_r0 arg21_r0 arg22_r0 arg23_r0 arg24_r0 k0_hw1 k0_h16)
theorem k0_off41_wordsbf16 : ∀ (k0_t2 : Fin k0_t2_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t2 arg12_r0 arg13_r0 arg14_r0 arg15_r0 arg16_r0 arg17_r0 arg18_r0 arg19_r0 arg20_r0 arg21_r0 arg22_r0 arg23_r0 arg24_r0), ∀ (k0_h16 : k0_cond16 k0_t2 arg24_r0 = 1#1), (Rect.unit (s := S2048x5632) (k0_off41 arg24_r0) S2048x256.size (k0_off41_inb k0_t2 arg12_r0 arg13_r0 arg14_r0 arg15_r0 arg16_r0 arg17_r0 arg18_r0 arg19_r0 arg20_r0 arg21_r0 arg22_r0 arg23_r0 arg24_r0 k0_hw1 k0_h16)).WholeWords (EltTy.packing .bf16) := fun k0_t2 arg12_r0 arg13_r0 arg14_r0 arg15_r0 arg16_r0 arg17_r0 arg18_r0 arg19_r0 arg20_r0 arg21_r0 arg22_r0 arg23_r0 arg24_r0 k0_hw1 k0_h16 => k0_hw1.1.2.2.2.2.2.2.2.2.2.2.2.2.2.2.2.2.2.2.2.2.2.2.1 k0_h16 (k0_off41_inb k0_t2 arg12_r0 arg13_r0 arg14_r0 arg15_r0 arg16_r0 arg17_r0 arg18_r0 arg19_r0 arg20_r0 arg21_r0 arg22_r0 arg23_r0 arg24_r0 k0_hw1 k0_h16)
theorem k0_off43_inb : ∀ (k0_t2 : Fin k0_t2_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t2 arg12_r0 arg13_r0 arg14_r0 arg15_r0 arg16_r0 arg17_r0 arg18_r0 arg19_r0 arg20_r0 arg21_r0 arg22_r0 arg23_r0 arg24_r0), ∀ (k0_h17 : k0_cond17 k0_t2 arg24_r0 = 1#1), ∀ a, (k0_off43 arg20_r0) a + S1.size a ≤ S2.size a := fun k0_t2 arg12_r0 arg13_r0 arg14_r0 arg15_r0 arg16_r0 arg17_r0 arg18_r0 arg19_r0 arg20_r0 arg21_r0 arg22_r0 arg23_r0 arg24_r0 k0_hw1 k0_h17 => k0_hw1.1.2.2.2.2.2.2.2.2.2.2.2.2.2.2.2.2.2.2.2.2.2.2.2.1 k0_h17
theorem k0_off44_inb : ∀ (k0_t2 : Fin k0_t2_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t2 arg12_r0 arg13_r0 arg14_r0 arg15_r0 arg16_r0 arg17_r0 arg18_r0 arg19_r0 arg20_r0 arg21_r0 arg22_r0 arg23_r0 arg24_r0), ∀ (k0_h17 : k0_cond17 k0_t2 arg24_r0 = 1#1), ∀ a, (k0_off44 arg24_r0) a + S2048x256.size a ≤ S2048x5632.size a := fun k0_t2 arg12_r0 arg13_r0 arg14_r0 arg15_r0 arg16_r0 arg17_r0 arg18_r0 arg19_r0 arg20_r0 arg21_r0 arg22_r0 arg23_r0 arg24_r0 k0_hw1 k0_h17 => k0_hw1.1.2.2.2.2.2.2.2.2.2.2.2.2.2.2.2.2.2.2.2.2.2.2.2.2.1 k0_h17
theorem k0_off45_inb : ∀ (k0_t2 : Fin k0_t2_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t2 arg12_r0 arg13_r0 arg14_r0 arg15_r0 arg16_r0 arg17_r0 arg18_r0 arg19_r0 arg20_r0 arg21_r0 arg22_r0 arg23_r0 arg24_r0), ∀ (k0_h17 : k0_cond17 k0_t2 arg24_r0 = 1#1), ∀ a, (k0_off45 arg20_r0) a + S1x2048x256.size a ≤ S2x2048x256.size a := fun k0_t2 arg12_r0 arg13_r0 arg14_r0 arg15_r0 arg16_r0 arg17_r0 arg18_r0 arg19_r0 arg20_r0 arg21_r0 arg22_r0 arg23_r0 arg24_r0 k0_hw1 k0_h17 => k0_hw1.1.2.2.2.2.2.2.2.2.2.2.2.2.2.2.2.2.2.2.2.2.2.2.2.2.2.1 k0_h17
theorem k0_off45_wordsbf16 : ∀ (k0_t2 : Fin k0_t2_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t2 arg12_r0 arg13_r0 arg14_r0 arg15_r0 arg16_r0 arg17_r0 arg18_r0 arg19_r0 arg20_r0 arg21_r0 arg22_r0 arg23_r0 arg24_r0), ∀ (k0_h17 : k0_cond17 k0_t2 arg24_r0 = 1#1), (Rect.unit (s := S2x2048x256) (k0_off45 arg20_r0) S1x2048x256.size (k0_off45_inb k0_t2 arg12_r0 arg13_r0 arg14_r0 arg15_r0 arg16_r0 arg17_r0 arg18_r0 arg19_r0 arg20_r0 arg21_r0 arg22_r0 arg23_r0 arg24_r0 k0_hw1 k0_h17)).WholeWords (EltTy.packing .bf16) := fun k0_t2 arg12_r0 arg13_r0 arg14_r0 arg15_r0 arg16_r0 arg17_r0 arg18_r0 arg19_r0 arg20_r0 arg21_r0 arg22_r0 arg23_r0 arg24_r0 k0_hw1 k0_h17 => k0_hw1.1.2.2.2.2.2.2.2.2.2.2.2.2.2.2.2.2.2.2.2.2.2.2.2.2.2.2.1 k0_h17 (k0_off45_inb k0_t2 arg12_r0 arg13_r0 arg14_r0 arg15_r0 arg16_r0 arg17_r0 arg18_r0 arg19_r0 arg20_r0 arg21_r0 arg22_r0 arg23_r0 arg24_r0 k0_hw1 k0_h17)
theorem k0_off44_wordsbf16 : ∀ (k0_t2 : Fin k0_t2_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t2 arg12_r0 arg13_r0 arg14_r0 arg15_r0 arg16_r0 arg17_r0 arg18_r0 arg19_r0 arg20_r0 arg21_r0 arg22_r0 arg23_r0 arg24_r0), ∀ (k0_h17 : k0_cond17 k0_t2 arg24_r0 = 1#1), (Rect.unit (s := S2048x5632) (k0_off44 arg24_r0) S2048x256.size (k0_off44_inb k0_t2 arg12_r0 arg13_r0 arg14_r0 arg15_r0 arg16_r0 arg17_r0 arg18_r0 arg19_r0 arg20_r0 arg21_r0 arg22_r0 arg23_r0 arg24_r0 k0_hw1 k0_h17)).WholeWords (EltTy.packing .bf16) := fun k0_t2 arg12_r0 arg13_r0 arg14_r0 arg15_r0 arg16_r0 arg17_r0 arg18_r0 arg19_r0 arg20_r0 arg21_r0 arg22_r0 arg23_r0 arg24_r0 k0_hw1 k0_h17 => k0_hw1.1.2.2.2.2.2.2.2.2.2.2.2.2.2.2.2.2.2.2.2.2.2.2.2.2.2.2.2.1 k0_h17 (k0_off44_inb k0_t2 arg12_r0 arg13_r0 arg14_r0 arg15_r0 arg16_r0 arg17_r0 arg18_r0 arg19_r0 arg20_r0 arg21_r0 arg22_r0 arg23_r0 arg24_r0 k0_hw1 k0_h17)
theorem k0_off46_inb : ∀ (k0_t2 : Fin k0_t2_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t2 arg12_r0 arg13_r0 arg14_r0 arg15_r0 arg16_r0 arg17_r0 arg18_r0 arg19_r0 arg20_r0 arg21_r0 arg22_r0 arg23_r0 arg24_r0), ∀ (k0_h18 : k0_cond18 k0_t2 arg24_r0 = 1#1), ∀ a, (k0_off46 arg22_r0) a + S1.size a ≤ S2.size a := fun k0_t2 arg12_r0 arg13_r0 arg14_r0 arg15_r0 arg16_r0 arg17_r0 arg18_r0 arg19_r0 arg20_r0 arg21_r0 arg22_r0 arg23_r0 arg24_r0 k0_hw1 k0_h18 => k0_hw1.1.2.2.2.2.2.2.2.2.2.2.2.2.2.2.2.2.2.2.2.2.2.2.2.2.2.2.2.2.1 k0_h18
theorem k0_off47_inb : ∀ (k0_t2 : Fin k0_t2_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t2 arg12_r0 arg13_r0 arg14_r0 arg15_r0 arg16_r0 arg17_r0 arg18_r0 arg19_r0 arg20_r0 arg21_r0 arg22_r0 arg23_r0 arg24_r0), ∀ (k0_h18 : k0_cond18 k0_t2 arg24_r0 = 1#1), ∀ a, (k0_off47 arg24_r0) a + S256x2048.size a ≤ S5632x2048.size a := fun k0_t2 arg12_r0 arg13_r0 arg14_r0 arg15_r0 arg16_r0 arg17_r0 arg18_r0 arg19_r0 arg20_r0 arg21_r0 arg22_r0 arg23_r0 arg24_r0 k0_hw1 k0_h18 => k0_hw1.1.2.2.2.2.2.2.2.2.2.2.2.2.2.2.2.2.2.2.2.2.2.2.2.2.2.2.2.2.2.1 k0_h18
theorem k0_off48_inb : ∀ (k0_t2 : Fin k0_t2_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t2 arg12_r0 arg13_r0 arg14_r0 arg15_r0 arg16_r0 arg17_r0 arg18_r0 arg19_r0 arg20_r0 arg21_r0 arg22_r0 arg23_r0 arg24_r0), ∀ (k0_h18 : k0_cond18 k0_t2 arg24_r0 = 1#1), ∀ a, (k0_off48 arg22_r0) a + S1x256x2048.size a ≤ S2x256x2048.size a := fun k0_t2 arg12_r0 arg13_r0 arg14_r0 arg15_r0 arg16_r0 arg17_r0 arg18_r0 arg19_r0 arg20_r0 arg21_r0 arg22_r0 arg23_r0 arg24_r0 k0_hw1 k0_h18 => k0_hw1.1.2.2.2.2.2.2.2.2.2.2.2.2.2.2.2.2.2.2.2.2.2.2.2.2.2.2.2.2.2.2.1 k0_h18
theorem k0_off48_wordsbf16 : ∀ (k0_t2 : Fin k0_t2_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t2 arg12_r0 arg13_r0 arg14_r0 arg15_r0 arg16_r0 arg17_r0 arg18_r0 arg19_r0 arg20_r0 arg21_r0 arg22_r0 arg23_r0 arg24_r0), ∀ (k0_h18 : k0_cond18 k0_t2 arg24_r0 = 1#1), (Rect.unit (s := S2x256x2048) (k0_off48 arg22_r0) S1x256x2048.size (k0_off48_inb k0_t2 arg12_r0 arg13_r0 arg14_r0 arg15_r0 arg16_r0 arg17_r0 arg18_r0 arg19_r0 arg20_r0 arg21_r0 arg22_r0 arg23_r0 arg24_r0 k0_hw1 k0_h18)).WholeWords (EltTy.packing .bf16) := fun k0_t2 arg12_r0 arg13_r0 arg14_r0 arg15_r0 arg16_r0 arg17_r0 arg18_r0 arg19_r0 arg20_r0 arg21_r0 arg22_r0 arg23_r0 arg24_r0 k0_hw1 k0_h18 => k0_hw1.1.2.2.2.2.2.2.2.2.2.2.2.2.2.2.2.2.2.2.2.2.2.2.2.2.2.2.2.2.2.2.2 k0_h18 (k0_off48_inb k0_t2 arg12_r0 arg13_r0 arg14_r0 arg15_r0 arg16_r0 arg17_r0 arg18_r0 arg19_r0 arg20_r0 arg21_r0 arg22_r0 arg23_r0 arg24_r0 k0_hw1 k0_h18)
theorem k0_off47_wordsbf16 : ∀ (k0_t2 : Fin k0_t2_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t2 arg12_r0 arg13_r0 arg14_r0 arg15_r0 arg16_r0 arg17_r0 arg18_r0 arg19_r0 arg20_r0 arg21_r0 arg22_r0 arg23_r0 arg24_r0), ∀ (k0_h18 : k0_cond18 k0_t2 arg24_r0 = 1#1), (Rect.unit (s := S5632x2048) (k0_off47 arg24_r0) S256x2048.size (k0_off47_inb k0_t2 arg12_r0 arg13_r0 arg14_r0 arg15_r0 arg16_r0 arg17_r0 arg18_r0 arg19_r0 arg20_r0 arg21_r0 arg22_r0 arg23_r0 arg24_r0 k0_hw1 k0_h18)).WholeWords (EltTy.packing .bf16) := fun k0_t2 arg12_r0 arg13_r0 arg14_r0 arg15_r0 arg16_r0 arg17_r0 arg18_r0 arg19_r0 arg20_r0 arg21_r0 arg22_r0 arg23_r0 arg24_r0 k0_hw1 k0_h18 => k0_hw1.2.1 k0_h18 (k0_off47_inb k0_t2 arg12_r0 arg13_r0 arg14_r0 arg15_r0 arg16_r0 arg17_r0 arg18_r0 arg19_r0 arg20_r0 arg21_r0 arg22_r0 arg23_r0 arg24_r0 k0_hw1 k0_h18)
theorem k0_off49_inb : ∀ (k0_t2 : Fin k0_t2_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t2 arg12_r0 arg13_r0 arg14_r0 arg15_r0 arg16_r0 arg17_r0 arg18_r0 arg19_r0 arg20_r0 arg21_r0 arg22_r0 arg23_r0 arg24_r0), ∀ (k0_h22 : k0_cond22 k0_t2 arg24_r0 = 1#1), ∀ a, (k0_off49 arg19_r0) a + S1.size a ≤ S2.size a := fun k0_t2 arg12_r0 arg13_r0 arg14_r0 arg15_r0 arg16_r0 arg17_r0 arg18_r0 arg19_r0 arg20_r0 arg21_r0 arg22_r0 arg23_r0 arg24_r0 k0_hw1 k0_h22 => k0_hw1.2.2.1 k0_h22
theorem k0_off50_inb : ∀ (k0_t2 : Fin k0_t2_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t2 arg12_r0 arg13_r0 arg14_r0 arg15_r0 arg16_r0 arg17_r0 arg18_r0 arg19_r0 arg20_r0 arg21_r0 arg22_r0 arg23_r0 arg24_r0), ∀ (k0_h22 : k0_cond22 k0_t2 arg24_r0 = 1#1), ∀ a, (k0_off50 arg24_r0) a + S2048x256.size a ≤ S2048x5632.size a := fun k0_t2 arg12_r0 arg13_r0 arg14_r0 arg15_r0 arg16_r0 arg17_r0 arg18_r0 arg19_r0 arg20_r0 arg21_r0 arg22_r0 arg23_r0 arg24_r0 k0_hw1 k0_h22 => k0_hw1.2.2.2.1 k0_h22
theorem k0_off51_inb : ∀ (k0_t2 : Fin k0_t2_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t2 arg12_r0 arg13_r0 arg14_r0 arg15_r0 arg16_r0 arg17_r0 arg18_r0 arg19_r0 arg20_r0 arg21_r0 arg22_r0 arg23_r0 arg24_r0), ∀ (k0_h22 : k0_cond22 k0_t2 arg24_r0 = 1#1), ∀ a, (k0_off51 arg19_r0) a + S1x2048x256.size a ≤ S2x2048x256.size a := fun k0_t2 arg12_r0 arg13_r0 arg14_r0 arg15_r0 arg16_r0 arg17_r0 arg18_r0 arg19_r0 arg20_r0 arg21_r0 arg22_r0 arg23_r0 arg24_r0 k0_hw1 k0_h22 => k0_hw1.2.2.2.2.1 k0_h22
theorem k0_off51_wordsbf16 : ∀ (k0_t2 : Fin k0_t2_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t2 arg12_r0 arg13_r0 arg14_r0 arg15_r0 arg16_r0 arg17_r0 arg18_r0 arg19_r0 arg20_r0 arg21_r0 arg22_r0 arg23_r0 arg24_r0), ∀ (k0_h22 : k0_cond22 k0_t2 arg24_r0 = 1#1), (Rect.unit (s := S2x2048x256) (k0_off51 arg19_r0) S1x2048x256.size (k0_off51_inb k0_t2 arg12_r0 arg13_r0 arg14_r0 arg15_r0 arg16_r0 arg17_r0 arg18_r0 arg19_r0 arg20_r0 arg21_r0 arg22_r0 arg23_r0 arg24_r0 k0_hw1 k0_h22)).WholeWords (EltTy.packing .bf16) := fun k0_t2 arg12_r0 arg13_r0 arg14_r0 arg15_r0 arg16_r0 arg17_r0 arg18_r0 arg19_r0 arg20_r0 arg21_r0 arg22_r0 arg23_r0 arg24_r0 k0_hw1 k0_h22 => k0_hw1.2.2.2.2.2.1 k0_h22 (k0_off51_inb k0_t2 arg12_r0 arg13_r0 arg14_r0 arg15_r0 arg16_r0 arg17_r0 arg18_r0 arg19_r0 arg20_r0 arg21_r0 arg22_r0 arg23_r0 arg24_r0 k0_hw1 k0_h22)
theorem k0_off50_wordsbf16 : ∀ (k0_t2 : Fin k0_t2_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t2 arg12_r0 arg13_r0 arg14_r0 arg15_r0 arg16_r0 arg17_r0 arg18_r0 arg19_r0 arg20_r0 arg21_r0 arg22_r0 arg23_r0 arg24_r0), ∀ (k0_h22 : k0_cond22 k0_t2 arg24_r0 = 1#1), (Rect.unit (s := S2048x5632) (k0_off50 arg24_r0) S2048x256.size (k0_off50_inb k0_t2 arg12_r0 arg13_r0 arg14_r0 arg15_r0 arg16_r0 arg17_r0 arg18_r0 arg19_r0 arg20_r0 arg21_r0 arg22_r0 arg23_r0 arg24_r0 k0_hw1 k0_h22)).WholeWords (EltTy.packing .bf16) := fun k0_t2 arg12_r0 arg13_r0 arg14_r0 arg15_r0 arg16_r0 arg17_r0 arg18_r0 arg19_r0 arg20_r0 arg21_r0 arg22_r0 arg23_r0 arg24_r0 k0_hw1 k0_h22 => k0_hw1.2.2.2.2.2.2.1 k0_h22 (k0_off50_inb k0_t2 arg12_r0 arg13_r0 arg14_r0 arg15_r0 arg16_r0 arg17_r0 arg18_r0 arg19_r0 arg20_r0 arg21_r0 arg22_r0 arg23_r0 arg24_r0 k0_hw1 k0_h22)
theorem k0_off52_inb : ∀ (k0_t2 : Fin k0_t2_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t2 arg12_r0 arg13_r0 arg14_r0 arg15_r0 arg16_r0 arg17_r0 arg18_r0 arg19_r0 arg20_r0 arg21_r0 arg22_r0 arg23_r0 arg24_r0), ∀ (k0_h23 : k0_cond23 k0_t2 arg24_r0 = 1#1), ∀ a, (k0_off52 arg21_r0) a + S1.size a ≤ S2.size a := fun k0_t2 arg12_r0 arg13_r0 arg14_r0 arg15_r0 arg16_r0 arg17_r0 arg18_r0 arg19_r0 arg20_r0 arg21_r0 arg22_r0 arg23_r0 arg24_r0 k0_hw1 k0_h23 => k0_hw1.2.2.2.2.2.2.2.1 k0_h23
theorem k0_off53_inb : ∀ (k0_t2 : Fin k0_t2_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t2 arg12_r0 arg13_r0 arg14_r0 arg15_r0 arg16_r0 arg17_r0 arg18_r0 arg19_r0 arg20_r0 arg21_r0 arg22_r0 arg23_r0 arg24_r0), ∀ (k0_h23 : k0_cond23 k0_t2 arg24_r0 = 1#1), ∀ a, (k0_off53 arg24_r0) a + S2048x256.size a ≤ S2048x5632.size a := fun k0_t2 arg12_r0 arg13_r0 arg14_r0 arg15_r0 arg16_r0 arg17_r0 arg18_r0 arg19_r0 arg20_r0 arg21_r0 arg22_r0 arg23_r0 arg24_r0 k0_hw1 k0_h23 => k0_hw1.2.2.2.2.2.2.2.2.1 k0_h23
theorem k0_off54_inb : ∀ (k0_t2 : Fin k0_t2_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t2 arg12_r0 arg13_r0 arg14_r0 arg15_r0 arg16_r0 arg17_r0 arg18_r0 arg19_r0 arg20_r0 arg21_r0 arg22_r0 arg23_r0 arg24_r0), ∀ (k0_h23 : k0_cond23 k0_t2 arg24_r0 = 1#1), ∀ a, (k0_off54 arg21_r0) a + S1x2048x256.size a ≤ S2x2048x256.size a := fun k0_t2 arg12_r0 arg13_r0 arg14_r0 arg15_r0 arg16_r0 arg17_r0 arg18_r0 arg19_r0 arg20_r0 arg21_r0 arg22_r0 arg23_r0 arg24_r0 k0_hw1 k0_h23 => k0_hw1.2.2.2.2.2.2.2.2.2.1 k0_h23
theorem k0_off54_wordsbf16 : ∀ (k0_t2 : Fin k0_t2_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t2 arg12_r0 arg13_r0 arg14_r0 arg15_r0 arg16_r0 arg17_r0 arg18_r0 arg19_r0 arg20_r0 arg21_r0 arg22_r0 arg23_r0 arg24_r0), ∀ (k0_h23 : k0_cond23 k0_t2 arg24_r0 = 1#1), (Rect.unit (s := S2x2048x256) (k0_off54 arg21_r0) S1x2048x256.size (k0_off54_inb k0_t2 arg12_r0 arg13_r0 arg14_r0 arg15_r0 arg16_r0 arg17_r0 arg18_r0 arg19_r0 arg20_r0 arg21_r0 arg22_r0 arg23_r0 arg24_r0 k0_hw1 k0_h23)).WholeWords (EltTy.packing .bf16) := fun k0_t2 arg12_r0 arg13_r0 arg14_r0 arg15_r0 arg16_r0 arg17_r0 arg18_r0 arg19_r0 arg20_r0 arg21_r0 arg22_r0 arg23_r0 arg24_r0 k0_hw1 k0_h23 => k0_hw1.2.2.2.2.2.2.2.2.2.2.1 k0_h23 (k0_off54_inb k0_t2 arg12_r0 arg13_r0 arg14_r0 arg15_r0 arg16_r0 arg17_r0 arg18_r0 arg19_r0 arg20_r0 arg21_r0 arg22_r0 arg23_r0 arg24_r0 k0_hw1 k0_h23)
theorem k0_off53_wordsbf16 : ∀ (k0_t2 : Fin k0_t2_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t2 arg12_r0 arg13_r0 arg14_r0 arg15_r0 arg16_r0 arg17_r0 arg18_r0 arg19_r0 arg20_r0 arg21_r0 arg22_r0 arg23_r0 arg24_r0), ∀ (k0_h23 : k0_cond23 k0_t2 arg24_r0 = 1#1), (Rect.unit (s := S2048x5632) (k0_off53 arg24_r0) S2048x256.size (k0_off53_inb k0_t2 arg12_r0 arg13_r0 arg14_r0 arg15_r0 arg16_r0 arg17_r0 arg18_r0 arg19_r0 arg20_r0 arg21_r0 arg22_r0 arg23_r0 arg24_r0 k0_hw1 k0_h23)).WholeWords (EltTy.packing .bf16) := fun k0_t2 arg12_r0 arg13_r0 arg14_r0 arg15_r0 arg16_r0 arg17_r0 arg18_r0 arg19_r0 arg20_r0 arg21_r0 arg22_r0 arg23_r0 arg24_r0 k0_hw1 k0_h23 => k0_hw1.2.2.2.2.2.2.2.2.2.2.2.1 k0_h23 (k0_off53_inb k0_t2 arg12_r0 arg13_r0 arg14_r0 arg15_r0 arg16_r0 arg17_r0 arg18_r0 arg19_r0 arg20_r0 arg21_r0 arg22_r0 arg23_r0 arg24_r0 k0_hw1 k0_h23)
theorem k0_off55_inb : ∀ (k0_t2 : Fin k0_t2_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t2 arg12_r0 arg13_r0 arg14_r0 arg15_r0 arg16_r0 arg17_r0 arg18_r0 arg19_r0 arg20_r0 arg21_r0 arg22_r0 arg23_r0 arg24_r0), ∀ (k0_h24 : k0_cond24 k0_t2 arg24_r0 = 1#1), ∀ a, (k0_off55 arg23_r0) a + S1.size a ≤ S2.size a := fun k0_t2 arg12_r0 arg13_r0 arg14_r0 arg15_r0 arg16_r0 arg17_r0 arg18_r0 arg19_r0 arg20_r0 arg21_r0 arg22_r0 arg23_r0 arg24_r0 k0_hw1 k0_h24 => k0_hw1.2.2.2.2.2.2.2.2.2.2.2.2.1 k0_h24
theorem k0_off56_inb : ∀ (k0_t2 : Fin k0_t2_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t2 arg12_r0 arg13_r0 arg14_r0 arg15_r0 arg16_r0 arg17_r0 arg18_r0 arg19_r0 arg20_r0 arg21_r0 arg22_r0 arg23_r0 arg24_r0), ∀ (k0_h24 : k0_cond24 k0_t2 arg24_r0 = 1#1), ∀ a, (k0_off56 arg24_r0) a + S256x2048.size a ≤ S5632x2048.size a := fun k0_t2 arg12_r0 arg13_r0 arg14_r0 arg15_r0 arg16_r0 arg17_r0 arg18_r0 arg19_r0 arg20_r0 arg21_r0 arg22_r0 arg23_r0 arg24_r0 k0_hw1 k0_h24 => k0_hw1.2.2.2.2.2.2.2.2.2.2.2.2.2.1 k0_h24
theorem k0_off57_inb : ∀ (k0_t2 : Fin k0_t2_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t2 arg12_r0 arg13_r0 arg14_r0 arg15_r0 arg16_r0 arg17_r0 arg18_r0 arg19_r0 arg20_r0 arg21_r0 arg22_r0 arg23_r0 arg24_r0), ∀ (k0_h24 : k0_cond24 k0_t2 arg24_r0 = 1#1), ∀ a, (k0_off57 arg23_r0) a + S1x256x2048.size a ≤ S2x256x2048.size a := fun k0_t2 arg12_r0 arg13_r0 arg14_r0 arg15_r0 arg16_r0 arg17_r0 arg18_r0 arg19_r0 arg20_r0 arg21_r0 arg22_r0 arg23_r0 arg24_r0 k0_hw1 k0_h24 => k0_hw1.2.2.2.2.2.2.2.2.2.2.2.2.2.2.1 k0_h24
theorem k0_off57_wordsbf16 : ∀ (k0_t2 : Fin k0_t2_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t2 arg12_r0 arg13_r0 arg14_r0 arg15_r0 arg16_r0 arg17_r0 arg18_r0 arg19_r0 arg20_r0 arg21_r0 arg22_r0 arg23_r0 arg24_r0), ∀ (k0_h24 : k0_cond24 k0_t2 arg24_r0 = 1#1), (Rect.unit (s := S2x256x2048) (k0_off57 arg23_r0) S1x256x2048.size (k0_off57_inb k0_t2 arg12_r0 arg13_r0 arg14_r0 arg15_r0 arg16_r0 arg17_r0 arg18_r0 arg19_r0 arg20_r0 arg21_r0 arg22_r0 arg23_r0 arg24_r0 k0_hw1 k0_h24)).WholeWords (EltTy.packing .bf16) := fun k0_t2 arg12_r0 arg13_r0 arg14_r0 arg15_r0 arg16_r0 arg17_r0 arg18_r0 arg19_r0 arg20_r0 arg21_r0 arg22_r0 arg23_r0 arg24_r0 k0_hw1 k0_h24 => k0_hw1.2.2.2.2.2.2.2.2.2.2.2.2.2.2.2.1 k0_h24 (k0_off57_inb k0_t2 arg12_r0 arg13_r0 arg14_r0 arg15_r0 arg16_r0 arg17_r0 arg18_r0 arg19_r0 arg20_r0 arg21_r0 arg22_r0 arg23_r0 arg24_r0 k0_hw1 k0_h24)
theorem k0_off56_wordsbf16 : ∀ (k0_t2 : Fin k0_t2_loop.trips) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (arg20_r0 : BitVec 32) (arg21_r0 : BitVec 32) (arg22_r0 : BitVec 32) (arg23_r0 : BitVec 32) (arg24_r0 : BitVec 32) (k0_hw1 : k0_chk1 k0_t2 arg12_r0 arg13_r0 arg14_r0 arg15_r0 arg16_r0 arg17_r0 arg18_r0 arg19_r0 arg20_r0 arg21_r0 arg22_r0 arg23_r0 arg24_r0), ∀ (k0_h24 : k0_cond24 k0_t2 arg24_r0 = 1#1), (Rect.unit (s := S5632x2048) (k0_off56 arg24_r0) S256x2048.size (k0_off56_inb k0_t2 arg12_r0 arg13_r0 arg14_r0 arg15_r0 arg16_r0 arg17_r0 arg18_r0 arg19_r0 arg20_r0 arg21_r0 arg22_r0 arg23_r0 arg24_r0 k0_hw1 k0_h24)).WholeWords (EltTy.packing .bf16) := fun k0_t2 arg12_r0 arg13_r0 arg14_r0 arg15_r0 arg16_r0 arg17_r0 arg18_r0 arg19_r0 arg20_r0 arg21_r0 arg22_r0 arg23_r0 arg24_r0 k0_hw1 k0_h24 => k0_hw1.2.2.2.2.2.2.2.2.2.2.2.2.2.2.2.2 k0_h24 (k0_off56_inb k0_t2 arg12_r0 arg13_r0 arg14_r0 arg15_r0 arg16_r0 arg17_r0 arg18_r0 arg19_r0 arg20_r0 arg21_r0 arg22_r0 arg23_r0 arg24_r0 k0_hw1 k0_h24)

def k0_off58 (v69_7_r0 : BitVec 32) : Fin 1 → Nat :=
  let c2_i32_r0 : BitVec 32 := 2#32
  let v95_r0 : BitVec 32 := Scalar.remui v69_7_r0 c2_i32_r0
  ![v95_r0.toNat]

def k0_off59 (v69_12_r0 : BitVec 32) : Fin 2 → Nat :=
  let c0_i32_105_r0 : BitVec 32 := 0#32
  let c256_i32_r0 : BitVec 32 := 256#32
  let true_81_r0 : BitVec 1 := 1#1
  let c1_i32_80_r0 : BitVec 32 := 1#32
  let v70_r0 : BitVec 32 := Scalar.subi v69_12_r0 c1_i32_80_r0
  let v71_r0 : BitVec 32 := Scalar.select true_81_r0 v70_r0 v69_12_r0
  let c_m1_i32_82_r0 : BitVec 32 := 4294967295#32
  let v72_r0 : BitVec 1 := Scalar.cmpi .eq v71_r0 c_m1_i32_82_r0
  let c21_i32_83_r0 : BitVec 32 := 21#32
  let v73_r0 : BitVec 32 := Scalar.select v72_r0 c21_i32_83_r0 v71_r0
  let c0_i32_84_r0 : BitVec 32 := 0#32
  let v74_r0 : BitVec 32 := Scalar.addi v73_r0 c0_i32_84_r0
  let v96_r0 : BitVec 32 := Scalar.muli c256_i32_r0 v74_r0
  ![0, v96_r0.toNat]

def k0_off60 (v69_7_r0 : BitVec 32) : Fin 3 → Nat :=
  let c2_i32_r0 : BitVec 32 := 2#32
  let v95_r0 : BitVec 32 := Scalar.remui v69_7_r0 c2_i32_r0
  let c0_i32_106_r0 : BitVec 32 := 0#32
  let c0_i32_107_r0 : BitVec 32 := 0#32
  ![v95_r0.toNat, 0, 0]

def k0_chk8 (v69_7_r0 : BitVec 32) : Prop :=
  (∀ a, (k0_off58 v69_7_r0) a + S1.size a ≤ S2.size a) ∧
  (∀ a, (k0_off60 v69_7_r0) a + S1x2048x256.size a ≤ S2x2048x256.size a) ∧
  (∀ (hinb : ∀ a, (k0_off60 v69_7_r0) a + S1x2048x256.size a ≤ S2x2048x256.size a), (Rect.unit (s := S2x2048x256) (k0_off60 v69_7_r0) S1x2048x256.size hinb).WholeWords (EltTy.packing .bf16))
theorem k0_off58_inb : ∀ (v69_7_r0 : BitVec 32) (k0_hw8 : k0_chk8 v69_7_r0), ∀ a, (k0_off58 v69_7_r0) a + S1.size a ≤ S2.size a := fun v69_7_r0 k0_hw8 => k0_hw8.1
theorem k0_off60_inb : ∀ (v69_7_r0 : BitVec 32) (k0_hw8 : k0_chk8 v69_7_r0), ∀ a, (k0_off60 v69_7_r0) a + S1x2048x256.size a ≤ S2x2048x256.size a := fun v69_7_r0 k0_hw8 => k0_hw8.2.1
theorem k0_off60_wordsbf16 : ∀ (v69_7_r0 : BitVec 32) (k0_hw8 : k0_chk8 v69_7_r0), (Rect.unit (s := S2x2048x256) (k0_off60 v69_7_r0) S1x2048x256.size (k0_off60_inb v69_7_r0 k0_hw8)).WholeWords (EltTy.packing .bf16) := fun v69_7_r0 k0_hw8 => k0_hw8.2.2 (k0_off60_inb v69_7_r0 k0_hw8)

def k0_off61 (v69_9_r0 : BitVec 32) : Fin 1 → Nat :=
  let c2_i32_108_r0 : BitVec 32 := 2#32
  let v102_r0 : BitVec 32 := Scalar.remui v69_9_r0 c2_i32_108_r0
  ![v102_r0.toNat]

def k0_off62 (v69_12_r0 : BitVec 32) : Fin 2 → Nat :=
  let c0_i32_110_r0 : BitVec 32 := 0#32
  let c256_i32_109_r0 : BitVec 32 := 256#32
  let true_81_r0 : BitVec 1 := 1#1
  let c1_i32_80_r0 : BitVec 32 := 1#32
  let v70_r0 : BitVec 32 := Scalar.subi v69_12_r0 c1_i32_80_r0
  let v71_r0 : BitVec 32 := Scalar.select true_81_r0 v70_r0 v69_12_r0
  let c_m1_i32_82_r0 : BitVec 32 := 4294967295#32
  let v72_r0 : BitVec 1 := Scalar.cmpi .eq v71_r0 c_m1_i32_82_r0
  let c21_i32_83_r0 : BitVec 32 := 21#32
  let v73_r0 : BitVec 32 := Scalar.select v72_r0 c21_i32_83_r0 v71_r0
  let c0_i32_84_r0 : BitVec 32 := 0#32
  let v74_r0 : BitVec 32 := Scalar.addi v73_r0 c0_i32_84_r0
  let v103_r0 : BitVec 32 := Scalar.muli c256_i32_109_r0 v74_r0
  ![0, v103_r0.toNat]
def k0_off63 (v69_9_r0 : BitVec 32) : Fin 3 → Nat :=
  let c2_i32_108_r0 : BitVec 32 := 2#32
  let v102_r0 : BitVec 32 := Scalar.remui v69_9_r0 c2_i32_108_r0
  let c0_i32_111_r0 : BitVec 32 := 0#32
  let c0_i32_112_r0 : BitVec 32 := 0#32
  ![v102_r0.toNat, 0, 0]

def k0_chk10 (v69_9_r0 : BitVec 32) : Prop :=
  (∀ a, (k0_off61 v69_9_r0) a + S1.size a ≤ S2.size a) ∧
  (∀ a, (k0_off63 v69_9_r0) a + S1x2048x256.size a ≤ S2x2048x256.size a) ∧
  (∀ (hinb : ∀ a, (k0_off63 v69_9_r0) a + S1x2048x256.size a ≤ S2x2048x256.size a), (Rect.unit (s := S2x2048x256) (k0_off63 v69_9_r0) S1x2048x256.size hinb).WholeWords (EltTy.packing .bf16))
theorem k0_off61_inb : ∀ (v69_9_r0 : BitVec 32) (k0_hw10 : k0_chk10 v69_9_r0), ∀ a, (k0_off61 v69_9_r0) a + S1.size a ≤ S2.size a := fun v69_9_r0 k0_hw10 => k0_hw10.1
theorem k0_off63_inb : ∀ (v69_9_r0 : BitVec 32) (k0_hw10 : k0_chk10 v69_9_r0), ∀ a, (k0_off63 v69_9_r0) a + S1x2048x256.size a ≤ S2x2048x256.size a := fun v69_9_r0 k0_hw10 => k0_hw10.2.1
theorem k0_off63_wordsbf16 : ∀ (v69_9_r0 : BitVec 32) (k0_hw10 : k0_chk10 v69_9_r0), (Rect.unit (s := S2x2048x256) (k0_off63 v69_9_r0) S1x2048x256.size (k0_off63_inb v69_9_r0 k0_hw10)).WholeWords (EltTy.packing .bf16) := fun v69_9_r0 k0_hw10 => k0_hw10.2.2 (k0_off63_inb v69_9_r0 k0_hw10)

def k0_off64 (v69_11_r0 : BitVec 32) : Fin 1 → Nat :=
  let c2_i32_113_r0 : BitVec 32 := 2#32
  let v109_r0 : BitVec 32 := Scalar.remui v69_11_r0 c2_i32_113_r0
  ![v109_r0.toNat]

def k0_off65 (v69_12_r0 : BitVec 32) : Fin 2 → Nat :=
  let c256_i32_114_r0 : BitVec 32 := 256#32
  let true_81_r0 : BitVec 1 := 1#1
  let c1_i32_80_r0 : BitVec 32 := 1#32
  let v70_r0 : BitVec 32 := Scalar.subi v69_12_r0 c1_i32_80_r0
  let v71_r0 : BitVec 32 := Scalar.select true_81_r0 v70_r0 v69_12_r0
  let c_m1_i32_82_r0 : BitVec 32 := 4294967295#32
  let v72_r0 : BitVec 1 := Scalar.cmpi .eq v71_r0 c_m1_i32_82_r0
  let c21_i32_83_r0 : BitVec 32 := 21#32
  let v73_r0 : BitVec 32 := Scalar.select v72_r0 c21_i32_83_r0 v71_r0
  let c0_i32_84_r0 : BitVec 32 := 0#32
  let v74_r0 : BitVec 32 := Scalar.addi v73_r0 c0_i32_84_r0
  let v110_r0 : BitVec 32 := Scalar.muli c256_i32_114_r0 v74_r0
  let c0_i32_115_r0 : BitVec 32 := 0#32
  ![v110_r0.toNat, 0]
def k0_off66 (v69_11_r0 : BitVec 32) : Fin 3 → Nat :=
  let c2_i32_113_r0 : BitVec 32 := 2#32
  let v109_r0 : BitVec 32 := Scalar.remui v69_11_r0 c2_i32_113_r0
  let c0_i32_116_r0 : BitVec 32 := 0#32
  let c0_i32_117_r0 : BitVec 32 := 0#32
  ![v109_r0.toNat, 0, 0]

def k0_chk11 (v69_11_r0 : BitVec 32) : Prop :=
  (∀ a, (k0_off64 v69_11_r0) a + S1.size a ≤ S2.size a) ∧
  (∀ a, (k0_off66 v69_11_r0) a + S1x256x2048.size a ≤ S2x256x2048.size a) ∧
  (∀ (hinb : ∀ a, (k0_off66 v69_11_r0) a + S1x256x2048.size a ≤ S2x256x2048.size a), (Rect.unit (s := S2x256x2048) (k0_off66 v69_11_r0) S1x256x2048.size hinb).WholeWords (EltTy.packing .bf16))
theorem k0_off64_inb : ∀ (v69_11_r0 : BitVec 32) (k0_hw11 : k0_chk11 v69_11_r0), ∀ a, (k0_off64 v69_11_r0) a + S1.size a ≤ S2.size a := fun v69_11_r0 k0_hw11 => k0_hw11.1
theorem k0_off66_inb : ∀ (v69_11_r0 : BitVec 32) (k0_hw11 : k0_chk11 v69_11_r0), ∀ a, (k0_off66 v69_11_r0) a + S1x256x2048.size a ≤ S2x256x2048.size a := fun v69_11_r0 k0_hw11 => k0_hw11.2.1
theorem k0_off66_wordsbf16 : ∀ (v69_11_r0 : BitVec 32) (k0_hw11 : k0_chk11 v69_11_r0), (Rect.unit (s := S2x256x2048) (k0_off66 v69_11_r0) S1x256x2048.size (k0_off66_inb v69_11_r0 k0_hw11)).WholeWords (EltTy.packing .bf16) := fun v69_11_r0 k0_hw11 => k0_hw11.2.2 (k0_off66_inb v69_11_r0 k0_hw11)

def k0_chk9 (v69_12_r0 : BitVec 32) : Prop :=
  (∀ a, (k0_off59 v69_12_r0) a + S2048x256.size a ≤ S2048x5632.size a) ∧
  (∀ (hinb : ∀ a, (k0_off59 v69_12_r0) a + S2048x256.size a ≤ S2048x5632.size a), (Rect.unit (s := S2048x5632) (k0_off59 v69_12_r0) S2048x256.size hinb).WholeWords (EltTy.packing .bf16)) ∧
  (∀ a, (k0_off62 v69_12_r0) a + S2048x256.size a ≤ S2048x5632.size a) ∧
  (∀ (hinb : ∀ a, (k0_off62 v69_12_r0) a + S2048x256.size a ≤ S2048x5632.size a), (Rect.unit (s := S2048x5632) (k0_off62 v69_12_r0) S2048x256.size hinb).WholeWords (EltTy.packing .bf16)) ∧
  (∀ a, (k0_off65 v69_12_r0) a + S256x2048.size a ≤ S5632x2048.size a) ∧
  (∀ (hinb : ∀ a, (k0_off65 v69_12_r0) a + S256x2048.size a ≤ S5632x2048.size a), (Rect.unit (s := S5632x2048) (k0_off65 v69_12_r0) S256x2048.size hinb).WholeWords (EltTy.packing .bf16))
theorem k0_off59_inb : ∀ (v69_12_r0 : BitVec 32) (k0_hw9 : k0_chk9 v69_12_r0), ∀ a, (k0_off59 v69_12_r0) a + S2048x256.size a ≤ S2048x5632.size a := fun v69_12_r0 k0_hw9 => k0_hw9.1
theorem k0_off59_wordsbf16 : ∀ (v69_12_r0 : BitVec 32) (k0_hw9 : k0_chk9 v69_12_r0), (Rect.unit (s := S2048x5632) (k0_off59 v69_12_r0) S2048x256.size (k0_off59_inb v69_12_r0 k0_hw9)).WholeWords (EltTy.packing .bf16) := fun v69_12_r0 k0_hw9 => k0_hw9.2.1 (k0_off59_inb v69_12_r0 k0_hw9)
theorem k0_off62_inb : ∀ (v69_12_r0 : BitVec 32) (k0_hw9 : k0_chk9 v69_12_r0), ∀ a, (k0_off62 v69_12_r0) a + S2048x256.size a ≤ S2048x5632.size a := fun v69_12_r0 k0_hw9 => k0_hw9.2.2.1
theorem k0_off62_wordsbf16 : ∀ (v69_12_r0 : BitVec 32) (k0_hw9 : k0_chk9 v69_12_r0), (Rect.unit (s := S2048x5632) (k0_off62 v69_12_r0) S2048x256.size (k0_off62_inb v69_12_r0 k0_hw9)).WholeWords (EltTy.packing .bf16) := fun v69_12_r0 k0_hw9 => k0_hw9.2.2.2.1 (k0_off62_inb v69_12_r0 k0_hw9)
theorem k0_off65_inb : ∀ (v69_12_r0 : BitVec 32) (k0_hw9 : k0_chk9 v69_12_r0), ∀ a, (k0_off65 v69_12_r0) a + S256x2048.size a ≤ S5632x2048.size a := fun v69_12_r0 k0_hw9 => k0_hw9.2.2.2.2.1
theorem k0_off65_wordsbf16 : ∀ (v69_12_r0 : BitVec 32) (k0_hw9 : k0_chk9 v69_12_r0), (Rect.unit (s := S5632x2048) (k0_off65 v69_12_r0) S256x2048.size (k0_off65_inb v69_12_r0 k0_hw9)).WholeWords (EltTy.packing .bf16) := fun v69_12_r0 k0_hw9 => k0_hw9.2.2.2.2.2 (k0_off65_inb v69_12_r0 k0_hw9)

@[reducible] def k0_t3_loop : Scf.Loop 32 :=
  let c0_i32_1 : BitVec 32 := 0#32
  let c8_i32_2 : BitVec 32 := 8#32
  let v1 : BitVec 32 := Scalar.addi c0_i32_1 c8_i32_2
  let c1_i32_3 : BitVec 32 := 1#32
  ⟨c0_i32_1, v1, c1_i32_3⟩
def k0_mult2 (k0_t3 : Fin k0_t3_loop.trips) : BitVec 32 :=
  let c0_i32_1 : BitVec 32 := 0#32
  let c1_i32_3 : BitVec 32 := 1#32
  let arg11 : BitVec 32 := Scf.iv c0_i32_1 c1_i32_3 k0_t3
  let c128_i32 : BitVec 32 := 128#32
  let v2 : BitVec 32 := Scalar.muli arg11 c128_i32
  v2
def k0_off67 (k0_t3 : Fin k0_t3_loop.trips) : Fin 2 → Nat :=
  let c0_i32_1 : BitVec 32 := 0#32
  let c1_i32_3 : BitVec 32 := 1#32
  let arg11 : BitVec 32 := Scf.iv c0_i32_1 c1_i32_3 k0_t3
  let c128_i32 : BitVec 32 := 128#32
  let v2 : BitVec 32 := Scalar.muli arg11 c128_i32
  let v3 : BitVec 32 := v2
  let v4 : Index := Scalar.indexCast v3
  let c0 : Index := 0#32
  ![v4.toNat, 0]
abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S128x8x2048 : Shape := ⟨3, ![128, 8, 2048]⟩
abbrev S2048 : Shape := ⟨1, ![2048]⟩
abbrev S2048x5632 : Shape := ⟨2, ![2048, 5632]⟩
abbrev S5632x2048 : Shape := ⟨2, ![5632, 2048]⟩
abbrev S1024x2048 : Shape := ⟨2, ![1024, 2048]⟩
abbrev S_ : Shape := ⟨0, ![]⟩
abbrev S1024 : Shape := ⟨1, ![1024]⟩
abbrev S1024x1 : Shape := ⟨2, ![1024, 1]⟩
abbrev S1x2048 : Shape := ⟨2, ![1, 2048]⟩
abbrev S1024x5632 : Shape := ⟨2, ![1024, 5632]⟩

abbrev nBuf : Space → Nat
  | .hbm => 59
  | .vmem => 0
  | .smem => 0
  | _ => 0

abbrev bufTy : (tb : Table) → Fin (tcTables nBuf tb) → BufTy
  | .hbm, ⟨0, _⟩ => ⟨S128x8x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S1024x2048, .f32⟩
  | .hbm, ⟨7, _⟩ => ⟨S1024x2048, .f32⟩
  | .hbm, ⟨8, _⟩ => ⟨S_, .f32⟩
  | .hbm, ⟨9, _⟩ => ⟨S1024, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S_, .f32⟩
  | .hbm, ⟨15, _⟩ => ⟨S1024x1, .f32⟩
  | .hbm, ⟨16, _⟩ => ⟨S1024x1, .f32⟩
  | .hbm, ⟨17, _⟩ => ⟨S1024x1, .f32⟩
  | .hbm, ⟨18, _⟩ => ⟨S1024x2048, .f32⟩
  | .hbm, ⟨19, _⟩ => ⟨S1024x2048, .f32⟩
  | .hbm, ⟨20, _⟩ => ⟨S1x2048, .f32⟩
  | .hbm, ⟨21, _⟩ => ⟨S1024x2048, .f32⟩
  | .hbm, ⟨22, _⟩ => ⟨S1024x2048, .f32⟩
  | .hbm, ⟨23, _⟩ => ⟨S1024x5632, .f32⟩
  | .hbm, ⟨24, _⟩ => ⟨S1024x5632, .f32⟩
  | .hbm, ⟨25, _⟩ => ⟨S1024x5632, .f32⟩
  | .hbm, ⟨26, _⟩ => ⟨S_, .f32⟩
  | .hbm, ⟨27, _⟩ => ⟨S1024x5632, .f32⟩
  | .hbm, ⟨28, _⟩ => ⟨S1024x5632, .f32⟩
  | .hbm, ⟨29, _⟩ => ⟨S_, .f32⟩
  | .hbm, ⟨30, _⟩ => ⟨S1024x5632, .f32⟩
  | .hbm, ⟨31, _⟩ => ⟨S1024x5632, .f32⟩
  | .hbm, ⟨32, _⟩ => ⟨S1024x5632, .f32⟩
  | .hbm, ⟨33, _⟩ => ⟨S1024x5632, .f32⟩
  | .hbm, ⟨34, _⟩ => ⟨S1024x5632, .f32⟩
  | .hbm, ⟨35, _⟩ => ⟨S1024x2048, .f32⟩
  | .hbm, ⟨36, _⟩ => ⟨S_, .f32⟩
  | .hbm, ⟨37, _⟩ => ⟨S1024x2048, .f32⟩
  | .hbm, ⟨38, _⟩ => ⟨S1024x2048, .f32⟩
  | .hbm, ⟨39, _⟩ => ⟨S1024x2048, .f32⟩
  | .hbm, ⟨40, _⟩ => ⟨S1024x2048, .f32⟩
  | .hbm, ⟨41, _⟩ => ⟨S_, .f32⟩
  | .hbm, ⟨42, _⟩ => ⟨S1024, .f32⟩
  | .hbm, ⟨43, _⟩ => ⟨S1024x1, .f32⟩
  | .hbm, ⟨44, _⟩ => ⟨S_, .f32⟩
  | .hbm, ⟨45, _⟩ => ⟨S1024x1, .f32⟩
  | .hbm, ⟨46, _⟩ => ⟨S1024x1, .f32⟩
  | .hbm, ⟨47, _⟩ => ⟨S_, .f32⟩
  | .hbm, ⟨48, _⟩ => ⟨S1024x1, .f32⟩
  | .hbm, ⟨49, _⟩ => ⟨S1024x1, .f32⟩
  | .hbm, ⟨50, _⟩ => ⟨S1024x1, .f32⟩
  | .hbm, ⟨51, _⟩ => ⟨S1024x2048, .f32⟩
  | .hbm, ⟨52, _⟩ => ⟨S1024x2048, .f32⟩
  | .hbm, ⟨53, _⟩ => ⟨S1x2048, .f32⟩
  | .hbm, ⟨54, _⟩ => ⟨S1024x2048, .f32⟩
  | .hbm, ⟨55, _⟩ => ⟨S1024x2048, .f32⟩
  | .hbm, ⟨56, _⟩ => ⟨S2048x5632, .bf16⟩
  | .hbm, ⟨57, _⟩ => ⟨S2048x5632, .bf16⟩
  | .hbm, ⟨58, _⟩ => ⟨S5632x2048, .bf16⟩
  | _, _ => ⟨S128x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_cst_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== Kernel2.lean ====
abbrev S4x2048x2048 : Shape := ⟨3, ![4, 2048, 2048]⟩
abbrev S2048 : Shape := ⟨1, ![2048]⟩
abbrev S2048x5632 : Shape := ⟨2, ![2048, 5632]⟩
abbrev S5632x2048 : Shape := ⟨2, ![5632, 2048]⟩
abbrev S8192x2048 : Shape := ⟨2, ![8192, 2048]⟩
abbrev S1x2048 : Shape := ⟨2, ![1, 2048]⟩
abbrev S1024x2048 : Shape := ⟨2, ![1024, 2048]⟩
abbrev S2048x512 : Shape := ⟨2, ![2048, 512]⟩
abbrev S512x2048 : Shape := ⟨2, ![512, 2048]⟩
abbrev S128x2048 : Shape := ⟨2, ![128, 2048]⟩
abbrev S128 : Shape := ⟨1, ![128]⟩
abbrev S128x1 : Shape := ⟨2, ![128, 1]⟩
abbrev S1024x512 : Shape := ⟨2, ![1024, 512]⟩

abbrev nBuf : Space → Nat
  | .hbm => 13
  | .vmem => 13
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S8192x2048, .f32⟩
  | .hbm, ⟨7, _⟩ => ⟨S1x2048, .f32⟩
  | .hbm, ⟨8, _⟩ => ⟨S2048x5632, .bf16⟩
  | .hbm, ⟨9, _⟩ => ⟨S2048x5632, .bf16⟩
  | .hbm, ⟨10, _⟩ => ⟨S5632x2048, .bf16⟩
  | .hbm, ⟨11, _⟩ => ⟨S1x2048, .f32⟩
  | .hbm, ⟨12, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_19 : BitVec 32 := 0#32
  let c8_i32 : BitVec 32 := 8#32
  let v32 : BitVec 32 := Scalar.addi c0_i32_19 c8_i32
  let c1_i32 : BitVec 32 := 1#32
  ⟨c0_i32_19, v32, c1_i32⟩
def k0_mult1 (k0_t1 : Fin k0_t1_loop.trips) : BitVec 32 :=
  let c0_i32_19 : BitVec 32 := 0#32
  let c1_i32 : BitVec 32 := 1#32
  let arg10 : BitVec 32 := Scf.iv c0_i32_19 c1_i32 k0_t1
  let c128_i32 : BitVec 32 := 128#32
  let v33 : BitVec 32 := Scalar.muli arg10 c128_i32
  v33
def k0_off1 (k0_t1 : Fin k0_t1_loop.trips) : Fin 2 → Nat :=
  let c0_i32_19 : BitVec 32 := 0#32
  let c1_i32 : BitVec 32 := 1#32
  let arg10 : BitVec 32 := Scf.iv c0_i32_19 c1_i32 k0_t1
  let c128_i32 : BitVec 32 := 128#32
  let v33 : BitVec 32 := Scalar.muli arg10 c128_i32
  let v34 : BitVec 32 := v33
  let v35 : Index := Scalar.indexCast v34
  let c0_21 : Index := 0#32
  ![v35.toNat, 0]
def k0_cond2 (i : grid0.Coords) : BitVec 1 :=
  let arg1 : BitVec 32 := BitVec.ofNat 32 (i 1).val
  let c10_i32 : BitVec 32 := 10#32
  let v29 : BitVec 1 := Scalar.cmpi .eq arg1 c10_i32
  let v30 : BitVec 32 := Scalar.extui v29
  let c0_i32_18 : BitVec 32 := 0#32
  let v31 : BitVec 1 := Scalar.cmpi .ne v30 c0_i32_18
  v31

@[reducible] def k0_t2_loop : Scf.Loop 32 :=
  let c0_i32_19 : BitVec 32 := 0#32
  let c8_i32 : BitVec 32 := 8#32
  let v32 : BitVec 32 := Scalar.addi c0_i32_19 c8_i32
  let c1_i32 : BitVec 32 := 1#32
  ⟨c0_i32_19, v32, c1_i32⟩
def k0_mult2 (k0_t2 : Fin k0_t2_loop.trips) : BitVec 32 :=
  let c0_i32_19 : BitVec 32 := 0#32
  let c1_i32 : BitVec 32 := 1#32
  let arg10 : BitVec 32 := Scf.iv c0_i32_19 c1_i32 k0_t2
  let c128_i32 : BitVec 32 := 128#32
  let v33 : BitVec 32 := Scalar.muli arg10 c128_i32
  v33
def k0_off2 (k0_t2 : Fin k0_t2_loop.trips) : Fin 2 → Nat :=
  let c0_i32_19 : BitVec 32 := 0#32
  let c1_i32 : BitVec 32 := 1#32
  let arg10 : BitVec 32 := Scf.iv c0_i32_19 c1_i32 k0_t2
  let c128_i32 : BitVec 32 := 128#32
  let v33 : BitVec 32 := Scalar.muli arg10 c128_i32
  let v34 : BitVec 32 := v33
  let v35 : Index := Scalar.indexCast v34
  let c0_21 : Index := 0#32
  ![v35.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S4x2048x2048 : Shape := ⟨3, ![4, 2048, 2048]⟩
abbrev S2048 : Shape := ⟨1, ![2048]⟩
abbrev S2048x5632 : Shape := ⟨2, ![2048, 5632]⟩
abbrev S5632x2048 : Shape := ⟨2, ![5632, 2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x5632 : Shape := ⟨2, ![8192, 5632]⟩

abbrev nBuf : Space → Nat
  | .hbm => 56
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S_, .f32⟩
  | .hbm, ⟨27, _⟩ => ⟨S8192x5632, .f32⟩
  | .hbm, ⟨28, _⟩ => ⟨S8192x5632, .f32⟩
  | .hbm, ⟨29, _⟩ => ⟨S_, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S8192x5632, .f32⟩
  | .hbm, ⟨35, _⟩ => ⟨S8192x2048, .f32⟩
  | .hbm, ⟨36, _⟩ => ⟨S_, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S8192x1, .f32⟩
  | .hbm, ⟨51, _⟩ => ⟨S8192x2048, .f32⟩
  | .hbm, ⟨52, _⟩ => ⟨S8192x2048, .f32⟩
  | .hbm, ⟨53, _⟩ => ⟨S1x2048, .f32⟩
  | .hbm, ⟨54, _⟩ => ⟨S8192x2048, .f32⟩
  | .hbm, ⟨55, _⟩ => ⟨S8192x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_cst_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== Kernel3.lean ====
abbrev S4x256x2048 : Shape := ⟨3, ![4, 256, 2048]⟩
abbrev S2048 : Shape := ⟨1, ![2048]⟩
abbrev S2048x512 : Shape := ⟨2, ![2048, 512]⟩
abbrev S1024x2048 : Shape := ⟨2, ![1024, 2048]⟩
abbrev S1x2048 : Shape := ⟨2, ![1, 2048]⟩
abbrev S1024x512 : Shape := ⟨2, ![1024, 512]⟩
abbrev S256x2048 : Shape := ⟨2, ![256, 2048]⟩
abbrev S256x512 : Shape := ⟨2, ![256, 512]⟩
abbrev S256 : Shape := ⟨1, ![256]⟩
abbrev S256x1 : Shape := ⟨2, ![256, 1]⟩

abbrev nBuf : Space → Nat
  | .hbm => 8
  | .vmem => 9
  | .smem => 0
  | _ => 0

abbrev bufTy : (tb : Table) → Fin (tcTables nBuf tb) → BufTy
  | .hbm, ⟨0, _⟩ => ⟨S4x256x2048, .f32⟩
  | .hbm, ⟨1, _⟩ => ⟨S2048, .f32⟩
  | .hbm, ⟨2, _⟩ => ⟨S2048x512, .f32⟩
  | .hbm, ⟨3, _⟩ => ⟨S2048x512, .f32⟩
  | .hbm, ⟨4, _⟩ => ⟨S1024x2048, .f32⟩
  | .hbm, ⟨5, _⟩ => ⟨S1x2048, .f32⟩
  | .hbm, ⟨6, _⟩ => ⟨S1024x512, .f32⟩
  | .hbm, ⟨7, _⟩ => ⟨S1024x512, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x512, .f32⟩
  | .local _ .vmem, ⟨4, _⟩ => ⟨S2048x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S4x256x2048 : Shape := ⟨3, ![4, 256, 2048]⟩
abbrev S2048 : Shape := ⟨1, ![2048]⟩
abbrev S2048x512 : Shape := ⟨2, ![2048, 512]⟩
abbrev S1024x2048 : Shape := ⟨2, ![1024, 2048]⟩
abbrev S_ : Shape := ⟨0, ![]⟩
abbrev S1024 : Shape := ⟨1, ![1024]⟩
abbrev S1024x1 : Shape := ⟨2, ![1024, 1]⟩
abbrev S1x2048 : Shape := ⟨2, ![1, 2048]⟩
abbrev S1024x512 : Shape := ⟨2, ![1024, 512]⟩

abbrev nBuf : Space → Nat
  | .hbm => 23
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S2048, .f32⟩
  | .hbm, ⟨2, _⟩ => ⟨S2048x512, .f32⟩
  | .hbm, ⟨3, _⟩ => ⟨S2048x512, .f32⟩
  | .hbm, ⟨4, _⟩ => ⟨S1024x2048, .f32⟩
  | .hbm, ⟨5, _⟩ => ⟨S1024x2048, .f32⟩
  | .hbm, ⟨6, _⟩ => ⟨S_, .f32⟩
  | .hbm, ⟨7, _⟩ => ⟨S1024, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S_, .f32⟩
  | .hbm, ⟨13, _⟩ => ⟨S1024x1, .f32⟩
  | .hbm, ⟨14, _⟩ => ⟨S1024x1, .f32⟩
  | .hbm, ⟨15, _⟩ => ⟨S1024x1, .f32⟩
  | .hbm, ⟨16, _⟩ => ⟨S1024x2048, .f32⟩
  | .hbm, ⟨17, _⟩ => ⟨S1024x2048, .f32⟩
  | .hbm, ⟨18, _⟩ => ⟨S1x2048, .f32⟩
  | .hbm, ⟨19, _⟩ => ⟨S1024x2048, .f32⟩
  | .hbm, ⟨20, _⟩ => ⟨S1024x2048, .f32⟩
  | .hbm, ⟨21, _⟩ => ⟨S1024x512, .f32⟩
  | .hbm, ⟨22, _⟩ => ⟨S1024x512, .f32⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel4.lean ====
abbrev S4x2048x2048 : Shape := ⟨3, ![4, 2048, 2048]⟩
abbrev S2048 : Shape := ⟨1, ![2048]⟩
abbrev S2048x6144 : Shape := ⟨2, ![2048, 6144]⟩
abbrev S8192x2048 : Shape := ⟨2, ![8192, 2048]⟩
abbrev S1x2048 : Shape := ⟨2, ![1, 2048]⟩
abbrev S8192x6144 : Shape := ⟨2, ![8192, 6144]⟩
abbrev S1024x2048 : Shape := ⟨2, ![1024, 2048]⟩
abbrev S2048x1536 : Shape := ⟨2, ![2048, 1536]⟩
abbrev S1024x1536 : Shape := ⟨2, ![1024, 1536]⟩
abbrev S1024 : Shape := ⟨1, ![1024]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048x6144, .f32⟩
  | .hbm, ⟨3, _⟩ => ⟨S8192x2048, .f32⟩
  | .hbm, ⟨4, _⟩ => ⟨S1x2048, .f32⟩
  | .hbm, ⟨5, _⟩ => ⟨S2048x6144, .bf16⟩
  | .hbm, ⟨6, _⟩ => ⟨S8192x6144, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1536, .bf16⟩
  | .local _ .vmem, ⟨4, _⟩ => ⟨S2048x1536, .bf16⟩
  | .local _ .vmem, ⟨5, _⟩ => ⟨S1024x1536, .f32⟩
  | .local _ .vmem, ⟨6, _⟩ => ⟨S1024x1536, .f32⟩
  | .local _ .vmem, ⟨7, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S4x2048x2048 : Shape := ⟨3, ![4, 2048, 2048]⟩
abbrev S2048 : Shape := ⟨1, ![2048]⟩
abbrev S2048x6144 : Shape := ⟨2, ![2048, 6144]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x6144 : Shape := ⟨2, ![8192, 6144]⟩

abbrev nBuf : Space → Nat
  | .hbm => 21
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048x6144, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S8192x6144, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel6.lean ====
abbrev S4x2048x2048 : Shape := ⟨3, ![4, 2048, 2048]⟩
abbrev S4x2048x1024 : Shape := ⟨3, ![4, 2048, 1024]⟩
abbrev S2048x2048 : Shape := ⟨2, ![2048, 2048]⟩
abbrev S2048 : Shape := ⟨1, ![2048]⟩
abbrev S4x256x4x128 : Shape := ⟨4, ![4, 256, 4, 128]⟩
abbrev S2048x512 : Shape := ⟨2, ![2048, 512]⟩
abbrev S512x2048 : Shape := ⟨2, ![512, 2048]⟩
abbrev S8192x2048 : Shape := ⟨2, ![8192, 2048]⟩
abbrev S1x2048 : Shape := ⟨2, ![1, 2048]⟩
abbrev S1024x512 : Shape := ⟨2, ![1024, 512]⟩
abbrev S8192x1024 : Shape := ⟨2, ![8192, 1024]⟩
abbrev S256x512 : Shape := ⟨2, ![256, 512]⟩
abbrev S512x1024 : Shape := ⟨2, ![512, 1024]⟩
abbrev S1024x2048 : Shape := ⟨2, ![1024, 2048]⟩
abbrev S512 : Shape := ⟨1, ![512]⟩
abbrev S512x1 : Shape := ⟨2, ![512, 1]⟩
abbrev S512x512 : Shape := ⟨2, ![512, 512]⟩
abbrev S256x128 : Shape := ⟨2, ![256, 128]⟩
abbrev S512x128 : Shape := ⟨2, ![512, 128]⟩
abbrev S512x256 : Shape := ⟨2, ![512, 256]⟩

abbrev nBuf : Space → Nat
  | .hbm => 21
  | .vmem => 17
  | .smem => 0
  | _ => 0

abbrev bufTy : (tb : Table) → Fin (tcTables nBuf tb) → BufTy
  | .hbm, ⟨0, _⟩ => ⟨S4x2048x2048, .f32⟩
  | .hbm, ⟨1, _⟩ => ⟨S4x2048x1024, .f32⟩
  | .hbm, ⟨2, _⟩ => ⟨S4x2048x1024, .f32⟩
  | .hbm, ⟨3, _⟩ => ⟨S2048x2048, .f32⟩
  | .hbm, ⟨4, _⟩ => ⟨S2048, .f32⟩
  | .hbm, ⟨5, _⟩ => ⟨S4x256x4x128, .f32⟩
  | .hbm, ⟨6, _⟩ => ⟨S4x256x4x128, .f32⟩
  | .hbm, ⟨7, _⟩ => ⟨S2048x512, .f32⟩
  | .hbm, ⟨8, _⟩ => ⟨S512x2048, .f32⟩
  | .hbm, ⟨9, _⟩ => ⟨S8192x2048, .f32⟩
  | .hbm, ⟨10, _⟩ => ⟨S1x2048, .f32⟩
  | .hbm, ⟨11, _⟩ => ⟨S2048x512, .bf16⟩
  | .hbm, ⟨12, _⟩ => ⟨S1024x512, .f32⟩
  | .hbm, ⟨13, _⟩ => ⟨S1024x512, .f32⟩
  | .hbm, ⟨14, _⟩ => ⟨S512x2048, .bf16⟩
  | .hbm, ⟨15, _⟩ => ⟨S8192x1024, .f32⟩
  | .hbm, ⟨16, _⟩ => ⟨S8192x1024, .bf16⟩
  | .hbm, ⟨17, _⟩ => ⟨S8192x1024, .f32⟩
  | .hbm, ⟨18, _⟩ => ⟨S8192x1024, .bf16⟩
  | .hbm, ⟨19, _⟩ => ⟨S2048x2048, .bf16⟩
  | .hbm, ⟨20, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S512x2048, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S1024x2048, .bf16⟩
  | .local _ .vmem, ⟨14, _⟩ => ⟨S1024x2048, .bf16⟩
  | .local _ .vmem, ⟨15, _⟩ => ⟨S512x2048, .f32⟩
  | .local _ .vmem, ⟨16, _⟩ => ⟨S512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_4 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference6Ideal.lean ====
abbrev S4x2048x2048 : Shape := ⟨3, ![4, 2048, 2048]⟩
abbrev S4x2048x1024 : Shape := ⟨3, ![4, 2048, 1024]⟩
abbrev S2048x2048 : Shape := ⟨2, ![2048, 2048]⟩
abbrev S2048 : Shape := ⟨1, ![2048]⟩
abbrev S4x256x4x128 : Shape := ⟨4, ![4, 256, 4, 128]⟩
abbrev S2048x512 : Shape := ⟨2, ![2048, 512]⟩
abbrev S512x2048 : Shape := ⟨2, ![512, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x2048x512 : Shape := ⟨3, ![4, 2048, 512]⟩
abbrev S4x2048x4x128 : Shape := ⟨4, ![4, 2048, 4, 128]⟩
abbrev S4x4x2048x256 : Shape := ⟨4, ![4, 4, 2048, 256]⟩
abbrev S4x4x2048 : Shape := ⟨3, ![4, 4, 2048]⟩
abbrev S4x4x2048x1 : Shape := ⟨4, ![4, 4, 2048, 1]⟩
abbrev S4x4x128x2048 : Shape := ⟨4, ![4, 4, 128, 2048]⟩
abbrev S8192x2048 : Shape := ⟨2, ![8192, 2048]⟩

abbrev nBuf : Space → Nat
  | .hbm => 54
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048x1024, .f32⟩
  | .hbm, ⟨2, _⟩ => ⟨S4x2048x1024, .f32⟩
  | .hbm, ⟨3, _⟩ => ⟨S2048x2048, .f32⟩
  | .hbm, ⟨4, _⟩ => ⟨S2048, .f32⟩
  | .hbm, ⟨5, _⟩ => ⟨S4x256x4x128, .f32⟩
  | .hbm, ⟨6, _⟩ => ⟨S4x256x4x128, .f32⟩
  | .hbm, ⟨7, _⟩ => ⟨S2048x512, .f32⟩
  | .hbm, ⟨8, _⟩ => ⟨S512x2048, .f32⟩
  | .hbm, ⟨9, _⟩ => ⟨S4x2048x2048, .f32⟩
  | .hbm, ⟨10, _⟩ => ⟨S4x2048x2048, .f32⟩
  | .hbm, ⟨11, _⟩ => ⟨S4x2048x2048, .f32⟩
  | .hbm, ⟨12, _⟩ => ⟨S4x2048x2048, .f32⟩
  | .hbm, ⟨13, _⟩ => ⟨S_, .f32⟩
  | .hbm, ⟨14, _⟩ => ⟨S4x2048, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S_, .f32⟩
  | .hbm, ⟨20, _⟩ => ⟨S4x2048x1, .f32⟩
  | .hbm, ⟨21, _⟩ => ⟨S4x2048x1, .f32⟩
  | .hbm, ⟨22, _⟩ => ⟨S4x2048x1, .f32⟩
  | .hbm, ⟨23, _⟩ => ⟨S4x2048x2048, .f32⟩
  | .hbm, ⟨24, _⟩ => ⟨S4x2048x2048, .f32⟩
  | .hbm, ⟨25, _⟩ => ⟨S1x1x2048, .f32⟩
  | .hbm, ⟨26, _⟩ => ⟨S4x2048x2048, .f32⟩
  | .hbm, ⟨27, _⟩ => ⟨S4x2048x2048, .f32⟩
  | .hbm, ⟨28, _⟩ => ⟨S4x2048x512, .f32⟩
  | .hbm, ⟨29, _⟩ => ⟨S4x2048x4x128, .f32⟩
  | .hbm, ⟨30, _⟩ => ⟨S4x4x2048x256, .f32⟩
  | .hbm, ⟨31, _⟩ => ⟨S_, .f32⟩
  | .hbm, ⟨32, _⟩ => ⟨S4x4x2048x256, .f32⟩
  | .hbm, ⟨33, _⟩ => ⟨S4x4x2048x256, .f32⟩
  | .hbm, ⟨34, _⟩ => ⟨S_, .f32⟩
  | .hbm, ⟨35, _⟩ => ⟨S4x4x2048, .f32⟩
  | .hbm, ⟨36, _⟩ => ⟨S_, .f32⟩
  | .hbm, ⟨37, _⟩ => ⟨S4x4x2048, .f32⟩
  | .hbm, ⟨38, _⟩ => ⟨S4x4x2048, .f32⟩
  | .hbm, ⟨39, _⟩ => ⟨S4x4x2048x1, .f32⟩
  | .hbm, ⟨40, _⟩ => ⟨S4x4x2048x256, .f32⟩
  | .hbm, ⟨41, _⟩ => ⟨S4x4x2048x256, .f32⟩
  | .hbm, ⟨42, _⟩ => ⟨S4x4x2048x256, .f32⟩
  | .hbm, ⟨43, _⟩ => ⟨S_, .f32⟩
  | .hbm, ⟨44, _⟩ => ⟨S4x4x2048, .f32⟩
  | .hbm, ⟨45, _⟩ => ⟨S4x4x2048x1, .f32⟩
  | .hbm, ⟨46, _⟩ => ⟨S4x4x2048x256, .f32⟩
  | .hbm, ⟨47, _⟩ => ⟨S4x4x2048x256, .f32⟩
  | .hbm, ⟨48, _⟩ => ⟨S4x4x128x2048, .f32⟩
  | .hbm, ⟨49, _⟩ => ⟨S4x2048x4x128, .f32⟩
  | .hbm, ⟨50, _⟩ => ⟨S4x2048x512, .f32⟩
  | .hbm, ⟨51, _⟩ => ⟨S4x2048x2048, .f32⟩
  | .hbm, ⟨52, _⟩ => ⟨S4x2048x2048, .f32⟩
  | .hbm, ⟨53, _⟩ => ⟨S8192x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩

abbrev nD : Nat := 1
abbrev τ : Topo := Topo.v7x

variable {F : FTy → Type} [FloatOps F]
-- ==== Proof.Names.lean ====
/- The rings of the feed-forward kernel: names of the weight blocks, the ring slots and their semaphores, and the
   carried words of the pipelined loop in closed form. -/
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Routed
public import Idealize.ShloMosaic.Lib.Ring
public import Idealize.ShloMosaic.Lib.Ring.Trips
public import Idealize.ShloMosaic.Lib.Ring.WriteBehind

@[expose] public section

noncomputable section

namespace Cert.Proof.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## The loop has 22 trips -/

theorem trips2 : k0_t2_loop.trips = 22 := by decide +kernel

/-! ## Offsets of blocks, slots and semaphores -/

/-- Columns `256 b …` of a 2048 × 5632 array. -/
abbrev colOff (b : Fin 22) : Fin 2 → Nat := ![0, 256 * b.val]
theorem colOff_inb (b : Fin 22) : ∀ a, colOff b a + S2048x256.size a ≤ S2048x5632.size a := by
  have := b.isLt; intro a; fin_cases a
  · show 0 + 2048 ≤ 2048; omega
  · show 256 * b.val + 256 ≤ 5632; omega
/-- Rows `256 b …` of a 5632 × 2048 array. -/
abbrev rowOff (b : Fin 22) : Fin 2 → Nat := ![256 * b.val, 0]
theorem rowOff_inb (b : Fin 22) : ∀ a, rowOff b a + S256x2048.size a ≤ S5632x2048.size a := by
  have := b.isLt; intro a; fin_cases a
  · show 256 * b.val + 256 ≤ 5632; omega
  · show 0 + 2048 ≤ 2048; omega
abbrev slotOff {n : Nat} (s : Fin n) : Fin 3 → Nat := ![s.val, 0, 0]
theorem slotC3_inb (s : Fin 3) : ∀ a, slotOff s a + S1x2048x256.size a ≤ S3x2048x256.size a := by
  have := s.isLt; intro a; fin_cases a
  · show s.val + 1 ≤ 3; omega
  · show 0 + 2048 ≤ 2048; omega
  · show 0 + 256 ≤ 256; omega
theorem slotR3_inb (s : Fin 3) : ∀ a, slotOff s a + S1x256x2048.size a ≤ S3x256x2048.size a := by
  have := s.isLt; intro a; fin_cases a
  · show s.val + 1 ≤ 3; omega
  · show 0 + 256 ≤ 256; omega
  · show 0 + 2048 ≤ 2048; omega
theorem slotC2_inb (s : Fin 2) : ∀ a, slotOff s a + S1x2048x256.size a ≤ S2x2048x256.size a := by
  have := s.isLt; intro a; fin_cases a
  · show s.val + 1 ≤ 2; omega
  · show 0 + 2048 ≤ 2048; omega
  · show 0 + 256 ≤ 256; omega
theorem slotR2_inb (s : Fin 2) : ∀ a, slotOff s a + S1x256x2048.size a ≤ S2x256x2048.size a := by
  have := s.isLt; intro a; fin_cases a
  · show s.val + 1 ≤ 2; omega
  · show 0 + 256 ≤ 256; omega
  · show 0 + 2048 ≤ 2048; omega
abbrev semOff {n : Nat} (s : Fin n) : Fin 1 → Nat := ![s.val]
theorem sem3_inb (s : Fin 3) : ∀ a, semOff s a + S1.size a ≤ S3.size a := by
  have := s.isLt; intro a; fin_cases a; show s.val + 1 ≤ 3; omega
theorem sem2_inb (s : Fin 2) : ∀ a, semOff s a + S1.size a ≤ S2.size a := by
  have := s.isLt; intro a; fin_cases a; show s.val + 1 ≤ 2; omega

instance {n : Nat} (s : Fin n) : ClosedOff (slotOff s) := ⟨slotOff s, rfl⟩
instance (b : Fin 22) : ClosedOff (colOff b) := ⟨colOff b, rfl⟩
instance (b : Fin 22) : ClosedOff (rowOff b) := ⟨rowOff b, rfl⟩

/-! ## Blocks, slots, cells -/

section Names
variable {e : EltTy}

/-- Column block `b`. -/
def colBlk (A : Memref sig .tc .hbm S2048x5632 e) (b : Fin 22) : Memref sig .tc .hbm S2048x256 e :=
  A.slice (Rect.unit (s := S2048x5632) (colOff b) S2048x256.size (colOff_inb b)) (fun _ => rfl)
/-- Row block `b`. -/
def rowBlk (A : Memref sig .tc .hbm S5632x2048 e) (b : Fin 22) : Memref sig .tc .hbm S256x2048 e :=
  A.slice (Rect.unit (s := S5632x2048) (rowOff b) S256x2048.size (rowOff_inb b)) (fun _ => rfl)
/-- Slot `s` of a three-slot ring of column blocks, -/
def slotC3 (B : Memref sig .tc .vmem S3x2048x256 e) (s : Fin 3) : Memref sig .tc .vmem S2048x256 e :=
  (B.slice (Rect.unit (s := S3x2048x256) (slotOff s) S1x2048x256.size (slotC3_inb s)) (fun _ => rfl)).squeeze S2048x256 squeezes_S1x2048x256_S2048x256
/-- of row blocks; -/
def slotR3 (B : Memref sig .tc .vmem S3x256x2048 e) (s : Fin 3) : Memref sig .tc .vmem S256x2048 e :=
  (B.slice (Rect.unit (s := S3x256x2048) (slotOff s) S1x256x2048.size (slotR3_inb s)) (fun _ => rfl)).squeeze S256x2048 squeezes_S1x256x2048_S256x2048
/-- slot `s` of a two-slot ring of column blocks, -/
def slotC2 (B : Memref sig .tc .vmem S2x2048x256 e) (s : Fin 2) : Memref sig .tc .vmem S2048x256 e :=
  (B.slice (Rect.unit (s := S2x2048x256) (slotOff s) S1x2048x256.size (slotC2_inb s)) (fun _ => rfl)).squeeze S2048x256 squeezes_S1x2048x256_S2048x256
/-- of row blocks. -/
def slotR2 (B : Memref sig .tc .vmem S2x256x2048 e) (s : Fin 2) : Memref sig .tc .vmem S256x2048 e :=
  (B.slice (Rect.unit (s := S2x256x2048) (slotOff s) S1x256x2048.size (slotR2_inb s)) (fun _ => rfl)).squeeze S256x2048 squeezes_S1x256x2048_S256x2048
/-- Cell `s` of three, -/
def cell3 (S : DmaSems sig S3) (s : Fin 3) : DmaSems sig S_ := (S.slice (Rect.unit (s := S3) (semOff s) S1.size (sem3_inb s))).squeeze S_ squeezes_S1_S_
/-- of two. -/
def cell2 (S : DmaSems sig S2) (s : Fin 2) : DmaSems sig S_ := (S.slice (Rect.unit (s := S2) (semOff s) S1.size (sem2_inb s))).squeeze S_ squeezes_S1_S_

theorem colBlk_congr (A : Memref sig .tc .hbm S2048x5632 e) {off : Fin 2 → Nat} {b : Fin 22} (h : off = colOff b) (hh hs) :
    A.slice (Rect.unit (s := S2048x5632) off S2048x256.size hh) hs = colBlk A b := Memref.slice_unit_congr _ h _ _ _ (fun _ => rfl)
theorem rowBlk_congr (A : Memref sig .tc .hbm S5632x2048 e) {off : Fin 2 → Nat} {b : Fin 22} (h : off = rowOff b) (hh hs) :
    A.slice (Rect.unit (s := S5632x2048) off S256x2048.size hh) hs = rowBlk A b := Memref.slice_unit_congr _ h _ _ _ (fun _ => rfl)
theorem slotC3_congr (B : Memref sig .tc .vmem S3x2048x256 e) {off : Fin 3 → Nat} {s : Fin 3} (h : off = slotOff s) (hh hs) :
    (B.slice (Rect.unit (s := S3x2048x256) off S1x2048x256.size hh) hs).squeeze S2048x256 squeezes_S1x2048x256_S2048x256 = slotC3 B s :=
  congrArg (fun M : Memref sig .tc .vmem S1x2048x256 e => M.squeeze S2048x256 squeezes_S1x2048x256_S2048x256) (Memref.slice_unit_congr _ h _ _ _ _)
theorem slotR3_congr (B : Memref sig .tc .vmem S3x256x2048 e) {off : Fin 3 → Nat} {s : Fin 3} (h : off = slotOff s) (hh hs) :
    (B.slice (Rect.unit (s := S3x256x2048) off S1x256x2048.size hh) hs).squeeze S256x2048 squeezes_S1x256x2048_S256x2048 = slotR3 B s :=
  congrArg (fun M : Memref sig .tc .vmem S1x256x2048 e => M.squeeze S256x2048 squeezes_S1x256x2048_S256x2048) (Memref.slice_unit_congr _ h _ _ _ _)
theorem slotC2_congr (B : Memref sig .tc .vmem S2x2048x256 e) {off : Fin 3 → Nat} {s : Fin 2} (h : off = slotOff s) (hh hs) :
    (B.slice (Rect.unit (s := S2x2048x256) off S1x2048x256.size hh) hs).squeeze S2048x256 squeezes_S1x2048x256_S2048x256 = slotC2 B s :=
  congrArg (fun M : Memref sig .tc .vmem S1x2048x256 e => M.squeeze S2048x256 squeezes_S1x2048x256_S2048x256) (Memref.slice_unit_congr _ h _ _ _ _)
theorem slotR2_congr (B : Memref sig .tc .vmem S2x256x2048 e) {off : Fin 3 → Nat} {s : Fin 2} (h : off = slotOff s) (hh hs) :
    (B.slice (Rect.unit (s := S2x256x2048) off S1x256x2048.size hh) hs).squeeze S256x2048 squeezes_S1x256x2048_S256x2048 = slotR2 B s :=
  congrArg (fun M : Memref sig .tc .vmem S1x256x2048 e => M.squeeze S256x2048 squeezes_S1x256x2048_S256x2048) (Memref.slice_unit_congr _ h _ _ _ _)
theorem cell3_congr (S : DmaSems sig S3) {off : Fin 1 → Nat} {s : Fin 3} (h : off = semOff s) (hh) :
    (S.slice (Rect.unit (s := S3) off S1.size hh)).squeeze S_ squeezes_S1_S_ = cell3 S s :=
  congrArg (fun A : DmaSems sig S1 => A.squeeze S_ squeezes_S1_S_) (SemArray.slice_unit_congr _ h _ _)
theorem cell2_congr (S : DmaSems sig S2) {off : Fin 1 → Nat} {s : Fin 2} (h : off = semOff s) (hh) :
    (S.slice (Rect.unit (s := S2) off S1.size hh)).squeeze S_ squeezes_S1_S_ = cell2 S s :=
  congrArg (fun A : DmaSems sig S1 => A.squeeze S_ squeezes_S1_S_) (SemArray.slice_unit_congr _ h _ _)

end Names

/-! ## The carried words before trip `k` -/

/-- How many input blocks have been asked for, -/
def wIss (k : Nat) : BitVec 32 := BitVec.ofNat 32 (min (k + 2) 22)
/-- how many have been waited for (and how many output blocks sent), -/
def wCur (k : Nat) : BitVec 32 := BitVec.ofNat 32 k
/-- how many output blocks have been waited for, -/
def wPrev (k : Nat) : BitVec 32 := BitVec.ofNat 32 (k - 1)
/-- the step index, back at 0 after the last step. -/
def wStep (k : Nat) : BitVec 32 := BitVec.ofNat 32 (k % 22)

/-- The thirteen words the loop carries. -/
abbrev words (k : Nat) : BitVec 32 × BitVec 32 × BitVec 32 × BitVec 32 × BitVec 32 × BitVec 32 × BitVec 32 × BitVec 32 × BitVec 32 × BitVec 32 × BitVec 32 × BitVec 32 × BitVec 32 :=
  (wIss k, wCur k, wIss k, wCur k, wIss k, wCur k, wCur k, wPrev k, wCur k, wPrev k, wCur k, wPrev k, wStep k)

section Words
open Idealize.ShloMosaic.Ring (sl bk)

theorem chk7_at : ∀ k : Fin k0_t2_loop.trips, k0_chk7 (wCur k) := by decide +kernel
theorem chk6_at : ∀ k : Fin k0_t2_loop.trips, k0_chk6 (wCur k) := by decide +kernel
theorem chk5_at : ∀ k : Fin k0_t2_loop.trips, k0_chk5 (wCur k) := by decide +kernel
theorem chk4_at : ∀ k : Fin k0_t2_loop.trips, k0_chk4 (wCur k) := by decide +kernel
theorem chk3_at : ∀ k : Fin k0_t2_loop.trips, k0_chk3 (wCur k) := by decide +kernel
theorem chk2_at : ∀ k : Fin k0_t2_loop.trips, k0_chk2 (wCur k) := by decide +kernel
theorem chk1_at : ∀ k : Fin k0_t2_loop.trips,
    k0_chk1 k (wIss k) (wCur k) (wIss k) (wCur k) (wIss k) (wCur k) (wCur k) (wPrev k) (wCur k) (wPrev k) (wCur k) (wPrev k) (wStep k) := by decide +kernel

theorem cond4_at : ∀ k : Fin k0_t2_loop.trips, k.val < 20 → k0_cond4 k (wStep k) = 1#1 := by decide +kernel
theorem cond5_at : ∀ k : Fin k0_t2_loop.trips, k.val < 20 → k0_cond5 k (wStep k) = 1#1 := by decide +kernel
theorem cond6_at : ∀ k : Fin k0_t2_loop.trips, k.val < 20 → k0_cond6 k (wStep k) = 1#1 := by decide +kernel
theorem cond4_not : ∀ k : Fin k0_t2_loop.trips, ¬ k.val < 20 → ¬ k0_cond4 k (wStep k) = 1#1 := by decide +kernel
theorem cond5_not : ∀ k : Fin k0_t2_loop.trips, ¬ k.val < 20 → ¬ k0_cond5 k (wStep k) = 1#1 := by decide +kernel
theorem cond6_not : ∀ k : Fin k0_t2_loop.trips, ¬ k.val < 20 → ¬ k0_cond6 k (wStep k) = 1#1 := by decide +kernel
theorem cond7_at : ∀ k : Fin k0_t2_loop.trips, k0_cond7 k (wStep k) = 1#1 := by decide +kernel
theorem cond8_at : ∀ k : Fin k0_t2_loop.trips, k0_cond8 k (wStep k) = 1#1 := by decide +kernel
theorem cond9_at : ∀ k : Fin k0_t2_loop.trips, k0_cond9 k (wStep k) = 1#1 := by decide +kernel
theorem cond16_at : ∀ k : Fin k0_t2_loop.trips, k0_cond16 k (wStep k) = 1#1 := by decide +kernel
theorem cond17_at : ∀ k : Fin k0_t2_loop.trips, k0_cond17 k (wStep k) = 1#1 := by decide +kernel
theorem cond18_at : ∀ k : Fin k0_t2_loop.trips, k0_cond18 k (wStep k) = 1#1 := by decide +kernel
theorem cond22_at : ∀ k : Fin k0_t2_loop.trips, 0 < k.val → k0_cond22 k (wStep k) = 1#1 := by decide +kernel
theorem cond23_at : ∀ k : Fin k0_t2_loop.trips, 0 < k.val → k0_cond23 k (wStep k) = 1#1 := by decide +kernel
theorem cond24_at : ∀ k : Fin k0_t2_loop.trips, 0 < k.val → k0_cond24 k (wStep k) = 1#1 := by decide +kernel
theorem cond22_not : ∀ k : Fin k0_t2_loop.trips, ¬ 0 < k.val → ¬ k0_cond22 k (wStep k) = 1#1 := by decide +kernel
theorem cond23_not : ∀ k : Fin k0_t2_loop.trips, ¬ 0 < k.val → ¬ k0_cond23 k (wStep k) = 1#1 := by decide +kernel
theorem cond24_not : ∀ k : Fin k0_t2_loop.trips, ¬ 0 < k.val → ¬ k0_cond24 k (wStep k) = 1#1 := by decide +kernel

/- the issue's cell, slot and block -/
theorem off14_at : ∀ k : Fin k0_t2_loop.trips, k.val < 20 → k0_off14 (wIss k) = semOff (sl 3 (k.val + 2)) := by decide +kernel
theorem off17_at : ∀ k : Fin k0_t2_loop.trips, k.val < 20 → k0_off17 (wIss k) = semOff (sl 3 (k.val + 2)) := by decide +kernel
theorem off20_at : ∀ k : Fin k0_t2_loop.trips, k.val < 20 → k0_off20 (wIss k) = semOff (sl 3 (k.val + 2)) := by decide +kernel
theorem off15_at : ∀ k : Fin k0_t2_loop.trips, k.val < 20 → k0_off15 (wIss k) = slotOff (sl 3 (k.val + 2)) := by decide +kernel
theorem off18_at : ∀ k : Fin k0_t2_loop.trips, k.val < 20 → k0_off18 (wIss k) = slotOff (sl 3 (k.val + 2)) := by decide +kernel
theorem off21_at : ∀ k : Fin k0_t2_loop.trips, k.val < 20 → k0_off21 (wIss k) = slotOff (sl 3 (k.val + 2)) := by decide +kernel
theorem off16_at : ∀ k : Fin k0_t2_loop.trips, k.val < 20 → k0_off16 (wStep k) = colOff (bk 22 (k.val + 2)) := by decide +kernel
theorem off19_at : ∀ k : Fin k0_t2_loop.trips, k.val < 20 → k0_off19 (wStep k) = colOff (bk 22 (k.val + 2)) := by decide +kernel
theorem off22_at : ∀ k : Fin k0_t2_loop.trips, k.val < 20 → k0_off22 (wStep k) = rowOff (bk 22 (k.val + 2)) := by decide +kernel
/- the wait's -/
theorem off23_at : ∀ k : Fin k0_t2_loop.trips, k0_off23 (wCur k) = semOff (sl 3 k.val) := by decide +kernel
theorem off26_at : ∀ k : Fin k0_t2_loop.trips, k0_off26 (wCur k) = semOff (sl 3 k.val) := by decide +kernel
theorem off29_at : ∀ k : Fin k0_t2_loop.trips, k0_off29 (wCur k) = semOff (sl 3 k.val) := by decide +kernel
theorem off24_at : ∀ k : Fin k0_t2_loop.trips, k0_off24 (wCur k) = slotOff (sl 3 k.val) := by decide +kernel
theorem off27_at : ∀ k : Fin k0_t2_loop.trips, k0_off27 (wCur k) = slotOff (sl 3 k.val) := by decide +kernel
theorem off30_at : ∀ k : Fin k0_t2_loop.trips, k0_off30 (wCur k) = slotOff (sl 3 k.val) := by decide +kernel
theorem off25_at : ∀ k : Fin k0_t2_loop.trips, k0_off25 (wStep k) = colOff (bk 22 k.val) := by decide +kernel
theorem off28_at : ∀ k : Fin k0_t2_loop.trips, k0_off28 (wStep k) = colOff (bk 22 k.val) := by decide +kernel
theorem off31_at : ∀ k : Fin k0_t2_loop.trips, k0_off31 (wStep k) = rowOff (bk 22 k.val) := by decide +kernel
/- the loads and stores through the rings -/
theorem off32_at : ∀ k : Fin k0_t2_loop.trips, k0_off32 (wCur k) = slotOff (sl 3 k.val) := by decide +kernel
theorem off34_at : ∀ k : Fin k0_t2_loop.trips, k0_off34 (wCur k) = slotOff (sl 3 k.val) := by decide +kernel
theorem off36_at : ∀ k : Fin k0_t2_loop.trips, k0_off36 (wCur k) = slotOff (sl 3 k.val) := by decide +kernel
theorem off33_at : ∀ k : Fin k0_t2_loop.trips, k0_off33 (wCur k) = slotOff (sl 2 k.val) := by decide +kernel
theorem off35_at : ∀ k : Fin k0_t2_loop.trips, k0_off35 (wCur k) = slotOff (sl 2 k.val) := by decide +kernel
theorem off37_at : ∀ k : Fin k0_t2_loop.trips, k0_off37 (wCur k) = slotOff (sl 2 k.val) := by decide +kernel
theorem off38_at : ∀ k : Fin k0_t2_loop.trips, k0_off38 (wCur k) = slotOff (sl 2 k.val) := by decide +kernel
theorem off39_at : ∀ k : Fin k0_t2_loop.trips, k0_off39 (wCur k) = slotOff (sl 2 k.val) := by decide +kernel
/- the output's issue -/
theorem off40_at : ∀ k : Fin k0_t2_loop.trips, k0_off40 (wCur k) = semOff (sl 2 k.val) := by decide +kernel
theorem off43_at : ∀ k : Fin k0_t2_loop.trips, k0_off43 (wCur k) = semOff (sl 2 k.val) := by decide +kernel
theorem off46_at : ∀ k : Fin k0_t2_loop.trips, k0_off46 (wCur k) = semOff (sl 2 k.val) := by decide +kernel
theorem off41_at : ∀ k : Fin k0_t2_loop.trips, k0_off41 (wStep k) = colOff (bk 22 k.val) := by decide +kernel
theorem off44_at : ∀ k : Fin k0_t2_loop.trips, k0_off44 (wStep k) = colOff (bk 22 k.val) := by decide +kernel
theorem off47_at : ∀ k : Fin k0_t2_loop.trips, k0_off47 (wStep k) = rowOff (bk 22 k.val) := by decide +kernel
theorem off42_at : ∀ k : Fin k0_t2_loop.trips, k0_off42 (wCur k) = slotOff (sl 2 k.val) := by decide +kernel
theorem off45_at : ∀ k : Fin k0_t2_loop.trips, k0_off45 (wCur k) = slotOff (sl 2 k.val) := by decide +kernel
theorem off48_at : ∀ k : Fin k0_t2_loop.trips, k0_off48 (wCur k) = slotOff (sl 2 k.val) := by decide +kernel
/- the output's wait -/
theorem off49_at : ∀ k : Fin k0_t2_loop.trips, 0 < k.val → k0_off49 (wPrev k) = semOff (sl 2 (k.val + 1)) := by decide +kernel
theorem off52_at : ∀ k : Fin k0_t2_loop.trips, 0 < k.val → k0_off52 (wPrev k) = semOff (sl 2 (k.val + 1)) := by decide +kernel
theorem off55_at : ∀ k : Fin k0_t2_loop.trips, 0 < k.val → k0_off55 (wPrev k) = semOff (sl 2 (k.val + 1)) := by decide +kernel
theorem off50_at : ∀ k : Fin k0_t2_loop.trips, 0 < k.val → k0_off50 (wStep k) = colOff (bk 22 (k.val - 1)) := by decide +kernel
theorem off53_at : ∀ k : Fin k0_t2_loop.trips, 0 < k.val → k0_off53 (wStep k) = colOff (bk 22 (k.val - 1)) := by decide +kernel
theorem off56_at : ∀ k : Fin k0_t2_loop.trips, 0 < k.val → k0_off56 (wStep k) = rowOff (bk 22 (k.val - 1)) := by decide +kernel
theorem off51_at : ∀ k : Fin k0_t2_loop.trips, 0 < k.val → k0_off51 (wPrev k) = slotOff (sl 2 (k.val + 1)) := by decide +kernel
theorem off54_at : ∀ k : Fin k0_t2_loop.trips, 0 < k.val → k0_off54 (wPrev k) = slotOff (sl 2 (k.val + 1)) := by decide +kernel
theorem off57_at : ∀ k : Fin k0_t2_loop.trips, 0 < k.val → k0_off57 (wPrev k) = slotOff (sl 2 (k.val + 1)) := by decide +kernel
/- the last waits, after the loop -/
theorem chk8_end : k0_chk8 (wPrev 22) := by decide +kernel
theorem chk9_end : k0_chk9 (wStep 22) := by decide +kernel
theorem chk10_end : k0_chk10 (wPrev 22) := by decide +kernel
theorem chk11_end : k0_chk11 (wPrev 22) := by decide +kernel
theorem off58_end : k0_off58 (wPrev 22) = semOff (sl 2 (22 + 1)) := by decide +kernel
theorem off61_end : k0_off61 (wPrev 22) = semOff (sl 2 (22 + 1)) := by decide +kernel
theorem off64_end : k0_off64 (wPrev 22) = semOff (sl 2 (22 + 1)) := by decide +kernel
theorem off59_end : k0_off59 (wStep 22) = colOff (bk 22 (22 - 1)) := by decide +kernel
theorem off62_end : k0_off62 (wStep 22) = colOff (bk 22 (22 - 1)) := by decide +kernel
theorem off65_end : k0_off65 (wStep 22) = rowOff (bk 22 (22 - 1)) := by decide +kernel
theorem off60_end : k0_off60 (wPrev 22) = slotOff (sl 2 (22 + 1)) := by decide +kernel
theorem off63_end : k0_off63 (wPrev 22) = slotOff (sl 2 (22 + 1)) := by decide +kernel
theorem off66_end : k0_off66 (wPrev 22) = slotOff (sl 2 (22 + 1)) := by decide +kernel

end Words

end Cert.Proof.Ffn

end
-- ==== Proof.Canon.lean ====
/- The memrefs of the feed-forward kernel's body, the printed slices under the names of `Names.lean`, and what is held of them. -/
module

public import proofs.«01_k».proof.Proof.Names

@[expose] public section

noncomputable section

namespace Cert.Proof.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Ring (sl bk)

variable {F : FTy → Type} [FloatOps F]

/-- The pipeline library's resources beside the counters the kernel's own transfers count on. -/
abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

/-! ## The memrefs the loop works on -/

abbrev wgM : Memref sig .tc .hbm S2048x5632 .f32 := Memref.whole main_arg2
abbrev wuM : Memref sig .tc .hbm S2048x5632 .f32 := Memref.whole main_arg3
abbrev wdM : Memref sig .tc .hbm S5632x2048 .f32 := Memref.whole main_arg4
abbrev ogM : Memref sig .tc .hbm S2048x5632 .bf16 := Memref.whole main_v3_1
abbrev ouM : Memref sig .tc .hbm S2048x5632 .bf16 := Memref.whole main_v3_2
abbrev odM : Memref sig .tc .hbm S5632x2048 .bf16 := Memref.whole main_v3_3
abbrev xnM : Memref sig .tc .vmem S1024x2048 .bf16 := Memref.whole cc0_scratch0
abbrev igM : Memref sig .tc .vmem S3x2048x256 .f32 := Memref.whole cc0_scoped0
abbrev iuM : Memref sig .tc .vmem S3x2048x256 .f32 := Memref.whole cc0_scoped2
abbrev idM : Memref sig .tc .vmem S3x256x2048 .f32 := Memref.whole cc0_scoped4
abbrev bgM : Memref sig .tc .vmem S2x2048x256 .bf16 := Memref.whole cc0_scoped6
abbrev buM : Memref sig .tc .vmem S2x2048x256 .bf16 := Memref.whole cc0_scoped8
abbrev bdM : Memref sig .tc .vmem S2x256x2048 .bf16 := Memref.whole cc0_scoped10

/-! ## The printed slices under their names -/

section Canon
variable {e : EltTy} (A : Memref sig .tc .hbm S2048x5632 e) (R : Memref sig .tc .hbm S5632x2048 e)
  (B : Memref sig .tc .vmem S3x2048x256 e) (C : Memref sig .tc .vmem S3x256x2048 e)
  (B2 : Memref sig .tc .vmem S2x2048x256 e) (C2 : Memref sig .tc .vmem S2x256x2048 e)
  (k : Fin k0_t2_loop.trips)

@[sl_canon] theorem sem14 (hk : k.val < 20) (hh) : (cc0_scoped1.slice (Rect.unit (s := S3) (k0_off14 (wIss k.val)) S1.size hh)).squeeze S_ squeezes_S1_S_ = cell3 cc0_scoped1 (sl 3 (k.val + 2)) := cell3_congr _ (off14_at k hk) _
@[sl_canon] theorem sem17 (hk : k.val < 20) (hh) : (cc0_scoped3.slice (Rect.unit (s := S3) (k0_off17 (wIss k.val)) S1.size hh)).squeeze S_ squeezes_S1_S_ = cell3 cc0_scoped3 (sl 3 (k.val + 2)) := cell3_congr _ (off17_at k hk) _
@[sl_canon] theorem sem20 (hk : k.val < 20) (hh) : (cc0_scoped5.slice (Rect.unit (s := S3) (k0_off20 (wIss k.val)) S1.size hh)).squeeze S_ squeezes_S1_S_ = cell3 cc0_scoped5 (sl 3 (k.val + 2)) := cell3_congr _ (off20_at k hk) _
@[sl_canon] theorem slot15 (hk : k.val < 20) (hh hs) : (igM.slice (Rect.unit (s := S3x2048x256) (k0_off15 (wIss k.val)) S1x2048x256.size hh) hs).squeeze S2048x256 squeezes_S1x2048x256_S2048x256 = slotC3 igM (sl 3 (k.val + 2)) := slotC3_congr _ (off15_at k hk) _ _
@[sl_canon] theorem slot18 (hk : k.val < 20) (hh hs) : (iuM.slice (Rect.unit (s := S3x2048x256) (k0_off18 (wIss k.val)) S1x2048x256.size hh) hs).squeeze S2048x256 squeezes_S1x2048x256_S2048x256 = slotC3 iuM (sl 3 (k.val + 2)) := slotC3_congr _ (off18_at k hk) _ _
@[sl_canon] theorem slot21 (hk : k.val < 20) (hh hs) : (idM.slice (Rect.unit (s := S3x256x2048) (k0_off21 (wIss k.val)) S1x256x2048.size hh) hs).squeeze S256x2048 squeezes_S1x256x2048_S256x2048 = slotR3 idM (sl 3 (k.val + 2)) := slotR3_congr _ (off21_at k hk) _ _
@[sl_canon] theorem blk16 (hk : k.val < 20) (hh hs) : wgM.slice (Rect.unit (s := S2048x5632) (k0_off16 (wStep k.val)) S2048x256.size hh) hs = colBlk wgM (bk 22 (k.val + 2)) := colBlk_congr _ (off16_at k hk) _ _
@[sl_canon] theorem blk19 (hk : k.val < 20) (hh hs) : wuM.slice (Rect.unit (s := S2048x5632) (k0_off19 (wStep k.val)) S2048x256.size hh) hs = colBlk wuM (bk 22 (k.val + 2)) := colBlk_congr _ (off19_at k hk) _ _
@[sl_canon] theorem blk22 (hk : k.val < 20) (hh hs) : wdM.slice (Rect.unit (s := S5632x2048) (k0_off22 (wStep k.val)) S256x2048.size hh) hs = rowBlk wdM (bk 22 (k.val + 2)) := rowBlk_congr _ (off22_at k hk) _ _

@[sl_canon] theorem sem23 (hh) : (cc0_scoped1.slice (Rect.unit (s := S3) (k0_off23 (wCur k.val)) S1.size hh)).squeeze S_ squeezes_S1_S_ = cell3 cc0_scoped1 (sl 3 k.val) := cell3_congr _ (off23_at k) _
@[sl_canon] theorem sem26 (hh) : (cc0_scoped3.slice (Rect.unit (s := S3) (k0_off26 (wCur k.val)) S1.size hh)).squeeze S_ squeezes_S1_S_ = cell3 cc0_scoped3 (sl 3 k.val) := cell3_congr _ (off26_at k) _
@[sl_canon] theorem sem29 (hh) : (cc0_scoped5.slice (Rect.unit (s := S3) (k0_off29 (wCur k.val)) S1.size hh)).squeeze S_ squeezes_S1_S_ = cell3 cc0_scoped5 (sl 3 k.val) := cell3_congr _ (off29_at k) _
@[sl_canon] theorem slot24 (hh hs) : (igM.slice (Rect.unit (s := S3x2048x256) (k0_off24 (wCur k.val)) S1x2048x256.size hh) hs).squeeze S2048x256 squeezes_S1x2048x256_S2048x256 = slotC3 igM (sl 3 k.val) := slotC3_congr _ (off24_at k) _ _
@[sl_canon] theorem slot27 (hh hs) : (iuM.slice (Rect.unit (s := S3x2048x256) (k0_off27 (wCur k.val)) S1x2048x256.size hh) hs).squeeze S2048x256 squeezes_S1x2048x256_S2048x256 = slotC3 iuM (sl 3 k.val) := slotC3_congr _ (off27_at k) _ _
@[sl_canon] theorem slot30 (hh hs) : (idM.slice (Rect.unit (s := S3x256x2048) (k0_off30 (wCur k.val)) S1x256x2048.size hh) hs).squeeze S256x2048 squeezes_S1x256x2048_S256x2048 = slotR3 idM (sl 3 k.val) := slotR3_congr _ (off30_at k) _ _
@[sl_canon] theorem blk25 (hh hs) : wgM.slice (Rect.unit (s := S2048x5632) (k0_off25 (wStep k.val)) S2048x256.size hh) hs = colBlk wgM (bk 22 k.val) := colBlk_congr _ (off25_at k) _ _
@[sl_canon] theorem blk28 (hh hs) : wuM.slice (Rect.unit (s := S2048x5632) (k0_off28 (wStep k.val)) S2048x256.size hh) hs = colBlk wuM (bk 22 k.val) := colBlk_congr _ (off28_at k) _ _
@[sl_canon] theorem blk31 (hh hs) : wdM.slice (Rect.unit (s := S5632x2048) (k0_off31 (wStep k.val)) S256x2048.size hh) hs = rowBlk wdM (bk 22 k.val) := rowBlk_congr _ (off31_at k) _ _

@[sl_canon] theorem sem40 (hh) : (cc0_scoped7.slice (Rect.unit (s := S2) (k0_off40 (wCur k.val)) S1.size hh)).squeeze S_ squeezes_S1_S_ = cell2 cc0_scoped7 (sl 2 k.val) := cell2_congr _ (off40_at k) _
@[sl_canon] theorem sem43 (hh) : (cc0_scoped9.slice (Rect.unit (s := S2) (k0_off43 (wCur k.val)) S1.size hh)).squeeze S_ squeezes_S1_S_ = cell2 cc0_scoped9 (sl 2 k.val) := cell2_congr _ (off43_at k) _
@[sl_canon] theorem sem46 (hh) : (cc0_scoped11.slice (Rect.unit (s := S2) (k0_off46 (wCur k.val)) S1.size hh)).squeeze S_ squeezes_S1_S_ = cell2 cc0_scoped11 (sl 2 k.val) := cell2_congr _ (off46_at k) _
@[sl_canon] theorem slot42 (hh hs) : (bgM.slice (Rect.unit (s := S2x2048x256) (k0_off42 (wCur k.val)) S1x2048x256.size hh) hs).squeeze S2048x256 squeezes_S1x2048x256_S2048x256 = slotC2 bgM (sl 2 k.val) := slotC2_congr _ (off42_at k) _ _
@[sl_canon] theorem slot45 (hh hs) : (buM.slice (Rect.unit (s := S2x2048x256) (k0_off45 (wCur k.val)) S1x2048x256.size hh) hs).squeeze S2048x256 squeezes_S1x2048x256_S2048x256 = slotC2 buM (sl 2 k.val) := slotC2_congr _ (off45_at k) _ _
@[sl_canon] theorem slot48 (hh hs) : (bdM.slice (Rect.unit (s := S2x256x2048) (k0_off48 (wCur k.val)) S1x256x2048.size hh) hs).squeeze S256x2048 squeezes_S1x256x2048_S256x2048 = slotR2 bdM (sl 2 k.val) := slotR2_congr _ (off48_at k) _ _
@[sl_canon] theorem blk41 (hh hs) : ogM.slice (Rect.unit (s := S2048x5632) (k0_off41 (wStep k.val)) S2048x256.size hh) hs = colBlk ogM (bk 22 k.val) := colBlk_congr _ (off41_at k) _ _
@[sl_canon] theorem blk44 (hh hs) : ouM.slice (Rect.unit (s := S2048x5632) (k0_off44 (wStep k.val)) S2048x256.size hh) hs = colBlk ouM (bk 22 k.val) := colBlk_congr _ (off44_at k) _ _
@[sl_canon] theorem blk47 (hh hs) : odM.slice (Rect.unit (s := S5632x2048) (k0_off47 (wStep k.val)) S256x2048.size hh) hs = rowBlk odM (bk 22 k.val) := rowBlk_congr _ (off47_at k) _ _

@[sl_canon] theorem sem49 (h0 : 0 < k.val) (hh) : (cc0_scoped7.slice (Rect.unit (s := S2) (k0_off49 (wPrev k.val)) S1.size hh)).squeeze S_ squeezes_S1_S_ = cell2 cc0_scoped7 (sl 2 (k.val + 1)) := cell2_congr _ (off49_at k h0) _
@[sl_canon] theorem sem52 (h0 : 0 < k.val) (hh) : (cc0_scoped9.slice (Rect.unit (s := S2) (k0_off52 (wPrev k.val)) S1.size hh)).squeeze S_ squeezes_S1_S_ = cell2 cc0_scoped9 (sl 2 (k.val + 1)) := cell2_congr _ (off52_at k h0) _
@[sl_canon] theorem sem55 (h0 : 0 < k.val) (hh) : (cc0_scoped11.slice (Rect.unit (s := S2) (k0_off55 (wPrev k.val)) S1.size hh)).squeeze S_ squeezes_S1_S_ = cell2 cc0_scoped11 (sl 2 (k.val + 1)) := cell2_congr _ (off55_at k h0) _
@[sl_canon] theorem slot51 (h0 : 0 < k.val) (hh hs) : (bgM.slice (Rect.unit (s := S2x2048x256) (k0_off51 (wPrev k.val)) S1x2048x256.size hh) hs).squeeze S2048x256 squeezes_S1x2048x256_S2048x256 = slotC2 bgM (sl 2 (k.val + 1)) := slotC2_congr _ (off51_at k h0) _ _
@[sl_canon] theorem slot54 (h0 : 0 < k.val) (hh hs) : (buM.slice (Rect.unit (s := S2x2048x256) (k0_off54 (wPrev k.val)) S1x2048x256.size hh) hs).squeeze S2048x256 squeezes_S1x2048x256_S2048x256 = slotC2 buM (sl 2 (k.val + 1)) := slotC2_congr _ (off54_at k h0) _ _
@[sl_canon] theorem slot57 (h0 : 0 < k.val) (hh hs) : (bdM.slice (Rect.unit (s := S2x256x2048) (k0_off57 (wPrev k.val)) S1x256x2048.size hh) hs).squeeze S256x2048 squeezes_S1x256x2048_S256x2048 = slotR2 bdM (sl 2 (k.val + 1)) := slotR2_congr _ (off57_at k h0) _ _
@[sl_canon] theorem blk50 (h0 : 0 < k.val) (hh hs) : ogM.slice (Rect.unit (s := S2048x5632) (k0_off50 (wStep k.val)) S2048x256.size hh) hs = colBlk ogM (bk 22 (k.val - 1)) := colBlk_congr _ (off50_at k h0) _ _
@[sl_canon] theorem blk53 (h0 : 0 < k.val) (hh hs) : ouM.slice (Rect.unit (s := S2048x5632) (k0_off53 (wStep k.val)) S2048x256.size hh) hs = colBlk ouM (bk 22 (k.val - 1)) := colBlk_congr _ (off53_at k h0) _ _
@[sl_canon] theorem blk56 (h0 : 0 < k.val) (hh hs) : odM.slice (Rect.unit (s := S5632x2048) (k0_off56 (wStep k.val)) S256x2048.size hh) hs = rowBlk odM (bk 22 (k.val - 1)) := rowBlk_congr _ (off56_at k h0) _ _

instance : ClosedOff (k0_off32 (wCur k.val)) := ⟨slotOff (sl 3 k.val), off32_at k⟩
instance : ClosedOff (k0_off34 (wCur k.val)) := ⟨slotOff (sl 3 k.val), off34_at k⟩
instance : ClosedOff (k0_off36 (wCur k.val)) := ⟨slotOff (sl 3 k.val), off36_at k⟩
instance : ClosedOff (k0_off33 (wCur k.val)) := ⟨slotOff (sl 2 k.val), off33_at k⟩
instance : ClosedOff (k0_off35 (wCur k.val)) := ⟨slotOff (sl 2 k.val), off35_at k⟩
instance : ClosedOff (k0_off37 (wCur k.val)) := ⟨slotOff (sl 2 k.val), off37_at k⟩
instance : ClosedOff (k0_off38 (wCur k.val)) := ⟨slotOff (sl 2 k.val), off38_at k⟩
instance : ClosedOff (k0_off39 (wCur k.val)) := ⟨slotOff (sl 2 k.val), off39_at k⟩

end Canon

/-! ## What is held of a memref, and what is under way -/

section Pieces
variable (c : Dev nD)

/-- A memref's elements held at the contents `f`. -/
abbrev own {sp : Space} {s : Shape} {e : EltTy} (M : Memref sig .tc sp s e) (f : Buf (Elt F) (M.view.loc (c : Thread nD τ))) : sProp 𝕄 :=
  M.view.loc (c : Thread nD τ) ↦[M.view.set]{fullShare} f
/-- A transfer's cell at zero. -/
abbrev idle (S : DmaSems sig S_) : sProp 𝕄 := semVal ((c : Thread nD τ), SemLoc.dma S.sem) 0
/-- What a transfer from `A` (at `X`) leaves in `D` (before: `f`). -/
abbrev landed {sp sp' : Space} {s : Shape} {e : EltTy} (D : Memref sig .tc sp s e) (A : Memref sig .tc sp' s e)
    (f : Buf (Elt F) (D.view.loc (c : Thread nD τ))) (X : Buf (Elt F) (A.view.loc (c : Thread nD τ))) : Buf (Elt F) (D.view.loc (c : Thread nD τ)) :=
  D.view.writes (Elt F) f [⟨Rect.whole s, ReadAs.same.apply (A.view.read (Elt F) X)⟩]
/-- A transfer from `A` into `D` under way on the cell `S`: on arrival it gives `D` written and `A` back. -/
abbrev flying {sp sp' : Space} {s : Shape} {e : EltTy} (S : DmaSems sig S_) (n : ℕ) (D : Memref sig .tc sp s e) (A : Memref sig .tc sp' s e)
    (f : Buf (Elt F) (D.view.loc (c : Thread nD τ))) (X : Buf (Elt F) (A.view.loc (c : Thread nD τ))) : sProp 𝕄 :=
  Transfers.Flight countersEmb (c : Thread nD τ) (SemLoc.dma S.sem) () n iprop(own c D (landed c D A f X) ∗ own c A X)

/-- Blocks of the arrays, at the whole array's contents. -/
abbrev ownC {e : EltTy} (A : Memref sig .tc .hbm S2048x5632 e) (b : Fin 22) (X : Buf (Elt F) (A.view.loc (c : Thread nD τ))) : sProp 𝕄 := own c (colBlk A b) X
abbrev ownR {e : EltTy} (A : Memref sig .tc .hbm S5632x2048 e) (b : Fin 22) (X : Buf (Elt F) (A.view.loc (c : Thread nD τ))) : sProp 𝕄 := own c (rowBlk A b) X
/-- A block on its way into a slot, -/
abbrev inC (S : DmaSems sig S3) (B : Memref sig .tc .vmem S3x2048x256 .f32) (A : Memref sig .tc .hbm S2048x5632 .f32) (s : Fin 3) (b : Fin 22)
    (f : Buf (Elt F) ((slotC3 B s).view.loc (c : Thread nD τ))) (X : Buf (Elt F) (A.view.loc (c : Thread nD τ))) : sProp 𝕄 :=
  flying c (cell3 S s) 65536 (slotC3 B s) (colBlk A b) f X
abbrev inR (S : DmaSems sig S3) (B : Memref sig .tc .vmem S3x256x2048 .f32) (A : Memref sig .tc .hbm S5632x2048 .f32) (s : Fin 3) (b : Fin 22)
    (f : Buf (Elt F) ((slotR3 B s).view.loc (c : Thread nD τ))) (X : Buf (Elt F) (A.view.loc (c : Thread nD τ))) : sProp 𝕄 :=
  flying c (cell3 S s) 65536 (slotR3 B s) (rowBlk A b) f X
/-- and a slot on its way into a block. -/
abbrev outC (S : DmaSems sig S2) (B : Memref sig .tc .vmem S2x2048x256 .bf16) (A : Memref sig .tc .hbm S2048x5632 .bf16) (s : Fin 2) (b : Fin 22)
    (f : Buf (Elt F) ((slotC2 B s).view.loc (c : Thread nD τ))) (Z : Buf (Elt F) (A.view.loc (c : Thread nD τ))) : sProp 𝕄 :=
  flying c (cell2 S s) 32768 (colBlk A b) (slotC2 B s) Z f
abbrev outR (S : DmaSems sig S2) (B : Memref sig .tc .vmem S2x256x2048 .bf16) (A : Memref sig .tc .hbm S5632x2048 .bf16) (s : Fin 2) (b : Fin 22)
    (f : Buf (Elt F) ((slotR2 B s).view.loc (c : Thread nD τ))) (Z : Buf (Elt F) (A.view.loc (c : Thread nD τ))) : sProp 𝕄 :=
  flying c (cell2 S s) 32768 (rowBlk A b) (slotR2 B s) Z f

end Pieces

end Cert.Proof.Ffn

end
-- ==== Proof.Rings.lean ====
/- The rings before and after a trip, and the values the pipelined loop moves. -/
module

public import proofs.«01_k».proof.Proof.Canon
public import Idealize.ShloMosaic.Lib.Pipeline.Value
public import Idealize.ShloMosaic.Lib.VecWindow

@[expose] public section

noncomputable section

namespace Cert.Proof.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk)

variable {F : FTy → Type} [FloatOps F]
local notation "𝕄" => MT nD τ sig Unit (Elt F) ℕ (UU nD τ) ℕ

theorem bigSep_ins {s : Finset (Fin 22)} {b : Fin 22} (h : b ∉ s) (P : Fin 22 → sProp 𝕄) : bigSep (insert b s) P = iprop(P b ∗ bigSep s P) := bigSep_insert h

theorem of_eq {P Q : sProp 𝕄} (e : P = Q) : P ⊢ Q := e ▸ .rfl

/-! ## A ring of three slots that blocks arrive in, two trips ahead -/

section InRing

/-- Slot of block `b`: the block under way to it, or, past the last block, the slot free. -/
def slotSt (fl : Fin 3 → Fin 22 → sProp 𝕄) (fr : Fin 3 → sProp 𝕄) (b : ℕ) : sProp 𝕄 := if b < 22 then fl (sl 3 b) (bk 22 b) else fr (sl 3 b)
/-- Before trip `k`: blocks `k` and `k + 1` under way, the third slot free, the other blocks at home. -/
def ringIn (fl : Fin 3 → Fin 22 → sProp 𝕄) (fr : Fin 3 → sProp 𝕄) (hm : Fin 22 → sProp 𝕄) (k : ℕ) : sProp 𝕄 :=
  iprop(slotSt fl fr k ∗ slotSt fl fr (k + 1) ∗ fr (sl 3 (k + 2)) ∗ bigSep (Ring.homeSet 2 k) hm)

theorem ringIn_open (fl : Fin 3 → Fin 22 → sProp 𝕄) (fr : Fin 3 → sProp 𝕄) (hm : Fin 22 → sProp 𝕄) (k : ℕ) (hk : k < 20) :
    ringIn fl fr hm k ⊢ iprop(fl (sl 3 k) (bk 22 k) ∗ fr (sl 3 (k + 2)) ∗ hm (bk 22 (k + 2))
      ∗ (fl (sl 3 (k + 2)) (bk 22 (k + 2)) ∗ fr (sl 3 k) ∗ hm (bk 22 k) -∗ ringIn fl fr hm (k + 1))) := by
  unfold ringIn
  have e3 : sl 3 (k + 1 + 2) = sl 3 k := Ring.sl_add 3 k
  have ea : slotSt fl fr k = fl (sl 3 k) (bk 22 k) := if_pos (by omega)
  have eb : slotSt fl fr (k + 1 + 1) = fl (sl 3 (k + 2)) (bk 22 (k + 2)) := if_pos (by omega)
  rw [e3, ea, eb, Ring.homeSet_succ 2 k (by omega), bigSep_ins (Ring.bk_not_mem_erase 2 k (by omega) (by decide))]
  conv_lhs => rw [Ring.homeSet_out 2 k (by omega), bigSep_ins (Ring.bkL_not_mem_erase 2 k)]
  iintro ⟨Ha, Hb, Hf, Hh, Hr⟩
  isplitl [Ha]; · iexact Ha
  isplitl [Hf]; · iexact Hf
  isplitl [Hh]; · iexact Hh
  iintro ⟨H1, H2, H3⟩
  isplitl [Hb]; · iexact Hb
  isplitl [H1]; · iexact H1
  isplitl [H2]; · iexact H2
  isplitl [H3]; · iexact H3
  iexact Hr

theorem ringIn_open_tail (fl : Fin 3 → Fin 22 → sProp 𝕄) (fr : Fin 3 → sProp 𝕄) (hm : Fin 22 → sProp 𝕄) (k : ℕ) (h20 : 20 ≤ k) (hk : k < 22) :
    ringIn fl fr hm k ⊢ iprop(fl (sl 3 k) (bk 22 k) ∗ (fr (sl 3 k) ∗ hm (bk 22 k) -∗ ringIn fl fr hm (k + 1))) := by
  unfold ringIn
  have e3 : sl 3 (k + 1 + 2) = sl 3 k := Ring.sl_add 3 k
  have ea : slotSt fl fr k = fl (sl 3 k) (bk 22 k) := if_pos (by omega)
  have eb : slotSt fl fr (k + 1 + 1) = fr (sl 3 (k + 2)) := if_neg (by omega)
  rw [e3, ea, eb, Ring.homeSet_succ_tail 2 k (by omega) hk, bigSep_ins (Ring.bk_not_mem_homeSet 2 k hk (by decide))]
  iintro ⟨Ha, Hb, Hf, Hh⟩
  isplitl [Ha]; · iexact Ha
  iintro ⟨H2, H3⟩
  isplitl [Hb]; · iexact Hb
  isplitl [Hf]; · iexact Hf
  isplitl [H2]; · iexact H2
  isplitl [H3]; · iexact H3
  iexact Hh

end InRing

/-! ## A ring of two slots that blocks leave from, waited for one trip later -/

section OutRing

/-- The blocks that are not on their way before trip `k`. -/
def restSet (k : ℕ) : Finset (Fin 22) := Finset.univ.filter fun b => b.val + 1 ≠ k
/-- Block `b` before trip `k`: written, or still to be written. -/
def blkSt (dn td : Fin 22 → sProp 𝕄) (k : ℕ) (b : Fin 22) : sProp 𝕄 := if b.val < k then dn b else td b
/-- Before trip `k`: one slot free, the other on its way into block `k - 1`, the blocks before it written. -/
def ringOut (fl : Fin 2 → Fin 22 → sProp 𝕄) (fr : Fin 2 → sProp 𝕄) (dn td : Fin 22 → sProp 𝕄) (k : ℕ) : sProp 𝕄 :=
  iprop(fr (sl 2 k) ∗ (if k = 0 then fr (sl 2 (k + 1)) else fl (sl 2 (k + 1)) (bk 22 (k - 1))) ∗ bigSep (restSet k) (blkSt dn td k))

theorem mem_restSet (k : ℕ) (b : Fin 22) : b ∈ restSet k ↔ b.val + 1 ≠ k := by
  simp only [restSet, Finset.mem_filter, Finset.mem_univ, true_and]

theorem restSet_out (k : ℕ) (hk : k < 22) : restSet k = insert (bk 22 k) ((restSet k).erase (bk 22 k)) := by
  rw [Finset.insert_erase]; rw [mem_restSet, Ring.bk_val hk]; omega

theorem bigSep_rest_congr (dn td : Fin 22 → sProp 𝕄) (k : ℕ) (hk : k < 22) (s : Finset (Fin 22)) (hs : ∀ b ∈ s, b ≠ bk 22 k) :
    bigSep s (blkSt dn td (k + 1)) = bigSep s (blkSt dn td k) := by
  refine bigSep_congr fun b hb => ?_
  have h := hs b hb
  have h' : b.val ≠ k := fun e => h (Fin.ext (by rw [Ring.bk_val hk, e]))
  unfold blkSt
  by_cases h1 : b.val < k
  · rw [if_pos h1, if_pos (by omega)]
  · rw [if_neg h1, if_neg (by omega)]

theorem ringOut_first (fl : Fin 2 → Fin 22 → sProp 𝕄) (fr : Fin 2 → sProp 𝕄) (dn td : Fin 22 → sProp 𝕄) :
    ringOut fl fr dn td 0 ⊢ iprop(fr (sl 2 0) ∗ td (bk 22 0) ∗ (fl (sl 2 0) (bk 22 0) -∗ ringOut fl fr dn td (0 + 1))) := by
  unfold ringOut
  have e1 : sl 2 (0 + 1 + 1) = sl 2 0 := Ring.sl_add 2 0
  have e2 : restSet (0 + 1) = (restSet 0).erase (bk 22 0) := by decide
  rw [if_pos rfl, if_neg (by decide : ¬ (0 + 1 = 0)), e1, e2, bigSep_rest_congr dn td 0 (by decide) _ (fun b hb => (Finset.mem_erase.mp hb).1)]
  conv_lhs => rw [restSet_out 0 (by decide), bigSep_ins (Finset.notMem_erase _ _)]
  have e3 : blkSt dn td 0 (bk 22 0) = td (bk 22 0) := if_neg (by decide)
  rw [e3]
  iintro ⟨Ha, Hb, Hh, Hr⟩
  isplitl [Ha]; · iexact Ha
  isplitl [Hh]; · iexact Hh
  iintro H1
  isplitl [Hb]; · iexact Hb
  isplitl [H1]; · iexact H1
  iexact Hr

theorem ringOut_first' (fl : Fin 2 → Fin 22 → sProp 𝕄) (fr : Fin 2 → sProp 𝕄) (dn td : Fin 22 → sProp 𝕄) (k : ℕ) (e0 : k = 0) :
    ringOut fl fr dn td k ⊢ iprop(fr (sl 2 k) ∗ td (bk 22 k) ∗ (fl (sl 2 k) (bk 22 k) -∗ ringOut fl fr dn td (k + 1))) := by
  subst e0; exact ringOut_first fl fr dn td

theorem ringOut_open (fl : Fin 2 → Fin 22 → sProp 𝕄) (fr : Fin 2 → sProp 𝕄) (dn td : Fin 22 → sProp 𝕄) (k : ℕ) (h0 : 0 < k) (hk : k < 22) :
    ringOut fl fr dn td k ⊢ iprop(fr (sl 2 k) ∗ td (bk 22 k) ∗ fl (sl 2 (k + 1)) (bk 22 (k - 1))
      ∗ (fl (sl 2 k) (bk 22 k) ∗ fr (sl 2 (k + 1)) ∗ dn (bk 22 (k - 1)) -∗ ringOut fl fr dn td (k + 1))) := by
  unfold ringOut
  have e1 : sl 2 (k + 1 + 1) = sl 2 k := Ring.sl_add 2 k
  have hv : (bk 22 k).val = k := Ring.bk_val hk
  have hw : (bk 22 (k - 1)).val = k - 1 := Ring.bk_val (by omega)
  have e2 : restSet (k + 1) = insert (bk 22 (k - 1)) ((restSet k).erase (bk 22 k)) := by
    ext b
    rw [mem_restSet, Finset.mem_insert, Finset.mem_erase, mem_restSet]; simp only [ne_eq, Fin.ext_iff, hv, hw]; omega
  have hn : bk 22 (k - 1) ∉ (restSet k).erase (bk 22 k) := by
    rw [Finset.mem_erase, mem_restSet, hw]; omega
  rw [if_neg (by omega : ¬ k = 0), if_neg (by omega : ¬ (k + 1 = 0)), e1, e2, bigSep_ins hn,
    bigSep_rest_congr dn td k hk _ (fun b hb => (Finset.mem_erase.mp hb).1), Nat.add_sub_cancel]
  conv_lhs => rw [restSet_out k hk, bigSep_ins (Finset.notMem_erase _ _)]
  have e3 : blkSt dn td k (bk 22 k) = td (bk 22 k) := if_neg (by omega)
  have e4 : blkSt dn td (k + 1) (bk 22 (k - 1)) = dn (bk 22 (k - 1)) := if_pos (by omega)
  rw [e3, e4]
  iintro ⟨Ha, Hb, Hh, Hr⟩
  isplitl [Ha]; · iexact Ha
  isplitl [Hh]; · iexact Hh
  isplitl [Hb]; · iexact Hb
  iintro ⟨H1, H2, H3⟩
  isplitl [H2]; · iexact H2
  isplitl [H1]; · iexact H1
  isplitl [H3]; · iexact H3
  iexact Hr

/-- After the last trip: block 21 on its way, all the others written. -/
theorem ringOut_last (fl : Fin 2 → Fin 22 → sProp 𝕄) (fr : Fin 2 → sProp 𝕄) (dn td : Fin 22 → sProp 𝕄) :
    ringOut fl fr dn td 22 ⊢ iprop(fr (sl 2 22) ∗ fl (sl 2 (22 + 1)) (bk 22 (22 - 1)) ∗ (dn (bk 22 (22 - 1)) -∗ bigSep Finset.univ dn)) := by
  unfold ringOut
  have e2 : (Finset.univ : Finset (Fin 22)) = insert (bk 22 (22 - 1)) (restSet 22) := by decide
  have hn : bk 22 (22 - 1) ∉ restSet 22 := by decide
  have e3 : bigSep (restSet 22) (blkSt dn td 22) = bigSep (restSet 22) dn :=
    bigSep_congr fun b _ => if_pos b.isLt
  rw [if_neg (by decide : ¬ (22 = 0)), e2, bigSep_ins hn, e3]
  iintro ⟨Ha, Hb, Hr⟩
  isplitl [Ha]; · iexact Ha
  isplitl [Hb]; · iexact Hb
  iintro H; isplitl [H]; · iexact H
  iexact Hr

end OutRing

/-! ## What a slot and a block hold, as vectors -/

section Read
variable {e : EltTy} (c : Dev nD)

theorem load_C3 (B : Memref sig .tc .vmem S3x2048x256 e) {off : Fin 3 → Nat} {s : Fin 3} (h : off = slotOff s) (hh) (f) :
    B.view.readAt (Elt F) (Rect.unit (s := S3x2048x256) off S1x2048x256.size hh).toLoadRect f
      = shapeCast S1x2048x256 ((slotC3 B s).view.read (Elt F) f) shapeCasts_S2048x256_S1x2048x256 := by
  subst h
  exact (shapeCast_shapeCast _ shapeCasts_S1x2048x256_S2048x256 _).symm
theorem load_R3 (B : Memref sig .tc .vmem S3x256x2048 e) {off : Fin 3 → Nat} {s : Fin 3} (h : off = slotOff s) (hh) (f) :
    B.view.readAt (Elt F) (Rect.unit (s := S3x256x2048) off S1x256x2048.size hh).toLoadRect f
      = shapeCast S1x256x2048 ((slotR3 B s).view.read (Elt F) f) shapeCasts_S256x2048_S1x256x2048 := by
  subst h
  exact (shapeCast_shapeCast _ shapeCasts_S1x256x2048_S256x2048 _).symm
theorem load_C2 (B : Memref sig .tc .vmem S2x2048x256 e) {off : Fin 3 → Nat} {s : Fin 2} (h : off = slotOff s) (hh) (f) :
    B.view.readAt (Elt F) (Rect.unit (s := S2x2048x256) off S1x2048x256.size hh).toLoadRect f
      = shapeCast S1x2048x256 ((slotC2 B s).view.read (Elt F) f) shapeCasts_S2048x256_S1x2048x256 := by
  subst h
  exact (shapeCast_shapeCast _ shapeCasts_S1x2048x256_S2048x256 _).symm
theorem load_R2 (B : Memref sig .tc .vmem S2x256x2048 e) {off : Fin 3 → Nat} {s : Fin 2} (h : off = slotOff s) (hh) (f) :
    B.view.readAt (Elt F) (Rect.unit (s := S2x256x2048) off S1x256x2048.size hh).toLoadRect f
      = shapeCast S1x256x2048 ((slotR2 B s).view.read (Elt F) f) shapeCasts_S256x2048_S1x256x2048 := by
  subst h
  exact (shapeCast_shapeCast _ shapeCasts_S1x256x2048_S256x2048 _).symm
theorem store_C2 (B : Memref sig .tc .vmem S2x2048x256 e) {off : Fin 3 → Nat} {s : Fin 2} (h : off = slotOff s) (hh) (f : B.view.ty.Contents (Elt F)) (w : S1x2048x256.Idx → Elt F e) :
    (slotC2 B s).view.read (Elt F) (View.write (Elt F) (B.access (Rect.unit (s := S2x2048x256) off S1x2048x256.size hh)) f w Finset.univ)
      = shapeCast S2048x256 w shapeCasts_S1x2048x256_S2048x256 := by
  subst h
  refine (Memref.read_squeeze_slice B (Rect.unit (s := S2x2048x256) (slotOff s) S1x2048x256.size hh) (fun _ => rfl) squeezes_S1x2048x256_S2048x256 shapeCasts_S1x2048x256_S2048x256 _).trans ?_
  rw [View.readAt_rect]
  exact congrArg (fun v => shapeCast S2048x256 v shapeCasts_S1x2048x256_S2048x256) (View.read_write_univ (v := B.view.slice (Rect.unit (s := S2x2048x256) (slotOff s) S1x2048x256.size hh)) f w)
theorem store_R2 (B : Memref sig .tc .vmem S2x256x2048 e) {off : Fin 3 → Nat} {s : Fin 2} (h : off = slotOff s) (hh) (f : B.view.ty.Contents (Elt F)) (w : S1x256x2048.Idx → Elt F e) :
    (slotR2 B s).view.read (Elt F) (View.write (Elt F) (B.access (Rect.unit (s := S2x256x2048) off S1x256x2048.size hh)) f w Finset.univ)
      = shapeCast S256x2048 w shapeCasts_S1x256x2048_S256x2048 := by
  subst h
  refine (Memref.read_squeeze_slice B (Rect.unit (s := S2x256x2048) (slotOff s) S1x256x2048.size hh) (fun _ => rfl) squeezes_S1x256x2048_S256x2048 shapeCasts_S1x256x2048_S256x2048 _).trans ?_
  rw [View.readAt_rect]
  exact congrArg (fun v => shapeCast S256x2048 v shapeCasts_S1x256x2048_S256x2048) (View.read_write_univ (v := B.view.slice (Rect.unit (s := S2x256x2048) (slotOff s) S1x256x2048.size hh)) f w)

/-- A memref written whole reads as what was written. -/
theorem read_landed {sp sp' : Space} {s : Shape} (D : Memref sig .tc sp s e) (A : Memref sig .tc sp' s e) (f) (X) :
    D.view.read (Elt F) (landed c D A f X) = A.view.read (Elt F) X := by
  funext x
  have := View.read_writes_cons_emb (Val := Elt F) D.view f (Rect.whole s) (ReadAs.same.apply (A.view.read (Elt F) X)) [] x
  rw [Rect.emb_whole_apply] at this
  exact this

/-- What is held of a memref depends only on what it reads. -/
theorem own_read_congr {sp : Space} {s : Shape} (D : Memref sig .tc sp s e) (f g : Buf (Elt F) (D.view.loc (c : Thread nD τ)))
    (h : D.view.read (Elt F) f = D.view.read (Elt F) g) : own c D f ⊢ own c D g := by
  refine of_eq (pointsTo_congr fun i hi => ?_)
  obtain ⟨x, -, rfl⟩ := Finset.mem_map.mp hi
  have := congrFun h x
  rw [View.read_apply, View.read_apply] at this
  exact cast_inj _ |>.mp this

end Read

/-! ## The values -/

section Values

/-- A block as it is written back: rounded to bf16. -/
abbrev castC (g : S2048x256.Idx → Elt F .f32) : S2048x256.Idx → Elt F .bf16 := truncf (F := F) .bf16 g bitsLt_bf16_f32
abbrev castR (g : S256x2048.Idx → Elt F .f32) : S256x2048.Idx → Elt F .bf16 := truncf (F := F) .bf16 g bitsLt_bf16_f32

theorem pay2_cast (v : S2048x256.Idx → Elt F .f32) :
    shapeCast S2048x256 (k0_pay2 (F := F) (shapeCast S1x2048x256 v shapeCasts_S2048x256_S1x2048x256)) shapeCasts_S1x2048x256_S2048x256 = castC v := by
  unfold k0_pay2; dsimp only; rw [shapeCast_shapeCast, shapeCast_shapeCast]
theorem pay3_cast (v : S2048x256.Idx → Elt F .f32) :
    shapeCast S2048x256 (k0_pay3 (F := F) (shapeCast S1x2048x256 v shapeCasts_S2048x256_S1x2048x256)) shapeCasts_S1x2048x256_S2048x256 = castC v := by
  unfold k0_pay3; dsimp only; rw [shapeCast_shapeCast, shapeCast_shapeCast]
theorem pay4_cast (v : S256x2048.Idx → Elt F .f32) :
    shapeCast S256x2048 (k0_pay4 (F := F) (shapeCast S1x256x2048 v shapeCasts_S256x2048_S1x256x2048)) shapeCasts_S1x256x2048_S256x2048 = castR v := by
  unfold k0_pay4; dsimp only; rw [shapeCast_shapeCast, shapeCast_shapeCast]

/-- What a trip adds to the accumulated rows `o`, from the normalized rows and the trip's three weight blocks. -/
def accNext (xv : Vec F S1024x2048 .bf16) (g u : Vec F S2048x256 .bf16) (d : Vec F S256x2048 .bf16) (o : Vec F S1024x2048 .f32) : Vec F S1024x2048 .f32 :=
  k0_pay6 xv (k0_pay5 xv (shapeCast S1x2048x256 g shapeCasts_S2048x256_S1x2048x256)) (shapeCast S1x2048x256 u shapeCasts_S2048x256_S1x2048x256) o
    (shapeCast S1x256x2048 d shapeCasts_S256x2048_S1x256x2048)

end Values

end Cert.Proof.Ffn

end
-- ==== Proof.Trip.lean ====
/- One trip of the pipelined loop: the blocks two trips ahead sent for, the trip's own waited for, rounded and sent back, their part of the
   product added to the output rows, and the previous trip's blocks waited for. -/
module

public import proofs.«01_k».proof.Proof.Rings

@[expose] public section

noncomputable section

namespace Cert.Proof.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk)

variable {F : FTy → Type} [FloatOps F]
local notation "𝕄" => MT nD τ sig Unit (Elt F) ℕ (UU nD τ) ℕ

section Trip
variable (c : Dev nD)
  (arg0 : Memref sig .tc .vmem S1024x2048 .f32) (harg0 : arg0.IsWhole) (arg1 : Memref sig .tc .vmem S1x2048 .f32) (harg1 : arg1.IsWhole)
  (arg5 : Memref sig .tc .vmem S1x2048 .f32) (harg5 : arg5.IsWhole) (arg6 : Memref sig .tc .vmem S1024x2048 .f32) (harg6 : arg6.IsWhole)
  (v15 v46 v53 v60 : BitVec 32)

/-- The region of the pipelined loop on this kernel's memrefs. -/
abbrev body2 :=
  k0_t2_body (F := F) arg0 harg0 arg1 harg1 wgM (Memref.isWhole_whole _) wuM (Memref.isWhole_whole _) wdM (Memref.isWhole_whole _) arg5 harg5 arg6 harg6
    ogM (Memref.isWhole_whole _) ouM (Memref.isWhole_whole _) odM (Memref.isWhole_whole _) xnM (Memref.isWhole_whole _)
    igM (Memref.isWhole_whole _) cc0_scoped1 iuM (Memref.isWhole_whole _) cc0_scoped3 idM (Memref.isWhole_whole _) cc0_scoped5
    bgM (Memref.isWhole_whole _) cc0_scoped7 buM (Memref.isWhole_whole _) cc0_scoped9 bdM (Memref.isWhole_whole _) cc0_scoped11 v15 v46 v53 v60

/-! ### The six rings -/

section Families
/-- Blocks of columns arriving: slot `s` receiving block `b`; the slot free; the block at home. -/
def arrC (S : DmaSems sig S3) (B : Memref sig .tc .vmem S3x2048x256 .f32) (A : Memref sig .tc .hbm S2048x5632 .f32)
    (X : Buf (Elt F) (A.view.loc (c : Thread nD τ))) (s : Fin 3) (b : Fin 22) : sProp 𝕄 := iprop(∃ f, inC c S B A s b f X)
def freeC (S : DmaSems sig S3) (B : Memref sig .tc .vmem S3x2048x256 .f32) (s : Fin 3) : sProp 𝕄 :=
  iprop((∃ f : Buf (Elt F) ((slotC3 B s).view.loc (c : Thread nD τ)), own c (slotC3 B s) f) ∗ idle c (cell3 S s))
/-- The same for blocks of rows. -/
def arrR (S : DmaSems sig S3) (B : Memref sig .tc .vmem S3x256x2048 .f32) (A : Memref sig .tc .hbm S5632x2048 .f32)
    (X : Buf (Elt F) (A.view.loc (c : Thread nD τ))) (s : Fin 3) (b : Fin 22) : sProp 𝕄 := iprop(∃ f, inR c S B A s b f X)
def freeR (S : DmaSems sig S3) (B : Memref sig .tc .vmem S3x256x2048 .f32) (s : Fin 3) : sProp 𝕄 :=
  iprop((∃ f : Buf (Elt F) ((slotR3 B s).view.loc (c : Thread nD τ)), own c (slotR3 B s) f) ∗ idle c (cell3 S s))
/-- Blocks of columns leaving, rounded: slot `s`, which holds block `b` of `X` rounded, on its way to block `b`; the slot free;
    the block written; the block still to be written. -/
def depC (S : DmaSems sig S2) (B : Memref sig .tc .vmem S2x2048x256 .bf16) (A : Memref sig .tc .hbm S2048x5632 .bf16) (I : Memref sig .tc .hbm S2048x5632 .f32)
    (X : Buf (Elt F) (I.view.loc (c : Thread nD τ))) (s : Fin 2) (b : Fin 22) : sProp 𝕄 :=
  iprop(∃ q Z, ⌜(slotC2 B s).view.read (Elt F) q = castC ((colBlk I b).view.read (Elt F) X)⌝ ∗ outC c S B A s b q Z)
def freeC2 (S : DmaSems sig S2) (B : Memref sig .tc .vmem S2x2048x256 .bf16) (s : Fin 2) : sProp 𝕄 :=
  iprop((∃ f : Buf (Elt F) ((slotC2 B s).view.loc (c : Thread nD τ)), own c (slotC2 B s) f) ∗ idle c (cell2 S s))
def todoC (A : Memref sig .tc .hbm S2048x5632 .bf16) (b : Fin 22) : sProp 𝕄 := iprop(∃ Z : Buf (Elt F) (A.view.loc (c : Thread nD τ)), ownC c A b Z)
def depR (S : DmaSems sig S2) (B : Memref sig .tc .vmem S2x256x2048 .bf16) (A : Memref sig .tc .hbm S5632x2048 .bf16) (I : Memref sig .tc .hbm S5632x2048 .f32)
    (X : Buf (Elt F) (I.view.loc (c : Thread nD τ))) (s : Fin 2) (b : Fin 22) : sProp 𝕄 :=
  iprop(∃ q Z, ⌜(slotR2 B s).view.read (Elt F) q = castR ((rowBlk I b).view.read (Elt F) X)⌝ ∗ outR c S B A s b q Z)
def freeR2 (S : DmaSems sig S2) (B : Memref sig .tc .vmem S2x256x2048 .bf16) (s : Fin 2) : sProp 𝕄 :=
  iprop((∃ f : Buf (Elt F) ((slotR2 B s).view.loc (c : Thread nD τ)), own c (slotR2 B s) f) ∗ idle c (cell2 S s))
def todoR (A : Memref sig .tc .hbm S5632x2048 .bf16) (b : Fin 22) : sProp 𝕄 := iprop(∃ Z : Buf (Elt F) (A.view.loc (c : Thread nD τ)), ownR c A b Z)

end Families

variable (Xg : Buf (Elt F) (wgM.view.loc (c : Thread nD τ))) (Xu : Buf (Elt F) (wuM.view.loc (c : Thread nD τ))) (Xd : Buf (Elt F) (wdM.view.loc (c : Thread nD τ)))
  (xn : Buf (Elt F) (xnM.view.loc (c : Thread nD τ)))

/-- The rounded arrays. -/
def roundG : Buf (Elt F) (ogM.view.loc (c : Thread nD τ)) := truncf (F := F) (s := S2048x5632) .bf16 Xg bitsLt_bf16_f32
def roundU : Buf (Elt F) (ouM.view.loc (c : Thread nD τ)) := truncf (F := F) (s := S2048x5632) .bf16 Xu bitsLt_bf16_f32
def roundD : Buf (Elt F) (odM.view.loc (c : Thread nD τ)) := truncf (F := F) (s := S5632x2048) .bf16 Xd bitsLt_bf16_f32

theorem read_roundG (b : Fin 22) : (colBlk ogM b).view.read (Elt F) (roundG c Xg) = castC ((colBlk wgM b).view.read (Elt F) Xg) := rfl
theorem read_roundU (b : Fin 22) : (colBlk ouM b).view.read (Elt F) (roundU c Xu) = castC ((colBlk wuM b).view.read (Elt F) Xu) := rfl
theorem read_roundD (b : Fin 22) : (rowBlk odM b).view.read (Elt F) (roundD c Xd) = castR ((rowBlk wdM b).view.read (Elt F) Xd) := rfl

/-- The accumulated rows after trip `k`. -/
def oNext (k : ℕ) (o : Vec F S1024x2048 .f32) : Vec F S1024x2048 .f32 :=
  accNext (xnM.view.read (Elt F) xn) (castC ((colBlk wgM (bk 22 k)).view.read (Elt F) Xg)) (castC ((colBlk wuM (bk 22 k)).view.read (Elt F) Xu))
    (castR ((rowBlk wdM (bk 22 k)).view.read (Elt F) Xd)) o

/-- What is held before trip `k`, the accumulated rows at `o`. -/
def tripInv (k : ℕ) (o : Vec F S1024x2048 .f32) : sProp 𝕄 :=
  iprop((∃ fo, ⌜arg6.view.read (Elt F) fo = o⌝ ∗ own c arg6 fo) ∗ own c xnM xn ∗ (∃ W, owes (c : Thread nD τ) 0 W)
    ∗ ringIn (arrC c cc0_scoped1 igM wgM Xg) (freeC c cc0_scoped1 igM) (fun b => ownC c wgM b Xg) k
    ∗ ringIn (arrC c cc0_scoped3 iuM wuM Xu) (freeC c cc0_scoped3 iuM) (fun b => ownC c wuM b Xu) k
    ∗ ringIn (arrR c cc0_scoped5 idM wdM Xd) (freeR c cc0_scoped5 idM) (fun b => ownR c wdM b Xd) k
    ∗ ringOut (depC c cc0_scoped7 bgM ogM wgM Xg) (freeC2 c cc0_scoped7 bgM) (fun b => ownC c ogM b (roundG c Xg)) (todoC c ogM) k
    ∗ ringOut (depC c cc0_scoped9 buM ouM wuM Xu) (freeC2 c cc0_scoped9 buM) (fun b => ownC c ouM b (roundU c Xu)) (todoC c ouM) k
    ∗ ringOut (depR c cc0_scoped11 bdM odM wdM Xd) (freeR2 c cc0_scoped11 bdM) (fun b => ownR c odM b (roundD c Xd)) (todoR c odM) k)

/-! ### The values a trip moves -/

theorem pay4_eq (v : S256x2048.Idx → Elt F .f32) :
    k0_pay4 (F := F) (shapeCast S1x256x2048 v shapeCasts_S256x2048_S1x256x2048) = shapeCast S1x256x2048 (castR v) shapeCasts_S256x2048_S1x256x2048 := by
  unfold k0_pay4; dsimp only; rw [shapeCast_shapeCast]

theorem slotG (k : Fin k0_t2_loop.trips) (hh hh') (fag fpg) :
    (slotC2 bgM (sl 2 k.val)).view.read (Elt F) (View.write (Elt F) (bgM.access (Rect.unit (s := S2x2048x256) (k0_off33 (wCur k.val)) S1x2048x256.size hh)) fpg
        (k0_pay2 (F := F) (igM.view.readAt (Elt F) (Rect.unit (s := S3x2048x256) (k0_off32 (wCur k.val)) S1x2048x256.size hh').toLoadRect
          (landed c (slotC3 igM (sl 3 k.val)) (colBlk wgM (bk 22 k.val)) fag Xg))) Finset.univ)
      = castC ((colBlk wgM (bk 22 k.val)).view.read (Elt F) Xg) :=
  (store_C2 bgM (off33_at k) hh fpg _).trans ((congrArg (fun v => shapeCast S2048x256 (k0_pay2 (F := F) v) shapeCasts_S1x2048x256_S2048x256)
    ((load_C3 igM (off32_at k) hh' _).trans (congrArg (fun v => shapeCast S1x2048x256 v shapeCasts_S2048x256_S1x2048x256) (read_landed c _ _ _ _)))).trans (pay2_cast _))
theorem slotU (k : Fin k0_t2_loop.trips) (hh hh') (fag fpg) :
    (slotC2 buM (sl 2 k.val)).view.read (Elt F) (View.write (Elt F) (buM.access (Rect.unit (s := S2x2048x256) (k0_off35 (wCur k.val)) S1x2048x256.size hh)) fpg
        (k0_pay3 (F := F) (iuM.view.readAt (Elt F) (Rect.unit (s := S3x2048x256) (k0_off34 (wCur k.val)) S1x2048x256.size hh').toLoadRect
          (landed c (slotC3 iuM (sl 3 k.val)) (colBlk wuM (bk 22 k.val)) fag Xu))) Finset.univ)
      = castC ((colBlk wuM (bk 22 k.val)).view.read (Elt F) Xu) :=
  (store_C2 buM (off35_at k) hh fpg _).trans ((congrArg (fun v => shapeCast S2048x256 (k0_pay3 (F := F) v) shapeCasts_S1x2048x256_S2048x256)
    ((load_C3 iuM (off34_at k) hh' _).trans (congrArg (fun v => shapeCast S1x2048x256 v shapeCasts_S2048x256_S1x2048x256) (read_landed c _ _ _ _)))).trans (pay3_cast _))
theorem loadD (k : Fin k0_t2_loop.trips) (hh') (fag) :
    idM.view.readAt (Elt F) (Rect.unit (s := S3x256x2048) (k0_off36 (wCur k.val)) S1x256x2048.size hh').toLoadRect
          (landed c (slotR3 idM (sl 3 k.val)) (rowBlk wdM (bk 22 k.val)) fag Xd)
      = shapeCast S1x256x2048 ((rowBlk wdM (bk 22 k.val)).view.read (Elt F) Xd) shapeCasts_S256x2048_S1x256x2048 :=
  (load_R3 idM (off36_at k) hh' _).trans (congrArg (fun v => shapeCast S1x256x2048 v shapeCasts_S256x2048_S1x256x2048) (read_landed c _ _ _ _))
theorem slotD (k : Fin k0_t2_loop.trips) (hh hh') (fag fpg) :
    (slotR2 bdM (sl 2 k.val)).view.read (Elt F) (View.write (Elt F) (bdM.access (Rect.unit (s := S2x256x2048) (k0_off37 (wCur k.val)) S1x256x2048.size hh)) fpg
        (k0_pay4 (F := F) (idM.view.readAt (Elt F) (Rect.unit (s := S3x256x2048) (k0_off36 (wCur k.val)) S1x256x2048.size hh').toLoadRect
          (landed c (slotR3 idM (sl 3 k.val)) (rowBlk wdM (bk 22 k.val)) fag Xd))) Finset.univ)
      = castR ((rowBlk wdM (bk 22 k.val)).view.read (Elt F) Xd) :=
  (store_R2 bdM (off37_at k) hh fpg _).trans ((congrArg (fun v => shapeCast S256x2048 (k0_pay4 (F := F) v) shapeCasts_S1x256x2048_S256x2048) (loadD c Xd k hh' fag)).trans (pay4_cast _))

/-- The rows stored by a trip. -/
theorem stored (k : Fin k0_t2_loop.trips) (o : Vec F S1024x2048 .f32) (fo) (hfo : arg6.view.read (Elt F) fo = o) (h38 h39) (q1 q2) (w : S1x256x2048.Idx → Elt F .f32)
    (h1 : (slotC2 bgM (sl 2 k.val)).view.read (Elt F) q1 = castC ((colBlk wgM (bk 22 k.val)).view.read (Elt F) Xg))
    (h2 : (slotC2 buM (sl 2 k.val)).view.read (Elt F) q2 = castC ((colBlk wuM (bk 22 k.val)).view.read (Elt F) Xu))
    (h3 : w = shapeCast S1x256x2048 ((rowBlk wdM (bk 22 k.val)).view.read (Elt F) Xd) shapeCasts_S256x2048_S1x256x2048) :
    arg6.view.read (Elt F) (arg6.view.writes (Elt F) fo
        [⟨Rect.unit ![0, 0] S1024x2048.size inb_S1024x2048_S1024x2048_0_0,
            k0_pay6 (F := F) (xnM.view.readAt (Elt F) (Rect.unit (s := S1024x2048) ![0, 0] S1024x2048.size inb_S1024x2048_S1024x2048_0_0).toLoadRect xn)
              (k0_pay5 (F := F) (xnM.view.readAt (Elt F) (Rect.unit (s := S1024x2048) ![0, 0] S1024x2048.size inb_S1024x2048_S1024x2048_0_0).toLoadRect xn)
                (bgM.view.readAt (Elt F) (Rect.unit (s := S2x2048x256) (k0_off38 (wCur k.val)) S1x2048x256.size h38).toLoadRect q1))
              (buM.view.readAt (Elt F) (Rect.unit (s := S2x2048x256) (k0_off39 (wCur k.val)) S1x2048x256.size h39).toLoadRect q2)
              (arg6.view.readAt (Elt F) (Rect.unit ![0, 0] S1024x2048.size inb_S1024x2048_S1024x2048_0_0).toLoadRect fo)
              (k0_pay4 (F := F) w)⟩])
      = oNext c Xg Xu Xd xn k.val o := by
  subst h3
  rw [View.read_writes_full, View.readAt_full, View.readAt_full, load_C2 bgM (off38_at k) h38 q1, load_C2 buM (off39_at k) h39 q2, h1, h2, hfo,
    pay4_eq]
  rfl

set_option maxHeartbeats 8000000 in
/-- The first trip: nothing to wait for on the way out. -/
theorem trip_first (k : Fin k0_t2_loop.trips) (hk : k.val < 20) (h0 : ¬ 0 < k.val) (o : Vec F S1024x2048 .f32) :
    tripInv c arg6 Xg Xu Xd xn k.val o
      ⊢ wp frame (wpE (defs₀ (F := F)) 𝒱₀ (c : Thread nD τ) none) Set.univ
          (body2 arg0 harg0 arg1 harg1 arg5 harg5 arg6 harg6 v15 v46 v53 v60 k (words k.val))
          (fun acc => iprop(⌜acc = words (k.val + 1)⌝ ∗ tripInv c arg6 Xg Xu Xd xn (k.val + 1) (oNext c Xg Xu Xd xn k.val o))) := by
  unfold tripInv
  have hk22 : k.val < 22 := Nat.lt_of_lt_of_eq k.isLt trips2
  have c7 := chk7_at k
  have c6 := chk6_at k
  have c5 := chk5_at k
  have c4 := chk4_at k
  have c3 := chk3_at k
  have c2 := chk2_at k
  have c1 := chk1_at k
  have d4 := cond4_at k hk
  have d5 := cond5_at k hk
  have d6 := cond6_at k hk
  have d7 := cond7_at k
  have d8 := cond8_at k
  have d9 := cond9_at k
  have d16 := cond16_at k
  have d17 := cond17_at k
  have d18 := cond18_at k
  have d22 := cond22_not k h0
  have d23 := cond23_not k h0
  have d24 := cond24_not k h0
  have e0 : k.val = 0 := by omega
  iintro ⟨⟨%fo, %hfo, Ho⟩, Hx, ⟨%W, HW⟩, Rg, Ru, Rd, Qg, Qu, Qd⟩
  icases (ringIn_open _ _ _ k.val hk) $$ Rg with ⟨Hag, Hfg, Hhg, Rkg⟩
  icases (ringOut_first' _ _ _ _ k.val e0) $$ Qg with ⟨Hpg, Hzg, Qkg⟩
  icases (ringIn_open _ _ _ k.val hk) $$ Ru with ⟨Hau, Hfu, Hhu, Rku⟩
  icases (ringOut_first' _ _ _ _ k.val e0) $$ Qu with ⟨Hpu, Hzu, Qku⟩
  icases (ringIn_open _ _ _ k.val hk) $$ Rd with ⟨Had, Hfd, Hhd, Rkd⟩
  icases (ringOut_first' _ _ _ _ k.val e0) $$ Qd with ⟨Hpd, Hzd, Qkd⟩
  unfold arrC arrR freeC freeR depC depR freeC2 freeR2 todoC todoR
  icases Hag with ⟨%fag, Hag⟩
  icases Hfg with ⟨⟨%ffg, Hfg⟩, Hcg⟩
  icases Hpg with ⟨⟨%fpg, Hpg⟩, Heg⟩
  icases Hzg with ⟨%Zg, Hzg⟩
  icases Hau with ⟨%fau, Hau⟩
  icases Hfu with ⟨⟨%ffu, Hfu⟩, Hcu⟩
  icases Hpu with ⟨⟨%fpu, Hpu⟩, Heu⟩
  icases Hzu with ⟨%Zu, Hzu⟩
  icases Had with ⟨%fad, Had⟩
  icases Hfd with ⟨⟨%ffd, Hfd⟩, Hcd⟩
  icases Hpd with ⟨⟨%fpd, Hpd⟩, Hed⟩
  icases Hzd with ⟨%Zd, Hzd⟩
  dsimp only [body2, words]
  sl_unfold [k0_t2_body]
  sl_exec
  sl_step
  isplitr
  · ipureintro; clear * - k e0; simp only [Prod.mk.injEq]; refine ⟨?_, ?_, ?_, ?_, ?_, ?_, ?_, ?_, ?_, ?_, ?_, ?_, ?_⟩ <;> revert k <;> decide +kernel
  isplitl [Ho]
  · iexists _
    isplitr
    swap
    · iexact Ho
    · ipureintro; exact stored c arg6 Xg Xu Xd xn k o fo hfo _ _ _ _ _ (slotG c Xg k _ _ _ _) (slotU c Xu k _ _ _ _) (loadD c Xd k _ _)
  isplitl [Hx]; · iexact Hx
  isplitl [HW]; · iexists _; iexact HW
  isplitl [Hag_dst Hag_src Hag Rkg Hcg]
  · iapply Rkg
    isplitl [Hcg]; · iexists _; iexact Hcg
    isplitl [Hag_dst Hag]
    · isplitl [Hag_dst]; · iexists _; iexact Hag_dst
      iexact Hag
    iexact Hag_src
  isplitl [Hau_dst Hau_src Hau Rku Hcu]
  · iapply Rku
    isplitl [Hcu]; · iexists _; iexact Hcu
    isplitl [Hau_dst Hau]
    · isplitl [Hau_dst]; · iexists _; iexact Hau_dst
      iexact Hau
    iexact Hau_src
  isplitl [Had_dst Had_src Had Rkd Hcd]
  · iapply Rkd
    isplitl [Hcd]; · iexists _; iexact Hcd
    isplitl [Had_dst Had]
    · isplitl [Had_dst]; · iexists _; iexact Had_dst
      iexact Had
    iexact Had_src
  isplitl [Heg Qkg]
  · iapply Qkg
    iexists _; iexists _
    isplitr
    swap
    · iexact Heg
    · ipureintro; exact slotG c Xg k _ _ _ _
  isplitl [Heu Qku]
  · iapply Qku
    iexists _; iexists _
    isplitr
    swap
    · iexact Heu
    · ipureintro; exact slotU c Xu k _ _ _ _
  iapply Qkd
  iexists _; iexists _
  isplitr
  swap
  · iexact Hed
  · ipureintro; exact slotD c Xd k _ _ _ _

set_option maxHeartbeats 8000000 in
/-- One of the last two trips: nothing more to send for. -/
theorem trip_tail (k : Fin k0_t2_loop.trips) (hk : ¬ k.val < 20) (h0 : 0 < k.val) (o : Vec F S1024x2048 .f32) :
    tripInv c arg6 Xg Xu Xd xn k.val o
      ⊢ wp frame (wpE (defs₀ (F := F)) 𝒱₀ (c : Thread nD τ) none) Set.univ
          (body2 arg0 harg0 arg1 harg1 arg5 harg5 arg6 harg6 v15 v46 v53 v60 k (words k.val))
          (fun acc => iprop(⌜acc = words (k.val + 1)⌝ ∗ tripInv c arg6 Xg Xu Xd xn (k.val + 1) (oNext c Xg Xu Xd xn k.val o))) := by
  unfold tripInv
  have hk22 : k.val < 22 := Nat.lt_of_lt_of_eq k.isLt trips2
  have c7 := chk7_at k
  have c6 := chk6_at k
  have c5 := chk5_at k
  have c4 := chk4_at k
  have c3 := chk3_at k
  have c2 := chk2_at k
  have c1 := chk1_at k
  have d4 := cond4_not k hk
  have d5 := cond5_not k hk
  have d6 := cond6_not k hk
  have d7 := cond7_at k
  have d8 := cond8_at k
  have d9 := cond9_at k
  have d16 := cond16_at k
  have d17 := cond17_at k
  have d18 := cond18_at k
  have d22 := cond22_at k h0
  have d23 := cond23_at k h0
  have d24 := cond24_at k h0
  iintro ⟨⟨%fo, %hfo, Ho⟩, Hx, ⟨%W, HW⟩, Rg, Ru, Rd, Qg, Qu, Qd⟩
  icases (ringIn_open_tail _ _ _ k.val (by omega) hk22) $$ Rg with ⟨Hag, Rkg⟩
  icases (ringOut_open _ _ _ _ k.val h0 hk22) $$ Qg with ⟨Hpg, Hzg, Hyg, Qkg⟩
  icases (ringIn_open_tail _ _ _ k.val (by omega) hk22) $$ Ru with ⟨Hau, Rku⟩
  icases (ringOut_open _ _ _ _ k.val h0 hk22) $$ Qu with ⟨Hpu, Hzu, Hyu, Qku⟩
  icases (ringIn_open_tail _ _ _ k.val (by omega) hk22) $$ Rd with ⟨Had, Rkd⟩
  icases (ringOut_open _ _ _ _ k.val h0 hk22) $$ Qd with ⟨Hpd, Hzd, Hyd, Qkd⟩
  unfold arrC arrR freeC freeR depC depR freeC2 freeR2 todoC todoR
  icases Hag with ⟨%fag, Hag⟩
  icases Hpg with ⟨⟨%fpg, Hpg⟩, Heg⟩
  icases Hzg with ⟨%Zg, Hzg⟩
  icases Hyg with ⟨%qg, %Yg, %hqg, Hyg⟩
  icases Hau with ⟨%fau, Hau⟩
  icases Hpu with ⟨⟨%fpu, Hpu⟩, Heu⟩
  icases Hzu with ⟨%Zu, Hzu⟩
  icases Hyu with ⟨%qu, %Yu, %hqu, Hyu⟩
  icases Had with ⟨%fad, Had⟩
  icases Hpd with ⟨⟨%fpd, Hpd⟩, Hed⟩
  icases Hzd with ⟨%Zd, Hzd⟩
  icases Hyd with ⟨%qd, %Yd, %hqd, Hyd⟩
  dsimp only [body2, words]
  sl_unfold [k0_t2_body]
  sl_exec
  sl_step
  isplitr
  · ipureintro; clear * - k hk; simp only [Prod.mk.injEq]; refine ⟨?_, ?_, ?_, ?_, ?_, ?_, ?_, ?_, ?_, ?_, ?_, ?_, ?_⟩ <;> revert k <;> decide +kernel
  isplitl [Ho]
  · iexists _
    isplitr
    swap
    · iexact Ho
    · ipureintro; exact stored c arg6 Xg Xu Xd xn k o fo hfo _ _ _ _ _ (slotG c Xg k _ _ _ _) (slotU c Xu k _ _ _ _) (loadD c Xd k _ _)
  isplitl [Hx]; · iexact Hx
  isplitl [HW]; · iexists _; iexact HW
  isplitl [Hag_dst Hag_src Hag Rkg]
  · iapply Rkg
    isplitl [Hag_dst Hag]
    · isplitl [Hag_dst]; · iexists _; iexact Hag_dst
      iexact Hag
    iexact Hag_src
  isplitl [Hau_dst Hau_src Hau Rku]
  · iapply Rku
    isplitl [Hau_dst Hau]
    · isplitl [Hau_dst]; · iexists _; iexact Hau_dst
      iexact Hau
    iexact Hau_src
  isplitl [Had_dst Had_src Had Rkd]
  · iapply Rkd
    isplitl [Had_dst Had]
    · isplitl [Had_dst]; · iexists _; iexact Had_dst
      iexact Had
    iexact Had_src
  isplitl [Heg Qkg Hyg_dst Hyg_src Hyg]
  · iapply Qkg
    isplitl [Heg]
    · iexists _; iexists _
      isplitr
      swap
      · iexact Heg
      · ipureintro; exact slotG c Xg k _ _ _ _
    isplitl [Hyg_src Hyg]
    · isplitl [Hyg_src]; · iexists _; iexact Hyg_src
      iexact Hyg
    iapply (own_read_congr c _ _ _ ((read_landed c _ _ _ _).trans (hqg.trans (read_roundG c Xg _).symm)))
    iexact Hyg_dst
  isplitl [Heu Qku Hyu_dst Hyu_src Hyu]
  · iapply Qku
    isplitl [Heu]
    · iexists _; iexists _
      isplitr
      swap
      · iexact Heu
      · ipureintro; exact slotU c Xu k _ _ _ _
    isplitl [Hyu_src Hyu]
    · isplitl [Hyu_src]; · iexists _; iexact Hyu_src
      iexact Hyu
    iapply (own_read_congr c _ _ _ ((read_landed c _ _ _ _).trans (hqu.trans (read_roundU c Xu _).symm)))
    iexact Hyu_dst
  iapply Qkd
  isplitl [Hed]
  · iexists _; iexists _
    isplitr
    swap
    · iexact Hed
    · ipureintro; exact slotD c Xd k _ _ _ _
  isplitl [Hyd_src Hyd]
  · isplitl [Hyd_src]; · iexists _; iexact Hyd_src
    iexact Hyd
  iapply (own_read_congr c _ _ _ ((read_landed c _ _ _ _).trans (hqd.trans (read_roundD c Xd _).symm)))
  iexact Hyd_dst

set_option maxHeartbeats 8000000 in
/-- A trip in the middle. -/
theorem trip_mid (k : Fin k0_t2_loop.trips) (hk : k.val < 20) (h0 : 0 < k.val) (o : Vec F S1024x2048 .f32) :
    tripInv c arg6 Xg Xu Xd xn k.val o
      ⊢ wp frame (wpE (defs₀ (F := F)) 𝒱₀ (c : Thread nD τ) none) Set.univ
          (body2 arg0 harg0 arg1 harg1 arg5 harg5 arg6 harg6 v15 v46 v53 v60 k (words k.val))
          (fun acc => iprop(⌜acc = words (k.val + 1)⌝ ∗ tripInv c arg6 Xg Xu Xd xn (k.val + 1) (oNext c Xg Xu Xd xn k.val o))) := by
  unfold tripInv
  have hk22 : k.val < 22 := Nat.lt_of_lt_of_eq k.isLt trips2
  have c7 := chk7_at k
  have c6 := chk6_at k
  have c5 := chk5_at k
  have c4 := chk4_at k
  have c3 := chk3_at k
  have c2 := chk2_at k
  have c1 := chk1_at k
  have d4 := cond4_at k hk
  have d5 := cond5_at k hk
  have d6 := cond6_at k hk
  have d7 := cond7_at k
  have d8 := cond8_at k
  have d9 := cond9_at k
  have d16 := cond16_at k
  have d17 := cond17_at k
  have d18 := cond18_at k
  have d22 := cond22_at k h0
  have d23 := cond23_at k h0
  have d24 := cond24_at k h0
  iintro ⟨⟨%fo, %hfo, Ho⟩, Hx, ⟨%W, HW⟩, Rg, Ru, Rd, Qg, Qu, Qd⟩
  icases (ringIn_open _ _ _ k.val hk) $$ Rg with ⟨Hag, Hfg, Hhg, Rkg⟩
  icases (ringOut_open _ _ _ _ k.val h0 hk22) $$ Qg with ⟨Hpg, Hzg, Hyg, Qkg⟩
  icases (ringIn_open _ _ _ k.val hk) $$ Ru with ⟨Hau, Hfu, Hhu, Rku⟩
  icases (ringOut_open _ _ _ _ k.val h0 hk22) $$ Qu with ⟨Hpu, Hzu, Hyu, Qku⟩
  icases (ringIn_open _ _ _ k.val hk) $$ Rd with ⟨Had, Hfd, Hhd, Rkd⟩
  icases (ringOut_open _ _ _ _ k.val h0 hk22) $$ Qd with ⟨Hpd, Hzd, Hyd, Qkd⟩
  unfold arrC arrR freeC freeR depC depR freeC2 freeR2 todoC todoR
  icases Hag with ⟨%fag, Hag⟩
  icases Hfg with ⟨⟨%ffg, Hfg⟩, Hcg⟩
  icases Hpg with ⟨⟨%fpg, Hpg⟩, Heg⟩
  icases Hzg with ⟨%Zg, Hzg⟩
  icases Hyg with ⟨%qg, %Yg, %hqg, Hyg⟩
  icases Hau with ⟨%fau, Hau⟩
  icases Hfu with ⟨⟨%ffu, Hfu⟩, Hcu⟩
  icases Hpu with ⟨⟨%fpu, Hpu⟩, Heu⟩
  icases Hzu with ⟨%Zu, Hzu⟩
  icases Hyu with ⟨%qu, %Yu, %hqu, Hyu⟩
  icases Had with ⟨%fad, Had⟩
  icases Hfd with ⟨⟨%ffd, Hfd⟩, Hcd⟩
  icases Hpd with ⟨⟨%fpd, Hpd⟩, Hed⟩
  icases Hzd with ⟨%Zd, Hzd⟩
  icases Hyd with ⟨%qd, %Yd, %hqd, Hyd⟩
  dsimp only [body2, words]
  sl_unfold [k0_t2_body]
  sl_exec
  sl_step
  isplitr
  · ipureintro; clear * - k h0 hk; simp only [Prod.mk.injEq]; refine ⟨?_, ?_, ?_, ?_, ?_, ?_, ?_, ?_, ?_, ?_, ?_, ?_, ?_⟩ <;> revert k <;> decide +kernel
  isplitl [Ho]
  · iexists _
    isplitr
    swap
    · iexact Ho
    · ipureintro; exact stored c arg6 Xg Xu Xd xn k o fo hfo _ _ _ _ _ (slotG c Xg k _ _ _ _) (slotU c Xu k _ _ _ _) (loadD c Xd k _ _)
  isplitl [Hx]; · iexact Hx
  isplitl [HW]; · iexists _; iexact HW
  isplitl [Hag_dst Hag_src Hag Rkg Hcg]
  · iapply Rkg
    isplitl [Hcg]; · iexists _; iexact Hcg
    isplitl [Hag_dst Hag]
    · isplitl [Hag_dst]; · iexists _; iexact Hag_dst
      iexact Hag
    iexact Hag_src
  isplitl [Hau_dst Hau_src Hau Rku Hcu]
  · iapply Rku
    isplitl [Hcu]; · iexists _; iexact Hcu
    isplitl [Hau_dst Hau]
    · isplitl [Hau_dst]; · iexists _; iexact Hau_dst
      iexact Hau
    iexact Hau_src
  isplitl [Had_dst Had_src Had Rkd Hcd]
  · iapply Rkd
    isplitl [Hcd]; · iexists _; iexact Hcd
    isplitl [Had_dst Had]
    · isplitl [Had_dst]; · iexists _; iexact Had_dst
      iexact Had
    iexact Had_src
  isplitl [Heg Qkg Hyg_dst Hyg_src Hyg]
  · iapply Qkg
    isplitl [Heg]
    · iexists _; iexists _
      isplitr
      swap
      · iexact Heg
      · ipureintro; exact slotG c Xg k _ _ _ _
    isplitl [Hyg_src Hyg]
    · isplitl [Hyg_src]; · iexists _; iexact Hyg_src
      iexact Hyg
    iapply (own_read_congr c _ _ _ ((read_landed c _ _ _ _).trans (hqg.trans (read_roundG c Xg _).symm)))
    iexact Hyg_dst
  isplitl [Heu Qku Hyu_dst Hyu_src Hyu]
  · iapply Qku
    isplitl [Heu]
    · iexists _; iexists _
      isplitr
      swap
      · iexact Heu
      · ipureintro; exact slotU c Xu k _ _ _ _
    isplitl [Hyu_src Hyu]
    · isplitl [Hyu_src]; · iexists _; iexact Hyu_src
      iexact Hyu
    iapply (own_read_congr c _ _ _ ((read_landed c _ _ _ _).trans (hqu.trans (read_roundU c Xu _).symm)))
    iexact Hyu_dst
  iapply Qkd
  isplitl [Hed]
  · iexists _; iexists _
    isplitr
    swap
    · iexact Hed
    · ipureintro; exact slotD c Xd k _ _ _ _
  isplitl [Hyd_src Hyd]
  · isplitl [Hyd_src]; · iexists _; iexact Hyd_src
    iexact Hyd
  iapply (own_read_congr c _ _ _ ((read_landed c _ _ _ _).trans (hqd.trans (read_roundD c Xd _).symm)))
  iexact Hyd_dst

end Trip

end Cert.Proof.Ffn

end
-- ==== Proof.Rows.lean ====
/- The two loops over eight blocks of 128 rows: the normalization before the pipelined loop and the one after it, block by block, as functions of
   the whole array of rows. -/
module

public import proofs.«01_k».proof.Proof.Trip

@[expose] public section

noncomputable section

namespace Cert.Proof.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

/-! ## Arrays of rows, block by block -/

section Blocks
variable {α : Type}

/-- Rows `128 k …`. -/
abbrev rowsOff (k : ℕ) : Fin 2 → ℕ := ![128 * k, 0]
theorem rowsOff_inb (k : Fin 8) : ∀ a, rowsOff k.val a + S128x2048.size a ≤ S1024x2048.size a := by
  have := k.isLt; intro a; fin_cases a
  · show 128 * k.val + 128 ≤ 1024; omega
  · show 0 + 2048 ≤ 2048; omega
/-- The block of rows `k` of `x`. -/
def rowsB (k : Fin 8) (x : S1024x2048.Idx → α) : S128x2048.Idx → α := VecWindow.window x (rowsOff k.val) S128x2048.size (rowsOff_inb k)
/-- The index of a row within its block. -/
def inBlk (y : S1024x2048.Idx) : S128x2048.Idx := fun a => match a with
  | ⟨0, _⟩ => ⟨(y 0).val % 128, Nat.mod_lt _ (by decide)⟩
  | ⟨1, _⟩ => ⟨(y 1).val, (y 1).isLt⟩
/-- The block of a row. -/
def ofBlk (y : S1024x2048.Idx) : Fin 8 := ⟨(y 0).val / 128, Nat.div_lt_of_lt_mul (y 0).isLt⟩
/-- The array whose blocks are `T`. -/
def glue (T : Fin 8 → S128x2048.Idx → α) : S1024x2048.Idx → α := fun y => T (ofBlk y) (inBlk y)
/-- The rows of the first `k` blocks from `A`, the others from `B`. -/
def mix (k : ℕ) (A B : S1024x2048.Idx → α) : S1024x2048.Idx → α := fun y => if (y 0).val < 128 * k then A y else B y

theorem mix_zero (A B : S1024x2048.Idx → α) : mix 0 A B = B := funext fun y => if_neg (Nat.not_lt_zero _)
theorem mix_all (A B : S1024x2048.Idx → α) : mix 8 A B = A := funext fun y => if_pos (y 0).isLt

/-- Putting the next block. -/
theorem put_mix (k : Fin 8) (T : Fin 8 → S128x2048.Idx → α) (B : S1024x2048.Idx → α) :
    VecWindow.put (mix k.val (glue T) B) (rowsOff k.val) S128x2048.size (T k) = mix (k.val + 1) (glue T) B := by
  funext y
  have h1 : (y 1).val < 2048 := (y 1).isLt
  unfold VecWindow.put
  by_cases h : ∀ a, rowsOff k.val a ≤ (y a).val ∧ (y a).val < rowsOff k.val a + S128x2048.size a
  · rw [dif_pos h]
    have h0 : 128 * k.val ≤ (y 0).val ∧ (y 0).val < 128 * k.val + 128 := h 0
    have e : mix (k.val + 1) (glue T) B y = glue T y := if_pos (by omega)
    rw [e]
    have eb : ofBlk y = k := Fin.ext (by show (y 0).val / 128 = k.val; omega)
    unfold glue; rw [eb]
    refine congrArg (T k) (funext fun a => Fin.ext ?_)
    fin_cases a
    · show (y 0).val - 128 * k.val = (y 0).val % 128; omega
    · show (y 1).val - 0 = (y 1).val; omega
  · rw [dif_neg h]
    have h0 : ¬ (128 * k.val ≤ (y 0).val ∧ (y 0).val < 128 * k.val + 128) := fun h0 => h fun a => by
      fin_cases a
      · exact h0
      · show 0 ≤ (y 1).val ∧ (y 1).val < 0 + 2048; omega
    unfold mix
    by_cases h2 : (y 0).val < 128 * k.val
    · rw [if_pos h2, if_pos (by omega)]
    · rw [if_neg h2, if_neg (by omega)]

/-- The next block of a mixture is the second array's. -/
theorem rowsB_mix (k : Fin 8) (A B : S1024x2048.Idx → α) : rowsB k (mix k.val A B) = rowsB k B := by
  funext y
  refine if_neg ?_
  show ¬ (128 * k.val + 1 * (y 0).val < 128 * k.val); omega
/-- Gluing an array's own blocks gives the array. -/
theorem glue_rowsB (x : S1024x2048.Idx → α) : glue (fun b => rowsB b x) = x := by
  funext y
  refine congrArg x (funext fun a => Fin.ext ?_)
  fin_cases a
  · show 128 * ((y 0).val / 128) + 1 * ((y 0).val % 128) = (y 0).val; omega
  · show 0 + 1 * (y 1).val = (y 1).val; omega

end Blocks

theorem trips1 : k0_t1_loop.trips = 8 := by decide +kernel
theorem trips3 : k0_t3_loop.trips = 8 := by decide +kernel
theorem off1_at : ∀ k : Fin k0_t1_loop.trips, k0_off1 k = rowsOff k.val := by decide +kernel
theorem off67_at : ∀ k : Fin k0_t3_loop.trips, k0_off67 k = rowsOff k.val := by decide +kernel

section Loops
variable (c : Dev nD)
  (arg0 : Memref sig .tc .vmem S1024x2048 .f32) (harg0 : arg0.IsWhole) (arg1 : Memref sig .tc .vmem S1x2048 .f32) (harg1 : arg1.IsWhole)
  (arg5 : Memref sig .tc .vmem S1x2048 .f32) (harg5 : arg5.IsWhole) (arg6 : Memref sig .tc .vmem S1024x2048 .f32) (harg6 : arg6.IsWhole)

abbrev body1 :=
  k0_t1_body (F := F) arg0 harg0 arg1 harg1 wgM (Memref.isWhole_whole _) wuM (Memref.isWhole_whole _) wdM (Memref.isWhole_whole _) arg5 harg5 arg6 harg6
    ogM (Memref.isWhole_whole _) ouM (Memref.isWhole_whole _) odM (Memref.isWhole_whole _) xnM (Memref.isWhole_whole _)
    igM (Memref.isWhole_whole _) cc0_scoped1 iuM (Memref.isWhole_whole _) cc0_scoped3 idM (Memref.isWhole_whole _) cc0_scoped5
    bgM (Memref.isWhole_whole _) cc0_scoped7 buM (Memref.isWhole_whole _) cc0_scoped9 bdM (Memref.isWhole_whole _) cc0_scoped11
abbrev body3 :=
  k0_t3_body (F := F) arg0 harg0 arg1 harg1 wgM (Memref.isWhole_whole _) wuM (Memref.isWhole_whole _) wdM (Memref.isWhole_whole _) arg5 harg5 arg6 harg6
    ogM (Memref.isWhole_whole _) ouM (Memref.isWhole_whole _) odM (Memref.isWhole_whole _) xnM (Memref.isWhole_whole _)
    igM (Memref.isWhole_whole _) cc0_scoped1 iuM (Memref.isWhole_whole _) cc0_scoped3 idM (Memref.isWhole_whole _) cc0_scoped5
    bgM (Memref.isWhole_whole _) cc0_scoped7 buM (Memref.isWhole_whole _) cc0_scoped9 bdM (Memref.isWhole_whole _) cc0_scoped11

/-- Rows normalized and rounded, as the products read them. -/
def normRows (x : S1024x2048.Idx → Elt F .f32) (g : S1x2048.Idx → Elt F .f32) : S1024x2048.Idx → Elt F .bf16 := glue fun b => k0_pay8 (rowsB b x) g
/-- The accumulated rows normalized. -/
def finRows (o : S1024x2048.Idx → Elt F .f32) (g : S1x2048.Idx → Elt F .f32) : S1024x2048.Idx → Elt F .f32 := glue fun b => k0_pay1 (rowsB b o) g

variable (X0 : Buf (Elt F) (arg0.view.loc (c : Thread nD τ))) (X1 : Buf (Elt F) (arg1.view.loc (c : Thread nD τ))) (X5 : Buf (Elt F) (arg5.view.loc (c : Thread nD τ)))

/-- What is held before trip `k` of the first loop. -/
def inv1 (k : ℕ) : sProp 𝕄 :=
  iprop(own c arg0 X0 ∗ own c arg1 X1
    ∗ (∃ f, ⌜∃ G, xnM.view.read (Elt F) f = mix k (normRows (arg0.view.read (Elt F) X0) (arg1.view.read (Elt F) X1)) G⌝ ∗ own c xnM f)
    ∗ (∃ f, ⌜∃ G, arg6.view.read (Elt F) f = mix k (arg0.view.read (Elt F) X0) G⌝ ∗ own c arg6 f))

theorem step1 (k : Fin k0_t1_loop.trips) (acc : Unit) :
    inv1 c arg0 arg1 arg6 X0 X1 k.val
      ⊢ wp frame (wpE (defs₀ (F := F)) 𝒱₀ (c : Thread nD τ) none) Set.univ (body1 arg0 harg0 arg1 harg1 arg5 harg5 arg6 harg6 k acc)
          (fun _ => inv1 c arg0 arg1 arg6 X0 X1 (k.val + 1)) := by
  have hk : k.val < 8 := Nat.lt_of_lt_of_eq k.isLt trips1
  unfold inv1
  iintro ⟨H0, H1, ⟨%f, %hf, Hx⟩, ⟨%g, %hg, Ho⟩⟩
  obtain ⟨Gf, hf⟩ := hf
  obtain ⟨Gg, hg⟩ := hg
  dsimp only [body1]
  sl_unfold [k0_t1_body]
  sl_exec
  sl_step
  isplitl [H0]; · iexact H0
  isplitl [H1]; · iexact H1
  isplitl [Hx]
  · iexists _
    isplitr
    swap
    · iexact Hx
    · ipureintro
      refine ⟨Gf, ?_⟩
      refine (View.read_writes_cons_put xnM.view f _ _ [] (off1_at k)).trans ?_
      rw [View.writes_nil, hf]
      refine Eq.trans ?_ (put_mix (⟨k.val, hk⟩ : Fin 8) _ Gf)
      refine congrArg (VecWindow.put _ _ _) ?_
      refine congrArg₂ k0_pay8 ?_ ?_
      · exact View.readAt_unit arg0.view X0 _ (off1_at k) (rowsOff_inb ⟨k.val, hk⟩)
      · exact View.readAt_full arg1.view X1 _
  · iexists _
    isplitr
    swap
    · iexact Ho
    · ipureintro
      refine ⟨Gg, ?_⟩
      refine (View.read_writes_cons_put arg6.view g _ _ [] (off1_at k)).trans ?_
      rw [View.writes_nil, hg]
      have e := put_mix (⟨k.val, hk⟩ : Fin 8) (fun b => rowsB b (arg0.view.read (Elt F) X0)) Gg
      rw [glue_rowsB] at e
      refine Eq.trans ?_ e
      refine congrArg (VecWindow.put _ _ _) ?_
      refine (shapeCast_self _ _).trans ?_
      exact View.readAt_unit arg0.view X0 _ (off1_at k) (rowsOff_inb ⟨k.val, hk⟩)

/-- What is held before trip `k` of the last loop, which found the rows `o`. -/
def inv3 (o : S1024x2048.Idx → Elt F .f32) (k : ℕ) : sProp 𝕄 :=
  iprop(own c arg5 X5 ∗ (∃ f, ⌜arg6.view.read (Elt F) f = mix k (finRows o (arg5.view.read (Elt F) X5)) o⌝ ∗ own c arg6 f))

theorem step3 (o : S1024x2048.Idx → Elt F .f32) (k : Fin k0_t3_loop.trips) (acc : Unit) :
    inv3 c arg5 arg6 X5 o k.val
      ⊢ wp frame (wpE (defs₀ (F := F)) 𝒱₀ (c : Thread nD τ) none) Set.univ (body3 arg0 harg0 arg1 harg1 arg5 harg5 arg6 harg6 k acc)
          (fun _ => inv3 c arg5 arg6 X5 o (k.val + 1)) := by
  have hk : k.val < 8 := Nat.lt_of_lt_of_eq k.isLt trips3
  unfold inv3
  iintro ⟨H5, ⟨%f, %hf, Ho⟩⟩
  dsimp only [body3]
  sl_unfold [k0_t3_body]
  sl_exec
  sl_step
  isplitl [H5]; · iexact H5
  iexists _
  isplitr
  swap
  · iexact Ho
  · ipureintro
    refine (View.read_writes_cons_put arg6.view f _ _ [] (off67_at k)).trans ?_
    rw [View.writes_nil, hf]
    refine Eq.trans ?_ (put_mix (⟨k.val, hk⟩ : Fin 8) _ o)
    refine congrArg (VecWindow.put _ _ _) ?_
    refine congrArg₂ k0_pay1 ?_ ?_
    · refine (View.readAt_unit arg6.view f _ (off67_at k) (rowsOff_inb ⟨k.val, hk⟩)).trans ?_
      rw [hf]
      exact rowsB_mix ⟨k.val, hk⟩ _ _
    · exact View.readAt_full arg5.view X5 _

end Loops

end Cert.Proof.Ffn

end
-- ==== Proof.Body.lean ====
/- The kernel's body: the rows normalized, the first two blocks of each weight array sent for, the pipelined loop, the last blocks waited for, and
   the accumulated rows normalized. -/
module

public import proofs.«01_k».proof.Proof.Rows

@[expose] public section

noncomputable section

namespace Cert.Proof.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk)

variable {F : FTy → Type} [FloatOps F]
local notation "𝕄" => MT nD τ sig Unit (Elt F) ℕ (UU nD τ) ℕ

/-! ## The rings before the first trip and after the last -/

/-- An arriving ring at rest: its slots free, all blocks at home. -/
def restIn (fr : Fin 3 → sProp 𝕄) (hm : Fin 22 → sProp 𝕄) : sProp 𝕄 := iprop(fr 0 ∗ fr 1 ∗ fr 2 ∗ bigSep Finset.univ hm)
/-- A leaving ring at rest: its slots free, its blocks as told. -/
def restOut (fr : Fin 2 → sProp 𝕄) (td : Fin 22 → sProp 𝕄) : sProp 𝕄 := iprop(fr 0 ∗ fr 1 ∗ bigSep Finset.univ td)

theorem ringIn_start (fl : Fin 3 → Fin 22 → sProp 𝕄) (fr : Fin 3 → sProp 𝕄) (hm : Fin 22 → sProp 𝕄) :
    restIn fr hm ⊢ iprop(fr (sl 3 0) ∗ hm (bk 22 0) ∗ fr (sl 3 (0 + 1)) ∗ hm (bk 22 (0 + 1))
      ∗ (fl (sl 3 0) (bk 22 0) ∗ fl (sl 3 (0 + 1)) (bk 22 (0 + 1)) -∗ ringIn fl fr hm 0)) := by
  unfold restIn ringIn
  have e : (Finset.univ : Finset (Fin 22)) = insert (bk 22 0) (insert (bk 22 (0 + 1)) (Ring.homeSet 2 0)) := by decide
  rw [e, bigSep_ins (by decide), bigSep_ins (by decide)]
  have ea : slotSt fl fr 0 = fl (sl 3 0) (bk 22 0) := if_pos (by omega)
  have eb : slotSt fl fr (0 + 1) = fl (sl 3 (0 + 1)) (bk 22 (0 + 1)) := if_pos (by omega)
  rw [ea, eb]
  have e0 : sl 3 0 = 0 := rfl
  have e1 : sl 3 (0 + 1) = 1 := rfl
  have e2 : sl 3 (0 + 2) = 2 := rfl
  rw [e0, e1, e2]
  iintro ⟨H0, H1, H2, Hb0, Hb1, Hr⟩
  isplitl [H0]; · iexact H0
  isplitl [Hb0]; · iexact Hb0
  isplitl [H1]; · iexact H1
  isplitl [Hb1]; · iexact Hb1
  iintro ⟨Ha, Hb⟩
  isplitl [Ha]; · iexact Ha
  isplitl [Hb]; · iexact Hb
  isplitl [H2]; · iexact H2
  iexact Hr

theorem ringIn_end (fl : Fin 3 → Fin 22 → sProp 𝕄) (fr : Fin 3 → sProp 𝕄) (hm : Fin 22 → sProp 𝕄) : ringIn fl fr hm 22 ⊢ restIn fr hm := by
  unfold restIn ringIn
  have ea : slotSt fl fr 22 = fr 1 := if_neg (by omega)
  have eb : slotSt fl fr (22 + 1) = fr 2 := if_neg (by omega)
  have e0 : sl 3 (22 + 2) = 0 := rfl
  have e : Ring.homeSet 2 22 = (Finset.univ : Finset (Fin 22)) := by decide
  rw [ea, eb, e0, e]
  iintro ⟨H1, H2, H0, Hr⟩
  isplitl [H0]; · iexact H0
  isplitl [H1]; · iexact H1
  isplitl [H2]; · iexact H2
  iexact Hr

theorem ringOut_start (fl : Fin 2 → Fin 22 → sProp 𝕄) (fr : Fin 2 → sProp 𝕄) (dn td : Fin 22 → sProp 𝕄) : restOut fr td ⊢ ringOut fl fr dn td 0 := by
  unfold restOut ringOut
  rw [if_pos rfl]
  have e0 : sl 2 0 = 0 := rfl
  have e1 : sl 2 (0 + 1) = 1 := rfl
  have e : restSet 0 = (Finset.univ : Finset (Fin 22)) := by decide
  have e3 : bigSep Finset.univ (blkSt dn td 0) = bigSep Finset.univ td := bigSep_congr fun b _ => if_neg (Nat.not_lt_zero _)
  rw [e0, e1, e, e3]

theorem ringOut_end (fl : Fin 2 → Fin 22 → sProp 𝕄) (fr : Fin 2 → sProp 𝕄) (dn td : Fin 22 → sProp 𝕄) :
    ringOut fl fr dn td 22 ⊢ iprop(fl (sl 2 (22 + 1)) (bk 22 (22 - 1)) ∗ (fr (sl 2 (22 + 1)) ∗ dn (bk 22 (22 - 1)) -∗ restOut fr dn)) := by
  refine (ringOut_last fl fr dn td).trans ?_
  unfold restOut
  have e0 : sl 2 22 = 0 := rfl
  have e1 : sl 2 (22 + 1) = 1 := rfl
  rw [e0, e1]
  iintro ⟨H0, H1, Hk⟩
  isplitl [H1]; · iexact H1
  iintro ⟨Hf, Hd⟩
  isplitl [H0]; · iexact H0
  isplitl [Hf]; · iexact Hf
  iapply Hk; iexact Hd

/-! ## The slices outside the loop under their names -/

section Canon
variable {e : EltTy}

theorem off2_at : k0_off2 = semOff (sl 3 0) := by decide +kernel
theorem off3_at : k0_off3 = slotOff (sl 3 0) := by decide +kernel
theorem off4_at : k0_off4 = slotOff (sl 3 0) := by decide +kernel
theorem off5_at : k0_off5 = semOff (sl 3 (0 + 1)) := by decide +kernel
theorem off6_at : k0_off6 = slotOff (sl 3 (0 + 1)) := by decide +kernel
theorem off7_at : k0_off7 = colOff (bk 22 (0 + 1)) := by decide +kernel
theorem off8_at : k0_off8 = semOff (sl 3 (0 + 1)) := by decide +kernel
theorem off9_at : k0_off9 = slotOff (sl 3 (0 + 1)) := by decide +kernel
theorem off10_at : k0_off10 = colOff (bk 22 (0 + 1)) := by decide +kernel
theorem off11_at : k0_off11 = semOff (sl 3 (0 + 1)) := by decide +kernel
theorem off12_at : k0_off12 = slotOff (sl 3 (0 + 1)) := by decide +kernel
theorem off13_at : k0_off13 = rowOff (bk 22 (0 + 1)) := by decide +kernel
theorem col0_at : (![0, 0] : Fin 2 → Nat) = colOff (bk 22 0) := by decide +kernel
theorem row0_at : (![0, 0] : Fin 2 → Nat) = rowOff (bk 22 0) := by decide +kernel
theorem cond1_at : k0_cond1 = 1#1 := by decide +kernel
theorem cond2_at : k0_cond2 = 1#1 := by decide +kernel
theorem cond3_at : k0_cond3 = 1#1 := by decide +kernel

@[sl_canon] theorem sem2 (S : DmaSems sig S3) (hh) : (S.slice (Rect.unit (s := S3) k0_off2 S1.size hh)).squeeze S_ squeezes_S1_S_ = cell3 S (sl 3 0) := cell3_congr _ off2_at _
@[sl_canon] theorem slot3 (B : Memref sig .tc .vmem S3x2048x256 e) (hh hs) : (B.slice (Rect.unit (s := S3x2048x256) k0_off3 S1x2048x256.size hh) hs).squeeze S2048x256 squeezes_S1x2048x256_S2048x256 = slotC3 B (sl 3 0) := slotC3_congr _ off3_at _ _
@[sl_canon] theorem slot4 (B : Memref sig .tc .vmem S3x256x2048 e) (hh hs) : (B.slice (Rect.unit (s := S3x256x2048) k0_off4 S1x256x2048.size hh) hs).squeeze S256x2048 squeezes_S1x256x2048_S256x2048 = slotR3 B (sl 3 0) := slotR3_congr _ off4_at _ _
@[sl_canon] theorem blkG0 (hh hs) : wgM.slice (Rect.unit (s := S2048x5632) ![0, 0] S2048x256.size hh) hs = colBlk wgM (bk 22 0) := colBlk_congr _ col0_at _ _
@[sl_canon] theorem blkU0 (hh hs) : wuM.slice (Rect.unit (s := S2048x5632) ![0, 0] S2048x256.size hh) hs = colBlk wuM (bk 22 0) := colBlk_congr _ col0_at _ _
@[sl_canon] theorem blkD0 (hh hs) : wdM.slice (Rect.unit (s := S5632x2048) ![0, 0] S256x2048.size hh) hs = rowBlk wdM (bk 22 0) := rowBlk_congr _ row0_at _ _
@[sl_canon] theorem sem5 (hh) : (cc0_scoped1.slice (Rect.unit (s := S3) k0_off5 S1.size hh)).squeeze S_ squeezes_S1_S_ = cell3 cc0_scoped1 (sl 3 (0 + 1)) := cell3_congr _ off5_at _
@[sl_canon] theorem sem8 (hh) : (cc0_scoped3.slice (Rect.unit (s := S3) k0_off8 S1.size hh)).squeeze S_ squeezes_S1_S_ = cell3 cc0_scoped3 (sl 3 (0 + 1)) := cell3_congr _ off8_at _
@[sl_canon] theorem sem11 (hh) : (cc0_scoped5.slice (Rect.unit (s := S3) k0_off11 S1.size hh)).squeeze S_ squeezes_S1_S_ = cell3 cc0_scoped5 (sl 3 (0 + 1)) := cell3_congr _ off11_at _
@[sl_canon] theorem slot6 (hh hs) : (igM.slice (Rect.unit (s := S3x2048x256) k0_off6 S1x2048x256.size hh) hs).squeeze S2048x256 squeezes_S1x2048x256_S2048x256 = slotC3 igM (sl 3 (0 + 1)) := slotC3_congr _ off6_at _ _
@[sl_canon] theorem slot9 (hh hs) : (iuM.slice (Rect.unit (s := S3x2048x256) k0_off9 S1x2048x256.size hh) hs).squeeze S2048x256 squeezes_S1x2048x256_S2048x256 = slotC3 iuM (sl 3 (0 + 1)) := slotC3_congr _ off9_at _ _
@[sl_canon] theorem slot12 (hh hs) : (idM.slice (Rect.unit (s := S3x256x2048) k0_off12 S1x256x2048.size hh) hs).squeeze S256x2048 squeezes_S1x256x2048_S256x2048 = slotR3 idM (sl 3 (0 + 1)) := slotR3_congr _ off12_at _ _
@[sl_canon] theorem blk7 (hh hs) : wgM.slice (Rect.unit (s := S2048x5632) k0_off7 S2048x256.size hh) hs = colBlk wgM (bk 22 (0 + 1)) := colBlk_congr _ off7_at _ _
@[sl_canon] theorem blk10 (hh hs) : wuM.slice (Rect.unit (s := S2048x5632) k0_off10 S2048x256.size hh) hs = colBlk wuM (bk 22 (0 + 1)) := colBlk_congr _ off10_at _ _
@[sl_canon] theorem blk13 (hh hs) : wdM.slice (Rect.unit (s := S5632x2048) k0_off13 S256x2048.size hh) hs = rowBlk wdM (bk 22 (0 + 1)) := rowBlk_congr _ off13_at _ _

@[sl_canon] theorem sem58 (hh) : (cc0_scoped7.slice (Rect.unit (s := S2) (k0_off58 (wPrev 22)) S1.size hh)).squeeze S_ squeezes_S1_S_ = cell2 cc0_scoped7 (sl 2 (22 + 1)) := cell2_congr _ off58_end _
@[sl_canon] theorem sem61 (hh) : (cc0_scoped9.slice (Rect.unit (s := S2) (k0_off61 (wPrev 22)) S1.size hh)).squeeze S_ squeezes_S1_S_ = cell2 cc0_scoped9 (sl 2 (22 + 1)) := cell2_congr _ off61_end _
@[sl_canon] theorem sem64 (hh) : (cc0_scoped11.slice (Rect.unit (s := S2) (k0_off64 (wPrev 22)) S1.size hh)).squeeze S_ squeezes_S1_S_ = cell2 cc0_scoped11 (sl 2 (22 + 1)) := cell2_congr _ off64_end _
@[sl_canon] theorem slot60 (hh hs) : (bgM.slice (Rect.unit (s := S2x2048x256) (k0_off60 (wPrev 22)) S1x2048x256.size hh) hs).squeeze S2048x256 squeezes_S1x2048x256_S2048x256 = slotC2 bgM (sl 2 (22 + 1)) := slotC2_congr _ off60_end _ _
@[sl_canon] theorem slot63 (hh hs) : (buM.slice (Rect.unit (s := S2x2048x256) (k0_off63 (wPrev 22)) S1x2048x256.size hh) hs).squeeze S2048x256 squeezes_S1x2048x256_S2048x256 = slotC2 buM (sl 2 (22 + 1)) := slotC2_congr _ off63_end _ _
@[sl_canon] theorem slot66 (hh hs) : (bdM.slice (Rect.unit (s := S2x256x2048) (k0_off66 (wPrev 22)) S1x256x2048.size hh) hs).squeeze S256x2048 squeezes_S1x256x2048_S256x2048 = slotR2 bdM (sl 2 (22 + 1)) := slotR2_congr _ off66_end _ _
@[sl_canon] theorem blk59 (hh hs) : ogM.slice (Rect.unit (s := S2048x5632) (k0_off59 (wStep 22)) S2048x256.size hh) hs = colBlk ogM (bk 22 (22 - 1)) := colBlk_congr _ off59_end _ _
@[sl_canon] theorem blk62 (hh hs) : ouM.slice (Rect.unit (s := S2048x5632) (k0_off62 (wStep 22)) S2048x256.size hh) hs = colBlk ouM (bk 22 (22 - 1)) := colBlk_congr _ off62_end _ _
@[sl_canon] theorem blk65 (hh hs) : odM.slice (Rect.unit (s := S5632x2048) (k0_off65 (wStep 22)) S256x2048.size hh) hs = rowBlk odM (bk 22 (22 - 1)) := rowBlk_congr _ off65_end _ _

end Canon

section Body
variable (c : Dev nD)
  (arg0 : Memref sig .tc .vmem S1024x2048 .f32) (harg0 : arg0.IsWhole) (arg1 : Memref sig .tc .vmem S1x2048 .f32) (harg1 : arg1.IsWhole)
  (arg5 : Memref sig .tc .vmem S1x2048 .f32) (harg5 : arg5.IsWhole) (arg6 : Memref sig .tc .vmem S1024x2048 .f32) (harg6 : arg6.IsWhole)

/-- The kernel's function on the windows' and the kernel's own memrefs. -/
abbrev bodyG :=
  cc0_ffn_cast (F := F) arg0 harg0 arg1 harg1 wgM (Memref.isWhole_whole _) wuM (Memref.isWhole_whole _) wdM (Memref.isWhole_whole _) arg5 harg5 arg6 harg6
    ogM (Memref.isWhole_whole _) ouM (Memref.isWhole_whole _) odM (Memref.isWhole_whole _) xnM (Memref.isWhole_whole _)
    igM (Memref.isWhole_whole _) cc0_scoped1 iuM (Memref.isWhole_whole _) cc0_scoped3 idM (Memref.isWhole_whole _) cc0_scoped5
    bgM (Memref.isWhole_whole _) cc0_scoped7 buM (Memref.isWhole_whole _) cc0_scoped9 bdM (Memref.isWhole_whole _) cc0_scoped11

variable (X0 : Buf (Elt F) (arg0.view.loc (c : Thread nD τ))) (X1 : Buf (Elt F) (arg1.view.loc (c : Thread nD τ))) (X5 : Buf (Elt F) (arg5.view.loc (c : Thread nD τ)))
  (Xg : Buf (Elt F) (wgM.view.loc (c : Thread nD τ))) (Xu : Buf (Elt F) (wuM.view.loc (c : Thread nD τ))) (Xd : Buf (Elt F) (wdM.view.loc (c : Thread nD τ)))

/-- The accumulated rows before trip `k`, from the normalized rows `xv` and the rows `x`. -/
def oAcc (xv : Vec F S1024x2048 .bf16) (x : Vec F S1024x2048 .f32) : ℕ → Vec F S1024x2048 .f32
  | 0 => x
  | k + 1 => accNext xv (castC ((colBlk wgM (bk 22 k)).view.read (Elt F) Xg)) (castC ((colBlk wuM (bk 22 k)).view.read (Elt F) Xu))
      (castR ((rowBlk wdM (bk 22 k)).view.read (Elt F) Xd)) (oAcc xv x k)

/-- The rows the kernel writes. -/
def outRows (x : Vec F S1024x2048 .f32) (g gf : Vec F S1x2048 .f32) : Vec F S1024x2048 .f32 :=
  finRows (oAcc c Xg Xu Xd (normRows x g) x 22) gf

/-- What is held of the weight arrays, their slots and their cells: before, -/
def ringsPre : sProp 𝕄 :=
  iprop(restIn (freeC c cc0_scoped1 igM) (fun b => ownC c wgM b Xg) ∗ restIn (freeC c cc0_scoped3 iuM) (fun b => ownC c wuM b Xu)
    ∗ restIn (freeR c cc0_scoped5 idM) (fun b => ownR c wdM b Xd)
    ∗ restOut (freeC2 c cc0_scoped7 bgM) (todoC c ogM) ∗ restOut (freeC2 c cc0_scoped9 buM) (todoC c ouM) ∗ restOut (freeR2 c cc0_scoped11 bdM) (todoR c odM))
/-- and after: the rounded arrays written. -/
def ringsPost : sProp 𝕄 :=
  iprop(restIn (freeC c cc0_scoped1 igM) (fun b => ownC c wgM b Xg) ∗ restIn (freeC c cc0_scoped3 iuM) (fun b => ownC c wuM b Xu)
    ∗ restIn (freeR c cc0_scoped5 idM) (fun b => ownR c wdM b Xd)
    ∗ restOut (freeC2 c cc0_scoped7 bgM) (fun b => ownC c ogM b (roundG c Xg)) ∗ restOut (freeC2 c cc0_scoped9 buM) (fun b => ownC c ouM b (roundU c Xu))
    ∗ restOut (freeR2 c cc0_scoped11 bdM) (fun b => ownR c odM b (roundD c Xd)))

/-- What the body starts from. -/
def PRE : sProp 𝕄 :=
  iprop(own c arg0 X0 ∗ own c arg1 X1 ∗ own c arg5 X5 ∗ (∃ f, own c arg6 f) ∗ (∃ f : Buf (Elt F) (xnM.view.loc (c : Thread nD τ)), own c xnM f) ∗ (∃ W, owes (c : Thread nD τ) 0 W) ∗ ringsPre c Xg Xu Xd)
/-- What it leaves. -/
def POST : sProp 𝕄 :=
  iprop(own c arg0 X0 ∗ own c arg1 X1 ∗ own c arg5 X5
    ∗ (∃ f, ⌜arg6.view.read (Elt F) f = outRows c Xg Xu Xd (arg0.view.read (Elt F) X0) (arg1.view.read (Elt F) X1) (arg5.view.read (Elt F) X5)⌝ ∗ own c arg6 f)
    ∗ (∃ f : Buf (Elt F) (xnM.view.loc (c : Thread nD τ)), own c xnM f) ∗ (∃ W, owes (c : Thread nD τ) 0 W) ∗ ringsPost c Xg Xu Xd)

/-- A trip of the pipelined loop, whichever it is. -/
theorem trip (v15 v46 v53 v60 : BitVec 32) (xn : Buf (Elt F) (xnM.view.loc (c : Thread nD τ))) (k : Fin k0_t2_loop.trips) (o : Vec F S1024x2048 .f32) :
    tripInv c arg6 Xg Xu Xd xn k.val o
      ⊢ wp frame (wpE (defs₀ (F := F)) 𝒱₀ (c : Thread nD τ) none) Set.univ
          (body2 arg0 harg0 arg1 harg1 arg5 harg5 arg6 harg6 v15 v46 v53 v60 k (words k.val))
          (fun acc => iprop(⌜acc = words (k.val + 1)⌝ ∗ tripInv c arg6 Xg Xu Xd xn (k.val + 1) (oNext c Xg Xu Xd xn k.val o))) := by
  by_cases hk : k.val < 20
  · by_cases h0 : 0 < k.val
    · exact trip_mid c arg0 harg0 arg1 harg1 arg5 harg5 arg6 harg6 v15 v46 v53 v60 Xg Xu Xd xn k hk h0 o
    · exact trip_first c arg0 harg0 arg1 harg1 arg5 harg5 arg6 harg6 v15 v46 v53 v60 Xg Xu Xd xn k hk h0 o
  · exact trip_tail c arg0 harg0 arg1 harg1 arg5 harg5 arg6 harg6 v15 v46 v53 v60 Xg Xu Xd xn k hk (by omega) o

/-- The pipelined loop's invariant. -/
def inv2 (xn : Buf (Elt F) (xnM.view.loc (c : Thread nD τ))) (x : Vec F S1024x2048 .f32) (k : ℕ)
    (acc : BitVec 32 × BitVec 32 × BitVec 32 × BitVec 32 × BitVec 32 × BitVec 32 × BitVec 32 × BitVec 32 × BitVec 32 × BitVec 32 × BitVec 32 × BitVec 32 × BitVec 32) : sProp 𝕄 :=
  iprop(⌜acc = words k⌝ ∗ tripInv c arg6 Xg Xu Xd xn k (oAcc c Xg Xu Xd (xnM.view.read (Elt F) xn) x k))

theorem step2 (v15 v46 v53 v60 : BitVec 32) (xn : Buf (Elt F) (xnM.view.loc (c : Thread nD τ))) (x : Vec F S1024x2048 .f32) (k : Fin k0_t2_loop.trips) (acc) :
    inv2 c arg6 Xg Xu Xd xn x k.val acc
      ⊢ wp frame (wpE (defs₀ (F := F)) 𝒱₀ (c : Thread nD τ) none) Set.univ
          (body2 arg0 harg0 arg1 harg1 arg5 harg5 arg6 harg6 v15 v46 v53 v60 k acc)
          (fun acc => inv2 c arg6 Xg Xu Xd xn x (k.val + 1) acc) := by
  unfold inv2
  iintro ⟨%e, H⟩
  subst e
  iapply (trip c arg0 harg0 arg1 harg1 arg5 harg5 arg6 harg6 Xg Xu Xd v15 v46 v53 v60 xn k _)
  iexact H

set_option maxHeartbeats 8000000 in
theorem bodyRun (Q : PUnit → sProp 𝕄) :
    iprop(PRE c arg0 arg1 arg5 arg6 X0 X1 X5 Xg Xu Xd ∗ (POST c arg0 arg1 arg5 arg6 X0 X1 X5 Xg Xu Xd -∗ Q ⟨⟩))
      ⊢ wp frame (wpE (defs₀ (F := F)) 𝒱₀ (c : Thread nD τ) none) Set.univ (bodyG arg0 harg0 arg1 harg1 arg5 harg5 arg6 harg6) Q := by
  unfold PRE ringsPre
  iintro ⟨⟨H0, H1, H5, ⟨%f6, H6⟩, ⟨%fx, Hx⟩, ⟨%W, HW⟩, Rg, Ru, Rd, Qg, Qu, Qd⟩, Hk⟩
  have k1 := cond1_at
  have k2 := cond2_at
  have k3 := cond3_at
  have h11 := chk11_end
  have h10 := chk10_end
  have h9 := chk9_end
  have h8 := chk8_end
  dsimp only [bodyG]
  sl_exec
  sl_for (fun k _ => inv1 c arg0 arg1 arg6 X0 X1 k) $$ [H0 H1 Hx H6]
  · intro k acc
    exact step1 c arg0 harg0 arg1 harg1 arg5 harg5 arg6 harg6 X0 X1 k acc
  · unfold inv1
    isplitl [H0]; · iexact H0
    isplitl [H1]; · iexact H1
    isplitl [Hx]
    · iexists _; isplitr
      swap
      · iexact Hx
      · ipureintro; exact ⟨_, (mix_zero _ _).symm⟩
    · iexists _; isplitr
      swap
      · iexact H6
      · ipureintro; exact ⟨_, (mix_zero _ _).symm⟩
  iintro %_ HI
  unfold inv1
  icases HI with ⟨H0, H1, ⟨%xn, %hxn, Hx⟩, ⟨%fo, %hfo, H6⟩⟩
  obtain ⟨G, hxn⟩ := hxn
  obtain ⟨G', hfo⟩ := hfo
  rw [show Scf.trips k0_t1_loop.lb k0_t1_loop.ub k0_t1_loop.st = 8 from trips1, mix_all] at hxn hfo
  icases (ringIn_start (arrC c cc0_scoped1 igM wgM Xg) _ _) $$ Rg with ⟨Hfg, Hhg, Hfg', Hhg', Rg⟩
  icases (ringIn_start (arrC c cc0_scoped3 iuM wuM Xu) _ _) $$ Ru with ⟨Hfu, Hhu, Hfu', Hhu', Ru⟩
  icases (ringIn_start (arrR c cc0_scoped5 idM wdM Xd) _ _) $$ Rd with ⟨Hfd, Hhd, Hfd', Hhd', Rd⟩
  ihave Qg := (ringOut_start (depC c cc0_scoped7 bgM ogM wgM Xg) _ (fun b => ownC c ogM b (roundG c Xg)) _) $$ Qg
  ihave Qu := (ringOut_start (depC c cc0_scoped9 buM ouM wuM Xu) _ (fun b => ownC c ouM b (roundU c Xu)) _) $$ Qu
  ihave Qd := (ringOut_start (depR c cc0_scoped11 bdM odM wdM Xd) _ (fun b => ownR c odM b (roundD c Xd)) _) $$ Qd
  unfold freeC freeR
  icases Hfg with ⟨⟨%fg, Hfg⟩, Hcg⟩
  icases Hfg' with ⟨⟨%fg', Hfg'⟩, Hcg'⟩
  icases Hfu with ⟨⟨%fu, Hfu⟩, Hcu⟩
  icases Hfu' with ⟨⟨%fu', Hfu'⟩, Hcu'⟩
  icases Hfd with ⟨⟨%fd, Hfd⟩, Hcd⟩
  icases Hfd' with ⟨⟨%fd', Hfd'⟩, Hcd'⟩
  sl_exec
  sl_for (fun k acc => inv2 c arg6 Xg Xu Xd xn (arg0.view.read (Elt F) X0) k acc) $$ [Hx H6 HW Rg Ru Rd Qg Qu Qd Hcg Hcg' Hcu Hcu' Hcd Hcd']
  · intro k acc
    exact step2 c arg0 harg0 arg1 harg1 arg5 harg5 arg6 harg6 Xg Xu Xd _ _ _ _ xn _ k acc
  · unfold inv2
    isplitr
    · ipureintro; rfl
    unfold tripInv
    isplitl [H6]
    · iexists _; isplitr
      swap
      · iexact H6
      · ipureintro; exact hfo
    isplitl [Hx]; · iexact Hx
    isplitl [HW]; · iexists _; iexact HW
    isplitl [Rg Hcg Hcg']
    · iapply Rg
      isplitl [Hcg]; · unfold arrC; iexists _; iexact Hcg
      unfold arrC; iexists _; iexact Hcg'
    isplitl [Ru Hcu Hcu']
    · iapply Ru
      isplitl [Hcu]; · unfold arrC; iexists _; iexact Hcu
      unfold arrC; iexists _; iexact Hcu'
    isplitl [Rd Hcd Hcd']
    · iapply Rd
      isplitl [Hcd]; · unfold arrR; iexists _; iexact Hcd
      unfold arrR; iexists _; iexact Hcd'
    isplitl [Qg]; · iexact Qg
    isplitl [Qu]; · iexact Qu
    iexact Qd
  iintro %acc HI
  rw [show Scf.trips k0_t2_loop.lb k0_t2_loop.ub k0_t2_loop.st = 22 from trips2]
  unfold inv2 tripInv
  icases HI with ⟨%e, ⟨%fo', %hfo', H6⟩, Hx, ⟨%W', HW⟩, Rg, Ru, Rd, Qg, Qu, Qd⟩
  subst e
  unfold depC depR freeC2 freeR2
  icases (ringOut_end _ _ _ _) $$ Qg with ⟨⟨%qg, %Yg, %hqg, Hyg⟩, Qg⟩
  icases (ringOut_end _ _ _ _) $$ Qu with ⟨⟨%qu, %Yu, %hqu, Hyu⟩, Qu⟩
  icases (ringOut_end _ _ _ _) $$ Qd with ⟨⟨%qd, %Yd, %hqd, Hyd⟩, Qd⟩
  sl_exec
  sl_for (fun k _ => inv3 c arg5 arg6 X5 (oAcc c Xg Xu Xd (xnM.view.read (Elt F) xn) (arg0.view.read (Elt F) X0) 22) k) $$ [H5 H6]
  · intro k acc
    exact step3 c arg0 harg0 arg1 harg1 arg5 harg5 arg6 harg6 X5 _ k acc
  · unfold inv3
    isplitl [H5]; · iexact H5
    iexists _; isplitr
    swap
    · iexact H6
    · ipureintro; exact hfo'.trans (mix_zero _ _).symm
  iintro %_ HI
  rw [show Scf.trips k0_t3_loop.lb k0_t3_loop.ub k0_t3_loop.st = 8 from trips3]
  unfold inv3
  icases HI with ⟨H5, ⟨%fz, %hfz, H6⟩⟩
  rw [mix_all, hxn] at hfz
  sl_exec
  sl_step
  iapply Hk
  unfold POST ringsPost
  isplitl [H0]; · iexact H0
  isplitl [H1]; · iexact H1
  isplitl [H5]; · iexact H5
  isplitl [H6]
  · iexists _; isplitr
    swap
    · iexact H6
    · ipureintro; exact hfz
  isplitl [Hx]; · iexists _; iexact Hx
  isplitl [HW]; · iexists _; iexact HW
  isplitl [Rg]; · iapply (ringIn_end _ _ _); iexact Rg
  isplitl [Ru]; · iapply (ringIn_end _ _ _); iexact Ru
  isplitl [Rd]; · iapply (ringIn_end _ _ _); iexact Rd
  isplitl [Qg Hyg Hyg_dst Hyg_src]
  · iapply Qg
    isplitl [Hyg Hyg_src]
    · isplitl [Hyg_src]; · iexists _; iexact Hyg_src
      iexact Hyg
    iapply (own_read_congr c (colBlk ogM (bk 22 (22 - 1))) _ _ ((read_landed c _ _ _ _).trans (hqg.trans (read_roundG c Xg _).symm)))
    iexact Hyg_dst
  isplitl [Qu Hyu Hyu_dst Hyu_src]
  · iapply Qu
    isplitl [Hyu Hyu_src]
    · isplitl [Hyu_src]; · iexists _; iexact Hyu_src
      iexact Hyu
    iapply (own_read_congr c (colBlk ouM (bk 22 (22 - 1))) _ _ ((read_landed c _ _ _ _).trans (hqu.trans (read_roundU c Xu _).symm)))
    iexact Hyu_dst
  iapply Qd
  isplitl [Hyd Hyd_src]
  · isplitl [Hyd_src]; · iexists _; iexact Hyd_src
    iexact Hyd
  iapply (own_read_congr c (rowBlk odM (bk 22 (22 - 1))) _ _ ((read_landed c _ _ _ _).trans (hqd.trans (read_roundD c Xd _).symm)))
  iexact Hyd_dst

end Body

end Cert.Proof.Ffn

end
-- ==== Proof.Blocks.lean ====
/- The arrays and buffers whole as their blocks and slots, and the kernel's own semaphores as the slots' cells. -/
module

public import proofs.«01_k».proof.Proof.Body
public import Idealize.ShloMosaic.Lib.Pipeline.Routed

@[expose] public section

noncomputable section

namespace Cert.Proof.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (sl bk)

variable {F : FTy → Type} [FloatOps F]
local notation "𝕄" => MT nD τ sig Unit (Elt F) ℕ (UU nD τ) ℕ

/-! ## The element sets -/

abbrev colSet (b : Fin 22) : Finset S2048x5632.Idx := (Rect.unit (s := S2048x5632) (colOff b) S2048x256.size (colOff_inb b)).set
abbrev rowSet (b : Fin 22) : Finset S5632x2048.Idx := (Rect.unit (s := S5632x2048) (rowOff b) S256x2048.size (rowOff_inb b)).set
abbrev slotSetC3 (s : Fin 3) : Finset S3x2048x256.Idx := (Rect.unit (s := S3x2048x256) (slotOff s) S1x2048x256.size (slotC3_inb s)).set
abbrev slotSetR3 (s : Fin 3) : Finset S3x256x2048.Idx := (Rect.unit (s := S3x256x2048) (slotOff s) S1x256x2048.size (slotR3_inb s)).set
abbrev slotSetC2 (s : Fin 2) : Finset S2x2048x256.Idx := (Rect.unit (s := S2x2048x256) (slotOff s) S1x2048x256.size (slotC2_inb s)).set
abbrev slotSetR2 (s : Fin 2) : Finset S2x256x2048.Idx := (Rect.unit (s := S2x256x2048) (slotOff s) S1x256x2048.size (slotR2_inb s)).set

theorem mem_colSet (b : Fin 22) (y : S2048x5632.Idx) : y ∈ colSet b ↔ (y 1).val / 256 = b.val := by
  rw [Rect.mem_set_unit]
  have h0 : (y 0).val < 2048 := (y 0).isLt
  constructor
  · intro H; have a1 : 256 * b.val ≤ (y 1).val ∧ (y 1).val < 256 * b.val + 256 := H 1; omega
  · intro H i; fin_cases i
    · show 0 ≤ (y 0).val ∧ (y 0).val < 0 + 2048; omega
    · show 256 * b.val ≤ (y 1).val ∧ (y 1).val < 256 * b.val + 256; omega
theorem mem_rowSet (b : Fin 22) (y : S5632x2048.Idx) : y ∈ rowSet b ↔ (y 0).val / 256 = b.val := by
  rw [Rect.mem_set_unit]
  have h1 : (y 1).val < 2048 := (y 1).isLt
  constructor
  · intro H; have a0 : 256 * b.val ≤ (y 0).val ∧ (y 0).val < 256 * b.val + 256 := H 0; omega
  · intro H i; fin_cases i
    · show 256 * b.val ≤ (y 0).val ∧ (y 0).val < 256 * b.val + 256; omega
    · show 0 ≤ (y 1).val ∧ (y 1).val < 0 + 2048; omega
theorem mem_slotSetC3 (s : Fin 3) (y : S3x2048x256.Idx) : y ∈ slotSetC3 s ↔ (y 0).val = s.val := by
  rw [Rect.mem_set_unit]
  have h1 : (y 1).val < 2048 := (y 1).isLt
  have h2 : (y 2).val < 256 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 2048; omega
    · show 0 ≤ (y 2).val ∧ (y 2).val < 0 + 256; omega
theorem mem_slotSetR3 (s : Fin 3) (y : S3x256x2048.Idx) : y ∈ slotSetR3 s ↔ (y 0).val = s.val := by
  rw [Rect.mem_set_unit]
  have h1 : (y 1).val < 256 := (y 1).isLt
  have h2 : (y 2).val < 2048 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 256; omega
    · show 0 ≤ (y 2).val ∧ (y 2).val < 0 + 2048; omega
theorem mem_slotSetC2 (s : Fin 2) (y : S2x2048x256.Idx) : y ∈ slotSetC2 s ↔ (y 0).val = s.val := by
  rw [Rect.mem_set_unit]
  have h1 : (y 1).val < 2048 := (y 1).isLt
  have h2 : (y 2).val < 256 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 2048; omega
    · show 0 ≤ (y 2).val ∧ (y 2).val < 0 + 256; omega
theorem mem_slotSetR2 (s : Fin 2) (y : S2x256x2048.Idx) : y ∈ slotSetR2 s ↔ (y 0).val = s.val := by
  rw [Rect.mem_set_unit]
  have h1 : (y 1).val < 256 := (y 1).isLt
  have h2 : (y 2).val < 2048 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 256; omega
    · show 0 ≤ (y 2).val ∧ (y 2).val < 0 + 2048; omega
theorem colSet_disjoint : ∀ b b' : Fin 22, b ≠ b' → Disjoint (colSet b) (colSet b') := by
  intro b b' hne; rw [Finset.disjoint_left]; intro y hy hy'; rw [mem_colSet] at hy hy'; exact hne (Fin.ext (hy.symm.trans hy'))
theorem colSet_cover : (Finset.univ : Finset (Fin 22)).biUnion colSet = Finset.univ := by
  ext y; simp only [Finset.mem_biUnion, Finset.mem_univ, true_and, iff_true]; exact ⟨⟨(y 1).val / 256, Nat.div_lt_of_lt_mul (y 1).isLt⟩, by rw [mem_colSet]⟩
theorem rowSet_disjoint : ∀ b b' : Fin 22, b ≠ b' → Disjoint (rowSet b) (rowSet b') := by
  intro b b' hne; rw [Finset.disjoint_left]; intro y hy hy'; rw [mem_rowSet] at hy hy'; exact hne (Fin.ext (hy.symm.trans hy'))
theorem rowSet_cover : (Finset.univ : Finset (Fin 22)).biUnion rowSet = Finset.univ := by
  ext y; simp only [Finset.mem_biUnion, Finset.mem_univ, true_and, iff_true]; exact ⟨⟨(y 0).val / 256, Nat.div_lt_of_lt_mul (y 0).isLt⟩, by rw [mem_rowSet]⟩
theorem slotSetC3_disjoint : ∀ b b' : Fin 3, b ≠ b' → Disjoint (slotSetC3 b) (slotSetC3 b') := by
  intro b b' hne; rw [Finset.disjoint_left]; intro y hy hy'; rw [mem_slotSetC3] at hy hy'; exact hne (Fin.ext (hy.symm.trans hy'))
theorem slotSetC3_cover : (Finset.univ : Finset (Fin 3)).biUnion slotSetC3 = Finset.univ := by
  ext y; simp only [Finset.mem_biUnion, Finset.mem_univ, true_and, iff_true]; exact ⟨⟨(y 0).val, (y 0).isLt⟩, by rw [mem_slotSetC3]⟩
theorem slotSetR3_disjoint : ∀ b b' : Fin 3, b ≠ b' → Disjoint (slotSetR3 b) (slotSetR3 b') := by
  intro b b' hne; rw [Finset.disjoint_left]; intro y hy hy'; rw [mem_slotSetR3] at hy hy'; exact hne (Fin.ext (hy.symm.trans hy'))
theorem slotSetR3_cover : (Finset.univ : Finset (Fin 3)).biUnion slotSetR3 = Finset.univ := by
  ext y; simp only [Finset.mem_biUnion, Finset.mem_univ, true_and, iff_true]; exact ⟨⟨(y 0).val, (y 0).isLt⟩, by rw [mem_slotSetR3]⟩
theorem slotSetC2_disjoint : ∀ b b' : Fin 2, b ≠ b' → Disjoint (slotSetC2 b) (slotSetC2 b') := by
  intro b b' hne; rw [Finset.disjoint_left]; intro y hy hy'; rw [mem_slotSetC2] at hy hy'; exact hne (Fin.ext (hy.symm.trans hy'))
theorem slotSetC2_cover : (Finset.univ : Finset (Fin 2)).biUnion slotSetC2 = Finset.univ := by
  ext y; simp only [Finset.mem_biUnion, Finset.mem_univ, true_and, iff_true]; exact ⟨⟨(y 0).val, (y 0).isLt⟩, by rw [mem_slotSetC2]⟩
theorem slotSetR2_disjoint : ∀ b b' : Fin 2, b ≠ b' → Disjoint (slotSetR2 b) (slotSetR2 b') := by
  intro b b' hne; rw [Finset.disjoint_left]; intro y hy hy'; rw [mem_slotSetR2] at hy hy'; exact hne (Fin.ext (hy.symm.trans hy'))
theorem slotSetR2_cover : (Finset.univ : Finset (Fin 2)).biUnion slotSetR2 = Finset.univ := by
  ext y; simp only [Finset.mem_biUnion, Finset.mem_univ, true_and, iff_true]; exact ⟨⟨(y 0).val, (y 0).isLt⟩, by rw [mem_slotSetR2]⟩

theorem bigSep_two (P : Fin 2 → sProp 𝕄) : bigSep Finset.univ P = iprop(P 0 ∗ P 1) := bigSep_univ_eq_bigSepL [(0 : Fin 2), (1 : Fin 2)] (by decide) (by decide) P
theorem bigSep_three (P : Fin 3 → sProp 𝕄) : bigSep Finset.univ P = iprop(P 0 ∗ P 1 ∗ P 2) :=
  bigSep_univ_eq_bigSepL [(0 : Fin 3), (1 : Fin 3), (2 : Fin 3)] (by decide) (by decide) P

/-! ## The arrays as their blocks -/

section Blocks
variable (c : Dev nD)

/-- A buffer at some contents. -/
abbrev some_ (b : Ref sig .tc) : sProp 𝕄 := iprop(∃ f : Buf (Elt F) ((c : Thread nD τ).loc b), ((c : Thread nD τ).loc b) ↦{fullShare} f)
theorem wg_set (b : Fin 22) : (colBlk wgM b).view.set = colSet b := View.set_slice_whole _ _
theorem wg_eq (X : Buf (Elt F) ((wgM).view.loc (c : Thread nD τ))) : (((c : Thread nD τ).loc main_arg2) ↦{fullShare} X : sProp 𝕄) = bigSep Finset.univ (fun b => ownC c wgM b X) := by
  rw [Ring.pointsTo_blocks (ℓ := (c : Thread nD τ).loc main_arg2) colSet colSet_disjoint colSet_cover]
  exact bigSep_congr fun b _ => congrArg (fun S => (((c : Thread nD τ).loc main_arg2) ↦[S]{fullShare} X : sProp 𝕄)) (wg_set b).symm
theorem wu_set (b : Fin 22) : (colBlk wuM b).view.set = colSet b := View.set_slice_whole _ _
theorem wu_eq (X : Buf (Elt F) ((wuM).view.loc (c : Thread nD τ))) : (((c : Thread nD τ).loc main_arg3) ↦{fullShare} X : sProp 𝕄) = bigSep Finset.univ (fun b => ownC c wuM b X) := by
  rw [Ring.pointsTo_blocks (ℓ := (c : Thread nD τ).loc main_arg3) colSet colSet_disjoint colSet_cover]
  exact bigSep_congr fun b _ => congrArg (fun S => (((c : Thread nD τ).loc main_arg3) ↦[S]{fullShare} X : sProp 𝕄)) (wu_set b).symm
theorem wd_set (b : Fin 22) : (rowBlk wdM b).view.set = rowSet b := View.set_slice_whole _ _
theorem wd_eq (X : Buf (Elt F) ((wdM).view.loc (c : Thread nD τ))) : (((c : Thread nD τ).loc main_arg4) ↦{fullShare} X : sProp 𝕄) = bigSep Finset.univ (fun b => ownR c wdM b X) := by
  rw [Ring.pointsTo_blocks (ℓ := (c : Thread nD τ).loc main_arg4) rowSet rowSet_disjoint rowSet_cover]
  exact bigSep_congr fun b _ => congrArg (fun S => (((c : Thread nD τ).loc main_arg4) ↦[S]{fullShare} X : sProp 𝕄)) (wd_set b).symm
theorem og_set (b : Fin 22) : (colBlk ogM b).view.set = colSet b := View.set_slice_whole _ _
theorem og_eq (X : Buf (Elt F) ((ogM).view.loc (c : Thread nD τ))) : (((c : Thread nD τ).loc main_v3_1) ↦{fullShare} X : sProp 𝕄) = bigSep Finset.univ (fun b => ownC c ogM b X) := by
  rw [Ring.pointsTo_blocks (ℓ := (c : Thread nD τ).loc main_v3_1) colSet colSet_disjoint colSet_cover]
  exact bigSep_congr fun b _ => congrArg (fun S => (((c : Thread nD τ).loc main_v3_1) ↦[S]{fullShare} X : sProp 𝕄)) (og_set b).symm
theorem ou_set (b : Fin 22) : (colBlk ouM b).view.set = colSet b := View.set_slice_whole _ _
theorem ou_eq (X : Buf (Elt F) ((ouM).view.loc (c : Thread nD τ))) : (((c : Thread nD τ).loc main_v3_2) ↦{fullShare} X : sProp 𝕄) = bigSep Finset.univ (fun b => ownC c ouM b X) := by
  rw [Ring.pointsTo_blocks (ℓ := (c : Thread nD τ).loc main_v3_2) colSet colSet_disjoint colSet_cover]
  exact bigSep_congr fun b _ => congrArg (fun S => (((c : Thread nD τ).loc main_v3_2) ↦[S]{fullShare} X : sProp 𝕄)) (ou_set b).symm
theorem od_set (b : Fin 22) : (rowBlk odM b).view.set = rowSet b := View.set_slice_whole _ _
theorem od_eq (X : Buf (Elt F) ((odM).view.loc (c : Thread nD τ))) : (((c : Thread nD τ).loc main_v3_3) ↦{fullShare} X : sProp 𝕄) = bigSep Finset.univ (fun b => ownR c odM b X) := by
  rw [Ring.pointsTo_blocks (ℓ := (c : Thread nD τ).loc main_v3_3) rowSet rowSet_disjoint rowSet_cover]
  exact bigSep_congr fun b _ => congrArg (fun S => (((c : Thread nD τ).loc main_v3_3) ↦[S]{fullShare} X : sProp 𝕄)) (od_set b).symm
theorem og_todo (X : Buf (Elt F) ((ogM).view.loc (c : Thread nD τ))) : bigSep Finset.univ (fun b => ownC c ogM b X) ⊢ bigSep Finset.univ (todoC c ogM) := by
  have h (b : Fin 22) : ownC c ogM b X ⊢ todoC c ogM b := by
    unfold todoC
    iintro H; iexists X; iexact H
  exact bigSep_mono fun b _ => h b
theorem ou_todo (X : Buf (Elt F) ((ouM).view.loc (c : Thread nD τ))) : bigSep Finset.univ (fun b => ownC c ouM b X) ⊢ bigSep Finset.univ (todoC c ouM) := by
  have h (b : Fin 22) : ownC c ouM b X ⊢ todoC c ouM b := by
    unfold todoC
    iintro H; iexists X; iexact H
  exact bigSep_mono fun b _ => h b
theorem od_todo (X : Buf (Elt F) ((odM).view.loc (c : Thread nD τ))) : bigSep Finset.univ (fun b => ownR c odM b X) ⊢ bigSep Finset.univ (todoR c odM) := by
  have h (b : Fin 22) : ownR c odM b X ⊢ todoR c odM b := by
    unfold todoR
    iintro H; iexists X; iexact H
  exact bigSep_mono fun b _ => h b

/-! ## The buffers as their slots -/

theorem ig_set (s : Fin 3) : (slotC3 igM s).view.set = slotSetC3 s := (View.set_reshape _ _).trans (View.set_slice_whole _ _)
theorem ig_slot (s : Fin 3) (f) : own c (slotC3 igM s) f = (((c : Thread nD τ).loc cc0_scoped0) ↦[slotSetC3 s]{fullShare} f : sProp 𝕄) :=
  congrArg (fun S => (((c : Thread nD τ).loc cc0_scoped0) ↦[S]{fullShare} f : sProp 𝕄)) (ig_set s)
theorem ig_split : iprop(some_ c cc0_scoped0 ∗ idle c (cell3 cc0_scoped1 0) ∗ idle c (cell3 cc0_scoped1 1) ∗ idle c (cell3 cc0_scoped1 2)) ⊢ (iprop(freeC c cc0_scoped1 igM 0 ∗ freeC c cc0_scoped1 igM 1 ∗ freeC c cc0_scoped1 igM 2) : sProp 𝕄) := by
  unfold freeC
  iintro ⟨⟨%f, H⟩, C0, C1, C2⟩
  ihave H2 := (of_eq ((Ring.pointsTo_blocks (Ix := Unit) (Name := ℕ) (U := UU nD τ) (Lvl := ℕ) (q := fullShare) (ℓ := (c : Thread nD τ).loc cc0_scoped0) slotSetC3 slotSetC3_disjoint slotSetC3_cover f).trans (bigSep_three _))) $$ H
  icases H2 with ⟨H0, H1, H2⟩
  isplitl [H0 C0]
  · isplitl [H0]
    · iexists f; iapply (of_eq (ig_slot c 0 f).symm); iexact H0
    iexact C0
  isplitl [H1 C1]
  · isplitl [H1]
    · iexists f; iapply (of_eq (ig_slot c 1 f).symm); iexact H1
    iexact C1
  isplitl [H2]
  · iexists f; iapply (of_eq (ig_slot c 2 f).symm); iexact H2
  iexact C2
theorem ig_join : (iprop(freeC c cc0_scoped1 igM 0 ∗ freeC c cc0_scoped1 igM 1 ∗ freeC c cc0_scoped1 igM 2) : sProp 𝕄) ⊢ iprop(some_ c cc0_scoped0 ∗ idle c (cell3 cc0_scoped1 0) ∗ idle c (cell3 cc0_scoped1 1) ∗ idle c (cell3 cc0_scoped1 2)) := by
  unfold freeC
  iintro ⟨⟨⟨%f0, H0⟩, C0⟩, ⟨⟨%f1, H1⟩, C1⟩, ⟨⟨%f2, H2⟩, C2⟩⟩
  isplitl [H0 H1 H2]
  · iapply (Ring.pointsTo_blocks_join_exists (ℓ := (c : Thread nD τ).loc cc0_scoped0) slotSetC3 slotSetC3_disjoint slotSetC3_cover f0)
    irw [bigSep_three]
    isplitl [H0]
    · iexists f0; iapply (of_eq (ig_slot c 0 f0)); iexact H0
    isplitl [H1]
    · iexists f1; iapply (of_eq (ig_slot c 1 f1)); iexact H1
    iexists f2; iapply (of_eq (ig_slot c 2 f2)); iexact H2
  isplitl [C0]; · iexact C0
  isplitl [C1]; · iexact C1
  iexact C2
theorem iu_set (s : Fin 3) : (slotC3 iuM s).view.set = slotSetC3 s := (View.set_reshape _ _).trans (View.set_slice_whole _ _)
theorem iu_slot (s : Fin 3) (f) : own c (slotC3 iuM s) f = (((c : Thread nD τ).loc cc0_scoped2) ↦[slotSetC3 s]{fullShare} f : sProp 𝕄) :=
  congrArg (fun S => (((c : Thread nD τ).loc cc0_scoped2) ↦[S]{fullShare} f : sProp 𝕄)) (iu_set s)
theorem iu_split : iprop(some_ c cc0_scoped2 ∗ idle c (cell3 cc0_scoped3 0) ∗ idle c (cell3 cc0_scoped3 1) ∗ idle c (cell3 cc0_scoped3 2)) ⊢ (iprop(freeC c cc0_scoped3 iuM 0 ∗ freeC c cc0_scoped3 iuM 1 ∗ freeC c cc0_scoped3 iuM 2) : sProp 𝕄) := by
  unfold freeC
  iintro ⟨⟨%f, H⟩, C0, C1, C2⟩
  ihave H2 := (of_eq ((Ring.pointsTo_blocks (Ix := Unit) (Name := ℕ) (U := UU nD τ) (Lvl := ℕ) (q := fullShare) (ℓ := (c : Thread nD τ).loc cc0_scoped2) slotSetC3 slotSetC3_disjoint slotSetC3_cover f).trans (bigSep_three _))) $$ H
  icases H2 with ⟨H0, H1, H2⟩
  isplitl [H0 C0]
  · isplitl [H0]
    · iexists f; iapply (of_eq (iu_slot c 0 f).symm); iexact H0
    iexact C0
  isplitl [H1 C1]
  · isplitl [H1]
    · iexists f; iapply (of_eq (iu_slot c 1 f).symm); iexact H1
    iexact C1
  isplitl [H2]
  · iexists f; iapply (of_eq (iu_slot c 2 f).symm); iexact H2
  iexact C2
theorem iu_join : (iprop(freeC c cc0_scoped3 iuM 0 ∗ freeC c cc0_scoped3 iuM 1 ∗ freeC c cc0_scoped3 iuM 2) : sProp 𝕄) ⊢ iprop(some_ c cc0_scoped2 ∗ idle c (cell3 cc0_scoped3 0) ∗ idle c (cell3 cc0_scoped3 1) ∗ idle c (cell3 cc0_scoped3 2)) := by
  unfold freeC
  iintro ⟨⟨⟨%f0, H0⟩, C0⟩, ⟨⟨%f1, H1⟩, C1⟩, ⟨⟨%f2, H2⟩, C2⟩⟩
  isplitl [H0 H1 H2]
  · iapply (Ring.pointsTo_blocks_join_exists (ℓ := (c : Thread nD τ).loc cc0_scoped2) slotSetC3 slotSetC3_disjoint slotSetC3_cover f0)
    irw [bigSep_three]
    isplitl [H0]
    · iexists f0; iapply (of_eq (iu_slot c 0 f0)); iexact H0
    isplitl [H1]
    · iexists f1; iapply (of_eq (iu_slot c 1 f1)); iexact H1
    iexists f2; iapply (of_eq (iu_slot c 2 f2)); iexact H2
  isplitl [C0]; · iexact C0
  isplitl [C1]; · iexact C1
  iexact C2
theorem id_set (s : Fin 3) : (slotR3 idM s).view.set = slotSetR3 s := (View.set_reshape _ _).trans (View.set_slice_whole _ _)
theorem id_slot (s : Fin 3) (f) : own c (slotR3 idM s) f = (((c : Thread nD τ).loc cc0_scoped4) ↦[slotSetR3 s]{fullShare} f : sProp 𝕄) :=
  congrArg (fun S => (((c : Thread nD τ).loc cc0_scoped4) ↦[S]{fullShare} f : sProp 𝕄)) (id_set s)
theorem id_split : iprop(some_ c cc0_scoped4 ∗ idle c (cell3 cc0_scoped5 0) ∗ idle c (cell3 cc0_scoped5 1) ∗ idle c (cell3 cc0_scoped5 2)) ⊢ (iprop(freeR c cc0_scoped5 idM 0 ∗ freeR c cc0_scoped5 idM 1 ∗ freeR c cc0_scoped5 idM 2) : sProp 𝕄) := by
  unfold freeR
  iintro ⟨⟨%f, H⟩, C0, C1, C2⟩
  ihave H2 := (of_eq ((Ring.pointsTo_blocks (Ix := Unit) (Name := ℕ) (U := UU nD τ) (Lvl := ℕ) (q := fullShare) (ℓ := (c : Thread nD τ).loc cc0_scoped4) slotSetR3 slotSetR3_disjoint slotSetR3_cover f).trans (bigSep_three _))) $$ H
  icases H2 with ⟨H0, H1, H2⟩
  isplitl [H0 C0]
  · isplitl [H0]
    · iexists f; iapply (of_eq (id_slot c 0 f).symm); iexact H0
    iexact C0
  isplitl [H1 C1]
  · isplitl [H1]
    · iexists f; iapply (of_eq (id_slot c 1 f).symm); iexact H1
    iexact C1
  isplitl [H2]
  · iexists f; iapply (of_eq (id_slot c 2 f).symm); iexact H2
  iexact C2
theorem id_join : (iprop(freeR c cc0_scoped5 idM 0 ∗ freeR c cc0_scoped5 idM 1 ∗ freeR c cc0_scoped5 idM 2) : sProp 𝕄) ⊢ iprop(some_ c cc0_scoped4 ∗ idle c (cell3 cc0_scoped5 0) ∗ idle c (cell3 cc0_scoped5 1) ∗ idle c (cell3 cc0_scoped5 2)) := by
  unfold freeR
  iintro ⟨⟨⟨%f0, H0⟩, C0⟩, ⟨⟨%f1, H1⟩, C1⟩, ⟨⟨%f2, H2⟩, C2⟩⟩
  isplitl [H0 H1 H2]
  · iapply (Ring.pointsTo_blocks_join_exists (ℓ := (c : Thread nD τ).loc cc0_scoped4) slotSetR3 slotSetR3_disjoint slotSetR3_cover f0)
    irw [bigSep_three]
    isplitl [H0]
    · iexists f0; iapply (of_eq (id_slot c 0 f0)); iexact H0
    isplitl [H1]
    · iexists f1; iapply (of_eq (id_slot c 1 f1)); iexact H1
    iexists f2; iapply (of_eq (id_slot c 2 f2)); iexact H2
  isplitl [C0]; · iexact C0
  isplitl [C1]; · iexact C1
  iexact C2
theorem bg_set (s : Fin 2) : (slotC2 bgM s).view.set = slotSetC2 s := (View.set_reshape _ _).trans (View.set_slice_whole _ _)
theorem bg_slot (s : Fin 2) (f) : own c (slotC2 bgM s) f = (((c : Thread nD τ).loc cc0_scoped6) ↦[slotSetC2 s]{fullShare} f : sProp 𝕄) :=
  congrArg (fun S => (((c : Thread nD τ).loc cc0_scoped6) ↦[S]{fullShare} f : sProp 𝕄)) (bg_set s)
theorem bg_split : iprop(some_ c cc0_scoped6 ∗ idle c (cell2 cc0_scoped7 0) ∗ idle c (cell2 cc0_scoped7 1)) ⊢ (iprop(freeC2 c cc0_scoped7 bgM 0 ∗ freeC2 c cc0_scoped7 bgM 1) : sProp 𝕄) := by
  unfold freeC2
  iintro ⟨⟨%f, H⟩, C0, C1⟩
  ihave H2 := (of_eq ((Ring.pointsTo_blocks (Ix := Unit) (Name := ℕ) (U := UU nD τ) (Lvl := ℕ) (q := fullShare) (ℓ := (c : Thread nD τ).loc cc0_scoped6) slotSetC2 slotSetC2_disjoint slotSetC2_cover f).trans (bigSep_two _))) $$ H
  icases H2 with ⟨H0, H1⟩
  isplitl [H0 C0]
  · isplitl [H0]
    · iexists f; iapply (of_eq (bg_slot c 0 f).symm); iexact H0
    iexact C0
  isplitl [H1]
  · iexists f; iapply (of_eq (bg_slot c 1 f).symm); iexact H1
  iexact C1
theorem bg_join : (iprop(freeC2 c cc0_scoped7 bgM 0 ∗ freeC2 c cc0_scoped7 bgM 1) : sProp 𝕄) ⊢ iprop(some_ c cc0_scoped6 ∗ idle c (cell2 cc0_scoped7 0) ∗ idle c (cell2 cc0_scoped7 1)) := by
  unfold freeC2
  iintro ⟨⟨⟨%f0, H0⟩, C0⟩, ⟨⟨%f1, H1⟩, C1⟩⟩
  isplitl [H0 H1]
  · iapply (Ring.pointsTo_blocks_join_exists (ℓ := (c : Thread nD τ).loc cc0_scoped6) slotSetC2 slotSetC2_disjoint slotSetC2_cover f0)
    irw [bigSep_two]
    isplitl [H0]
    · iexists f0; iapply (of_eq (bg_slot c 0 f0)); iexact H0
    iexists f1; iapply (of_eq (bg_slot c 1 f1)); iexact H1
  isplitl [C0]; · iexact C0
  iexact C1
theorem bu_set (s : Fin 2) : (slotC2 buM s).view.set = slotSetC2 s := (View.set_reshape _ _).trans (View.set_slice_whole _ _)
theorem bu_slot (s : Fin 2) (f) : own c (slotC2 buM s) f = (((c : Thread nD τ).loc cc0_scoped8) ↦[slotSetC2 s]{fullShare} f : sProp 𝕄) :=
  congrArg (fun S => (((c : Thread nD τ).loc cc0_scoped8) ↦[S]{fullShare} f : sProp 𝕄)) (bu_set s)
theorem bu_split : iprop(some_ c cc0_scoped8 ∗ idle c (cell2 cc0_scoped9 0) ∗ idle c (cell2 cc0_scoped9 1)) ⊢ (iprop(freeC2 c cc0_scoped9 buM 0 ∗ freeC2 c cc0_scoped9 buM 1) : sProp 𝕄) := by
  unfold freeC2
  iintro ⟨⟨%f, H⟩, C0, C1⟩
  ihave H2 := (of_eq ((Ring.pointsTo_blocks (Ix := Unit) (Name := ℕ) (U := UU nD τ) (Lvl := ℕ) (q := fullShare) (ℓ := (c : Thread nD τ).loc cc0_scoped8) slotSetC2 slotSetC2_disjoint slotSetC2_cover f).trans (bigSep_two _))) $$ H
  icases H2 with ⟨H0, H1⟩
  isplitl [H0 C0]
  · isplitl [H0]
    · iexists f; iapply (of_eq (bu_slot c 0 f).symm); iexact H0
    iexact C0
  isplitl [H1]
  · iexists f; iapply (of_eq (bu_slot c 1 f).symm); iexact H1
  iexact C1
theorem bu_join : (iprop(freeC2 c cc0_scoped9 buM 0 ∗ freeC2 c cc0_scoped9 buM 1) : sProp 𝕄) ⊢ iprop(some_ c cc0_scoped8 ∗ idle c (cell2 cc0_scoped9 0) ∗ idle c (cell2 cc0_scoped9 1)) := by
  unfold freeC2
  iintro ⟨⟨⟨%f0, H0⟩, C0⟩, ⟨⟨%f1, H1⟩, C1⟩⟩
  isplitl [H0 H1]
  · iapply (Ring.pointsTo_blocks_join_exists (ℓ := (c : Thread nD τ).loc cc0_scoped8) slotSetC2 slotSetC2_disjoint slotSetC2_cover f0)
    irw [bigSep_two]
    isplitl [H0]
    · iexists f0; iapply (of_eq (bu_slot c 0 f0)); iexact H0
    iexists f1; iapply (of_eq (bu_slot c 1 f1)); iexact H1
  isplitl [C0]; · iexact C0
  iexact C1
theorem bd_set (s : Fin 2) : (slotR2 bdM s).view.set = slotSetR2 s := (View.set_reshape _ _).trans (View.set_slice_whole _ _)
theorem bd_slot (s : Fin 2) (f) : own c (slotR2 bdM s) f = (((c : Thread nD τ).loc cc0_scoped10) ↦[slotSetR2 s]{fullShare} f : sProp 𝕄) :=
  congrArg (fun S => (((c : Thread nD τ).loc cc0_scoped10) ↦[S]{fullShare} f : sProp 𝕄)) (bd_set s)
theorem bd_split : iprop(some_ c cc0_scoped10 ∗ idle c (cell2 cc0_scoped11 0) ∗ idle c (cell2 cc0_scoped11 1)) ⊢ (iprop(freeR2 c cc0_scoped11 bdM 0 ∗ freeR2 c cc0_scoped11 bdM 1) : sProp 𝕄) := by
  unfold freeR2
  iintro ⟨⟨%f, H⟩, C0, C1⟩
  ihave H2 := (of_eq ((Ring.pointsTo_blocks (Ix := Unit) (Name := ℕ) (U := UU nD τ) (Lvl := ℕ) (q := fullShare) (ℓ := (c : Thread nD τ).loc cc0_scoped10) slotSetR2 slotSetR2_disjoint slotSetR2_cover f).trans (bigSep_two _))) $$ H
  icases H2 with ⟨H0, H1⟩
  isplitl [H0 C0]
  · isplitl [H0]
    · iexists f; iapply (of_eq (bd_slot c 0 f).symm); iexact H0
    iexact C0
  isplitl [H1]
  · iexists f; iapply (of_eq (bd_slot c 1 f).symm); iexact H1
  iexact C1
theorem bd_join : (iprop(freeR2 c cc0_scoped11 bdM 0 ∗ freeR2 c cc0_scoped11 bdM 1) : sProp 𝕄) ⊢ iprop(some_ c cc0_scoped10 ∗ idle c (cell2 cc0_scoped11 0) ∗ idle c (cell2 cc0_scoped11 1)) := by
  unfold freeR2
  iintro ⟨⟨⟨%f0, H0⟩, C0⟩, ⟨⟨%f1, H1⟩, C1⟩⟩
  isplitl [H0 H1]
  · iapply (Ring.pointsTo_blocks_join_exists (ℓ := (c : Thread nD τ).loc cc0_scoped10) slotSetR2 slotSetR2_disjoint slotSetR2_cover f0)
    irw [bigSep_two]
    isplitl [H0]
    · iexists f0; iapply (of_eq (bd_slot c 0 f0)); iexact H0
    iexists f1; iapply (of_eq (bd_slot c 1 f1)); iexact H1
  isplitl [C0]; · iexact C0
  iexact C1

/-! ## The kernel's own semaphores -/

/-- The slots' cells. -/
abbrev osem : Fin 15 → SemLoc sig := fun k => match k with
  | ⟨0, _⟩ => .dma (cell3 cc0_scoped1 0).sem
  | ⟨1, _⟩ => .dma (cell3 cc0_scoped1 1).sem
  | ⟨2, _⟩ => .dma (cell3 cc0_scoped1 2).sem
  | ⟨3, _⟩ => .dma (cell3 cc0_scoped3 0).sem
  | ⟨4, _⟩ => .dma (cell3 cc0_scoped3 1).sem
  | ⟨5, _⟩ => .dma (cell3 cc0_scoped3 2).sem
  | ⟨6, _⟩ => .dma (cell3 cc0_scoped5 0).sem
  | ⟨7, _⟩ => .dma (cell3 cc0_scoped5 1).sem
  | ⟨8, _⟩ => .dma (cell3 cc0_scoped5 2).sem
  | ⟨9, _⟩ => .dma (cell2 cc0_scoped7 0).sem
  | ⟨10, _⟩ => .dma (cell2 cc0_scoped7 1).sem
  | ⟨11, _⟩ => .dma (cell2 cc0_scoped9 0).sem
  | ⟨12, _⟩ => .dma (cell2 cc0_scoped9 1).sem
  | ⟨13, _⟩ => .dma (cell2 cc0_scoped11 0).sem
  | ⟨14, _⟩ => .dma (cell2 cc0_scoped11 1).sem
theorem ownSemFacts : Pipeline.OwnSemFacts spec0 osem := by decide +kernel
theorem ownSems0_eq : (Pipeline.ownSems0 (Ix := Unit) (Name := ℕ) (U := UU nD τ) (Lvl := ℕ) (Val := Elt F) (τ := τ) osem c : sProp 𝕄)
    = iprop(idle c (cell3 cc0_scoped1 0) ∗ idle c (cell3 cc0_scoped1 1) ∗ idle c (cell3 cc0_scoped1 2) ∗ idle c (cell3 cc0_scoped3 0) ∗ idle c (cell3 cc0_scoped3 1) ∗ idle c (cell3 cc0_scoped3 2) ∗ idle c (cell3 cc0_scoped5 0) ∗ idle c (cell3 cc0_scoped5 1) ∗ idle c (cell3 cc0_scoped5 2) ∗ idle c (cell2 cc0_scoped7 0) ∗ idle c (cell2 cc0_scoped7 1) ∗ idle c (cell2 cc0_scoped9 0) ∗ idle c (cell2 cc0_scoped9 1) ∗ idle c (cell2 cc0_scoped11 0) ∗ idle c (cell2 cc0_scoped11 1)) :=
  Pipeline.ownSems0_eq_of_list c osem [(⟨0, by decide⟩ : Fin 15), (⟨1, by decide⟩ : Fin 15), (⟨2, by decide⟩ : Fin 15), (⟨3, by decide⟩ : Fin 15), (⟨4, by decide⟩ : Fin 15), (⟨5, by decide⟩ : Fin 15), (⟨6, by decide⟩ : Fin 15), (⟨7, by decide⟩ : Fin 15), (⟨8, by decide⟩ : Fin 15), (⟨9, by decide⟩ : Fin 15), (⟨10, by decide⟩ : Fin 15), (⟨11, by decide⟩ : Fin 15), (⟨12, by decide⟩ : Fin 15), (⟨13, by decide⟩ : Fin 15), (⟨14, by decide⟩ : Fin 15)] (by decide) (by decide)

end Blocks

end Cert.Proof.Ffn

end
-- ==== Proof.Launch.lean ====
/- The launch: the rows' windows staged, the weight arrays and the rounded arrays routed through the body. -/
module

public import proofs.«01_k».proof.Proof.Blocks

@[expose] public section

noncomputable section

namespace Cert.Proof.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Ring (sl bk)

variable {F : FTy → Type} [FloatOps F]
local notation "𝕄" => MT nD τ sig Unit (Elt F) ℕ (UU nD τ) ℕ

section Launch
variable (m : (ℓ : Loc nD τ sig) → Buf (Elt F) ℓ) (ρ : Dev nD → PrngReg)

theorem hmainU : Pipeline.HMain (Ix := Unit) (Name := ℕ) (U := UU nD τ) (Lvl := ℕ) cfgs 0 defs₀ 𝒱₀ m (main (F := F)) (V m) :=
  Pipeline.hmain_prefix cfgs 0 defs₀ 𝒱₀ m main hostOps0 hostOps0_sub hostOps0_fresh main_chain

/-- The rows the kernel writes, from what the launch finds. -/
def outAt (c : Dev nD) (t : Fin cfg0.N) : (cfg0.win 3).block.Idx → Elt F (cfg0.win 3).elt :=
  outRows c (V m c main_arg2) (V m c main_arg3) (V m c main_arg4) (iblk m c 0 t) (iblk m c 1 t) (iblk m c 2 t)

/-- What the body holds between points: before, -/
def ΦB (c : Dev nD) : sProp 𝕄 :=
  iprop((∃ f : Buf (Elt F) (xnM.view.loc (c : Thread nD τ)), own c xnM f) ∗ ringsPre c (V m c main_arg2) (V m c main_arg3) (V m c main_arg4) ∗ ∃ r, prngReg c r)
/-- and after. -/
def ΦA (c : Dev nD) : sProp 𝕄 :=
  iprop((∃ f : Buf (Elt F) (xnM.view.loc (c : Thread nD τ)), own c xnM f) ∗ ringsPost c (V m c main_arg2) (V m c main_arg3) (V m c main_arg4) ∗ ∃ r, prngReg c r)

/-- The pipeline's proof data. -/
def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := if t.val = 0 then ΦB m c else ΦA m c
  q _ := fullShare
  owed _ := 0

theorem Φ_zero (c : Dev nD) (t : Fin (cfg0.N + 1)) (h : t.val = 0) : (dats m 0 c).Φ t = ΦB m c := by dsimp only [dats]; rw [if_pos h]
theorem Φ_succ (c : Dev nD) (t : Fin (cfg0.N + 1)) (h : t.val ≠ 0) : (dats m 0 c).Φ t = ΦA m c := by dsimp only [dats]; rw [if_neg h]
theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem before_w2 (c : Dev nD) (t : Fin cfg0.N) (d) : (dats m 0 c).before 2 t d = iblk m c 2 t := by
  unfold Dat.before; rw [if_pos (fetch0_2 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = outAt m c t := by dsimp only [dats]

/-! ## The body's obligation -/

theorem defs_tc : (defs₀ (F := F)) .tc cfg0.body
    = fun a => bodyG (win0_0.stage (a.2 0)) (hstage0_0 0) (win0_1.stage (a.2 1)) (hstage0_1 0) (win0_2.stage (a.2 2)) (hstage0_2 0) (win0_3.stage (a.2 3)) (hstage0_3 0) := rfl
theorem prog_eq (t : Fin cfg0.N) : (defs₀ (F := F)) .tc cfg0.body (cfg0.bodyArgs t (cfg0.slots t))
    = bodyG (st0_0 t) (hstage0_0 0) (st0_1 t) (hstage0_1 0) (st0_2 t) (hstage0_2 0) (st0_3 t) (hstage0_3 0) :=
  (congrFun defs_tc _).trans rfl

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before_w0, before_w1, before_w2, after_w0, after_w1, after_w2, after_w3]
  have ht : t.val = 0 := by rw [fin_N0 t]; rfl
  rw [Φ_zero m c t.castSucc ht, Φ_succ m c t.succ (Nat.succ_ne_zero t.val)]
  unfold Dat.owesAt Pipeline.owesWithin
  rw [show (dats m 0 c).owed t.castSucc = 0 from rfl, show (dats m 0 c).owed t.succ = 0 from rfl]
  unfold owns ΦB ΦA
  iintro ⟨⟨Hx, HR, Hp⟩, ⟨%W, -, HW⟩, ⟨%d0, %g0, %hg0, H0⟩, ⟨%d1, %g1, %hg1, H1⟩, ⟨%d2, %g2, %hg2, H2⟩, ⟨%d3, %g3, -, H3⟩⟩
  sl_rw [prog_eq t]
  iapply (bodyRun c (st0_0 t) (hstage0_0 0) (st0_1 t) (hstage0_1 0) (st0_2 t) (hstage0_2 0) (st0_3 t) (hstage0_3 0) g0 g1 g2
    (V m c main_arg2) (V m c main_arg3) (V m c main_arg4) _)
  unfold PRE POST
  isplitl [Hx HR HW H0 H1 H2 H3]
  · isplitl [H0]; · iexact H0
    isplitl [H1]; · iexact H1
    isplitl [H2]; · iexact H2
    isplitl [H3]; · iexists _; iexact H3
    isplitl [Hx]; · iexact Hx
    isplitl [HW]; · iexists _; iexact HW
    iexact HR
  · iintro ⟨H0, H1, H2, ⟨%f3, %hf3, H3⟩, Hx, ⟨%W', HW⟩, HR⟩
    isplitl [Hx HR Hp]
    · isplitl [Hx]; · iexact Hx
      isplitl [HR]; · iexact HR
      iexact Hp
    isplitl [HW]
    · iexists W'; isplitr; · ipureintro; exact fun _ _ => Or.inl trivial
      iexact HW
    isplitl [H0]
    · iexists g0; isplitr; · ipureintro; exact hg0
      iexact H0
    isplitl [H1]
    · iexists g1; isplitr; · ipureintro; exact hg1
      iexact H1
    isplitl [H2]
    · iexists g2; isplitr; · ipureintro; exact hg2
      iexact H2
    iexists f3; isplitr
    swap
    · iexact H3
    · ipureintro
      refine hf3.trans ?_
      rw [hg0, hg1, hg2]; rfl

/-! ## The run -/

/-- The arrays routed through the body. -/
def RR : Finset (Ref sig .tc) := {main_arg2, main_arg3, main_arg4, main_v3_1, main_v3_2, main_v3_3}
/-- Their contents at the end. -/
def YY (c : Dev nD) (b : Ref sig .tc) : Buf (Elt F) ((c : Thread nD τ).loc b) :=
  if h : b = main_v3_1 then h ▸ roundG c (V m c main_arg2)
  else if h : b = main_v3_2 then h ▸ roundU c (V m c main_arg3)
  else if h : b = main_v3_3 then h ▸ roundD c (V m c main_arg4) else V m c b

theorem routed_eq (c : Dev nD) (W : (b : Ref sig .tc) → Buf (Elt F) ((c.tc : Thread nD τ).loc b)) :
    (Pipeline.routed RR c W : sProp 𝕄) = iprop((((c : Thread nD τ).loc main_arg2) ↦{fullShare} W main_arg2) ∗ (((c : Thread nD τ).loc main_arg3) ↦{fullShare} W main_arg3)
      ∗ (((c : Thread nD τ).loc main_arg4) ↦{fullShare} W main_arg4) ∗ (((c : Thread nD τ).loc main_v3_1) ↦{fullShare} W main_v3_1)
      ∗ (((c : Thread nD τ).loc main_v3_2) ↦{fullShare} W main_v3_2) ∗ (((c : Thread nD τ).loc main_v3_3) ↦{fullShare} W main_v3_3)) := by
  unfold Pipeline.routed
  rw [show RR = [main_arg2, main_arg3, main_arg4, main_v3_1, main_v3_2, main_v3_3].toFinset by decide]
  exact bigSep_eq_bigSepL _ (by decide) _

theorem xn_whole (c : Dev nD) (f) : own c xnM f = (((c : Thread nD τ).loc cc0_scratch0) ↦{fullShare} f : sProp 𝕄) :=
  congrArg (fun S => (((c : Thread nD τ).loc cc0_scratch0) ↦[S]{fullShare} f : sProp 𝕄)) (View.set_whole _)

theorem into_body (c : Dev nD) : Pipeline.Ends spec0 osem RR c (V m c) ⊢ (ΦB m c : sProp 𝕄) := by
  unfold Pipeline.Ends ΦB ringsPre restIn restOut
  rw [routed_eq, scopedRest0_eq, ownSems0_eq, wg_eq, wu_eq, wd_eq, og_eq, ou_eq, od_eq]
  iintro ⟨⟨Hg, Hu, Hd, Og, Ou, Od⟩, ⟨A0, A1, A2, B0, B1, B2, C0, C1, C2, D0, D1, E0, E1, G0, G1⟩, ⟨⟨%fx, Hx⟩, Bg, Bu, Bd, Bg2, Bu2, Bd2⟩, Hp⟩
  ihave Bg := (ig_split c) $$ [Bg A0 A1 A2]
  · isplitl [Bg]; · iexact Bg
    isplitl [A0]; · iexact A0
    isplitl [A1]; · iexact A1
    iexact A2
  ihave Bu := (iu_split c) $$ [Bu B0 B1 B2]
  · isplitl [Bu]; · iexact Bu
    isplitl [B0]; · iexact B0
    isplitl [B1]; · iexact B1
    iexact B2
  ihave Bd := (id_split c) $$ [Bd C0 C1 C2]
  · isplitl [Bd]; · iexact Bd
    isplitl [C0]; · iexact C0
    isplitl [C1]; · iexact C1
    iexact C2
  ihave Bg2 := (bg_split c) $$ [Bg2 D0 D1]
  · isplitl [Bg2]; · iexact Bg2
    isplitl [D0]; · iexact D0
    iexact D1
  ihave Bu2 := (bu_split c) $$ [Bu2 E0 E1]
  · isplitl [Bu2]; · iexact Bu2
    isplitl [E0]; · iexact E0
    iexact E1
  ihave Bd2 := (bd_split c) $$ [Bd2 G0 G1]
  · isplitl [Bd2]; · iexact Bd2
    isplitl [G0]; · iexact G0
    iexact G1
  icases Bg with ⟨A0, A1, A2⟩
  icases Bu with ⟨B0, B1, B2⟩
  icases Bd with ⟨C0, C1, C2⟩
  icases Bg2 with ⟨D0, D1⟩
  icases Bu2 with ⟨E0, E1⟩
  icases Bd2 with ⟨G0, G1⟩
  isplitl [Hx]; · iexists fx; iapply (of_eq (xn_whole c fx).symm); iexact Hx
  isplitr [Hp]
  swap
  · iexact Hp
  isplitl [A0 A1 A2 Hg]
  · isplitl [A0]; · iexact A0
    isplitl [A1]; · iexact A1
    isplitl [A2]; · iexact A2
    iexact Hg
  isplitl [B0 B1 B2 Hu]
  · isplitl [B0]; · iexact B0
    isplitl [B1]; · iexact B1
    isplitl [B2]; · iexact B2
    iexact Hu
  isplitl [C0 C1 C2 Hd]
  · isplitl [C0]; · iexact C0
    isplitl [C1]; · iexact C1
    isplitl [C2]; · iexact C2
    iexact Hd
  isplitl [D0 D1 Og]
  · isplitl [D0]; · iexact D0
    isplitl [D1]; · iexact D1
    iapply (og_todo c _); iexact Og
  isplitl [E0 E1 Ou]
  · isplitl [E0]; · iexact E0
    isplitl [E1]; · iexact E1
    iapply (ou_todo c _); iexact Ou
  isplitl [G0]; · iexact G0
  isplitl [G1]; · iexact G1
  iapply (od_todo c _); iexact Od

theorem out_of_body (c : Dev nD) : (ΦA m c : sProp 𝕄) ⊢ Pipeline.Ends spec0 osem RR c (YY m c) := by
  have y1 : YY m c main_v3_1 = roundG c (V m c main_arg2) := rfl
  have y2 : YY m c main_v3_2 = roundU c (V m c main_arg3) := rfl
  have y3 : YY m c main_v3_3 = roundD c (V m c main_arg4) := rfl
  have y4 : YY m c main_arg2 = V m c main_arg2 := rfl
  have y5 : YY m c main_arg3 = V m c main_arg3 := rfl
  have y6 : YY m c main_arg4 = V m c main_arg4 := rfl
  unfold Pipeline.Ends ΦA ringsPost restIn restOut
  rw [routed_eq, scopedRest0_eq, ownSems0_eq, y1, y2, y3, y4, y5, y6, wg_eq, wu_eq, wd_eq, og_eq, ou_eq, od_eq]
  iintro ⟨⟨%fx, Hx⟩, ⟨⟨A0, A1, A2, Hg⟩, ⟨B0, B1, B2, Hu⟩, ⟨C0, C1, C2, Hd⟩, ⟨D0, D1, Og⟩, ⟨E0, E1, Ou⟩, ⟨G0, G1, Od⟩⟩, Hp⟩
  ihave Bg := (ig_join c) $$ [A0 A1 A2]
  · isplitl [A0]; · iexact A0
    isplitl [A1]; · iexact A1
    iexact A2
  ihave Bu := (iu_join c) $$ [B0 B1 B2]
  · isplitl [B0]; · iexact B0
    isplitl [B1]; · iexact B1
    iexact B2
  ihave Bd := (id_join c) $$ [C0 C1 C2]
  · isplitl [C0]; · iexact C0
    isplitl [C1]; · iexact C1
    iexact C2
  ihave Bg2 := (bg_join c) $$ [D0 D1]
  · isplitl [D0]; · iexact D0
    iexact D1
  ihave Bu2 := (bu_join c) $$ [E0 E1]
  · isplitl [E0]; · iexact E0
    iexact E1
  ihave Bd2 := (bd_join c) $$ [G0 G1]
  · isplitl [G0]; · iexact G0
    iexact G1
  icases Bg with ⟨Bg, A0, A1, A2⟩
  icases Bu with ⟨Bu, B0, B1, B2⟩
  icases Bd with ⟨Bd, C0, C1, C2⟩
  icases Bg2 with ⟨Bg2, D0, D1⟩
  icases Bu2 with ⟨Bu2, E0, E1⟩
  icases Bd2 with ⟨Bd2, G0, G1⟩
  isplitl [Hg Hu Hd Og Ou Od]
  · isplitl [Hg]; · iexact Hg
    isplitl [Hu]; · iexact Hu
    isplitl [Hd]; · iexact Hd
    isplitl [Og]; · iexact Og
    isplitl [Ou]; · iexact Ou
    iexact Od
  isplitl [A0 A1 A2 B0 B1 B2 C0 C1 C2 D0 D1 E0 E1 G0 G1]
  · isplitl [A0]; · iexact A0
    isplitl [A1]; · iexact A1
    isplitl [A2]; · iexact A2
    isplitl [B0]; · iexact B0
    isplitl [B1]; · iexact B1
    isplitl [B2]; · iexact B2
    isplitl [C0]; · iexact C0
    isplitl [C1]; · iexact C1
    isplitl [C2]; · iexact C2
    isplitl [D0]; · iexact D0
    isplitl [D1]; · iexact D1
    isplitl [E0]; · iexact E0
    isplitl [E1]; · iexact E1
    isplitl [G0]; · iexact G0
    iexact G1
  isplitr [Hp]
  swap
  · iexact Hp
  isplitl [Hx]; · iexists fx; iapply (of_eq (xn_whole c fx)); iexact Hx
  isplitl [Bg]; · iexact Bg
  isplitl [Bu]; · iexact Bu
  isplitl [Bd]; · iexact Bd
  isplitl [Bg2]; · iexact Bg2
  isplitl [Bu2]; · iexact Bu2
  iexact Bd2

/-- What the run ends with: the four results as computed, the arguments as launched, every semaphore counter at zero. -/
def Final (r : PUnit × MemSt nD τ sig (Elt F)) : Prop :=
  (∀ c : Dev nD,
    r.2.mem ((c : Thread nD τ).loc main_v3_0) = (dats m 0 c).arrAt 3 cfg0.N
    ∧ r.2.mem ((c : Thread nD τ).loc main_v3_1) = roundG c (V m c main_arg2)
    ∧ r.2.mem ((c : Thread nD τ).loc main_v3_2) = roundU c (V m c main_arg3)
    ∧ r.2.mem ((c : Thread nD τ).loc main_v3_3) = roundD c (V m c main_arg4)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5))
  ∧ r.2.sem = fun _ => 0

theorem final_of (r : PUnit × MemSt nD τ sig (Elt F)) (h : Pipeline.RoutedPost cfgs (dats m) 0 RR (V m) (YY m) r ∧ r.2.sem = fun _ => 0) : Final m r := by
  refine ⟨fun c => ?_, h.2⟩
  obtain ⟨hw, hr, hz⟩ := h.1 c
  refine ⟨hw 3, hr main_v3_1 (by decide), hr main_v3_2 (by decide), hr main_v3_3 (by decide), ?_, ?_, ?_, ?_, ?_, ?_⟩
  · exact (hz main_arg0 (by decide)).trans (V_main_arg0 m c)
  · exact (hz main_arg1 (by decide)).trans (V_main_arg1 m c)
  · exact (hr main_arg2 (by decide)).trans (V_main_arg2 m c)
  · exact (hr main_arg3 (by decide)).trans (V_main_arg3 m c)
  · exact (hr main_arg4 (by decide)).trans (V_main_arg4 m c)
  · exact (hz main_arg5 (by decide)).trans (V_main_arg5 m c)

/-- Every weakly fair execution terminates, with every counter at zero, the arguments unchanged and the results as computed. -/
theorem run_main : θ_run defs (onTc (τ := τ) (main (F := F))) (s₀ m ρ) (Final m) :=
  Pipeline.θ_run_frame_routed cfgs (dats m) (0 : Fin 1) launch0 ownSemFacts defs₀ 𝒱₀ m ρ main
    (hbody := fun c => (body_obligation m c).loose) (hshare := fun c => (dats m 0 c).share_full fun _ => rfl) (howed := fun _ _ => rfl)
    (V := V m) (hmain := hmainU m) (hA := fun _ _ => rfl) (R := RR) (hR := by decide) (Y := YY m)
    (hin := fun c => (into_body m c).trans (of_eq (Φ_zero m c 0 rfl).symm))
    (hout := fun c => (of_eq (Φ_succ m c (Fin.last cfg0.N) (by decide))).trans (out_of_body m c))
    (Q' := Final m) (hQ' := fun r h => final_of m r h)

end Launch

end Cert.Proof.Ffn

end
-- ==== Proof.Values.lean ====
/- The values at the ideal instance, read at an index: the kernel's rows. -/
module

public import proofs.«01_k».proof.Proof.Launch
public import Idealize.ShloMosaic.Lib.Pointwise

@[expose] public section

set_option maxRecDepth 16384

noncomputable section

namespace Cert.Proof.Ffn

open Cert.KernelIdeal Cert.KernelIdeal.Gen
open Idealize.ShloMosaic Idealize.ShloMosaic.TcCoe
open Idealize.ShloMosaic.Ring (bk)

/-! ## The formulas, over extended reals -/

/-- An element of a row normalized by its root mean square. -/
def rmsAt (x g : Fin 2048 → EReal) (l : Fin 2048) : EReal :=
  x l * Ideal.rsqrt (Ideal.div (∑ k, x k * x k) (Ideal.ofBits .f32 0x45000000#32) + Ideal.ofBits .f32 0x358637BD#32) * g l

/-- The logistic function. -/
def logis (a : EReal) : EReal := Ideal.div 1 (1 + Ideal.exp (-a))

/-- The factor of the residual half step. -/
abbrev halfE : EReal := Ideal.ofBits .f32 0x3F000000#32

/-- A hidden unit as the kernel computes it, from its gate and its value. -/
def unitK (a b : EReal) : EReal := halfE * (a * logis a) * b

theorem halfE_eq : halfE = ((0.5 : ℝ) : EReal) := by
  unfold halfE; simp [Ideal.ofBits, Ideal.ieee]; rw [← EReal.coe_mul]; norm_num

/-- The factor goes into a sum. -/
theorem half_sum {ι : Type} (s : Finset ι) (f : ι → EReal) : halfE * ∑ i ∈ s, f i = ∑ i ∈ s, halfE * f i := by
  classical
  induction s using Finset.induction_on with
  | empty => simp
  | insert a s ha ih =>
    rw [Finset.sum_insert ha, Finset.sum_insert ha, ← ih, halfE_eq]
    exact EReal.left_distrib_of_nonneg_of_ne_top (by positivity) (EReal.coe_ne_top _) _ _

/-! ## The body's vector expressions at an index -/

theorem pay1_at (v : S128x2048.Idx → Elt Ideal .f32) (g : S1x2048.Idx → Elt Ideal .f32) (r : Fin 128) (l : Fin 2048) :
    k0_pay1 (F := Ideal) v g (ix2 r l) = rmsAt (fun k => v (ix2 r k)) (fun k => g (ix2 0 k)) l := by
  pointwise [k0_pay1, rmsAt]

theorem pay8_at (v : S128x2048.Idx → Elt Ideal .f32) (g : S1x2048.Idx → Elt Ideal .f32) (r : Fin 128) (l : Fin 2048) :
    k0_pay8 (F := Ideal) v g (ix2 r l) = rmsAt (fun k => v (ix2 r k)) (fun k => g (ix2 0 k)) l := by
  pointwise [k0_pay8, k0_pay7, rmsAt]

theorem accNext_at (xv : S1024x2048.Idx → Elt Ideal .bf16) (g u : S2048x256.Idx → Elt Ideal .bf16) (d : S256x2048.Idx → Elt Ideal .bf16)
    (o : S1024x2048.Idx → Elt Ideal .f32) (r : Fin 1024) (l : Fin 2048) :
    accNext (F := Ideal) xv g u d o (ix2 r l)
      = o (ix2 r l) + ∑ t : Fin 256, unitK (∑ k : Fin 2048, xv (ix2 r k) * g (ix2 k t)) (∑ k : Fin 2048, xv (ix2 r k) * u (ix2 k t)) * d (ix2 t l) := by
  have z : ∀ a : EReal, 0 - a = -a := fun a => by rw [sub_eq_add_neg, zero_add]
  pointwise [accNext, k0_pay6, k0_pay5, unitK, logis, halfE]
  simp only [z]

/-! ## The rows -/

theorem rowsB_at {α : Type} (b : Fin 8) (x : S1024x2048.Idx → α) (r : Fin 128) (l : Fin 2048) (h : 128 * b.val + r.val < 1024) :
    rowsB b x (ix2 r l) = x (ix2 ⟨128 * b.val + r.val, h⟩ l) := by
  refine congrArg x (funext fun a => Fin.ext ?_)
  fin_cases a
  · show 128 * b.val + 1 * r.val = 128 * b.val + r.val; omega
  · show 0 + 1 * l.val = l.val; omega

theorem glue_norm (P : (S128x2048.Idx → Elt Ideal .f32) → S128x2048.Idx → EReal) (g : Fin 2048 → EReal)
    (hP : ∀ v r l, P v (ix2 r l) = rmsAt (fun k => v (ix2 r k)) g l) (x : S1024x2048.Idx → Elt Ideal .f32) (r : Fin 1024) (l : Fin 2048) :
    glue (fun b => P (rowsB b x)) (ix2 r l) = rmsAt (fun k => x (ix2 r k)) g l := by
  have hr := r.isLt
  have e : inBlk (ix2 r l) = ix2 (⟨r.val % 128, Nat.mod_lt _ (by decide)⟩ : Fin 128) l := by
    funext a; fin_cases a <;> rfl
  unfold glue; rw [e]
  refine (hP _ _ _).trans ?_
  refine congrArg (fun f => rmsAt f g l) (funext fun k => ?_)
  refine (rowsB_at _ _ _ _ (by show 128 * (r.val / 128) + r.val % 128 < 1024; omega)).trans (congrArg (fun q => x (ix2 q k)) (Fin.ext ?_))
  show 128 * (r.val / 128) + r.val % 128 = r.val; omega

theorem normRows_at (x : S1024x2048.Idx → Elt Ideal .f32) (g : S1x2048.Idx → Elt Ideal .f32) (r : Fin 1024) (l : Fin 2048) :
    normRows (F := Ideal) x g (ix2 r l) = rmsAt (fun k => x (ix2 r k)) (fun k => g (ix2 0 k)) l :=
  glue_norm (fun v => k0_pay8 (F := Ideal) v g) _ (fun v r l => pay8_at v g r l) x r l

theorem finRows_at (x : S1024x2048.Idx → Elt Ideal .f32) (g : S1x2048.Idx → Elt Ideal .f32) (r : Fin 1024) (l : Fin 2048) :
    finRows (F := Ideal) x g (ix2 r l) = rmsAt (fun k => x (ix2 r k)) (fun k => g (ix2 0 k)) l :=
  glue_norm (fun v => k0_pay1 (F := Ideal) v g) _ (fun v r l => pay1_at v g r l) x r l

/-! ## The accumulated rows -/

section Acc
variable (c : Dev nD) (Xg : Buf (Elt Ideal) (wgM.view.loc (c : Thread nD τ))) (Xu : Buf (Elt Ideal) (wuM.view.loc (c : Thread nD τ)))
  (Xd : Buf (Elt Ideal) (wdM.view.loc (c : Thread nD τ)))

/-- The product of row `r` with column `i`. -/
def dotAt (xv : S1024x2048.Idx → EReal) (W : S2048x5632.Idx → EReal) (r : Fin 1024) (i : Fin 5632) : EReal :=
  ∑ k : Fin 2048, xv (ix2 r k) * W (ix2 k i)

/-- What hidden unit `i` adds to element `(r, l)`. -/
def addsAt (xv : S1024x2048.Idx → EReal) (G U : S2048x5632.Idx → EReal) (D : S5632x2048.Idx → EReal) (r : Fin 1024) (l : Fin 2048) (i : Fin 5632) : EReal :=
  unitK (dotAt xv G r i) (dotAt xv U r i) * D (ix2 i l)

/-- The hidden unit at place `t` of block `b`. -/
abbrev unitOf (b : Fin 22) (t : Fin 256) : Fin 5632 := ⟨b.val * 256 + t.val, by omega⟩

theorem colG_at (b : Fin 22) (k : Fin 2048) (t : Fin 256) :
    castC (F := Ideal) ((colBlk wgM b).view.read (Elt Ideal) Xg) (ix2 k t) = Xg (ix2 k (unitOf b t)) := by
  refine congrArg Xg (funext fun a => Fin.ext ?_)
  fin_cases a
  · show 0 + 1 * k.val = k.val; omega
  · show 256 * b.val + 1 * t.val = b.val * 256 + t.val; omega

theorem colU_at (b : Fin 22) (k : Fin 2048) (t : Fin 256) :
    castC (F := Ideal) ((colBlk wuM b).view.read (Elt Ideal) Xu) (ix2 k t) = Xu (ix2 k (unitOf b t)) := by
  refine congrArg Xu (funext fun a => Fin.ext ?_)
  fin_cases a
  · show 0 + 1 * k.val = k.val; omega
  · show 256 * b.val + 1 * t.val = b.val * 256 + t.val; omega

theorem rowD_at (b : Fin 22) (t : Fin 256) (l : Fin 2048) :
    castR (F := Ideal) ((rowBlk wdM b).view.read (Elt Ideal) Xd) (ix2 t l) = Xd (ix2 (unitOf b t) l) := by
  refine congrArg Xd (funext fun a => Fin.ext ?_)
  fin_cases a
  · show 256 * b.val + 1 * t.val = b.val * 256 + t.val; omega
  · show 0 + 1 * l.val = l.val; omega

theorem oAcc_at (xv : S1024x2048.Idx → Elt Ideal .bf16) (x : S1024x2048.Idx → Elt Ideal .f32) (r : Fin 1024) (l : Fin 2048) : ∀ n : ℕ,
    oAcc (F := Ideal) c Xg Xu Xd xv x n (ix2 r l)
      = x (ix2 r l) + ∑ b ∈ Finset.range n, ∑ t : Fin 256, addsAt xv Xg Xu Xd r l (unitOf (bk 22 b) t)
  | 0 => by simp [oAcc]
  | n + 1 => by
    rw [Finset.sum_range_succ, ← add_assoc, ← oAcc_at xv x r l n]
    refine (accNext_at _ _ _ _ _ r l).trans ?_
    refine congrArg (oAcc (F := Ideal) c Xg Xu Xd xv x n (ix2 r l) + ·) (Finset.sum_congr rfl fun t _ => ?_)
    unfold addsAt dotAt
    simp only [colG_at, colU_at, rowD_at]

/-- All 22 blocks: the sum over the hidden units. -/
theorem oAcc_all (xv : S1024x2048.Idx → Elt Ideal .bf16) (x : S1024x2048.Idx → Elt Ideal .f32) (r : Fin 1024) (l : Fin 2048) :
    oAcc (F := Ideal) c Xg Xu Xd xv x 22 (ix2 r l) = x (ix2 r l) + ∑ i : Fin 5632, addsAt xv Xg Xu Xd r l i := by
  rw [oAcc_at, Idealize.ShloMosaic.Fin.sum_univ_tiles 22 256 rfl, Finset.sum_range]
  refine congrArg (x (ix2 r l) + ·) (Finset.sum_congr rfl fun b _ => Finset.sum_congr rfl fun t _ => ?_)
  refine congrArg (addsAt xv Xg Xu Xd r l) (Fin.ext ?_)
  show (b.val % 22) * 256 + t.val = b.val * 256 + t.val
  rw [Nat.mod_eq_of_lt b.isLt]

end Acc

end Cert.Proof.Ffn

end
-- ==== Proof.Agree.lean ====
/- The reference's rows at the ideal instance, and their equality with the kernel's. -/
module

public import proofs.«01_k».proof.Proof.Values
public import proofs.«01_k».proof.Proof.Gen.ReferenceIdeal.Run
public import Idealize.ShloMosaic.Lib.Tactic.CleanTypes

@[expose] public section

set_option maxRecDepth 16384

noncomputable section

namespace Cert.Proof.Ffn

open Idealize.ShloMosaic Idealize.ShloMosaic.TcCoe Idealize.SL.Sem

section Reference
open Cert.ReferenceIdeal Cert.ReferenceIdeal.Gen

/-- The reference's row normalization. -/
def refNorm (x : FVec Ideal S1024x2048 .f32) (g : FVec Ideal S2048 .f32) : FVec Ideal S1024x2048 .f32 :=
  mulf (mulf x (broadcastInDim S1024x2048 ![0, 1] bcast_S1024x1_S1024x2048_0_1
      (Host.rsqrt (addf (Host.divf
          (broadcastInDim S1024x1 ![0] bcast_S1024_S1024x1_0
            (Host.reduceAdd (mulf x x) (constant S_ .f32 0x00000000#32) reducesTo_S1024x2048_S1024_d1 h_S_))
          (broadcastInDim S1024x1 ![] bcast_S_S1024x1 (constant S_ .f32 0x45000000#32)))
        (broadcastInDim S1024x1 ![] bcast_S_S1024x1 (constant S_ .f32 0x358637BD#32))))))
    (broadcastInDim S1024x2048 ![0, 1] bcast_S1x2048_S1024x2048_0_1 (broadcastInDim S1x2048 ![1] bcast_S2048_S1x2048_1 g))

/-- The reference's gate: each element times its logistic. -/
def refSilu (g : FVec Ideal S1024x5632 .f32) : FVec Ideal S1024x5632 .f32 :=
  mulf g (Host.divf (broadcastInDim S1024x5632 ![] bcast_S_S1024x5632 (constant S_ .f32 0x3F800000#32))
    (addf (broadcastInDim S1024x5632 ![] bcast_S_S1024x5632 (constant S_ .f32 0x3F800000#32)) (Host.exp (Host.negf g))))

/-- The reference's residual half step. -/
def refStep (x xn : FVec Ideal S1024x2048 .f32) (G U : FVec Ideal S2048x5632 .f32) (D : FVec Ideal S5632x2048 .f32) :
    FVec Ideal S1024x2048 .f32 :=
  addf x (mulf (broadcastInDim S1024x2048 ![] bcast_S_S1024x2048 (constant S_ .f32 0x3F000000#32))
    (Host.dotGeneral dot_S1024x5632_S5632x2048_S1024x2048_1_0_0_1_n_n none
      (mulf (refSilu (Host.dotGeneral dot_S1024x2048_S2048x5632_S1024x5632_1_0_0_1_n_n none xn G))
        (Host.dotGeneral dot_S1024x2048_S2048x5632_S1024x5632_1_0_0_1_n_n none xn U)) D))

theorem refNorm_at (x : S1024x2048.Idx → Elt Ideal .f32) (g : S2048.Idx → Elt Ideal .f32) (r : Fin 1024) (l : Fin 2048) :
    refNorm x g (ix2 r l) = rmsAt (fun k => x (ix2 r k)) (fun k => g (ix1 k)) l := by
  pointwise [refNorm, rmsAt]

theorem refStep_at (x xn : S1024x2048.Idx → Elt Ideal .f32) (G U : S2048x5632.Idx → Elt Ideal .f32) (D : S5632x2048.Idx → Elt Ideal .f32)
    (r : Fin 1024) (l : Fin 2048) :
    refStep x xn G U D (ix2 r l) = x (ix2 r l) + halfE * ∑ i : Fin 5632, dotAt xn G r i * logis (dotAt xn G r i) * dotAt xn U r i * D (ix2 i l) := by
  pointwise [refStep, refSilu, dotAt, logis, halfE]

theorem res_eq (m : (ℓ : Loc nD τ sig) → Buf (Elt Ideal) ℓ) (c : Dev nD) :
    Value.res_main_v34 (F := Ideal) m c
      = refNorm (refStep (shapeCast S1024x2048 (m ((c.tc : Thread nD τ).loc main_arg0)) shapeCasts_S128x8x2048_S1024x2048)
            (refNorm (shapeCast S1024x2048 (m ((c.tc : Thread nD τ).loc main_arg0)) shapeCasts_S128x8x2048_S1024x2048) (m ((c.tc : Thread nD τ).loc main_arg1)))
            (m ((c.tc : Thread nD τ).loc main_arg2)) (m ((c.tc : Thread nD τ).loc main_arg3)) (m ((c.tc : Thread nD τ).loc main_arg4)))
          (m ((c.tc : Thread nD τ).loc main_arg5)) := by
  unfold Value.res_main_v34 refNorm refStep refSilu
  rfl

end Reference

open Cert.KernelIdeal Cert.KernelIdeal.Gen

/-- The residual half steps agree: the factor goes into the sum over the hidden units. -/
theorem step_eq (c : Dev nD) (x : S1024x2048.Idx → Elt Ideal .f32) (xn : S1024x2048.Idx → EReal)
    (Xg : Buf (Elt Ideal) (wgM.view.loc (c : Thread nD τ))) (Xu : Buf (Elt Ideal) (wuM.view.loc (c : Thread nD τ)))
    (Xd : Buf (Elt Ideal) (wdM.view.loc (c : Thread nD τ))) :
    oAcc (F := Ideal) c Xg Xu Xd xn x 22 = refStep x xn Xg Xu Xd := by
  funext j
  obtain ⟨r, l, rfl⟩ : ∃ (r : Fin 1024) (l : Fin 2048), j = ix2 r l := ⟨j 0, j 1, eq_ix2 j⟩
  rw [oAcc_all, refStep_at, half_sum]
  refine congrArg (x (ix2 r l) + ·) (Finset.sum_congr rfl fun i _ => ?_)
  unfold addsAt unitK
  simp only [mul_assoc]

theorem norm_eq (x : S1024x2048.Idx → Elt Ideal .f32) (g : S2048.Idx → Elt Ideal .f32) :
    normRows (F := Ideal) x (shapeCast S1x2048 g shapeCasts_S2048_S1x2048) = refNorm x g := by
  funext j
  obtain ⟨r, l, rfl⟩ : ∃ (r : Fin 1024) (l : Fin 2048), j = ix2 r l := ⟨j 0, j 1, eq_ix2 j⟩
  rw [normRows_at, refNorm_at]
  refine congrArg (fun f => rmsAt _ f l) (funext fun k => ?_)
  pointwise

theorem fin_eq (x : S1024x2048.Idx → Elt Ideal .f32) (g : S2048.Idx → Elt Ideal .f32) :
    finRows (F := Ideal) x (shapeCast S1x2048 g shapeCasts_S2048_S1x2048) = refNorm x g := by
  funext j
  obtain ⟨r, l, rfl⟩ : ∃ (r : Fin 1024) (l : Fin 2048), j = ix2 r l := ⟨j 0, j 1, eq_ix2 j⟩
  rw [finRows_at, refNorm_at]
  refine congrArg (fun f => rmsAt _ f l) (funext fun k => ?_)
  pointwise

section Launched
variable (m : (ℓ : Loc nD τ sig) → Buf (Elt Ideal) ℓ) (c : Dev nD)

theorem V_main_v0 : V m c main_v0 = shapeCast S1024x2048 (m ((c : Thread nD τ).loc main_arg0)) shapeCasts_S128x8x2048_S1024x2048 := by
  unfold V hostOps0; after_results_simp <;> rfl
theorem V_main_v1 : V m c main_v1 = shapeCast S1x2048 (m ((c : Thread nD τ).loc main_arg1)) shapeCasts_S2048_S1x2048 := by
  unfold V hostOps0; after_results_simp <;> rfl
theorem V_main_v2 : V m c main_v2 = shapeCast S1x2048 (m ((c : Thread nD τ).loc main_arg5)) shapeCasts_S2048_S1x2048 := by
  unfold V hostOps0; after_results_simp <;> rfl

/-- The one point's blocks are the whole arrays. -/
theorem blk0 (w : S1024x2048.Idx → Elt Ideal .f32) (h : V m c main_v0 = w) (t : Fin cfg0.N) : iblk m c 0 t = w := by
  rw [fin_N0 t, ← h]
  funext i
  refine congrArg (V m c main_v0) (funext fun a => Fin.ext ?_)
  fin_cases a
  · show 0 + 1 * (i 0).val = (i 0).val; omega
  · show 0 + 1 * (i 1).val = (i 1).val; omega
theorem blk1 (w : S1x2048.Idx → Elt Ideal .f32) (h : V m c main_v1 = w) (t : Fin cfg0.N) : iblk m c 1 t = w := by
  rw [fin_N0 t, ← h]
  funext i
  refine congrArg (V m c main_v1) (funext fun a => Fin.ext ?_)
  fin_cases a
  · show 0 + 1 * (i 0).val = (i 0).val; omega
  · show 0 + 1 * (i 1).val = (i 1).val; omega
theorem blk2 (w : S1x2048.Idx → Elt Ideal .f32) (h : V m c main_v2 = w) (t : Fin cfg0.N) : iblk m c 2 t = w := by
  rw [fin_N0 t, ← h]
  funext i
  refine congrArg (V m c main_v2) (funext fun a => Fin.ext ?_)
  fin_cases a
  · show 0 + 1 * (i 0).val = (i 0).val; omega
  · show 0 + 1 * (i 1).val = (i 1).val; omega

/-- What the kernel writes, from its arguments. -/
theorem outAt_eq (t : Fin cfg0.N) :
    outAt m c t
      = refNorm (refStep (shapeCast S1024x2048 (m ((c : Thread nD τ).loc main_arg0)) shapeCasts_S128x8x2048_S1024x2048)
            (refNorm (shapeCast S1024x2048 (m ((c : Thread nD τ).loc main_arg0)) shapeCasts_S128x8x2048_S1024x2048) (m ((c : Thread nD τ).loc main_arg1)))
            (m ((c : Thread nD τ).loc main_arg2)) (m ((c : Thread nD τ).loc main_arg3)) (m ((c : Thread nD τ).loc main_arg4)))
          (m ((c : Thread nD τ).loc main_arg5)) := by
  unfold outAt outRows
  rw [blk0 m c _ (V_main_v0 m c) t, blk1 m c _ (V_main_v1 m c) t, blk2 m c _ (V_main_v2 m c) t, V_main_arg2, V_main_arg3, V_main_arg4]
  rw [fin_eq, norm_eq, step_eq]

theorem arr_out (G : S1024x2048.Idx → Elt Ideal .f32) (hG : ∀ t, outAt m c t = G) : (dats m 0 c).arrAt 3 cfg0.N = G := by
  have e : ∀ (t : Fin cfg0.N) (i : S1024x2048.Idx), ((cfg0.win 3).blk t).view.emb i = i := fun t i => by
    rw [fin_N0 t]
    refine funext fun a => Fin.ext ?_
    fin_cases a
    · show 0 + 1 * (i 0).val = (i 0).val; omega
    · show 0 + 1 * (i 1).val = (i 1).val; omega
  refine (dats m 0 c).arrAt_eq_of_cover 3 G (fun t _ => ?_) (fun i => ⟨⟨0, by decide⟩, flush0_3 _, ?_⟩)
  · refine (show (dats m 0 c).flushed 3 t = outAt m c t from rfl).trans ((hG t).trans (funext fun i => ?_))
    exact congrArg G (e t i).symm
  · have h := View.emb_mem_set ((cfg0.win 3).blk ⟨0, by decide⟩).view i
    rwa [e] at h

end Launched

end Cert.Proof.Ffn

end
-- ==== Proof.Agree3.lean ====
/- The memory's keys and values: the call, its reference at the ideal instance, and their equality. -/
module

public import proofs.«01_k».proof.Proof.Gen.Kernel3Ideal.Value
public import proofs.«01_k».proof.Proof.Gen.Reference3Ideal.Run
public import proofs.«01_k».proof.Proof.Values
public import Idealize.ShloMosaic.Lib.Writes
public import Idealize.ShloMosaic.Lib.Pipeline.CanonAppend
public import Idealize.ShloMosaic.Lib.Pipeline.ValueKit.Tiles
public import Idealize.ShloMosaic.Lib.Pointwise
public import Idealize.ShloMosaic.Lib.Pipeline.Value
public import Idealize.ShloMosaic.Lib.Tactic.CleanTypes

@[expose] public section

set_option maxRecDepth 16384

noncomputable section

namespace Cert.Proof.MemKv

open Idealize.ShloMosaic Idealize.ShloMosaic.TcCoe Idealize.SL.Sem
open Cert.Proof.Ffn (rmsAt)

section Reference
open Cert.Reference3Ideal Cert.Reference3Ideal.Gen

/-- The reference's row normalization. -/
def refNorm (x : FVec Ideal S1024x2048 .f32) (g : FVec Ideal S2048 .f32) : FVec Ideal S1024x2048 .f32 :=
  mulf (mulf x (broadcastInDim S1024x2048 ![0, 1] bcast_S1024x1_S1024x2048_0_1
      (Host.rsqrt (addf (Host.divf
          (broadcastInDim S1024x1 ![0] bcast_S1024_S1024x1_0
            (Host.reduceAdd (mulf x x) (constant S_ .f32 0x00000000#32) reducesTo_S1024x2048_S1024_d1 h_S_))
          (broadcastInDim S1024x1 ![] bcast_S_S1024x1 (constant S_ .f32 0x45000000#32)))
        (broadcastInDim S1024x1 ![] bcast_S_S1024x1 (constant S_ .f32 0x358637BD#32))))))
    (broadcastInDim S1024x2048 ![0, 1] bcast_S1x2048_S1024x2048_0_1 (broadcastInDim S1x2048 ![1] bcast_S2048_S1x2048_1 g))

/-- The reference, of its arguments: one of the two products. -/
def refAll (x : FVec Ideal S4x256x2048 .f32) (g : FVec Ideal S2048 .f32) (W : FVec Ideal S2048x512 .f32) : FVec Ideal S1024x512 .f32 :=
  Host.dotGeneral dot_S1024x2048_S2048x512_S1024x512_1_0_0_1_n_n none
    (refNorm (shapeCast S1024x2048 x shapeCasts_S4x256x2048_S1024x2048) g) W

theorem refNorm_at (x : S1024x2048.Idx → Elt Ideal .f32) (g : S2048.Idx → Elt Ideal .f32) (r : Fin 1024) (l : Fin 2048) :
    refNorm x g (ix2 r l) = rmsAt (fun k => x (ix2 r k)) (fun k => g (ix1 k)) l := by
  pointwise [refNorm, rmsAt]

theorem refDot_at (xn : FVec Ideal S1024x2048 .f32) (W : FVec Ideal S2048x512 .f32) (r : Fin 1024) (l : Fin 512) :
    (Host.dotGeneral dot_S1024x2048_S2048x512_S1024x512_1_0_0_1_n_n none xn W : FVec Ideal S1024x512 .f32) (ix2 r l)
      = ∑ k : Fin 2048, xn (ix2 r k) * W (ix2 k l) := by
  pointwise

end Reference

open Cert.Kernel3Ideal Cert.Kernel3Ideal.Gen Cert.Kernel3Ideal.Value

theorem hz : (![0, 0] : Fin 2 → Nat) = fun _ => 0 := funext fun a => by fin_cases a <;> rfl

theorem out4_eq (x0 : Vec Ideal S256x2048 .f32) (x1 : Vec Ideal S1x2048 .f32) (x2 x3 : Vec Ideal S2048x512 .f32) :
    out0_4 (F := Ideal) x0 x1 x2 x3 = k0_pay2 x0 x1 x2 := by
  unfold out0_4
  refine (View.canon_unit_zero hz _ _).trans ?_
  exact congr (congr (congrArg k0_pay2 (View.ld_unit_zero (S := S256x2048) hz _ x0)) (View.ld_unit_zero (S := S1x2048) hz _ x1))
    (View.ld_unit_zero (S := S2048x512) hz _ x2)

theorem out5_eq (x0 : Vec Ideal S256x2048 .f32) (x1 : Vec Ideal S1x2048 .f32) (x2 x3 : Vec Ideal S2048x512 .f32) :
    out0_5 (F := Ideal) x0 x1 x2 x3 = k0_pay3 x0 x1 x3 := by
  unfold out0_5
  refine (View.canon_unit_zero hz _ _).trans ?_
  exact congr (congr (congrArg k0_pay3 (View.ld_unit_zero (S := S256x2048) hz _ x0)) (View.ld_unit_zero (S := S1x2048) hz _ x1))
    (View.ld_unit_zero (S := S2048x512) hz _ x3)

theorem pay2_at (v : S256x2048.Idx → Elt Ideal .f32) (g : S1x2048.Idx → Elt Ideal .f32) (w : S2048x512.Idx → Elt Ideal .f32) (r : Fin 256) (l : Fin 512) :
    k0_pay2 (F := Ideal) v g w (ix2 r l) = ∑ k : Fin 2048, rmsAt (fun k => v (ix2 r k)) (fun k => g (ix2 0 k)) k * w (ix2 k l) := by
  pointwise [k0_pay2, k0_pay1, rmsAt]

theorem pay3_at (v : S256x2048.Idx → Elt Ideal .f32) (g : S1x2048.Idx → Elt Ideal .f32) (w : S2048x512.Idx → Elt Ideal .f32) (r : Fin 256) (l : Fin 512) :
    k0_pay3 (F := Ideal) v g w (ix2 r l) = ∑ k : Fin 2048, rmsAt (fun k => v (ix2 r k)) (fun k => g (ix2 0 k)) k * w (ix2 k l) := by
  pointwise [k0_pay3, k0_pay1, rmsAt]

/-- Row `r` of row block `b`. -/
def rowIx (b : ℕ) (r : Fin 256) : Fin 1024 := ⟨b % 4 * 256 + r.val, by have := r.isLt; have := Nat.mod_lt b (show 0 < 4 by decide); omega⟩

section Blocks
variable (m : (ℓ : Loc nD τ sig) → Buf (Elt Ideal) ℓ) (c : Dev nD)

theorem V_main_v0 : V m c main_v0 = shapeCast S1024x2048 (m ((c : Thread nD τ).loc main_arg0)) shapeCasts_S4x256x2048_S1024x2048 := by
  unfold V hostOps0; after_results_simp <;> rfl
theorem V_main_v1 : V m c main_v1 = shapeCast S1x2048 (m ((c : Thread nD τ).loc main_arg1)) shapeCasts_S2048_S1x2048 := by
  unfold V hostOps0; after_results_simp <;> rfl

theorem idx0 : ∀ t : Fin cfg0.N, win0_0.index t (0 : Fin 2) = t.val % 4 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = t.val % 4 ∧ win0_4.index t (1 : Fin 2) = 0 :=
  (by decide +kernel : ∀ t : Fin grid0.N, _)
theorem idx5 : ∀ t : Fin cfg0.N, win0_5.index t (0 : Fin 2) = t.val % 4 ∧ win0_5.index t (1 : Fin 2) = 0 :=
  (by decide +kernel : ∀ t : Fin grid0.N, _)
theorem fl4 : ∀ t : Fin cfg0.N, (cfg0.win 4).flush t = true :=
  (by decide +kernel : ∀ t : Fin grid0.N, win0_4.flush t = true)
theorem fl5 : ∀ t : Fin cfg0.N, (cfg0.win 5).flush t = true :=
  (by decide +kernel : ∀ t : Fin grid0.N, win0_5.flush t = true)

theorem blk0 (w : S1024x2048.Idx → Elt Ideal .f32) (h : V m c main_v0 = w) (t : Fin cfg0.N) (r : Fin 256) (k : Fin 2048) :
    iblk m c 0 t (ix2 r k) = w (ix2 (rowIx t.val r) k) := by
  obtain ⟨e0, e1⟩ := idx0 t
  rw [← h]
  refine congrArg (V m c main_v0) (funext fun a => Fin.ext ?_)
  fin_cases a
  · show win0_0.index t (0 : Fin 2) * 256 + 1 * r.val = t.val % 4 * 256 + r.val; omega
  · show win0_0.index t (1 : Fin 2) * 2048 + 1 * k.val = k.val; omega
theorem blk1 (w : S1x2048.Idx → Elt Ideal .f32) (h : V m c main_v1 = w) (t : Fin cfg0.N) : iblk m c 1 t = w := by
  obtain ⟨e0, e1⟩ := idx1 t
  rw [← h]
  funext i
  refine congrArg (V m c main_v1) (funext fun a => Fin.ext ?_)
  fin_cases a
  · show win0_1.index t (0 : Fin 2) * 1 + 1 * (i 0).val = (i 0).val; omega
  · show win0_1.index t (1 : Fin 2) * 2048 + 1 * (i 1).val = (i 1).val; omega
theorem blk2 (w : S2048x512.Idx → Elt Ideal .f32) (h : V m c main_arg2 = w) (t : Fin cfg0.N) : iblk m c 2 t = w := by
  obtain ⟨e0, e1⟩ := idx2 t
  rw [← h]
  funext i
  refine congrArg (V m c main_arg2) (funext fun a => Fin.ext ?_)
  fin_cases a
  · show win0_2.index t (0 : Fin 2) * 2048 + 1 * (i 0).val = (i 0).val; omega
  · show win0_2.index t (1 : Fin 2) * 512 + 1 * (i 1).val = (i 1).val; omega
theorem blk3 (w : S2048x512.Idx → Elt Ideal .f32) (h : V m c main_arg3 = w) (t : Fin cfg0.N) : iblk m c 3 t = w := by
  obtain ⟨e0, e1⟩ := idx3 t
  rw [← h]
  funext i
  refine congrArg (V m c main_arg3) (funext fun a => Fin.ext ?_)
  fin_cases a
  · show win0_3.index t (0 : Fin 2) * 2048 + 1 * (i 0).val = (i 0).val; omega
  · show win0_3.index t (1 : Fin 2) * 512 + 1 * (i 1).val = (i 1).val; omega

/-- The rows of a point's block agree with the reference's. -/
theorem rows_eq (w : S2048x512.Idx → Elt Ideal .f32) (t : Fin cfg0.N) (r : Fin 256) (l : Fin 512) :
    (∑ k : Fin 2048, rmsAt (fun k => iblk m c 0 t (ix2 r k)) (fun k => iblk m c 1 t (ix2 0 k)) k * w (ix2 k l) : EReal)
      = refAll (m ((c : Thread nD τ).loc main_arg0)) (m ((c : Thread nD τ).loc main_arg1)) w (ix2 (rowIx t.val r) l) := by
  have e : ∀ (f : S2048.Idx → Elt Ideal .f32) (k : Fin 2048), shapeCast S1x2048 f shapeCasts_S2048_S1x2048 (ix2 0 k) = f (ix1 k) := fun f k => by
    pointwise
  unfold refAll
  refine Eq.trans ?_ (refDot_at _ _ (rowIx t.val r) l).symm
  refine Finset.sum_congr rfl fun k _ => congrArg (· * _) ?_
  refine Eq.trans ?_ (refNorm_at _ _ (rowIx t.val r) k).symm
  rw [blk1 m c _ (V_main_v1 m c)]
  refine congrArg₂ (fun f g => rmsAt f g k) (funext fun k => ?_) (funext fun k => e _ k)
  exact blk0 m c _ (V_main_v0 m c) t r k

/-- What the kernel writes to output 4, from its arguments. -/
theorem arr_4 : (dats m 0 c).arrAt 4 cfg0.N
    = refAll (m ((c : Thread nD τ).loc main_arg0)) (m ((c : Thread nD τ).loc main_arg1)) (m ((c : Thread nD τ).loc main_arg2)) := by
  have e : ∀ (t : Fin cfg0.N) (r : Fin 256) (l : Fin 512), ((cfg0.win 4).blk t).view.emb (ix2 r l) = ix2 (rowIx t.val r) l := fun t r l => by
    obtain ⟨e0, e1⟩ := idx4 t
    refine funext fun a => Fin.ext ?_
    fin_cases a
    · show win0_4.index t (0 : Fin 2) * 256 + 1 * r.val = t.val % 4 * 256 + r.val; omega
    · show win0_4.index t (1 : Fin 2) * 512 + 1 * l.val = l.val; omega
  refine (dats m 0 c).arrAt_eq_of_cover 4 _ (fun t _ => ?_) (fun i => ?_)
  · rw [flushed4, out4_eq, blk2 m c _ (V_main_arg2 m c)]
    funext y
    obtain ⟨r, l, rfl⟩ : ∃ (r : Fin 256) (l : Fin 512), y = ix2 r l := ⟨y 0, y 1, eq_ix2 y⟩
    refine (pay2_at (iblk m c 0 t) (iblk m c 1 t) (m ((c : Thread nD τ).loc main_arg2)) r l).trans ((rows_eq m c _ t r l).trans ?_)
    exact congrArg (refAll (m ((c : Thread nD τ).loc main_arg0)) (m ((c : Thread nD τ).loc main_arg1)) (m ((c : Thread nD τ).loc main_arg2))) (e t r l).symm
  · obtain ⟨r, l, rfl⟩ : ∃ (r : Fin 1024) (l : Fin 512), i = ix2 r l := ⟨i 0, i 1, eq_ix2 i⟩
    have hr := r.isLt
    have hN : r.val / 256 < cfg0.N := lt_of_lt_of_eq (by omega) (show cfg0.N = 4 from N_0).symm
    refine ⟨⟨r.val / 256, hN⟩, fl4 _, ?_⟩
    have h := View.emb_mem_set ((cfg0.win 4).blk ⟨r.val / 256, hN⟩).view (ix2 (⟨r.val % 256, Nat.mod_lt _ (by decide)⟩ : Fin 256) l)
    have hrow : rowIx (r.val / 256) ⟨r.val % 256, Nat.mod_lt _ (by decide)⟩ = r := Fin.ext (by
      show r.val / 256 % 4 * 256 + r.val % 256 = r.val; omega)
    rw [e] at h
    dsimp only at h
    rwa [hrow] at h

/-- What the kernel writes to output 5, from its arguments. -/
theorem arr_5 : (dats m 0 c).arrAt 5 cfg0.N
    = refAll (m ((c : Thread nD τ).loc main_arg0)) (m ((c : Thread nD τ).loc main_arg1)) (m ((c : Thread nD τ).loc main_arg3)) := by
  have e : ∀ (t : Fin cfg0.N) (r : Fin 256) (l : Fin 512), ((cfg0.win 5).blk t).view.emb (ix2 r l) = ix2 (rowIx t.val r) l := fun t r l => by
    obtain ⟨e0, e1⟩ := idx5 t
    refine funext fun a => Fin.ext ?_
    fin_cases a
    · show win0_5.index t (0 : Fin 2) * 256 + 1 * r.val = t.val % 4 * 256 + r.val; omega
    · show win0_5.index t (1 : Fin 2) * 512 + 1 * l.val = l.val; omega
  refine (dats m 0 c).arrAt_eq_of_cover 5 _ (fun t _ => ?_) (fun i => ?_)
  · rw [flushed5, out5_eq, blk3 m c _ (V_main_arg3 m c)]
    funext y
    obtain ⟨r, l, rfl⟩ : ∃ (r : Fin 256) (l : Fin 512), y = ix2 r l := ⟨y 0, y 1, eq_ix2 y⟩
    refine (pay3_at (iblk m c 0 t) (iblk m c 1 t) (m ((c : Thread nD τ).loc main_arg3)) r l).trans ((rows_eq m c _ t r l).trans ?_)
    exact congrArg (refAll (m ((c : Thread nD τ).loc main_arg0)) (m ((c : Thread nD τ).loc main_arg1)) (m ((c : Thread nD τ).loc main_arg3))) (e t r l).symm
  · obtain ⟨r, l, rfl⟩ : ∃ (r : Fin 1024) (l : Fin 512), i = ix2 r l := ⟨i 0, i 1, eq_ix2 i⟩
    have hr := r.isLt
    have hN : r.val / 256 < cfg0.N := lt_of_lt_of_eq (by omega) (show cfg0.N = 4 from N_0).symm
    refine ⟨⟨r.val / 256, hN⟩, fl5 _, ?_⟩
    have h := View.emb_mem_set ((cfg0.win 5).blk ⟨r.val / 256, hN⟩).view (ix2 (⟨r.val % 256, Nat.mod_lt _ (by decide)⟩ : Fin 256) l)
    have hrow : rowIx (r.val / 256) ⟨r.val % 256, Nat.mod_lt _ (by decide)⟩ = r := Fin.ext (by
      show r.val / 256 % 4 * 256 + r.val % 256 = r.val; omega)
    rw [e] at h
    dsimp only at h
    rwa [hrow] at h

end Blocks

end Cert.Proof.MemKv

end
-- ==== Proof.Agree4.lean ====
/- The normalized rows times the input weights, for the long batch: the call, its reference at the ideal instance, and their equality. -/
module

public import proofs.«01_k».proof.Proof.Gen.Kernel4Ideal.Value
public import proofs.«01_k».proof.Proof.Gen.Reference4Ideal.Run
public import proofs.«01_k».proof.Proof.Values
public import Idealize.ShloMosaic.Lib.Writes
public import Idealize.ShloMosaic.Lib.Pipeline.CanonAppend
public import Idealize.ShloMosaic.Lib.Pipeline.ValueKit.Tiles
public import Idealize.ShloMosaic.Lib.Pointwise
public import Idealize.ShloMosaic.Lib.Pipeline.Value
public import Idealize.ShloMosaic.Lib.Tactic.CleanTypes

@[expose] public section

set_option maxRecDepth 16384

noncomputable section

namespace Cert.Proof.InProj

open Idealize.ShloMosaic Idealize.ShloMosaic.TcCoe Idealize.SL.Sem
open Cert.Proof.Ffn (rmsAt)

section Reference
open Cert.Reference4Ideal Cert.Reference4Ideal.Gen

/-- The reference's row normalization. -/
def refNorm (x : FVec Ideal S8192x2048 .f32) (g : FVec Ideal S2048 .f32) : FVec Ideal S8192x2048 .f32 :=
  mulf (mulf x (broadcastInDim S8192x2048 ![0, 1] bcast_S8192x1_S8192x2048_0_1
      (Host.rsqrt (addf (Host.divf
          (broadcastInDim S8192x1 ![0] bcast_S8192_S8192x1_0
            (Host.reduceAdd (mulf x x) (constant S_ .f32 0x00000000#32) reducesTo_S8192x2048_S8192_d1 h_S_))
          (broadcastInDim S8192x1 ![] bcast_S_S8192x1 (constant S_ .f32 0x45000000#32)))
        (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 g))

/-- The reference, of its arguments. -/
def refAll (x : FVec Ideal S4x2048x2048 .f32) (g : FVec Ideal S2048 .f32) (W : FVec Ideal S2048x6144 .f32) : FVec Ideal S8192x6144 .f32 :=
  Host.dotGeneral dot_S8192x2048_S2048x6144_S8192x6144_1_0_0_1_n_n none
    (refNorm (shapeCast S8192x2048 x shapeCasts_S4x2048x2048_S8192x2048) g) W

theorem refNorm_at (x : S8192x2048.Idx → Elt Ideal .f32) (g : S2048.Idx → Elt Ideal .f32) (r : Fin 8192) (l : Fin 2048) :
    refNorm x g (ix2 r l) = rmsAt (fun k => x (ix2 r k)) (fun k => g (ix1 k)) l := by
  pointwise [refNorm, rmsAt]

theorem refDot_at (xn : FVec Ideal S8192x2048 .f32) (W : FVec Ideal S2048x6144 .f32) (r : Fin 8192) (l : Fin 6144) :
    (Host.dotGeneral dot_S8192x2048_S2048x6144_S8192x6144_1_0_0_1_n_n none xn W : FVec Ideal S8192x6144 .f32) (ix2 r l) = ∑ k : Fin 2048, xn (ix2 r k) * W (ix2 k l) := by
  pointwise

end Reference

open Cert.Kernel4Ideal Cert.Kernel4Ideal.Gen Cert.Kernel4Ideal.Value

theorem hz : (![0, 0] : Fin 2 → Nat) = fun _ => 0 := funext fun a => by fin_cases a <;> rfl

section Points
variable {F : FTy → Type} [FloatOps F]
variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1536 .bf16) (harg4 : arg4.IsWhole) (arg5 : Memref sig .tc .vmem S1024x1536 .f32) (harg5 : arg5.IsWhole) (arg6 : Memref sig .tc .vmem S1024x2048 .bf16) (harg6 : arg6.IsWhole)

/-- A first point leaves the normalized rows. -/
theorem sout_A (hc0 : cond0_0 i) (x0 : Vec F S1024x2048 .f32) (x1 : Vec F S1x2048 .f32) (x2 : Vec F S2048x1536 .bf16) :
    sout0_A_0 c i arg2 harg2 arg3 harg3 arg4 harg4 arg5 harg5 arg6 harg6 hc0 x0 x1 x2 = k0_pay1 x0 x1 := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_words
  refine (View.canon_unit_zero hz _ _).trans ?_
  simp only [View.readAt_eq_ld, harg2.read_unread, harg3.read_unread,
    View.ld_unit_zero (S := S1024x2048) hz, View.ld_unit_zero (S := S1x2048) hz]

/-- A first point writes the product of the normalized rows. -/
theorem out_A (hc0 : cond0_0 i) (x0 : Vec F S1024x2048 .f32) (x1 : Vec F S1x2048 .f32) (x2 : Vec F S2048x1536 .bf16) :
    out0_A_3 c i arg2 harg2 arg3 harg3 arg4 harg4 arg5 harg5 arg6 harg6 hc0 x0 x1 x2 = k0_pay2 (k0_pay1 x0 x1) x2 := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  refine (View.canon_unit_zero hz _ _).trans ?_
  simp only [View.readCov_eq_canon', View.readAt_eq_ld, harg2.read_unread, harg3.read_unread, harg4.read_unread,
    View.ld_unit_zero (S := S1024x2048) hz, View.ld_unit_zero (S := S1x2048) hz, View.ld_unit_zero (S := S2048x1536) hz]
  refine congrArg (fun s => k0_pay2 s x2) ?_
  refine (View.ld_unit_zero (S := S1024x2048) hz inb_S1024x2048_S1024x2048_0_0 _).trans ?_
  exact View.canon_unit_zero hz _ _

/-- A later point writes the product of the rows kept. -/
theorem out_B (hc0 : ¬cond0_0 i) (x0 : Vec F S1024x2048 .f32) (x1 : Vec F S1x2048 .f32) (x2 : Vec F S2048x1536 .bf16) (xs0 : Vec F S1024x2048 .bf16) :
    out0_B_3 c i arg2 harg2 arg3 harg3 arg4 harg4 arg5 harg5 arg6 harg6 hc0 x0 x1 x2 xs0 = k0_pay2 xs0 x2 := by
  unfold out0_B_3
  rw [View.read_writes_eq_canon _ _ _ (cover0_B_3 c i arg2 harg2 arg3 harg3 arg4 harg4 arg5 harg5 arg6 harg6 hc0 x0 x1 x2 xs0)]
  unfold kernelRun0_B
  dsimp only
  rw [View.canon_unit_zero hz]
  simp only [View.readAt_eq_ld, harg4.read_unread, harg6.read_unread,
    View.ld_unit_zero (S := S1024x2048) hz, View.ld_unit_zero (S := S2048x1536) hz]

end Points

/-! ## At the ideal instance -/

theorem pay1_at (v : S1024x2048.Idx → Elt Ideal .f32) (g : S1x2048.Idx → Elt Ideal .f32) (r : Fin 1024) (l : Fin 2048) :
    k0_pay1 (F := Ideal) v g (ix2 r l) = rmsAt (fun k => v (ix2 r k)) (fun k => g (ix2 0 k)) l := by
  pointwise [k0_pay1, rmsAt]

theorem pay2_at (s : S1024x2048.Idx → Elt Ideal .bf16) (w : S2048x1536.Idx → Elt Ideal .bf16) (r : Fin 1024) (l : Fin 1536) :
    k0_pay2 (F := Ideal) s w (ix2 r l) = ∑ k : Fin 2048, s (ix2 r k) * w (ix2 k l) := by
  pointwise [k0_pay2]

/-- Row `r` of row block `b`. -/
def rowIx (b : ℕ) (r : Fin 1024) : Fin 8192 := ⟨b % 8 * 1024 + r.val, by have := r.isLt; have := Nat.mod_lt b (show 0 < 8 by decide); omega⟩

/-- Column `l` of column block `j`. -/
def colIx (j : ℕ) (l : Fin 1536) : Fin 6144 := ⟨j % 4 * 1536 + l.val, by have := l.isLt; have := Nat.mod_lt j (show 0 < 4 by decide); omega⟩

section Blocks
variable (m : (ℓ : Loc nD τ sig) → Buf (Elt Ideal) ℓ) (c : Dev nD)

theorem V_main_v0 : V m c main_v0 = shapeCast S8192x2048 (m ((c : Thread nD τ).loc main_arg0)) shapeCasts_S4x2048x2048_S8192x2048 := by
  unfold V hostOps0; after_results_simp <;> rfl
theorem V_main_v1 : V m c main_v1 = shapeCast S1x2048 (m ((c : Thread nD τ).loc main_arg1)) shapeCasts_S2048_S1x2048 := by
  unfold V hostOps0; after_results_simp <;> rfl
theorem V_main_v2 : V m c main_v2 = m ((c : Thread nD τ).loc main_arg2) := by
  unfold V hostOps0; after_results_simp <;> rfl

theorem idx0 : ∀ t : Fin cfg0.N, win0_0.index t (0 : Fin 2) = t.val / 4 % 8 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = t.val % 4 % 4 :=
  (by decide +kernel : ∀ t : Fin grid0.N, _)

theorem blk0 (w : S8192x2048.Idx → Elt Ideal .f32) (h : V m c main_v0 = w) (t : Fin cfg0.N) (r : Fin 1024) (k : Fin 2048) :
    iblk m c 0 t (ix2 r k) = w (ix2 (rowIx (t.val / 4) r) k) := by
  obtain ⟨e0, e1⟩ := idx0 t
  rw [← h]
  refine congrArg (V m c main_v0) (funext fun a => Fin.ext ?_)
  fin_cases a
  · show win0_0.index t (0 : Fin 2) * 1024 + 1 * r.val = t.val / 4 % 8 * 1024 + r.val; omega
  · show win0_0.index t (1 : Fin 2) * 2048 + 1 * k.val = k.val; omega
theorem blk1 (w : S1x2048.Idx → Elt Ideal .f32) (h : V m c main_v1 = w) (t : Fin cfg0.N) : iblk m c 1 t = w := by
  obtain ⟨e0, e1⟩ := idx1 t
  rw [← h]
  funext i
  refine congrArg (V m c main_v1) (funext fun a => Fin.ext ?_)
  fin_cases a
  · show win0_1.index t (0 : Fin 2) * 1 + 1 * (i 0).val = (i 0).val; omega
  · show win0_1.index t (1 : Fin 2) * 2048 + 1 * (i 1).val = (i 1).val; omega
theorem blk2 (w : S2048x6144.Idx → Elt Ideal .bf16) (h : V m c main_v2 = w) (t : Fin cfg0.N) (k : Fin 2048) (s : Fin 1536) :
    iblk m c 2 t (ix2 k s) = w (ix2 k (colIx (t.val % 4) s)) := by
  obtain ⟨e0, e1⟩ := idx2 t
  rw [← h]
  refine congrArg (V m c main_v2) (funext fun a => Fin.ext ?_)
  fin_cases a
  · show win0_2.index t (0 : Fin 2) * 2048 + 1 * k.val = k.val; omega
  · show win0_2.index t (1 : Fin 2) * 1536 + 1 * s.val = t.val % 4 % 4 * 1536 + s.val; omega

/-! ## What each point leaves -/

theorem at_A (t : Fin cfg0.N) (h0 : t.val % 4 = 0) :
    outsAt0 m c t.val t.isLt
      = (k0_pay2 (F := Ideal) (k0_pay1 (iblk m c 0 t) (iblk m c 1 t)) (iblk m c 2 t), k0_pay1 (F := Ideal) (iblk m c 0 t) (iblk m c 1 t)) := by
  rw [outsAt0_A m c t h0, out_A, sout_A]
theorem at_B (n : ℕ) (hn : n + 1 < cfg0.N) (h0 : ¬(n + 1) % 4 = 0) :
    outsAt0 m c (n + 1) hn
      = (k0_pay2 (F := Ideal) (outsAt0 m c n (Nat.lt_of_succ_lt hn)).2 (iblk m c 2 ⟨n + 1, hn⟩), (outsAt0 m c n (Nat.lt_of_succ_lt hn)).2) := by
  rw [outsAt0_succ]
  refine (stAt0_B m c ⟨n + 1, hn⟩ _ h0).trans ?_
  rw [out_B]
  rfl

variable (X : S8192x2048.Idx → Elt Ideal .f32) (g : S1x2048.Idx → Elt Ideal .f32) (W : S2048x6144.Idx → Elt Ideal .f32)
  (hX : V m c main_v0 = X) (hg : V m c main_v1 = g) (hW : V m c main_v2 = W)

include hW in
/-- A block's product, over the normalized rows. -/
theorem part_at (t : Fin cfg0.N) (b : ℕ) (s : S1024x2048.Idx → EReal) (hs : ∀ r k, s (ix2 r k) = rmsAt (fun k => X (ix2 (rowIx b r) k)) (fun k => g (ix2 0 k)) k)
    (r : Fin 1024) (l : Fin 1536) :
    k0_pay2 (F := Ideal) s (iblk m c 2 t) (ix2 r l)
      = ∑ k : Fin 2048, rmsAt (fun k => X (ix2 (rowIx b r) k)) (fun k => g (ix2 0 k)) k * W (ix2 k (colIx (t.val % 4) l)) := by
  refine (pay2_at s (iblk m c 2 t) r l).trans ?_
  refine Finset.sum_congr rfl fun k _ => ?_
  rw [hs, blk2 m c W hW]

include hX hg hW in
/-- At each of a row block's points: the normalized rows kept, and the column block's product. -/
theorem run_at (b : ℕ) (hb : b < 8) : ∀ (j : ℕ) (_ : j < 4) (hn : 4 * b + j < cfg0.N),
    (∀ r k, (outsAt0 m c (4 * b + j) hn).2 (ix2 r k) = rmsAt (fun k => X (ix2 (rowIx b r) k)) (fun k => g (ix2 0 k)) k)
    ∧ (∀ r l, (outsAt0 m c (4 * b + j) hn).1 (ix2 r l)
        = ∑ k : Fin 2048, rmsAt (fun k => X (ix2 (rowIx b r) k)) (fun k => g (ix2 0 k)) k * W (ix2 k (colIx j l)))
  | 0, _, hn => by
    have hq : (⟨4 * b + 0, hn⟩ : Fin cfg0.N).val / 4 = b := by show (4 * b + 0) / 4 = b; omega
    have hm : (⟨4 * b + 0, hn⟩ : Fin cfg0.N).val % 4 = 0 := by show (4 * b + 0) % 4 = 0; omega
    have e := at_A m c ⟨4 * b + 0, hn⟩ hm
    have hs : ∀ r k, k0_pay1 (F := Ideal) (iblk m c 0 ⟨4 * b + 0, hn⟩) (iblk m c 1 ⟨4 * b + 0, hn⟩) (ix2 r k)
        = rmsAt (fun k => X (ix2 (rowIx b r) k)) (fun k => g (ix2 0 k)) k := fun r k => by
      rw [blk1 m c g hg]
      refine (pay1_at _ _ r k).trans ?_
      refine congrArg (fun f => rmsAt f _ k) (funext fun k => ?_)
      exact (blk0 m c X hX _ r k).trans (by rw [hq])
    refine ⟨fun r k => (congrArg (fun p => p.2 (ix2 r k)) e).trans (hs r k), fun r l => (congrArg (fun p => p.1 (ix2 r l)) e).trans ?_⟩
    refine (part_at m c X g W hW _ b _ hs r l).trans ?_
    rw [hm]
  | j + 1, hj, hn => by
    obtain ⟨ih1, ih2⟩ := run_at b hb j (by omega) (Nat.lt_of_succ_lt hn)
    have hm : (⟨4 * b + j + 1, hn⟩ : Fin cfg0.N).val % 4 = j + 1 := by show (4 * b + j + 1) % 4 = j + 1; omega
    have e := at_B m c (4 * b + j) hn (by omega)
    refine ⟨fun r k => (congrArg (fun p => p.2 (ix2 r k)) e).trans (ih1 r k), fun r l => (congrArg (fun p => p.1 (ix2 r l)) e).trans ?_⟩
    refine (part_at m c X g W hW _ b _ ih1 r l).trans ?_
    rw [hm]

end Blocks

/-- What the kernel writes, from its arguments. -/
theorem out_eq (m : (ℓ : Loc nD τ sig) → Buf (Elt Ideal) ℓ) (c : Dev nD) :
    G3 (F := Ideal) m c
      = refAll (m ((c : Thread nD τ).loc main_arg0)) (m ((c : Thread nD τ).loc main_arg1)) (m ((c : Thread nD τ).loc main_arg2)) := by
  funext i
  obtain ⟨r, l, rfl⟩ : ∃ (r : Fin 8192) (l : Fin 6144), i = ix2 r l := ⟨i 0, i 1, eq_ix2 i⟩
  have hr := r.isLt
  have hl := l.isLt
  have hb : r.val / 1024 < 8 := by omega
  have hj : l.val / 1536 < 4 := by omega
  have hn : 4 * (r.val / 1024) + l.val / 1536 < cfg0.N := lt_of_lt_of_eq (by omega) (show cfg0.N = 32 from N_0).symm
  have hp : pt3Of (ix2 r l) = 4 * (r.val / 1024) + l.val / 1536 := by
    show 4 * (r.val / 1024 - 0) + 1 * (l.val / 1536 - 0) = _
    omega
  have hloc : loc3Of (ix2 r l) = ix2 ⟨r.val % 1024, Nat.mod_lt _ (by decide)⟩ ⟨l.val % 1536, Nat.mod_lt _ (by decide)⟩ := by
    funext a
    fin_cases a <;> rfl
  have hrow : rowIx (r.val / 1024) ⟨r.val % 1024, Nat.mod_lt _ (by decide)⟩ = r := Fin.ext (by
    show r.val / 1024 % 8 * 1024 + r.val % 1024 = r.val; omega)
  have hcol : colIx (l.val / 1536) ⟨l.val % 1536, Nat.mod_lt _ (by decide)⟩ = l := Fin.ext (by
    show l.val / 1536 % 4 * 1536 + l.val % 1536 = l.val; omega)
  have e : ∀ (f : S2048.Idx → Elt Ideal .f32) (k : Fin 2048), shapeCast S1x2048 f shapeCasts_S2048_S1x2048 (ix2 0 k) = f (ix1 k) := fun f k => by
    pointwise
  unfold G3
  rw [dif_pos (lt_of_eq_of_lt hp hn), fold0_congr m c _ _ _ (by omega) hp, ← outsAt0_sweep m c _ hn, hloc]
  refine ((run_at m c _ _ _ (V_main_v0 m c) (V_main_v1 m c) (V_main_v2 m c) _ hb _ hj hn).2 _ _).trans ?_
  rw [hrow, hcol]
  unfold refAll
  refine Eq.trans ?_ (refDot_at _ _ r l).symm
  refine Finset.sum_congr rfl fun k _ => congrArg (· * _) ?_
  refine Eq.trans ?_ (refNorm_at _ _ r k).symm
  simp only [e]

end Cert.Proof.InProj

end
-- ==== Proof.Soft.lean ====
/- The algebra of the row normalization and of the softmax over extended reals: which of their values are real numbers, and that
   dividing each weight by the sum of the weights is dividing the weighted sum by it. -/
module

public import proofs.«01_k».proof.Proof.Values

@[expose] public section

noncomputable section

namespace Cert.Proof.Attn

open Idealize.ShloMosaic
open Cert.Proof.Ffn (rmsAt)

/-- An extended real that is a real number. -/
def IsR (x : EReal) : Prop := ∃ r : ℝ, x = (r : EReal)

theorem isR_of (x : EReal) (h1 : x ≠ ⊥) (h2 : x ≠ ⊤) : IsR x := ⟨x.toReal, (EReal.coe_toReal h2 h1).symm⟩
theorem isR_zero : IsR 0 := ⟨0, rfl⟩
theorem isR_add {x y : EReal} : IsR x → IsR y → IsR (x + y)
  | ⟨a, ha⟩, ⟨b, hb⟩ => ⟨a + b, by rw [ha, hb, EReal.coe_add]⟩
theorem isR_mul {x y : EReal} : IsR x → IsR y → IsR (x * y)
  | ⟨a, ha⟩, ⟨b, hb⟩ => ⟨a * b, by rw [ha, hb, EReal.coe_mul]⟩
theorem isR_sum {ι : Type} (s : Finset ι) (f : ι → EReal) (h : ∀ i, IsR (f i)) : IsR (∑ i ∈ s, f i) := by
  classical
  induction s using Finset.induction with
  | empty => exact isR_zero
  | insert a s ha ih => rw [Finset.sum_insert ha]; exact isR_add (h a) ih

/-! ## The constants -/

theorem c_width : Ideal.ofBits .f32 0x45000000#32 = ((2048 : ℝ) : EReal) := by
  simp [Ideal.ofBits, Ideal.ieee, -EReal.coe_mul]; norm_num
theorem c_eps : Ideal.ofBits .f32 0x358637BD#32 = ((8796093 * (2 : ℝ) ^ (-43 : Int) : ℝ) : EReal) := by
  simp [Ideal.ofBits, Ideal.ieee, -EReal.coe_mul]
theorem c_scale : Ideal.ofBits .f32 0x3DB504F3#32 = ((11863283 * (2 : ℝ) ^ (-27 : Int) : ℝ) : EReal) := by
  simp [Ideal.ofBits, Ideal.ieee, -EReal.coe_mul]
theorem c_bot : Ideal.ofBits .f32 0xFF800000#32 = ⊥ := by simp [Ideal.ofBits, Ideal.ieee]
theorem c_big : Ideal.ofBits .f32 0x7F7FFFFF#32 = ((16777215 * (2 : ℝ) ^ (104 : Int) : ℝ) : EReal) := by
  simp [Ideal.ofBits, Ideal.ieee, -EReal.coe_mul]

/-- What is at most a finite number in magnitude is a real number. -/
theorem isR_of_abs (x : EReal) (h : max x (-x) ≤ Ideal.ofBits .f32 0x7F7FFFFF#32) : IsR x := by
  rw [c_big] at h
  refine isR_of x ?_ ?_
  · rintro rfl
    exact absurd (lt_of_le_of_lt ((le_max_right _ _).trans h) (EReal.coe_lt_top _)) (by simp)
  · rintro rfl
    exact absurd (lt_of_le_of_lt ((le_max_left _ _).trans h) (EReal.coe_lt_top _)) (by simp)

/-! ## The normalized row -/

theorem sq_nonneg' (x : EReal) : 0 ≤ x * x := by
  induction x with
  | bot => simp
  | top => simp
  | coe r => rw [← EReal.coe_mul]; exact EReal.coe_nonneg.2 (mul_self_nonneg r)

/-- A row normalized by its root mean square is real whatever the row: a row with an infinite element normalizes to zeros. -/
theorem isR_rms (x g : Fin 2048 → EReal) (hg : ∀ k, IsR (g k)) (l : Fin 2048) : IsR (rmsAt x g l) := by
  unfold rmsAt
  refine isR_mul ?_ (hg l)
  have h0 : 0 ≤ ∑ k, x k * x k := Finset.sum_nonneg fun k _ => sq_nonneg' (x k)
  have hl : x l * x l ≤ ∑ k, x k * x k := Finset.single_le_sum (f := fun k => x k * x k) (fun k _ => sq_nonneg' (x k)) (Finset.mem_univ l)
  have hd : ∀ a : EReal, Ideal.div a ((2048 : ℝ) : EReal) = a * (((2048 : ℝ)⁻¹ : ℝ) : EReal) := fun a => by
    unfold Ideal.div
    rw [if_neg (by exact_mod_cast (by norm_num : (2048 : ℝ) ≠ 0)), EReal.coe_inv]
  rw [c_width, c_eps, hd]
  by_cases ht : ∑ k, x k * x k = ⊤
  · rw [ht, EReal.top_mul_coe_of_pos (by norm_num), EReal.top_add_coe, Ideal.rsqrt_top, mul_zero]
    exact isR_zero
  · have hb : ∑ k, x k * x k ≠ ⊥ := fun h => by rw [h] at h0; exact absurd h0 (by simp)
    obtain ⟨s, hs⟩ := isR_of _ hb ht
    have hx : IsR (x l) := by
      refine isR_of _ ?_ ?_
      · intro h; rw [h] at hl; exact ht (top_le_iff.1 (by simpa using hl))
      · intro h; rw [h] at hl; exact ht (top_le_iff.1 (by simpa using hl))
    refine isR_mul hx ?_
    rw [hs] at h0 ⊢
    have hs0 : 0 ≤ s := EReal.coe_nonneg.1 h0
    have hp : 0 < s * (2048 : ℝ)⁻¹ + 8796093 * (2 : ℝ) ^ (-43 : Int) := by positivity
    rw [← EReal.coe_mul, ← EReal.coe_add, Ideal.rsqrt_coe, if_neg (not_lt.2 hp.le), if_neg hp.ne']
    exact ⟨_, rfl⟩

/-! ## The softmax -/

/-- The largest of a row of scores. -/
def rowMax (s : Fin 256 → EReal) : EReal := Finset.univ.fold max (Ideal.ofBits .f32 0xFF800000#32) s

/-- The sum of a row's weights. -/
def rowSum (s : Fin 256 → EReal) : EReal := ∑ j, Ideal.exp (s j - rowMax s)

/-- A row of values averaged by the weights, divided once. -/
def attnAt (s v : Fin 256 → EReal) : EReal := Ideal.div (∑ j, Ideal.exp (s j - rowMax s) * v j) (rowSum s)

/-- A query against a key, scaled. -/
def score (q k : Fin 128 → EReal) : EReal := (∑ d, q d * k d) * Ideal.ofBits .f32 0x3DB504F3#32

theorem max_rowMax (s : Fin 256 → EReal) : max (Ideal.ofBits .f32 0xFF800000#32) (rowMax s) = rowMax s :=
  max_eq_right (by rw [c_bot]; exact bot_le)

theorem isR_score (q k : Fin 128 → EReal) (hq : ∀ d, IsR (q d)) (hk : ∀ d, IsR (k d)) : IsR (score q k) :=
  isR_mul (isR_sum _ _ fun d => isR_mul (hq d) (hk d)) ⟨_, c_scale⟩

theorem isR_rowMax (s : Fin 256 → EReal) (hs : ∀ j, IsR (s j)) : IsR (rowMax s) := by
  refine isR_of _ ?_ ?_
  · obtain ⟨r, hr⟩ := hs 0
    have h : s 0 ≤ rowMax s := Finset.le_fold_max _ |>.2 (Or.inr ⟨0, Finset.mem_univ _, le_rfl⟩)
    intro e
    rw [e, hr] at h
    exact absurd (le_bot_iff.1 h) (EReal.coe_ne_bot r)
  · refine ne_of_lt (Finset.fold_max_lt _ |>.2 ⟨by rw [c_bot]; exact bot_lt_top, fun j _ => ?_⟩)
    obtain ⟨r, hr⟩ := hs j
    rw [hr]; exact EReal.coe_lt_top r

theorem sum_mul_real (c : ℝ) (hc : 0 ≤ c) (f : Fin 256 → EReal) : (∑ j, f j) * (c : EReal) = ∑ j, f j * (c : EReal) := by
  classical
  induction (Finset.univ : Finset (Fin 256)) using Finset.induction with
  | empty => simp
  | insert a s ha ih =>
    rw [Finset.sum_insert ha, Finset.sum_insert ha, ← ih]
    exact EReal.right_distrib_of_nonneg_of_ne_top (EReal.coe_nonneg.2 hc) (EReal.coe_ne_top c) _ _

/-- Dividing each weight first is dividing the average. -/
theorem attn_eq (s v : Fin 256 → EReal) (hs : ∀ j, IsR (s j)) :
    attnAt s v = ∑ j, v j * Ideal.div (Ideal.exp (s j - rowMax s)) (rowSum s) := by
  obtain ⟨m, hm⟩ := isR_rowMax s hs
  choose r hr using hs
  have he : ∀ j, Ideal.exp (s j - rowMax s) = ((Real.exp (r j - m) : ℝ) : EReal) := fun j => by
    rw [hr, hm, ← EReal.coe_sub, Ideal.exp_coe]
  have hL : rowSum s = ((∑ j, Real.exp (r j - m) : ℝ) : EReal) := by
    unfold rowSum
    rw [Finset.sum_congr rfl fun j _ => he j]
    exact (map_sum (⟨⟨((↑) : ℝ → EReal), EReal.coe_zero⟩, EReal.coe_add⟩ : ℝ →+ EReal) _ _).symm
  have hp : 0 < ∑ j : Fin 256, Real.exp (r j - m) := Finset.sum_pos (fun j _ => Real.exp_pos _) ⟨0, Finset.mem_univ _⟩
  have hd : ∀ a : EReal, Ideal.div a (rowSum s) = a * (((∑ j, Real.exp (r j - m))⁻¹ : ℝ) : EReal) := fun a => by
    rw [hL]
    unfold Ideal.div
    rw [if_neg (by exact_mod_cast hp.ne'), EReal.coe_inv]
  unfold attnAt
  rw [hd, sum_mul_real _ (inv_nonneg.2 hp.le)]
  refine Finset.sum_congr rfl fun j _ => ?_
  rw [hd, mul_comm (Ideal.exp _) (v j), mul_assoc]

/-! ## A row of the call -/

/-- The residual row: the input plus the two halves of the output projection. -/
def hAt (x : Fin 2048 → EReal) (a b : Fin 1024 → EReal) (wa wb : Fin 1024 → Fin 2048 → EReal) (l : Fin 2048) : EReal :=
  x l + ∑ k, a k * wa k l + ∑ k, b k * wb k l

/-- The queries of a residual row. -/
def qAt (h g : Fin 2048 → EReal) (wq : Fin 2048 → Fin 512 → EReal) (t : Fin 512) : EReal := ∑ k, rmsAt h g k * wq k t

/-- Column `d` of the head that column `t` belongs to. -/
def col (t : Fin 512) (d : Fin 128) : Fin 512 := ⟨t.val / 128 * 128 + d.val, by have := t.isLt; have := d.isLt; omega⟩

/-- The scores of the head that column `t` belongs to. -/
def sAt (q : Fin 512 → EReal) (K : Fin 256 → Fin 512 → EReal) (t : Fin 512) (j : Fin 256) : EReal :=
  score (fun d => q (col t d)) (fun d => K j (col t d))

/-- An element of the row written: the residual row plus its attention over the memory, projected. -/
def outAt (h : Fin 2048 → EReal) (q : Fin 512 → EReal) (K U : Fin 256 → Fin 512 → EReal) (wo : Fin 512 → Fin 2048 → EReal) (l : Fin 2048) : EReal :=
  h l + ∑ t, attnAt (sAt q K t) (fun j => U j t) * wo t l

theorem isR_sAt (h g : Fin 2048 → EReal) (wq : Fin 2048 → Fin 512 → EReal) (K : Fin 256 → Fin 512 → EReal)
    (hg : ∀ k, IsR (g k)) (hw : ∀ k t, IsR (wq k t)) (hK : ∀ j t, IsR (K j t)) (t : Fin 512) (j : Fin 256) : IsR (sAt (qAt h g wq) K t j) :=
  isR_score _ _ (fun d => isR_sum _ _ fun k => isR_mul (isR_rms h g hg k) (hw k _)) fun d => hK j _

end Cert.Proof.Attn

end
-- ==== Proof.AttnK.lean ====
/- The output projection and cross-attention of the long batch: what a point of the call writes, at the ideal instance. -/
module

public import proofs.«01_k».proof.Proof.Gen.Kernel6Ideal.Value
public import proofs.«01_k».proof.Proof.Soft
public import Idealize.ShloMosaic.Lib.Writes
public import Idealize.ShloMosaic.Lib.Pipeline.CanonAppend
public import Idealize.ShloMosaic.Lib.Pipeline.ValueKit.Tiles
public import Idealize.ShloMosaic.Lib.Pointwise
public import Idealize.ShloMosaic.Lib.Pipeline.Value
public import Idealize.ShloMosaic.Lib.Tactic.CleanTypes

@[expose] public section

set_option maxRecDepth 16384

noncomputable section

namespace Cert.Proof.Attn

open Idealize.ShloMosaic Idealize.ShloMosaic.TcCoe Idealize.SL.Sem
open Cert.Proof.Ffn (rmsAt)
open Cert.Kernel6Ideal Cert.Kernel6Ideal.Gen Cert.Kernel6Ideal.Value

/-! ## The body's vector expressions at an index -/

theorem pay2_at (x : S512x2048.Idx → Elt Ideal .f32) (a : S512x1024.Idx → Elt Ideal .bf16) (wa : S1024x2048.Idx → Elt Ideal .bf16)
    (b : S512x1024.Idx → Elt Ideal .bf16) (wb : S1024x2048.Idx → Elt Ideal .bf16) (r : Fin 512) (l : Fin 2048) :
    k0_pay2 (F := Ideal) x a wa b wb (ix2 r l)
      = hAt (fun k => x (ix2 r k)) (fun k => a (ix2 r k)) (fun k => b (ix2 r k)) (fun k l => wa (ix2 k l)) (fun k l => wb (ix2 k l)) l := by
  pointwise [k0_pay2, hAt]

theorem pay3_at (x : S512x2048.Idx → Elt Ideal .f32) (a : S512x1024.Idx → Elt Ideal .bf16) (wa : S1024x2048.Idx → Elt Ideal .bf16)
    (b : S512x1024.Idx → Elt Ideal .bf16) (wb : S1024x2048.Idx → Elt Ideal .bf16) (g : S1x2048.Idx → Elt Ideal .f32) (wq : S2048x512.Idx → Elt Ideal .bf16)
    (r : Fin 512) (t : Fin 512) :
    k0_pay3 (F := Ideal) x a wa b wb g wq (ix2 r t)
      = qAt (fun k => k0_pay2 (F := Ideal) x a wa b wb (ix2 r k)) (fun k => g (ix2 0 k)) (fun k t => wq (ix2 k t)) t := by
  pointwise [k0_pay3, qAt, rmsAt]

theorem pay5_at (q : S512x512.Idx → Elt Ideal .f32) (k v : S256x128.Idx → Elt Ideal .f32) (r : Fin 512) (l : Fin 128) :
    k0_pay5 (F := Ideal) q (k0_pay4 (F := Ideal) k) v (ix2 r l)
      = attnAt (fun j => score (fun d => q (ix2 r ⟨d.val, by have := d.isLt; omega⟩)) (fun d => k (ix2 j d))) (fun j => v (ix2 j l)) := by
  pointwise [k0_pay5, k0_pay4, attnAt, rowSum, rowMax, score]

theorem pay6_at (q : S512x512.Idx → Elt Ideal .f32) (k v : S256x128.Idx → Elt Ideal .f32) (r : Fin 512) (l : Fin 128) :
    k0_pay6 (F := Ideal) q k v (ix2 r l)
      = attnAt (fun j => score (fun d => q (ix2 r ⟨128 + d.val, by have := d.isLt; omega⟩)) (fun d => k (ix2 j d))) (fun j => v (ix2 j l)) := by
  pointwise [k0_pay6, attnAt, rowSum, rowMax, score]

theorem pay7_at (q : S512x512.Idx → Elt Ideal .f32) (k v : S256x128.Idx → Elt Ideal .f32) (r : Fin 512) (l : Fin 128) :
    k0_pay7 (F := Ideal) q k v (ix2 r l)
      = attnAt (fun j => score (fun d => q (ix2 r ⟨256 + d.val, by have := d.isLt; omega⟩)) (fun d => k (ix2 j d))) (fun j => v (ix2 j l)) := by
  pointwise [k0_pay7, attnAt, rowSum, rowMax, score]

theorem pay8_at (q : S512x512.Idx → Elt Ideal .f32) (k v : S256x128.Idx → Elt Ideal .f32) (r : Fin 512) (l : Fin 128) :
    k0_pay8 (F := Ideal) q k v (ix2 r l)
      = attnAt (fun j => score (fun d => q (ix2 r ⟨384 + d.val, by have := d.isLt; omega⟩)) (fun d => k (ix2 j d))) (fun j => v (ix2 j l)) := by
  pointwise [k0_pay8, attnAt, rowSum, rowMax, score]

/-- The four heads side by side, projected. -/
theorem pay1_at (h : S512x2048.Idx → Elt Ideal .f32) (o0 o1 o2 : S512x128.Idx → Elt Ideal .bf16) (o3 : S512x128.Idx → Elt Ideal .f32)
    (wo : S512x2048.Idx → Elt Ideal .bf16) (r : Fin 512) (l : Fin 2048) (o : Fin 512 → EReal)
    (h0 : ∀ d : Fin 128, o0 (ix2 r d) = o ⟨d.val, by have := d.isLt; omega⟩)
    (h1 : ∀ d : Fin 128, o1 (ix2 r d) = o ⟨128 + d.val, by have := d.isLt; omega⟩)
    (h2 : ∀ d : Fin 128, o2 (ix2 r d) = o ⟨256 + d.val, by have := d.isLt; omega⟩)
    (h3 : ∀ d : Fin 128, o3 (ix2 r d) = o ⟨384 + d.val, by have := d.isLt; omega⟩) :
    k0_pay1 (F := Ideal) h o0 o1 o2 o3 wo (ix2 r l) = h (ix2 r l) + ∑ t : Fin 512, o t * wo (ix2 t l) := by
  pointwise [k0_pay1]
  refine congrArg (h (ix2 r l) + ·) (Finset.sum_congr rfl fun t _ => congrArg (· * wo (ix2 t l)) ?_)
  have ht := t.isLt
  split_ifs
  all_goals first
    | (refine (h0 _).trans (congrArg o (Fin.ext ?_)); dsimp only; done)
    | (refine (h1 _).trans (congrArg o (Fin.ext ?_)); dsimp only; omega)
    | (refine (h2 _).trans (congrArg o (Fin.ext ?_)); dsimp only; omega)
    | (refine (h3 _).trans (congrArg o (Fin.ext ?_)); dsimp only; omega)

/-! ## What a point writes -/

theorem hz : (![0, 0] : Fin 2 → Nat) = fun _ => 0 := funext fun a => by fin_cases a <;> rfl

theorem ld5 (x : Vec Ideal S256x512 .f32) (j : Fin 256) (d : Fin 128) :
    (View.ld x r0_5 : S256x128.Idx → Elt Ideal .f32) (ix2 j d) = x (ix2 j ⟨d.val, by have := d.isLt; omega⟩) := by
  refine congrArg x (funext fun a => Fin.ext ?_)
  fin_cases a
  · show 0 + 1 * j.val = j.val; omega
  · show 0 + 1 * d.val = d.val; omega

theorem ld6 (x : Vec Ideal S256x512 .f32) (j : Fin 256) (d : Fin 128) :
    (View.ld x r0_6 : S256x128.Idx → Elt Ideal .f32) (ix2 j d) = x (ix2 j ⟨128 + d.val, by have := d.isLt; omega⟩) := by
  refine congrArg x (funext fun a => Fin.ext ?_)
  fin_cases a
  · show 0 + 1 * j.val = j.val; omega
  · show 128 + 1 * d.val = 128 + d.val; omega

theorem ld7 (x : Vec Ideal S256x512 .f32) (j : Fin 256) (d : Fin 128) :
    (View.ld x r0_7 : S256x128.Idx → Elt Ideal .f32) (ix2 j d) = x (ix2 j ⟨256 + d.val, by have := d.isLt; omega⟩) := by
  refine congrArg x (funext fun a => Fin.ext ?_)
  fin_cases a
  · show 0 + 1 * j.val = j.val; omega
  · show 256 + 1 * d.val = 256 + d.val; omega

theorem ld8 (x : Vec Ideal S256x512 .f32) (j : Fin 256) (d : Fin 128) :
    (View.ld x r0_8 : S256x128.Idx → Elt Ideal .f32) (ix2 j d) = x (ix2 j ⟨384 + d.val, by have := d.isLt; omega⟩) := by
  refine congrArg x (funext fun a => Fin.ext ?_)
  fin_cases a
  · show 0 + 1 * j.val = j.val; omega
  · show 384 + 1 * d.val = 384 + d.val; omega

theorem out10_eq (x0 : Vec Ideal S512x2048 .f32) (x1 : Vec Ideal S1x2048 .f32) (x2 : Vec Ideal S2048x512 .bf16) (x3 x4 : Vec Ideal S256x512 .f32)
    (x5 : Vec Ideal S512x2048 .bf16) (x6 x7 : Vec Ideal S512x1024 .bf16) (x8 x9 : Vec Ideal S1024x2048 .bf16) :
    out0_10 (F := Ideal) x0 x1 x2 x3 x4 x5 x6 x7 x8 x9
      = k0_pay1 (F := Ideal) (k0_pay2 x0 x6 x8 x7 x9)
          (k0_pay5 (k0_pay3 x0 x6 x8 x7 x9 x1 x2) (k0_pay4 (View.ld x3 r0_5)) (View.ld x4 r0_5))
          (k0_pay6 (k0_pay3 x0 x6 x8 x7 x9 x1 x2) (View.ld x3 r0_6) (View.ld x4 r0_6))
          (k0_pay7 (k0_pay3 x0 x6 x8 x7 x9 x1 x2) (View.ld x3 r0_7) (View.ld x4 r0_7))
          (k0_pay8 (k0_pay3 x0 x6 x8 x7 x9 x1 x2) (View.ld x3 r0_8) (View.ld x4 r0_8)) x5 := by
  have e0 : View.ld x0 r0_0 = x0 := View.ld_unit_zero (S := S512x2048) hz _ x0
  have e1 : View.ld x1 r0_3 = x1 := View.ld_unit_zero (S := S1x2048) hz _ x1
  have e2 : View.ld x2 r0_4 = x2 := View.ld_unit_zero (S := S2048x512) hz _ x2
  have e5 : View.ld x5 r0_0 = x5 := View.ld_unit_zero (S := S512x2048) hz _ x5
  have e6 : View.ld x6 r0_1 = x6 := View.ld_unit_zero (S := S512x1024) hz _ x6
  have e7 : View.ld x7 r0_1 = x7 := View.ld_unit_zero (S := S512x1024) hz _ x7
  have e8 : View.ld x8 r0_2 = x8 := View.ld_unit_zero (S := S1024x2048) hz _ x8
  have e9 : View.ld x9 r0_2 = x9 := View.ld_unit_zero (S := S1024x2048) hz _ x9
  unfold out0_10 k0_pay9
  refine (View.canon_unit_zero hz _ _).trans ?_
  rw [e0, e1, e2, e5, e6, e7, e8, e9]

/-- The residual row of a point's blocks. -/
def hRow (x0 : Vec Ideal S512x2048 .f32) (x6 x7 : Vec Ideal S512x1024 .bf16) (x8 x9 : Vec Ideal S1024x2048 .bf16) (r : Fin 512) : Fin 2048 → EReal :=
  hAt (fun k => x0 (ix2 r k)) (fun k => x6 (ix2 r k)) (fun k => x7 (ix2 r k)) (fun k l => x8 (ix2 k l)) (fun k l => x9 (ix2 k l))

theorem out10_at (x0 : Vec Ideal S512x2048 .f32) (x1 : Vec Ideal S1x2048 .f32) (x2 : Vec Ideal S2048x512 .bf16) (x3 x4 : Vec Ideal S256x512 .f32)
    (x5 : Vec Ideal S512x2048 .bf16) (x6 x7 : Vec Ideal S512x1024 .bf16) (x8 x9 : Vec Ideal S1024x2048 .bf16) (r : Fin 512) (l : Fin 2048) :
    out0_10 (F := Ideal) x0 x1 x2 x3 x4 x5 x6 x7 x8 x9 (ix2 r l)
      = outAt (hRow x0 x6 x7 x8 x9 r) (qAt (hRow x0 x6 x7 x8 x9 r) (fun k => x1 (ix2 0 k)) (fun k t => x2 (ix2 k t)))
          (fun j t => x3 (ix2 j t)) (fun j t => x4 (ix2 j t)) (fun t l => x5 (ix2 t l)) l := by
  have hh : ∀ k, k0_pay2 (F := Ideal) x0 x6 x8 x7 x9 (ix2 r k) = hRow x0 x6 x7 x8 x9 r k := fun k => pay2_at x0 x6 x8 x7 x9 r k
  have hq : ∀ t, k0_pay3 (F := Ideal) x0 x6 x8 x7 x9 x1 x2 (ix2 r t)
      = qAt (hRow x0 x6 x7 x8 x9 r) (fun k => x1 (ix2 0 k)) (fun k t => x2 (ix2 k t)) t := fun t =>
    (pay3_at x0 x6 x8 x7 x9 x1 x2 r t).trans (congrArg (fun h => qAt h _ _ t) (funext hh))
  rw [out10_eq]
  unfold outAt
  refine (pay1_at _ _ _ _ _ x5 r l (fun t => attnAt (sAt (qAt (hRow x0 x6 x7 x8 x9 r) (fun k => x1 (ix2 0 k)) (fun k t => x2 (ix2 k t)))
    (fun j t => x3 (ix2 j t)) t) (fun j => x4 (ix2 j t))) ?_ ?_ ?_ ?_).trans (congrArg (· + _) (hh l))
  · intro d
    have hd := d.isLt
    refine (pay5_at _ _ _ r d).trans ?_
    refine congrArg₂ attnAt (funext fun j => congrArg₂ score (funext fun d' => (hq _).trans (congrArg _ (Fin.ext ?_))) (funext fun d' => (ld5 x3 j d').trans (congrArg (fun t => x3 (ix2 j t)) (Fin.ext ?_)))) (funext fun j => ld5 x4 j d)
    · show d'.val = d.val / 128 * 128 + d'.val; omega
    · show d'.val = d.val / 128 * 128 + d'.val; omega
  · intro d
    have hd := d.isLt
    refine (pay6_at _ _ _ r d).trans ?_
    refine congrArg₂ attnAt (funext fun j => congrArg₂ score (funext fun d' => (hq _).trans (congrArg _ (Fin.ext ?_))) (funext fun d' => (ld6 x3 j d').trans (congrArg (fun t => x3 (ix2 j t)) (Fin.ext ?_)))) (funext fun j => ld6 x4 j d)
    · show 128 + d'.val = (128 + d.val) / 128 * 128 + d'.val; omega
    · show 128 + d'.val = (128 + d.val) / 128 * 128 + d'.val; omega
  · intro d
    have hd := d.isLt
    refine (pay7_at _ _ _ r d).trans ?_
    refine congrArg₂ attnAt (funext fun j => congrArg₂ score (funext fun d' => (hq _).trans (congrArg _ (Fin.ext ?_))) (funext fun d' => (ld7 x3 j d').trans (congrArg (fun t => x3 (ix2 j t)) (Fin.ext ?_)))) (funext fun j => ld7 x4 j d)
    · show 256 + d'.val = (256 + d.val) / 128 * 128 + d'.val; omega
    · show 256 + d'.val = (256 + d.val) / 128 * 128 + d'.val; omega
  · intro d
    have hd := d.isLt
    refine (pay8_at _ _ _ r d).trans ?_
    refine congrArg₂ attnAt (funext fun j => congrArg₂ score (funext fun d' => (hq _).trans (congrArg _ (Fin.ext ?_))) (funext fun d' => (ld8 x3 j d').trans (congrArg (fun t => x3 (ix2 j t)) (Fin.ext ?_)))) (funext fun j => ld8 x4 j d)
    · show 384 + d'.val = (384 + d.val) / 128 * 128 + d'.val; omega
    · show 384 + d'.val = (384 + d.val) / 128 * 128 + d'.val; omega

end Cert.Proof.Attn

end
-- ==== Proof.AttnR.lean ====
/- The output projection and cross-attention of the long batch: the reference, at the ideal instance. -/
module

public import proofs.«01_k».proof.Proof.Gen.Reference6Ideal.Run
public import proofs.«01_k».proof.Proof.Soft
public import Idealize.ShloMosaic.Lib.Writes
public import Idealize.ShloMosaic.Lib.Pipeline.CanonAppend
public import Idealize.ShloMosaic.Lib.Pipeline.ValueKit.Tiles
public import Idealize.ShloMosaic.Lib.Pointwise
public import Idealize.ShloMosaic.Lib.Pipeline.Value
public import Idealize.ShloMosaic.Lib.Tactic.CleanTypes

@[expose] public section

set_option maxRecDepth 16384

noncomputable section

namespace Cert.Proof.Attn

open Idealize.ShloMosaic Idealize.ShloMosaic.TcCoe Idealize.SL.Sem
open Cert.Proof.Ffn (rmsAt)
open Cert.Reference6Ideal Cert.Reference6Ideal.Gen

/-- The reference's residual rows. -/
def refH (x : FVec Ideal S4x2048x2048 .f32) (a b : FVec Ideal S4x2048x1024 .f32) (w : FVec Ideal S2048x2048 .f32) : FVec Ideal S4x2048x2048 .f32 :=
  addf x (Host.dotGeneral dot_S4x2048x2048_S2048x2048_S4x2048x2048_2_0_01_1_n_n none
    (concatenate S4x2048x2048 2 [⟨S4x2048x1024, a⟩, ⟨S4x2048x1024, b⟩] concatenates_S4x2048x1024_S4x2048x1024_S4x2048x2048_d2) w)

/-- The reference's row normalization. -/
def refN (h : FVec Ideal S4x2048x2048 .f32) (g : FVec Ideal S2048 .f32) : FVec Ideal S4x2048x2048 .f32 :=
  mulf (mulf h (broadcastInDim S4x2048x2048 ![0, 1, 2] bcast_S4x2048x1_S4x2048x2048_0_1_2
      (Host.rsqrt (addf (Host.divf
          (broadcastInDim S4x2048x1 ![0, 1] bcast_S4x2048_S4x2048x1_0_1
            (Host.reduceAdd (mulf h h) (constant S_ .f32 0x00000000#32) reducesTo_S4x2048x2048_S4x2048_d2 h_S_))
          (broadcastInDim S4x2048x1 ![] bcast_S_S4x2048x1 (constant S_ .f32 0x45000000#32)))
        (broadcastInDim S4x2048x1 ![] bcast_S_S4x2048x1 (constant S_ .f32 0x358637BD#32))))))
    (broadcastInDim S4x2048x2048 ![0, 1, 2] bcast_S1x1x2048_S4x2048x2048_0_1_2 (broadcastInDim S1x1x2048 ![2] bcast_S2048_S1x1x2048_2 g))

/-- The reference's scores. -/
def refS (n : FVec Ideal S4x2048x2048 .f32) (mk : FVec Ideal S4x256x4x128 .f32) (wq : FVec Ideal S2048x512 .f32) : FVec Ideal S4x4x2048x256 .f32 :=
  mulf (Host.dotGeneral dot_S4x2048x4x128_S4x256x4x128_S4x4x2048x256_3_3_1_1_02_02 none
      (shapeCast _ (Host.dotGeneral dot_S4x2048x2048_S2048x512_S4x2048x512_2_0_01_1_n_n none n wq) shapeCasts_S4x2048x512_S4x2048x4x128) mk)
    (broadcastInDim S4x4x2048x256 ![] bcast_S_S4x4x2048x256 (constant S_ .f32 0x3DB504F3#32))

/-- The reference's largest score of each row. -/
def refM (s : FVec Ideal S4x4x2048x256 .f32) : FVec Ideal S4x4x2048 .f32 :=
  maximumf (broadcastInDim S4x4x2048 ![] bcast_S_S4x4x2048 (constant S_ .f32 0xFF800000#32))
    (Host.reduce FloatOps.maximumf s (constant S_ .f32 0xFF800000#32) reducesTo_S4x4x2048x256_S4x4x2048_d3 h_S_)

/-- The reference's weights, given the largest scores. -/
def refE (s : FVec Ideal S4x4x2048x256 .f32) (M : FVec Ideal S4x4x2048 .f32) : FVec Ideal S4x4x2048x256 .f32 :=
  Host.exp (subf s (broadcastInDim S4x4x2048x256 ![0, 1, 2, 3] bcast_S4x4x2048x1_S4x4x2048x256_0_1_2_3
    (broadcastInDim S4x4x2048x1 ![0, 1, 2] bcast_S4x4x2048_S4x4x2048x1_0_1_2 M)))

/-- The reference's weights divided by their sum. -/
def refP (e : FVec Ideal S4x4x2048x256 .f32) : FVec Ideal S4x4x2048x256 .f32 :=
  Host.divf e (broadcastInDim S4x4x2048x256 ![0, 1, 2, 3] bcast_S4x4x2048x1_S4x4x2048x256_0_1_2_3
    (broadcastInDim S4x4x2048x1 ![0, 1, 2] bcast_S4x4x2048_S4x4x2048x1_0_1_2
      (Host.reduceAdd e (constant S_ .f32 0x00000000#32) reducesTo_S4x4x2048x256_S4x4x2048_d3 h_S_)))

/-- The reference's averages of the values, projected onto the residual rows. -/
def refO (h : FVec Ideal S4x2048x2048 .f32) (p : FVec Ideal S4x4x2048x256 .f32) (mv : FVec Ideal S4x256x4x128 .f32) (wo : FVec Ideal S512x2048 .f32) :
    FVec Ideal S8192x2048 .f32 :=
  shapeCast _ (addf h (Host.dotGeneral dot_S4x2048x512_S512x2048_S4x2048x2048_2_0_01_1_n_n none
    (shapeCast _ (transpose S4x2048x4x128 [0, 3, 1, 2] (Host.dotGeneral dot_S4x256x4x128_S4x4x2048x256_S4x4x128x2048_1_3_3_2_02_01 none mv p)
      transposes_S4x4x128x2048_S4x2048x4x128_0_3_1_2) shapeCasts_S4x2048x4x128_S4x2048x512) wo)) shapeCasts_S4x2048x2048_S8192x2048

/-- The reference, of its arguments. -/
def refAll (x : FVec Ideal S4x2048x2048 .f32) (a b : FVec Ideal S4x2048x1024 .f32) (w : FVec Ideal S2048x2048 .f32) (g : FVec Ideal S2048 .f32)
    (mk mv : FVec Ideal S4x256x4x128 .f32) (wq : FVec Ideal S2048x512 .f32) (wo : FVec Ideal S512x2048 .f32) : FVec Ideal S8192x2048 .f32 :=
  refO (refH x a b w) (refP (refE (refS (refN (refH x a b w) g) mk wq) (refM (refS (refN (refH x a b w) g) mk wq)))) mv wo

theorem refH_cat (x : FVec Ideal S4x2048x2048 .f32) (a b : FVec Ideal S4x2048x1024 .f32) (w : FVec Ideal S2048x2048 .f32) (n : Fin 4) (p l : Fin 2048) :
    refH x a b w (ix3 n p l) = x (ix3 n p l) + ∑ k : Fin 2048, (if h : k.val < 1024 then a (ix3 n p ⟨k.val, h⟩)
      else b (ix3 n p ⟨k.val - 1024, by have := k.isLt; omega⟩)) * w (ix2 k l) := by
  pointwise [refH]

theorem refH_at (x : FVec Ideal S4x2048x2048 .f32) (a b : FVec Ideal S4x2048x1024 .f32) (w : FVec Ideal S2048x2048 .f32) (n : Fin 4) (p l : Fin 2048) :
    refH x a b w (ix3 n p l)
      = hAt (fun k => x (ix3 n p k)) (fun k => a (ix3 n p k)) (fun k => b (ix3 n p k))
          (fun k l => w (ix2 ⟨k.val, by have := k.isLt; omega⟩ l)) (fun k l => w (ix2 ⟨1024 + k.val, by have := k.isLt; omega⟩ l)) l := by
  rw [refH_cat]
  unfold hAt
  rw [add_assoc]
  refine congrArg (x (ix3 n p l) + ·) ((Fin.sum_univ_add (a := 1024) (b := 1024) _).trans ?_)
  refine congrArg₂ (· + ·) (Finset.sum_congr rfl fun k _ => ?_) (Finset.sum_congr rfl fun k _ => ?_)
  · rw [dif_pos (show (Fin.castAdd 1024 k).val < 1024 from k.isLt)]
    rfl
  · rw [dif_neg (show ¬(Fin.natAdd 1024 k).val < 1024 by show ¬1024 + k.val < 1024; omega)]
    refine congrArg₂ (· * ·) (congrArg (fun k => b (ix3 n p k)) (Fin.ext ?_)) rfl
    show 1024 + k.val - 1024 = k.val; omega

theorem refN_at (h : FVec Ideal S4x2048x2048 .f32) (g : FVec Ideal S2048 .f32) (n : Fin 4) (p l : Fin 2048) :
    refN h g (ix3 n p l) = rmsAt (fun k => h (ix3 n p k)) (fun k => g (ix1 k)) l := by
  pointwise [refN, rmsAt]

theorem refS_at (v : FVec Ideal S4x2048x2048 .f32) (mk : FVec Ideal S4x256x4x128 .f32) (wq : FVec Ideal S2048x512 .f32) (n h : Fin 4) (p : Fin 2048) (j : Fin 256) :
    refS v mk wq (ix4 n h p j)
      = score (fun d => ∑ k : Fin 2048, v (ix3 n p k) * wq (ix2 k ⟨h.val * 128 + d.val, by have := h.isLt; have := d.isLt; omega⟩)) (fun d => mk (ix4 n j h d)) := by
  pointwise [refS, score]

/-- A host maximum along the last of four axes, at an index. -/
theorem reduceMax_at {n0 n1 n2 n3 : Nat} {u : Shape} (h : (⟨4, ![n0, n1, n2, n3]⟩ : Shape).ReducesTo [3] ⟨3, ![n0, n1, n2]⟩)
    (s : FVec Ideal ⟨4, ![n0, n1, n2, n3]⟩ .f32) (b : FVec Ideal u .f32) (hu : 0 < u.numel) (B : EReal) (hB : b (Shape.Idx.first hu) = B)
    (i0 : Fin n0) (i1 : Fin n1) (i2 : Fin n2) :
    Host.reduce (FloatOps.maximumf (F := Ideal) (φ := .f32)) s b h hu (ix3 i0 i1 i2)
      = Finset.univ.fold max B (fun k => s (ix4 i0 i1 i2 k)) := by
  have e : (FloatOps.maximumf (F := Ideal) (φ := .f32)) = (max : EReal → EReal → EReal) := rfl
  rw [e, ← hB]
  exact (Host.reduce_eq_fold _ _ _ _ _ _).trans (h.fold_fiber_r4_a3 _ _ _ _)

/-- The elementwise maximum of two vectors, the first of one value, at an index. -/
theorem maxC_at {T : Shape} (C R : FVec Ideal T .f32) (i : T.Idx) (A B : EReal) (hC : C i = A) (hR : R i = B) : maximumf C R i = max A B := by
  subst hC hR; rfl

theorem refM_at (s : FVec Ideal S4x4x2048x256 .f32) (n h : Fin 4) (p : Fin 2048) :
    refM s (ix3 n h p) = max (Ideal.ofBits .f32 0xFF800000#32) (rowMax (fun j => s (ix4 n h p j))) := by
  unfold refM rowMax
  exact maxC_at _ _ (ix3 n h p) _ _ rfl (reduceMax_at (n0 := 4) (n1 := 4) (n2 := 2048) (n3 := 256) reducesTo_S4x4x2048x256_S4x4x2048_d3 s
    (constant S_ .f32 0xFF800000#32) h_S_ _ rfl n h p)

theorem refE_at (s : FVec Ideal S4x4x2048x256 .f32) (M : FVec Ideal S4x4x2048 .f32) (n h : Fin 4) (p : Fin 2048) (j : Fin 256) :
    refE s M (ix4 n h p j) = Ideal.exp (s (ix4 n h p j) - M (ix3 n h p)) := by
  pointwise [refE]

theorem refP_at (e : FVec Ideal S4x4x2048x256 .f32) (n h : Fin 4) (p : Fin 2048) (j : Fin 256) :
    refP e (ix4 n h p j) = Ideal.div (e (ix4 n h p j)) (∑ j : Fin 256, e (ix4 n h p j)) := by
  pointwise [refP]

theorem refO_at (h : FVec Ideal S4x2048x2048 .f32) (p : FVec Ideal S4x4x2048x256 .f32) (mv : FVec Ideal S4x256x4x128 .f32) (wo : FVec Ideal S512x2048 .f32)
    (r : Fin 8192) (l : Fin 2048) :
    refO h p mv wo (ix2 r l)
      = h (ix3 ⟨r.val / 2048, by have := r.isLt; omega⟩ ⟨r.val % 2048, Nat.mod_lt _ (by decide)⟩ l)
        + ∑ t : Fin 512, (∑ j : Fin 256, mv (ix4 ⟨r.val / 2048, by have := r.isLt; omega⟩ j ⟨t.val / 128, by have := t.isLt; omega⟩ ⟨t.val % 128, Nat.mod_lt _ (by decide)⟩)
            * p (ix4 ⟨r.val / 2048, by have := r.isLt; omega⟩ ⟨t.val / 128, by have := t.isLt; omega⟩ ⟨r.val % 2048, Nat.mod_lt _ (by decide)⟩ j)) * wo (ix2 t l) := by
  pointwise [refO]

theorem res_eq (m : (ℓ : Loc nD τ sig) → Buf (Elt Ideal) ℓ) (c : Dev nD) :
    Value.res_main_v37 (F := Ideal) m c
      = refAll (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  unfold Value.res_main_v37 refAll refO refP refE refM refS refN refH
  rfl

/-- A row's scores agree with the sum over the heads' columns. -/
theorem refAll_at (x : FVec Ideal S4x2048x2048 .f32) (a b : FVec Ideal S4x2048x1024 .f32) (w : FVec Ideal S2048x2048 .f32) (g : FVec Ideal S2048 .f32)
    (mk mv : FVec Ideal S4x256x4x128 .f32) (wq : FVec Ideal S2048x512 .f32) (wo : FVec Ideal S512x2048 .f32)
    (hg : ∀ k, IsR (g k)) (hmk : ∀ k, IsR (mk k)) (hwq : ∀ k, IsR (wq k))
    (r : Fin 8192) (l : Fin 2048) (n : Fin 4) (p : Fin 2048) (hn : n.val = r.val / 2048) (hp : p.val = r.val % 2048)
    (H : Fin 2048 → EReal) (K U : Fin 256 → Fin 512 → EReal)
    (hH : H = hAt (fun k => x (ix3 n p k)) (fun k => a (ix3 n p k)) (fun k => b (ix3 n p k))
          (fun k l => w (ix2 ⟨k.val, by have := k.isLt; omega⟩ l)) (fun k l => w (ix2 ⟨1024 + k.val, by have := k.isLt; omega⟩ l)))
    (hK : ∀ j t, K j t = mk (ix4 n j ⟨t.val / 128, by have := t.isLt; omega⟩ ⟨t.val % 128, Nat.mod_lt _ (by decide)⟩))
    (hU : ∀ j t, U j t = mv (ix4 n j ⟨t.val / 128, by have := t.isLt; omega⟩ ⟨t.val % 128, Nat.mod_lt _ (by decide)⟩)) :
    refAll x a b w g mk mv wq wo (ix2 r l)
      = outAt H (qAt H (fun k => g (ix1 k)) (fun k t => wq (ix2 k t))) K U (fun t l => wo (ix2 t l)) l := by
  have en : (⟨r.val / 2048, by have := r.isLt; omega⟩ : Fin 4) = n := Fin.ext hn.symm
  have ep : (⟨r.val % 2048, Nat.mod_lt _ (by decide)⟩ : Fin 2048) = p := Fin.ext hp.symm
  have eH : ∀ k, refH x a b w (ix3 n p k) = H k := fun k => by rw [refH_at, hH]
  have eN : ∀ k, refN (refH x a b w) g (ix3 n p k) = rmsAt H (fun k => g (ix1 k)) k := fun k => by
    rw [refN_at]
    exact congrArg (fun h => rmsAt h _ k) (funext eH)
  have eS : ∀ (t : Fin 512) (j : Fin 256), refS (refN (refH x a b w) g) mk wq (ix4 n ⟨t.val / 128, by have := t.isLt; omega⟩ p j)
      = sAt (qAt H (fun k => g (ix1 k)) (fun k t => wq (ix2 k t))) K t j := fun t j => by
    rw [refS_at]
    unfold sAt
    refine congrArg₂ score (funext fun d => Finset.sum_congr rfl fun k _ => congrArg (· * _) (eN k)) (funext fun d => ?_)
    rw [hK]
    have hd := d.isLt
    have ht := t.isLt
    refine congrArg₂ (fun h d => mk (ix4 n j h d)) (Fin.ext ?_) (Fin.ext ?_)
    · show t.val / 128 = (t.val / 128 * 128 + d.val) / 128; omega
    · show d.val = (t.val / 128 * 128 + d.val) % 128; omega
  unfold refAll outAt
  rw [refO_at, en, ep, eH]
  refine congrArg (H l + ·) (Finset.sum_congr rfl fun t _ => congrArg (· * wo (ix2 t l)) ?_)
  rw [attn_eq _ _ fun j => isR_sAt H (fun k => g (ix1 k)) (fun k t => wq (ix2 k t)) K (fun k => hg _) (fun k t => hwq _) (fun j t => by rw [hK]; exact hmk _) t j]
  have eE : ∀ j, refE (refS (refN (refH x a b w) g) mk wq) (refM (refS (refN (refH x a b w) g) mk wq)) (ix4 n ⟨t.val / 128, by have := t.isLt; omega⟩ p j)
      = Ideal.exp (sAt (qAt H (fun k => g (ix1 k)) (fun k t => wq (ix2 k t))) K t j
          - rowMax (sAt (qAt H (fun k => g (ix1 k)) (fun k t => wq (ix2 k t))) K t)) := fun j => by
    rw [refE_at, refM_at, max_rowMax, eS]
    exact congrArg (fun s => Ideal.exp (_ - rowMax s)) (funext fun j => eS t j)
  refine Finset.sum_congr rfl fun j _ => congrArg₂ (· * ·) (hU j t).symm ?_
  rw [refP_at, eE]
  exact congrArg (Ideal.div _) (Finset.sum_congr rfl fun j _ => eE j)

end Cert.Proof.Attn

end
-- ==== Proof.Agree6.lean ====
/- The output projection and cross-attention of the long batch: the call writes its reference's rows, at the ideal instance and of finite
   normalization weights, keys and query weights. -/
module

public import proofs.«01_k».proof.Pre_finite
public import proofs.«01_k».proof.Proof.AttnK
public import proofs.«01_k».proof.Proof.AttnR

@[expose] public section

set_option maxRecDepth 16384

noncomputable section

namespace Cert.Proof.Attn

open Idealize.ShloMosaic Idealize.ShloMosaic.TcCoe Idealize.SL.Sem

open Cert.Kernel6Ideal Cert.Kernel6Ideal.Gen Cert.Kernel6Ideal.Value

/-- Row `r` of row block `b`. -/
def rowIx (b : ℕ) (r : Fin 512) : Fin 8192 := ⟨b % 16 * 512 + r.val, by have := r.isLt; have := Nat.mod_lt b (show 0 < 16 by decide); omega⟩

/-- Row `j` of the memory that row block `b` reads. -/
def memIx (b : ℕ) (j : Fin 256) : Fin 1024 := ⟨b / 4 % 4 * 256 + j.val, by have := j.isLt; have := Nat.mod_lt (b / 4) (show 0 < 4 by decide); omega⟩

/-! ## The reshaped arguments at an index -/

theorem cast_x (x : FVec Ideal S4x2048x2048 .f32) (r : Fin 8192) (k : Fin 2048) :
    shapeCast S8192x2048 x shapeCasts_S4x2048x2048_S8192x2048 (ix2 r k)
      = x (ix3 ⟨r.val / 2048, by have := r.isLt; omega⟩ ⟨r.val % 2048, Nat.mod_lt _ (by decide)⟩ k) := by pointwise
theorem cast_o (x : FVec Ideal S4x2048x1024 .f32) (r : Fin 8192) (k : Fin 1024) :
    shapeCast S8192x1024 x shapeCasts_S4x2048x1024_S8192x1024 (ix2 r k)
      = x (ix3 ⟨r.val / 2048, by have := r.isLt; omega⟩ ⟨r.val % 2048, Nat.mod_lt _ (by decide)⟩ k) := by pointwise
theorem cast_g (f : FVec Ideal S2048 .f32) (k : Fin 2048) : shapeCast S1x2048 f shapeCasts_S2048_S1x2048 (ix2 0 k) = f (ix1 k) := by pointwise
theorem cast_k (x : FVec Ideal S4x256x4x128 .f32) (r : Fin 1024) (t : Fin 512) :
    shapeCast S1024x512 x shapeCasts_S4x256x4x128_S1024x512 (ix2 r t)
      = x (ix4 ⟨r.val / 256, by have := r.isLt; omega⟩ ⟨r.val % 256, Nat.mod_lt _ (by decide)⟩ ⟨t.val / 128, by have := t.isLt; omega⟩
          ⟨t.val % 128, Nat.mod_lt _ (by decide)⟩) := by pointwise

section Blocks
variable (m : (ℓ : Loc nD τ sig) → Buf (Elt Ideal) ℓ) (c : Dev nD)

theorem V_main_v0 : V m c main_v0 = shapeCast S8192x2048 (m ((c : Thread nD τ).loc main_arg0)) shapeCasts_S4x2048x2048_S8192x2048 := by
  unfold V hostOps0; after_results_simp <;> rfl
theorem V_main_v1 : V m c main_v1 = shapeCast S1x2048 (m ((c : Thread nD τ).loc main_arg4)) shapeCasts_S2048_S1x2048 := by
  unfold V hostOps0; after_results_simp <;> rfl
theorem V_main_v2 : V m c main_v2 = m ((c : Thread nD τ).loc main_arg7) := by
  unfold V hostOps0; after_results_simp <;> rfl
theorem V_main_v3 : V m c main_v3 = shapeCast S1024x512 (m ((c : Thread nD τ).loc main_arg5)) shapeCasts_S4x256x4x128_S1024x512 := by
  unfold V hostOps0; after_results_simp <;> rfl
theorem V_main_v4 : V m c main_v4 = shapeCast S1024x512 (m ((c : Thread nD τ).loc main_arg6)) shapeCasts_S4x256x4x128_S1024x512 := by
  unfold V hostOps0; after_results_simp <;> rfl
theorem V_main_v5 : V m c main_v5 = m ((c : Thread nD τ).loc main_arg8) := by
  unfold V hostOps0; after_results_simp <;> rfl
theorem V_main_v7 : V m c main_v7 = shapeCast S8192x1024 (m ((c : Thread nD τ).loc main_arg1)) shapeCasts_S4x2048x1024_S8192x1024 := by
  unfold V hostOps0; after_results_simp <;> rfl
theorem V_main_v9 : V m c main_v9 = shapeCast S8192x1024 (m ((c : Thread nD τ).loc main_arg2)) shapeCasts_S4x2048x1024_S8192x1024 := by
  unfold V hostOps0; after_results_simp <;> rfl
theorem V_main_v10 : V m c main_v10 = m ((c : Thread nD τ).loc main_arg3) := by
  unfold V hostOps0; after_results_simp <;> rfl

theorem idx0 : ∀ t : Fin cfg0.N, win0_0.index t (0 : Fin 2) = t.val % 16 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = t.val / 4 % 4 ∧ win0_3.index t (1 : Fin 2) = 0 :=
  (by decide +kernel : ∀ t : Fin grid0.N, _)
theorem idx4 : ∀ t : Fin cfg0.N, win0_4.index t (0 : Fin 2) = t.val / 4 % 4 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = t.val % 16 ∧ win0_6.index t (1 : Fin 2) = 0 :=
  (by decide +kernel : ∀ t : Fin grid0.N, _)
theorem idx7 : ∀ t : Fin cfg0.N, win0_7.index t (0 : Fin 2) = t.val % 16 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 1 ∧ win0_9.index t (1 : Fin 2) = 0 :=
  (by decide +kernel : ∀ t : Fin grid0.N, _)
theorem idx10 : ∀ t : Fin cfg0.N, win0_10.index t (0 : Fin 2) = t.val % 16 ∧ win0_10.index t (1 : Fin 2) = 0 :=
  (by decide +kernel : ∀ t : Fin grid0.N, _)
theorem fl10 : ∀ t : Fin cfg0.N, (cfg0.win 10).flush t = true :=
  (by decide +kernel : ∀ t : Fin grid0.N, win0_10.flush t = true)

theorem blk0 (w : S8192x2048.Idx → Elt Ideal .f32) (h : V m c main_v0 = w) (t : Fin cfg0.N) (r : Fin 512) (k : Fin 2048) :
    iblk m c 0 t (ix2 r k) = w (ix2 (rowIx t.val r) k) := by
  obtain ⟨e0, e1⟩ := idx0 t
  rw [← h]
  refine congrArg (V m c main_v0) (funext fun a => Fin.ext ?_)
  fin_cases a
  · show win0_0.index t (0 : Fin 2) * 512 + 1 * r.val = t.val % 16 * 512 + r.val; omega
  · show win0_0.index t (1 : Fin 2) * 2048 + 1 * k.val = k.val; omega
theorem blk1 (w : S1x2048.Idx → Elt Ideal .f32) (h : V m c main_v1 = w) (t : Fin cfg0.N) (k : Fin 2048) :
    iblk m c 1 t (ix2 0 k) = w (ix2 0 k) := by
  obtain ⟨e0, e1⟩ := idx1 t
  rw [← h]
  refine congrArg (V m c main_v1) (funext fun a => Fin.ext ?_)
  fin_cases a
  · show win0_1.index t (0 : Fin 2) * 1 + 1 * 0 = 0; omega
  · show win0_1.index t (1 : Fin 2) * 2048 + 1 * k.val = k.val; omega
theorem blk2 (w : S2048x512.Idx → Elt Ideal .bf16) (h : V m c main_v2 = w) (t : Fin cfg0.N) (k : Fin 2048) (s : Fin 512) :
    iblk m c 2 t (ix2 k s) = w (ix2 k s) := by
  obtain ⟨e0, e1⟩ := idx2 t
  rw [← h]
  refine congrArg (V m c main_v2) (funext fun a => Fin.ext ?_)
  fin_cases a
  · show win0_2.index t (0 : Fin 2) * 2048 + 1 * k.val = k.val; omega
  · show win0_2.index t (1 : Fin 2) * 512 + 1 * s.val = s.val; omega
theorem blk3 (w : S1024x512.Idx → Elt Ideal .f32) (h : V m c main_v3 = w) (t : Fin cfg0.N) (j : Fin 256) (s : Fin 512) :
    iblk m c 3 t (ix2 j s) = w (ix2 (memIx t.val j) s) := by
  obtain ⟨e0, e1⟩ := idx3 t
  rw [← h]
  refine congrArg (V m c main_v3) (funext fun a => Fin.ext ?_)
  fin_cases a
  · show win0_3.index t (0 : Fin 2) * 256 + 1 * j.val = t.val / 4 % 4 * 256 + j.val; omega
  · show win0_3.index t (1 : Fin 2) * 512 + 1 * s.val = s.val; omega
theorem blk4 (w : S1024x512.Idx → Elt Ideal .f32) (h : V m c main_v4 = w) (t : Fin cfg0.N) (j : Fin 256) (s : Fin 512) :
    iblk m c 4 t (ix2 j s) = w (ix2 (memIx t.val j) s) := by
  obtain ⟨e0, e1⟩ := idx4 t
  rw [← h]
  refine congrArg (V m c main_v4) (funext fun a => Fin.ext ?_)
  fin_cases a
  · show win0_4.index t (0 : Fin 2) * 256 + 1 * j.val = t.val / 4 % 4 * 256 + j.val; omega
  · show win0_4.index t (1 : Fin 2) * 512 + 1 * s.val = s.val; omega
theorem blk5 (w : S512x2048.Idx → Elt Ideal .bf16) (h : V m c main_v5 = w) (t : Fin cfg0.N) (s : Fin 512) (k : Fin 2048) :
    iblk m c 5 t (ix2 s k) = w (ix2 s k) := by
  obtain ⟨e0, e1⟩ := idx5 t
  rw [← h]
  refine congrArg (V m c main_v5) (funext fun a => Fin.ext ?_)
  fin_cases a
  · show win0_5.index t (0 : Fin 2) * 512 + 1 * s.val = s.val; omega
  · show win0_5.index t (1 : Fin 2) * 2048 + 1 * k.val = k.val; omega
theorem blk6 (w : S8192x1024.Idx → Elt Ideal .bf16) (h : V m c main_v7 = w) (t : Fin cfg0.N) (r : Fin 512) (k : Fin 1024) :
    iblk m c 6 t (ix2 r k) = w (ix2 (rowIx t.val r) k) := by
  obtain ⟨e0, e1⟩ := idx6 t
  rw [← h]
  refine congrArg (V m c main_v7) (funext fun a => Fin.ext ?_)
  fin_cases a
  · show win0_6.index t (0 : Fin 2) * 512 + 1 * r.val = t.val % 16 * 512 + r.val; omega
  · show win0_6.index t (1 : Fin 2) * 1024 + 1 * k.val = k.val; omega
theorem blk7 (w : S8192x1024.Idx → Elt Ideal .bf16) (h : V m c main_v9 = w) (t : Fin cfg0.N) (r : Fin 512) (k : Fin 1024) :
    iblk m c 7 t (ix2 r k) = w (ix2 (rowIx t.val r) k) := by
  obtain ⟨e0, e1⟩ := idx7 t
  rw [← h]
  refine congrArg (V m c main_v9) (funext fun a => Fin.ext ?_)
  fin_cases a
  · show win0_7.index t (0 : Fin 2) * 512 + 1 * r.val = t.val % 16 * 512 + r.val; omega
  · show win0_7.index t (1 : Fin 2) * 1024 + 1 * k.val = k.val; omega
theorem blk8 (w : S2048x2048.Idx → Elt Ideal .bf16) (h : V m c main_v10 = w) (t : Fin cfg0.N) (k : Fin 1024) (l : Fin 2048) :
    iblk m c 8 t (ix2 k l) = w (ix2 ⟨k.val, by have := k.isLt; omega⟩ l) := by
  obtain ⟨e0, e1⟩ := idx8 t
  rw [← h]
  refine congrArg (V m c main_v10) (funext fun a => Fin.ext ?_)
  fin_cases a
  · show win0_8.index t (0 : Fin 2) * 1024 + 1 * k.val = k.val; omega
  · show win0_8.index t (1 : Fin 2) * 2048 + 1 * l.val = l.val; omega
theorem blk9 (w : S2048x2048.Idx → Elt Ideal .bf16) (h : V m c main_v10 = w) (t : Fin cfg0.N) (k : Fin 1024) (l : Fin 2048) :
    iblk m c 9 t (ix2 k l) = w (ix2 ⟨1024 + k.val, by have := k.isLt; omega⟩ l) := by
  obtain ⟨e0, e1⟩ := idx9 t
  rw [← h]
  refine congrArg (V m c main_v10) (funext fun a => Fin.ext ?_)
  fin_cases a
  · show win0_9.index t (0 : Fin 2) * 1024 + 1 * k.val = 1024 + k.val; omega
  · show win0_9.index t (1 : Fin 2) * 2048 + 1 * l.val = l.val; omega

/-- What the kernel writes, from its arguments. -/
theorem arr_10 (hg : ∀ k, IsR (m ((c : Thread nD τ).loc main_arg4) k)) (hmk : ∀ k, IsR (m ((c : Thread nD τ).loc main_arg5) k)) (hwq : ∀ k, IsR (m ((c : Thread nD τ).loc main_arg7) k)) :
    (dats m 0 c).arrAt 10 cfg0.N = refAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have e : ∀ (t : Fin cfg0.N) (r : Fin 512) (l : Fin 2048), ((cfg0.win 10).blk t).view.emb (ix2 r l) = ix2 (rowIx t.val r) l := fun t r l => by
    obtain ⟨e0, e1⟩ := idx10 t
    refine funext fun a => Fin.ext ?_
    fin_cases a
    · show win0_10.index t (0 : Fin 2) * 512 + 1 * r.val = t.val % 16 * 512 + r.val; omega
    · show win0_10.index t (1 : Fin 2) * 2048 + 1 * l.val = l.val; omega
  refine (dats m 0 c).arrAt_eq_of_cover 10 _ (fun t _ => ?_) (fun i => ?_)
  · rw [flushed10]
    funext y
    obtain ⟨r, l, rfl⟩ : ∃ (r : Fin 512) (l : Fin 2048), y = ix2 r l := ⟨y 0, y 1, eq_ix2 y⟩
    have hr := r.isLt
    have ht : t.val < 16 := lt_of_lt_of_eq t.isLt N_0
    refine (out10_at (iblk m c 0 t) (iblk m c 1 t) (iblk m c 2 t) (iblk m c 3 t) (iblk m c 4 t) (iblk m c 5 t) (iblk m c 6 t) (iblk m c 7 t)
      (iblk m c 8 t) (iblk m c 9 t) r l).trans ?_
    refine Eq.trans ?_ (congrArg (refAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (e t r l).symm)
    have en : ∀ j : Fin 256, (⟨(memIx t.val j).val / 256, by have := (memIx t.val j).isLt; omega⟩ : Fin 4) = ⟨(rowIx t.val r).val / 2048, by have := (rowIx t.val r).isLt; omega⟩ :=
      fun j => Fin.ext (by have := j.isLt; show (t.val / 4 % 4 * 256 + j.val) / 256 = (t.val % 16 * 512 + r.val) / 2048; omega)
    have ej : ∀ j : Fin 256, (⟨(memIx t.val j).val % 256, Nat.mod_lt _ (by decide)⟩ : Fin 256) = j :=
      fun j => Fin.ext (by have := j.isLt; show (t.val / 4 % 4 * 256 + j.val) % 256 = j.val; omega)
    refine Eq.trans ?_ (refAll_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) hg hmk hwq (rowIx t.val r) l
      ⟨(rowIx t.val r).val / 2048, by have := (rowIx t.val r).isLt; omega⟩ ⟨(rowIx t.val r).val % 2048, Nat.mod_lt _ (by decide)⟩ rfl rfl _
      (fun j s => iblk m c 3 t (ix2 j s)) (fun j s => iblk m c 4 t (ix2 j s)) rfl ?_ ?_).symm
    · have eH : hRow (iblk m c 0 t) (iblk m c 6 t) (iblk m c 7 t) (iblk m c 8 t) (iblk m c 9 t) r
          = hAt (fun k => m ((c : Thread nD τ).loc main_arg0) (ix3 ⟨(rowIx t.val r).val / 2048, by have := (rowIx t.val r).isLt; omega⟩ ⟨(rowIx t.val r).val % 2048, Nat.mod_lt _ (by decide)⟩ k))
              (fun k => m ((c : Thread nD τ).loc main_arg1) (ix3 ⟨(rowIx t.val r).val / 2048, by have := (rowIx t.val r).isLt; omega⟩ ⟨(rowIx t.val r).val % 2048, Nat.mod_lt _ (by decide)⟩ k))
              (fun k => m ((c : Thread nD τ).loc main_arg2) (ix3 ⟨(rowIx t.val r).val / 2048, by have := (rowIx t.val r).isLt; omega⟩ ⟨(rowIx t.val r).val % 2048, Nat.mod_lt _ (by decide)⟩ k))
              (fun k l => m ((c : Thread nD τ).loc main_arg3) (ix2 ⟨k.val, by have := k.isLt; omega⟩ l)) (fun k l => m ((c : Thread nD τ).loc main_arg3) (ix2 ⟨1024 + k.val, by have := k.isLt; omega⟩ l)) := by
        unfold hRow
        have h0 := fun k => (blk0 m c _ (V_main_v0 m c) t r k).trans (cast_x _ _ k)
        have h6 := fun k => (blk6 m c _ (V_main_v7 m c) t r k).trans (cast_o _ _ k)
        have h7 := fun k => (blk7 m c _ (V_main_v9 m c) t r k).trans (cast_o _ _ k)
        have h8 := fun k l => blk8 m c _ (V_main_v10 m c) t k l
        have h9 := fun k l => blk9 m c _ (V_main_v10 m c) t k l
        rw [funext h0, funext h6, funext h7, funext fun k => funext (h8 k), funext fun k => funext (h9 k)]
      rw [eH]
      have h1 := fun k => (blk1 m c _ (V_main_v1 m c) t k).trans (cast_g _ k)
      have h2 := fun k s => blk2 m c _ (V_main_v2 m c) t k s
      have h5 := fun s k => blk5 m c _ (V_main_v5 m c) t s k
      rw [funext h1, funext fun k => funext (h2 k), funext fun k => funext (h5 k)]
    · intro j s
      refine (blk3 m c _ (V_main_v3 m c) t j s).trans ((cast_k _ _ s).trans ?_)
      rw [en, ej]
    · intro j s
      refine (blk4 m c _ (V_main_v4 m c) t j s).trans ((cast_k _ _ s).trans ?_)
      rw [en, ej]
  · obtain ⟨r, l, rfl⟩ : ∃ (r : Fin 8192) (l : Fin 2048), i = ix2 r l := ⟨i 0, i 1, eq_ix2 i⟩
    have hr := r.isLt
    have hN : r.val / 512 < cfg0.N := lt_of_lt_of_eq (by omega) (show cfg0.N = 16 from N_0).symm
    refine ⟨⟨r.val / 512, hN⟩, fl10 _, ?_⟩
    have h := View.emb_mem_set ((cfg0.win 10).blk ⟨r.val / 512, hN⟩).view (ix2 (⟨r.val % 512, Nat.mod_lt _ (by decide)⟩ : Fin 512) l)
    have hrow : rowIx (r.val / 512) ⟨r.val % 512, Nat.mod_lt _ (by decide)⟩ = r := Fin.ext (by
      show r.val / 512 % 16 * 512 + r.val % 512 = r.val; omega)
    rw [e] at h
    dsimp only at h
    rwa [hrow] at h

end Blocks

end Cert.Proof.Attn

end
-- ==== Proof.Values2.lean ====
/- The accumulating kernel over the long batch: what one grid point leaves, read at an index. -/
module

public import proofs.«01_k».proof.Proof.Gen.Kernel2Ideal.Value
public import proofs.«01_k».proof.Proof.Values
public import Idealize.ShloMosaic.Lib.Writes
public import Idealize.ShloMosaic.Lib.Pipeline.CanonAppend
public import Idealize.ShloMosaic.Lib.Pipeline.ValueKit.Tiles
public import Idealize.ShloMosaic.Lib.Pointwise
public import Idealize.ShloMosaic.Lib.Pipeline.Value

@[expose] public section

set_option maxRecDepth 16384

noncomputable section

namespace Cert.Proof.Ffn2

open Cert.Kernel2Ideal Cert.Kernel2Ideal.Gen
open Idealize.ShloMosaic Idealize.ShloMosaic.TcCoe
open Cert.Proof.Ffn (rmsAt logis halfE unitK half_sum)

theorem hz : (![0, 0] : Fin 2 → Nat) = fun _ => 0 := funext fun a => by fin_cases a <;> rfl

theorem trips1 : k0_t1_loop.trips = 8 := by decide +kernel
theorem trips2 : k0_t2_loop.trips = 8 := by decide +kernel
theorem off1_eq : ∀ k : Fin k0_t1_loop.trips, k0_off1 k 0 = 128 * k.val ∧ k0_off1 k 1 = 0 := by decide +kernel
theorem off2_eq : ∀ k : Fin k0_t2_loop.trips, k0_off2 k 0 = 128 * k.val ∧ k0_off2 k 1 = 0 := by decide +kernel

section Points
variable {F : FTy → Type} [FloatOps F]
variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole)

/-- A middle point adds its block's part. -/
theorem out_B (hc0 : ¬cond0_0 i) (hc1 : ¬cond0_1 i) (x0 : Vec F S1024x2048 .f32) (x1 : Vec F S1x2048 .f32) (x2 : Vec F S2048x512 .bf16) (x3 : Vec F S2048x512 .bf16) (x4 : Vec F S512x2048 .bf16) (x5 : Vec F S1x2048 .f32) (xo6 : Vec F S1024x2048 .f32) (xs0 : Vec F S1024x2048 .bf16) :
    out0_B_6 c i arg2 harg2 arg3 harg3 arg4 harg4 arg5 harg5 arg6 harg6 arg7 harg7 arg8 harg8 arg9 harg9 hc0 hc1 x0 x1 x2 x3 x4 x5 xo6 xs0 = k0_pay3 xs0 x2 x3 xo6 x4 := by
  unfold out0_B_6
  rw [View.read_writes_eq_canon _ _ _ (cover0_B_6 c i arg2 harg2 arg3 harg3 arg4 harg4 arg5 harg5 arg6 harg6 arg7 harg7 arg8 harg8 arg9 harg9 hc0 hc1 x0 x1 x2 x3 x4 x5 xo6 xs0)]
  unfold kernelRun0_B
  dsimp only
  rw [View.canon_unit_zero hz]
  simp only [View.readAt_eq_ld, harg4.read_unread, harg5.read_unread, harg6.read_unread, harg8.read_unread, harg9.read_unread,
    View.ld_unit_zero (S := S1024x2048) hz, View.ld_unit_zero (S := S2048x512) hz, View.ld_unit_zero (S := S512x2048) hz]

/-- The pieces of one trip of the first loop. -/
theorem trip1 (h : k0_cond1 i = 1#1) (X : BufTy.Contents (Elt F) arg2.view.ty) (Y : BufTy.Contents (Elt F) arg3.view.ty) (k : Fin k0_t1_loop.trips) :
    tripL_k0_t1 (F := F) Variants.none c none i arg2 harg2 arg3 harg3 arg4 harg4 arg5 harg5 arg6 harg6 arg7 harg7 arg8 harg8 arg9 harg9 h X Y k
      = ([⟨Rect.unit (s := S1024x2048) (k0_off1 k) S128x2048.size (k0_off1_inb i k h),
            k0_pay1 (arg2.view.readAt (Elt F) (Rect.unit (s := S1024x2048) (k0_off1 k) S128x2048.size (k0_off1_inb i k h)).toLoadRect X)⟩],
         [⟨Rect.unit (s := S1024x2048) (k0_off1 k) S128x2048.size (k0_off1_inb i k h),
            k0_pay2 (arg2.view.readAt (Elt F) (Rect.unit (s := S1024x2048) (k0_off1 k) S128x2048.size (k0_off1_inb i k h)).toLoadRect X)
              (arg3.view.readAt (Elt F) (Rect.unit (s := S1x2048) ![0, 0] S1x2048.size inb_S1x2048_S1x2048_0_0).toLoadRect Y)⟩]) := by
  unfold tripL_k0_t1 trip_k0_t1
  rfl

/-- The piece of one trip of the second loop. -/
theorem trip2 (h : k0_cond2 i = 1#1) (X : BufTy.Contents (Elt F) arg7.view.ty) (k : Fin k0_t2_loop.trips) (G : BufTy.Contents (Elt F) arg8.view.ty) :
    tripL_k0_t2 (F := F) Variants.none c none i arg2 harg2 arg3 harg3 arg4 harg4 arg5 harg5 arg6 harg6 arg7 harg7 arg8 harg8 arg9 harg9 h X k G
      = [⟨Rect.unit (s := S1024x2048) (k0_off2 k) S128x2048.size (k0_off2_inb i k h),
            k0_pay4 (arg8.view.readAt (Elt F) (Rect.unit (s := S1024x2048) (k0_off2 k) S128x2048.size (k0_off2_inb i k h)).toLoadRect G)
              (arg7.view.readAt (Elt F) (Rect.unit (s := S1x2048) ![0, 0] S1x2048.size inb_S1x2048_S1x2048_0_0).toLoadRect X)⟩] := by
  unfold tripL_k0_t2 trip_k0_t2
  rfl

/-- The pieces of the first loop's trips before `n`. -/
theorem pb1_mem (h : k0_cond1 i = 1#1) (X : BufTy.Contents (Elt F) arg2.view.ty) (Y : BufTy.Contents (Elt F) arg3.view.ty) : ∀ n : ℕ, n ≤ k0_t1_loop.trips →
    (∀ p ∈ (pb_k0_t1 (F := F) Variants.none c none i arg2 harg2 arg3 harg3 arg4 harg4 arg5 harg5 arg6 harg6 arg7 harg7 arg8 harg8 arg9 harg9 h X Y n).1, ∃ k : Fin k0_t1_loop.trips,
        p = ⟨(Rect.unit (s := S1024x2048) (k0_off1 k) S128x2048.size (k0_off1_inb i k h)), k0_pay1 (arg2.view.readAt (Elt F) (Rect.unit (s := S1024x2048) (k0_off1 k) S128x2048.size (k0_off1_inb i k h)).toLoadRect X)⟩)
    ∧ (∀ p ∈ (pb_k0_t1 (F := F) Variants.none c none i arg2 harg2 arg3 harg3 arg4 harg4 arg5 harg5 arg6 harg6 arg7 harg7 arg8 harg8 arg9 harg9 h X Y n).2, ∃ k : Fin k0_t1_loop.trips,
        p = ⟨(Rect.unit (s := S1024x2048) (k0_off1 k) S128x2048.size (k0_off1_inb i k h)), k0_pay2 (arg2.view.readAt (Elt F) (Rect.unit (s := S1024x2048) (k0_off1 k) S128x2048.size (k0_off1_inb i k h)).toLoadRect X)
              (arg3.view.readAt (Elt F) (Rect.unit (s := S1x2048) ![0, 0] S1x2048.size inb_S1x2048_S1x2048_0_0).toLoadRect Y)⟩)
  | 0, _ => ⟨fun p hp => absurd hp List.not_mem_nil, fun p hp => absurd hp List.not_mem_nil⟩
  | n + 1, hn => by
    obtain ⟨ih1, ih2⟩ := pb1_mem h X Y n (Nat.le_of_succ_le hn)
    have e := pb_k0_t1_succ (F := F) Variants.none c none i arg2 harg2 arg3 harg3 arg4 harg4 arg5 harg5 arg6 harg6 arg7 harg7 arg8 harg8 arg9 harg9 h X Y ⟨n, hn⟩
    rw [trip1] at e
    dsimp only at e
    rw [e]
    refine ⟨fun p hp => ?_, fun p hp => ?_⟩
    · rcases List.mem_cons.mp hp with rfl | hp
      · exact ⟨⟨n, hn⟩, rfl⟩
      · exact ih1 p hp
    · rcases List.mem_cons.mp hp with rfl | hp
      · exact ⟨⟨n, hn⟩, rfl⟩
      · exact ih2 p hp

/-- The pieces of the second loop's trips before `n`: each normalizes its own rows of what the loop found. -/
theorem pb2_mem (h : k0_cond2 i = 1#1) (X : BufTy.Contents (Elt F) arg7.view.ty) (G : BufTy.Contents (Elt F) arg8.view.ty) : ∀ n : ℕ, n ≤ k0_t2_loop.trips →
    ∀ p ∈ pb_k0_t2 (F := F) Variants.none c none i arg2 harg2 arg3 harg3 arg4 harg4 arg5 harg5 arg6 harg6 arg7 harg7 arg8 harg8 arg9 harg9 h X G n, ∃ k : Fin k0_t2_loop.trips, k.val < n ∧
        p = ⟨(Rect.unit (s := S1024x2048) (k0_off2 k) S128x2048.size (k0_off2_inb i k h)), k0_pay4 (View.ld (arg8.view.read (Elt F) G) (Rect.unit (s := S1024x2048) (k0_off2 k) S128x2048.size (k0_off2_inb i k h)))
              (arg7.view.readAt (Elt F) (Rect.unit (s := S1x2048) ![0, 0] S1x2048.size inb_S1x2048_S1x2048_0_0).toLoadRect X)⟩
  | 0, _ => fun p hp => absurd hp List.not_mem_nil
  | n + 1, hn => by
    have ih := pb2_mem h X G n (Nat.le_of_succ_le hn)
    have e := pb_k0_t2_succ (F := F) Variants.none c none i arg2 harg2 arg3 harg3 arg4 harg4 arg5 harg5 arg6 harg6 arg7 harg7 arg8 harg8 arg9 harg9 h X G ⟨n, hn⟩
    rw [trip2] at e
    dsimp only at e
    rw [e]
    intro p hp
    rcases List.mem_cons.mp hp with rfl | hp
    · refine ⟨⟨n, hn⟩, Nat.lt_succ_self n, ?_⟩
      congr 2
      rw [View.readAt_eq_ld]
      funext x
      rw [View.ld_apply, View.ld_apply]
      refine View.read_writes_apply_of_forall_not_mem _ _ _ _ (fun q hq hm => ?_)
      obtain ⟨k, hk, rfl⟩ := ih q hq
      have m0 := (Rect.mem_set_unit (s := S1024x2048) (off := k0_off2 k) (size := S128x2048.size) (inb := k0_off2_inb i k h)).mp hm 0
      have e0 := Rect.idx_unit_val (s := S1024x2048) (k0_off2 ⟨n, hn⟩) S128x2048.size (k0_off2_inb i ⟨n, hn⟩ h) x 0
      rw [e0, (off2_eq _).1, (off2_eq _).1] at m0
      have := m0.2
      change 128 * n + (x 0).val < 128 * k.val + 128 at this
      omega
    · obtain ⟨k, hk, e⟩ := ih p hp
      exact ⟨k, Nat.lt_succ_of_lt hk, e⟩

/-- A first point adds its block's part to its rows. -/
theorem out_A (hc0 : cond0_0 i) (hc1 : ¬cond0_1 i) (x0 : Vec F S1024x2048 .f32) (x1 : Vec F S1x2048 .f32) (x2 : Vec F S2048x512 .bf16) (x3 : Vec F S2048x512 .bf16) (x4 : Vec F S512x2048 .bf16) (x5 : Vec F S1x2048 .f32) :
    out0_A_6 c i arg2 harg2 arg3 harg3 arg4 harg4 arg5 harg5 arg6 harg6 arg7 harg7 arg8 harg8 arg9 harg9 hc0 hc1 x0 x1 x2 x3 x4 x5 = k0_pay3 (sout0_A_0 c i arg2 harg2 arg3 harg3 arg4 harg4 arg5 harg5 arg6 harg6 arg7 harg7 arg8 harg8 arg9 harg9 hc0 hc1 x0 x1 x2 x3 x4 x5) x2 x3 x0 x4 := by
  have hcov : ∀ y, ∃ p ∈ (pb_k0_t1 (F := F) Variants.none c none i arg2 harg2 arg3 harg3 arg4 harg4 arg5 harg5 arg6 harg6 arg7 harg7 arg8 harg8 arg9 harg9 hc0 (harg2.unread x0) (harg3.unread x1) (Scf.trips k0_t1_loop.lb k0_t1_loop.ub k0_t1_loop.st)).1, y ∈ p.1.set := fun y =>
    View.cover_of_tiledL (s := S1024x2048) _ S128x2048.size (by sl_kernel_rfl) y
  have hx : View.canon (pb_k0_t1 (F := F) Variants.none c none i arg2 harg2 arg3 harg3 arg4 harg4 arg5 harg5 arg6 harg6 arg7 harg7 arg8 harg8 arg9 harg9 hc0 (harg2.unread x0) (harg3.unread x1) (Scf.trips k0_t1_loop.lb k0_t1_loop.ub k0_t1_loop.st)).1 = x0 := by
    funext y
    refine View.canon_apply_of_pieces x0 _ (fun p hp x => ?_) y (hcov y)
    obtain ⟨k, rfl⟩ := (pb1_mem c i arg2 harg2 arg3 harg3 arg4 harg4 arg5 harg5 arg6 harg6 arg7 harg7 arg8 harg8 arg9 harg9 hc0 _ _ _ (le_refl _)).1 p hp
    dsimp only
    unfold k0_pay1
    rw [shapeCast_self, View.readAt_eq_ld, harg2.read_unread]
    rfl
  unfold out0_A_6
  rw [View.read_writes_eq_canon _ _ _ (cover0_A_6 c i arg2 harg2 arg3 harg3 arg4 harg4 arg5 harg5 arg6 harg6 arg7 harg7 arg8 harg8 arg9 harg9 hc0 hc1 x0 x1 x2 x3 x4 x5)]
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  refine (View.canon_cons_unit_zero hz _ _ _).trans ?_
  simp only [View.readCov_eq_canon', View.readAt_eq_ld, harg4.read_unread, harg5.read_unread, harg6.read_unread,
    View.ld_unit_zero (S := S2048x512) hz, View.ld_unit_zero (S := S512x2048) hz]
  congr 1
  · exact View.ld_unit_zero (S := S1024x2048) hz inb_S1024x2048_S1024x2048_0_0 _
  · exact (View.ld_unit_zero (S := S1024x2048) hz inb_S1024x2048_S1024x2048_0_0 _).trans hx

end Points

/-! ## At the ideal instance -/

/-- Every row normalized by its root mean square. -/
def normG (x : S1024x2048.Idx → EReal) (g : S1x2048.Idx → EReal) : S1024x2048.Idx → EReal :=
  fun j => rmsAt (fun k => x (ix2 (j 0) k)) (fun k => g (ix2 0 k)) (j 1)

theorem pay2_at (v : S128x2048.Idx → Elt Ideal .f32) (g : S1x2048.Idx → Elt Ideal .f32) (r : Fin 128) (l : Fin 2048) :
    k0_pay2 (F := Ideal) v g (ix2 r l) = rmsAt (fun k => v (ix2 r k)) (fun k => g (ix2 0 k)) l := by
  pointwise [k0_pay2, k0_pay1, rmsAt]

theorem pay4_at (v : S128x2048.Idx → Elt Ideal .f32) (g : S1x2048.Idx → Elt Ideal .f32) (r : Fin 128) (l : Fin 2048) :
    k0_pay4 (F := Ideal) v g (ix2 r l) = rmsAt (fun k => v (ix2 r k)) (fun k => g (ix2 0 k)) l := by
  pointwise [k0_pay4, rmsAt]

theorem pay3_at (xv : S1024x2048.Idx → Elt Ideal .bf16) (g u : S2048x512.Idx → Elt Ideal .bf16) (o : S1024x2048.Idx → Elt Ideal .f32)
    (d : S512x2048.Idx → Elt Ideal .bf16) (r : Fin 1024) (l : Fin 2048) :
    k0_pay3 (F := Ideal) xv g u o d (ix2 r l)
      = o (ix2 r l) + ∑ t : Fin 512, unitK (∑ k : Fin 2048, xv (ix2 r k) * g (ix2 k t)) (∑ k : Fin 2048, xv (ix2 r k) * u (ix2 k t)) * d (ix2 t l) := by
  have z : ∀ a : EReal, 0 - a = -a := fun a => by rw [sub_eq_add_neg, zero_add]
  pointwise [k0_pay3, unitK, logis, halfE]
  simp only [z]

/-- Rows of a slab, at their places. -/
theorem slab_at {α : Type} (off : Fin 2 → ℕ) (b : ℕ) (h0 : off 0 = 128 * b) (h1 : off 1 = 0) (inb) (X : S1024x2048.Idx → α)
    (r : Fin 128) (l : Fin 2048) (hb : 128 * b + r.val < 1024) :
    X ((Rect.unit (s := S1024x2048) off S128x2048.size inb).idx (ix2 r l)) = X (ix2 ⟨128 * b + r.val, hb⟩ l) := by
  refine congrArg X (funext fun a => Fin.ext ?_)
  fin_cases a
  · show off 0 + 1 * r.val = 128 * b + r.val; omega
  · show off 1 + 1 * l.val = l.val; omega

theorem slab_norm (P : (S128x2048.Idx → Elt Ideal .f32) → S128x2048.Idx → EReal) (g : S1x2048.Idx → EReal)
    (hP : ∀ v r l, P v (ix2 r l) = rmsAt (fun k => v (ix2 r k)) (fun k => g (ix2 0 k)) l)
    (off : Fin 2 → ℕ) (b : ℕ) (h0 : off 0 = 128 * b) (h1 : off 1 = 0) (inb) (hb : b < 8) (X : S1024x2048.Idx → Elt Ideal .f32) (x : S128x2048.Idx) :
    P (View.ld (Val := Elt Ideal) (e' := .f32) X (Rect.unit (s := S1024x2048) off S128x2048.size inb)) x
      = normG X g ((Rect.unit (s := S1024x2048) off S128x2048.size inb).idx x) := by
  obtain ⟨r, l, rfl⟩ : ∃ (r : Fin 128) (l : Fin 2048), x = ix2 r l := ⟨x 0, x 1, eq_ix2 x⟩
  have hr := r.isLt
  rw [hP, slab_at off b h0 h1 inb (normG X g) r l (by omega)]
  unfold normG
  refine congrArg (fun f => rmsAt f _ l) (funext fun k => ?_)
  exact slab_at off b h0 h1 inb X r k (by omega)

/-- The carried rows: a first point leaves the normalized ones. -/
theorem sout_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (hc0 : cond0_0 i) (hc1 : ¬cond0_1 i) (x0 : Vec Ideal S1024x2048 .f32) (x1 : Vec Ideal S1x2048 .f32) (x2 : Vec Ideal S2048x512 .bf16) (x3 : Vec Ideal S2048x512 .bf16) (x4 : Vec Ideal S512x2048 .bf16) (x5 : Vec Ideal S1x2048 .f32) :
    sout0_A_0 c i arg2 harg2 arg3 harg3 arg4 harg4 arg5 harg5 arg6 harg6 arg7 harg7 arg8 harg8 arg9 harg9 hc0 hc1 x0 x1 x2 x3 x4 x5 = normG x0 x1 := by
  have hcov : ∀ y, ∃ p ∈ (pb_k0_t1 (F := Ideal) Variants.none c none i arg2 harg2 arg3 harg3 arg4 harg4 arg5 harg5 arg6 harg6 arg7 harg7 arg8 harg8 arg9 harg9 hc0 (harg2.unread x0) (harg3.unread x1) (Scf.trips k0_t1_loop.lb k0_t1_loop.ub k0_t1_loop.st)).2, y ∈ p.1.set := fun y =>
    View.cover_of_tiledL (s := S1024x2048) _ S128x2048.size (by sl_kernel_rfl) y
  have hx : View.canon (pb_k0_t1 (F := Ideal) Variants.none c none i arg2 harg2 arg3 harg3 arg4 harg4 arg5 harg5 arg6 harg6 arg7 harg7 arg8 harg8 arg9 harg9 hc0 (harg2.unread x0) (harg3.unread x1) (Scf.trips k0_t1_loop.lb k0_t1_loop.ub k0_t1_loop.st)).2 = normG x0 x1 := by
    funext y
    refine View.canon_apply_of_pieces (normG x0 x1) _ (fun p hp x => ?_) y (hcov y)
    obtain ⟨k, rfl⟩ := (pb1_mem c i arg2 harg2 arg3 harg3 arg4 harg4 arg5 harg5 arg6 harg6 arg7 harg7 arg8 harg8 arg9 harg9 hc0 _ _ _ (le_refl _)).2 p hp
    dsimp only
    rw [View.readAt_eq_ld, View.readAt_eq_ld, harg2.read_unread, harg3.read_unread, View.ld_unit_zero (S := S1x2048) hz]
    exact slab_norm (fun v => k0_pay2 (F := Ideal) v x1) x1 (fun v r l => pay2_at v x1 r l) _ k.val (off1_eq k).1 (off1_eq k).2 _
      (lt_of_lt_of_eq k.isLt trips1) x0 x
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  exact hx

/-- A last point adds its block's part, then normalizes. -/
theorem out_C (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (hc0 : ¬cond0_0 i) (hc1 : cond0_1 i) (x0 : Vec Ideal S1024x2048 .f32) (x1 : Vec Ideal S1x2048 .f32) (x2 : Vec Ideal S2048x512 .bf16) (x3 : Vec Ideal S2048x512 .bf16) (x4 : Vec Ideal S512x2048 .bf16) (x5 : Vec Ideal S1x2048 .f32) (xo6 : Vec Ideal S1024x2048 .f32) (xs0 : Vec Ideal S1024x2048 .bf16) :
    out0_C_6 c i arg2 harg2 arg3 harg3 arg4 harg4 arg5 harg5 arg6 harg6 arg7 harg7 arg8 harg8 arg9 harg9 hc0 hc1 x0 x1 x2 x3 x4 x5 xo6 xs0 = normG (k0_pay3 (F := Ideal) xs0 x2 x3 xo6 x4) x5 := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xo6 xs0)]
  unfold kernelRun0_C
  dsimp only
  sl_unfold_words
  simp only [View.readAt_eq_ld, harg4.read_unread, harg5.read_unread, harg6.read_unread, harg8.read_unread, harg9.read_unread,
    View.ld_unit_zero (S := S1024x2048) hz, View.ld_unit_zero (S := S2048x512) hz, View.ld_unit_zero (S := S512x2048) hz]
  generalize k0_pay3 (F := Ideal) xs0 x2 x3 xo6 x4 = Z
  funext y
  refine View.canon_append_of_pieces (Val := Elt Ideal) (e := .f32) (normG Z x5) _ _ (fun p hp x => ?_) y (View.cover_of_tiledL (s := S1024x2048) _ S128x2048.size (by sl_kernel_rfl) y)
  obtain ⟨k, -, rfl⟩ := pb2_mem c i arg2 harg2 arg3 harg3 arg4 harg4 arg5 harg5 arg6 harg6 arg7 harg7 arg8 harg8 arg9 harg9 hc1 _ _ _ (le_refl _) p hp
  dsimp only
  rw [View.readAt_eq_ld, harg7.read_unread, View.ld_unit_zero (S := S1x2048) hz, View.read_writes_junk_eq_canon, View.canon_unit_zero hz]
  exact slab_norm (fun v => k0_pay4 (F := Ideal) v x5) x5 (fun v r l => pay4_at v x5 r l) _ k.val (off2_eq k).1 (off2_eq k).2 _
      (lt_of_lt_of_eq k.isLt trips2) Z x

end Cert.Proof.Ffn2

end
-- ==== Proof.Agree2.lean ====
/- The second call's run over the hidden blocks, its reference at the ideal instance, and their equality. -/
module

public import proofs.«01_k».proof.Proof.Values2
public import proofs.«01_k».proof.Proof.Gen.Reference2Ideal.Run
public import Idealize.ShloMosaic.Lib.Tactic.CleanTypes

@[expose] public section

set_option maxRecDepth 16384

noncomputable section

namespace Cert.Proof.Ffn2

open Idealize.ShloMosaic Idealize.ShloMosaic.TcCoe Idealize.SL.Sem Cert.Proof.Ffn

section Reference
open Cert.Reference2Ideal Cert.Reference2Ideal.Gen

/-- The reference's row normalization. -/
def refNorm (x : FVec Ideal S8192x2048 .f32) (g : FVec Ideal S2048 .f32) : FVec Ideal S8192x2048 .f32 :=
  mulf (mulf x (broadcastInDim S8192x2048 ![0, 1] bcast_S8192x1_S8192x2048_0_1
      (Host.rsqrt (addf (Host.divf
          (broadcastInDim S8192x1 ![0] bcast_S8192_S8192x1_0
            (Host.reduceAdd (mulf x x) (constant S_ .f32 0x00000000#32) reducesTo_S8192x2048_S8192_d1 h_S_))
          (broadcastInDim S8192x1 ![] bcast_S_S8192x1 (constant S_ .f32 0x45000000#32)))
        (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 g))

/-- The reference's gate: each element times its logistic. -/
def refSilu (g : FVec Ideal S8192x5632 .f32) : FVec Ideal S8192x5632 .f32 :=
  mulf g (Host.divf (broadcastInDim S8192x5632 ![] bcast_S_S8192x5632 (constant S_ .f32 0x3F800000#32))
    (addf (broadcastInDim S8192x5632 ![] bcast_S_S8192x5632 (constant S_ .f32 0x3F800000#32)) (Host.exp (Host.negf g))))

/-- The reference's residual half step. -/
def refStep (x xn : FVec Ideal S8192x2048 .f32) (G U : FVec Ideal S2048x5632 .f32) (D : FVec Ideal S5632x2048 .f32) :
    FVec Ideal S8192x2048 .f32 :=
  addf x (mulf (broadcastInDim S8192x2048 ![] bcast_S_S8192x2048 (constant S_ .f32 0x3F000000#32))
    (Host.dotGeneral dot_S8192x5632_S5632x2048_S8192x2048_1_0_0_1_n_n none
      (mulf (refSilu (Host.dotGeneral dot_S8192x2048_S2048x5632_S8192x5632_1_0_0_1_n_n none xn G))
        (Host.dotGeneral dot_S8192x2048_S2048x5632_S8192x5632_1_0_0_1_n_n none xn U)) D))

/-- The reference, of its arguments. -/
def refAll (x : FVec Ideal S4x2048x2048 .f32) (g : FVec Ideal S2048 .f32) (G U : FVec Ideal S2048x5632 .f32) (D : FVec Ideal S5632x2048 .f32)
    (h : FVec Ideal S2048 .f32) : FVec Ideal S8192x2048 .f32 :=
  refNorm (refStep (shapeCast S8192x2048 x shapeCasts_S4x2048x2048_S8192x2048)
    (refNorm (shapeCast S8192x2048 x shapeCasts_S4x2048x2048_S8192x2048) g) G U D) h

theorem refNorm_at (x : S8192x2048.Idx → Elt Ideal .f32) (g : S2048.Idx → Elt Ideal .f32) (r : Fin 8192) (l : Fin 2048) :
    refNorm x g (ix2 r l) = rmsAt (fun k => x (ix2 r k)) (fun k => g (ix1 k)) l := by
  pointwise [refNorm, rmsAt]

theorem refStep_at (x xn : S8192x2048.Idx → Elt Ideal .f32) (G U : S2048x5632.Idx → Elt Ideal .f32) (D : S5632x2048.Idx → Elt Ideal .f32)
    (r : Fin 8192) (l : Fin 2048) :
    refStep x xn G U D (ix2 r l) = x (ix2 r l) + halfE * ∑ i : Fin 5632,
      (∑ k : Fin 2048, xn (ix2 r k) * G (ix2 k i)) * logis (∑ k : Fin 2048, xn (ix2 r k) * G (ix2 k i))
        * (∑ k : Fin 2048, xn (ix2 r k) * U (ix2 k i)) * D (ix2 i l) := by
  pointwise [refStep, refSilu, logis, halfE]

theorem res_eq (m : (ℓ : Loc nD τ sig) → Buf (Elt Ideal) ℓ) (c : Dev nD) :
    Value.res_main_v34 (F := Ideal) m c
      = refAll (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Value.res_main_v34 refAll refNorm refStep refSilu
  rfl

end Reference

open Cert.Kernel2Ideal Cert.Kernel2Ideal.Gen Cert.Kernel2Ideal.Value

/-- What hidden unit `i` adds to element `(r, l)` of the rows. -/
def unitAt (X : S8192x2048.Idx → EReal) (g : S1x2048.Idx → EReal) (G U : S2048x5632.Idx → EReal) (D : S5632x2048.Idx → EReal)
    (r : Fin 8192) (l : Fin 2048) (i : Fin 5632) : EReal :=
  unitK (∑ k : Fin 2048, rmsAt (fun k => X (ix2 r k)) (fun k => g (ix2 0 k)) k * G (ix2 k i))
    (∑ k : Fin 2048, rmsAt (fun k => X (ix2 r k)) (fun k => g (ix2 0 k)) k * U (ix2 k i)) * D (ix2 i l)

/-- The `s`-th hidden unit of block `j`. -/
def unitIx (j : ℕ) (s : Fin 512) : Fin 5632 := ⟨j % 11 * 512 + s.val, by have := s.isLt; have := Nat.mod_lt j (show 0 < 11 by decide); omega⟩

/-- Row `r` of row block `b`. -/
def rowIx (b : ℕ) (r : Fin 1024) : Fin 8192 := ⟨b % 8 * 1024 + r.val, by have := r.isLt; have := Nat.mod_lt b (show 0 < 8 by decide); omega⟩

/-- The residual rows with the first `n` hidden blocks added. -/
def accTo (X : S8192x2048.Idx → EReal) (g : S1x2048.Idx → EReal) (G U : S2048x5632.Idx → EReal) (D : S5632x2048.Idx → EReal)
    (n : ℕ) (r : Fin 8192) (l : Fin 2048) : EReal :=
  X (ix2 r l) + ∑ j ∈ Finset.range n, ∑ s : Fin 512, unitAt X g G U D r l (unitIx j s)

theorem accTo_all (X : S8192x2048.Idx → EReal) (g : S1x2048.Idx → EReal) (G U : S2048x5632.Idx → EReal) (D : S5632x2048.Idx → EReal)
    (r : Fin 8192) (l : Fin 2048) : accTo X g G U D 11 r l = X (ix2 r l) + ∑ i : Fin 5632, unitAt X g G U D r l i := by
  unfold accTo
  rw [Idealize.ShloMosaic.Fin.sum_univ_tiles 11 512 rfl, Finset.sum_range]
  refine congrArg (X (ix2 r l) + ·) (Finset.sum_congr rfl fun b _ => Finset.sum_congr rfl fun t _ => ?_)
  refine congrArg (unitAt X g G U D r l) (Fin.ext ?_)
  show (b.val % 11) * 512 + t.val = b.val * 512 + t.val
  rw [Nat.mod_eq_of_lt b.isLt]

theorem accTo_succ (X : S8192x2048.Idx → EReal) (g : S1x2048.Idx → EReal) (G U : S2048x5632.Idx → EReal) (D : S5632x2048.Idx → EReal)
    (n : ℕ) (r : Fin 8192) (l : Fin 2048) :
    accTo X g G U D (n + 1) r l = accTo X g G U D n r l + ∑ s : Fin 512, unitAt X g G U D r l (unitIx n s) := by
  unfold accTo
  rw [Finset.sum_range_succ, add_assoc]

/-- The rows agree with the reference's. -/
theorem rows_eq (x : S4x2048x2048.Idx → Elt Ideal .f32) (g : S2048.Idx → Elt Ideal .f32) (G U : S2048x5632.Idx → Elt Ideal .f32)
    (D : S5632x2048.Idx → Elt Ideal .f32) (h : S2048.Idx → Elt Ideal .f32) (r : Fin 8192) (l : Fin 2048) :
    rmsAt (fun l => accTo (shapeCast S8192x2048 x shapeCasts_S4x2048x2048_S8192x2048) (shapeCast S1x2048 g shapeCasts_S2048_S1x2048) G U D 11 r l)
        (fun k => shapeCast S1x2048 h shapeCasts_S2048_S1x2048 (ix2 0 k)) l
      = refAll x g G U D h (ix2 r l) := by
  have e : ∀ (f : S2048.Idx → Elt Ideal .f32) (k : Fin 2048), shapeCast S1x2048 f shapeCasts_S2048_S1x2048 (ix2 0 k) = f (ix1 k) := fun f k => by
    pointwise
  unfold refAll
  rw [refNorm_at]
  simp only [refStep_at, refNorm_at, half_sum, accTo_all, unitAt, unitK, e, mul_assoc]

section Blocks
variable (m : (ℓ : Loc nD τ sig) → Buf (Elt Ideal) ℓ) (c : Dev nD)

theorem V_main_v0 : V m c main_v0 = shapeCast S8192x2048 (m ((c : Thread nD τ).loc main_arg0)) shapeCasts_S4x2048x2048_S8192x2048 := by
  unfold V hostOps0; after_results_simp <;> rfl
theorem V_main_v1 : V m c main_v1 = shapeCast S1x2048 (m ((c : Thread nD τ).loc main_arg1)) shapeCasts_S2048_S1x2048 := by
  unfold V hostOps0; after_results_simp <;> rfl
theorem V_main_v2 : V m c main_v2 = m ((c : Thread nD τ).loc main_arg2) := by
  unfold V hostOps0; after_results_simp <;> rfl
theorem V_main_v3 : V m c main_v3 = m ((c : Thread nD τ).loc main_arg3) := by
  unfold V hostOps0; after_results_simp <;> rfl
theorem V_main_v4 : V m c main_v4 = m ((c : Thread nD τ).loc main_arg4) := by
  unfold V hostOps0; after_results_simp <;> rfl
theorem V_main_v5 : V m c main_v5 = shapeCast S1x2048 (m ((c : Thread nD τ).loc main_arg5)) shapeCasts_S2048_S1x2048 := by
  unfold V hostOps0; after_results_simp <;> rfl

theorem idx0 : ∀ t : Fin cfg0.N, win0_0.index t (0 : Fin 2) = t.val / 11 % 8 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = t.val % 11 % 11 :=
  (by decide +kernel : ∀ t : Fin grid0.N, _)
theorem idx3 : ∀ t : Fin cfg0.N, win0_3.index t (0 : Fin 2) = 0 ∧ win0_3.index t (1 : Fin 2) = t.val % 11 % 11 :=
  (by decide +kernel : ∀ t : Fin grid0.N, _)
theorem idx4 : ∀ t : Fin cfg0.N, win0_4.index t (0 : Fin 2) = t.val % 11 % 11 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)

theorem blk0 (w : S8192x2048.Idx → Elt Ideal .f32) (h : V m c main_v0 = w) (t : Fin cfg0.N) (r : Fin 1024) (k : Fin 2048) :
    iblk m c 0 t (ix2 r k) = w (ix2 (rowIx (t.val / 11) r) k) := by
  obtain ⟨e0, e1⟩ := idx0 t
  rw [← h]
  refine congrArg (V m c main_v0) (funext fun a => Fin.ext ?_)
  fin_cases a
  · show win0_0.index t (0 : Fin 2) * 1024 + 1 * r.val = t.val / 11 % 8 * 1024 + r.val; omega
  · show win0_0.index t (1 : Fin 2) * 2048 + 1 * k.val = k.val; omega
theorem blk1 (w : S1x2048.Idx → Elt Ideal .f32) (h : V m c main_v1 = w) (t : Fin cfg0.N) : iblk m c 1 t = w := by
  obtain ⟨e0, e1⟩ := idx1 t
  rw [← h]
  funext i
  refine congrArg (V m c main_v1) (funext fun a => Fin.ext ?_)
  fin_cases a
  · show win0_1.index t (0 : Fin 2) * 1 + 1 * (i 0).val = (i 0).val; omega
  · show win0_1.index t (1 : Fin 2) * 2048 + 1 * (i 1).val = (i 1).val; omega
theorem blk2 (w : S2048x5632.Idx → Elt Ideal .bf16) (h : V m c main_v2 = w) (t : Fin cfg0.N) (k : Fin 2048) (s : Fin 512) :
    iblk m c 2 t (ix2 k s) = w (ix2 k (unitIx (t.val % 11) s)) := by
  obtain ⟨e0, e1⟩ := idx2 t
  rw [← h]
  refine congrArg (V m c main_v2) (funext fun a => Fin.ext ?_)
  fin_cases a
  · show win0_2.index t (0 : Fin 2) * 2048 + 1 * k.val = k.val; omega
  · show win0_2.index t (1 : Fin 2) * 512 + 1 * s.val = t.val % 11 % 11 * 512 + s.val; omega
theorem blk3 (w : S2048x5632.Idx → Elt Ideal .bf16) (h : V m c main_v3 = w) (t : Fin cfg0.N) (k : Fin 2048) (s : Fin 512) :
    iblk m c 3 t (ix2 k s) = w (ix2 k (unitIx (t.val % 11) s)) := by
  obtain ⟨e0, e1⟩ := idx3 t
  rw [← h]
  refine congrArg (V m c main_v3) (funext fun a => Fin.ext ?_)
  fin_cases a
  · show win0_3.index t (0 : Fin 2) * 2048 + 1 * k.val = k.val; omega
  · show win0_3.index t (1 : Fin 2) * 512 + 1 * s.val = t.val % 11 % 11 * 512 + s.val; omega
theorem blk4 (w : S5632x2048.Idx → Elt Ideal .bf16) (h : V m c main_v4 = w) (t : Fin cfg0.N) (s : Fin 512) (l : Fin 2048) :
    iblk m c 4 t (ix2 s l) = w (ix2 (unitIx (t.val % 11) s) l) := by
  obtain ⟨e0, e1⟩ := idx4 t
  rw [← h]
  refine congrArg (V m c main_v4) (funext fun a => Fin.ext ?_)
  fin_cases a
  · show win0_4.index t (0 : Fin 2) * 512 + 1 * s.val = t.val % 11 % 11 * 512 + s.val; omega
  · show win0_4.index t (1 : Fin 2) * 2048 + 1 * l.val = l.val; omega
theorem blk5 (w : S1x2048.Idx → Elt Ideal .f32) (h : V m c main_v5 = w) (t : Fin cfg0.N) : iblk m c 5 t = w := by
  obtain ⟨e0, e1⟩ := idx5 t
  rw [← h]
  funext i
  refine congrArg (V m c main_v5) (funext fun a => Fin.ext ?_)
  fin_cases a
  · show win0_5.index t (0 : Fin 2) * 1 + 1 * (i 0).val = (i 0).val; omega
  · show win0_5.index t (1 : Fin 2) * 2048 + 1 * (i 1).val = (i 1).val; omega

/-! ## What each point leaves -/

theorem at_A (t : Fin cfg0.N) (h0 : t.val % 11 = 0) (h1 : ¬t.val % 11 = 10) :
    outsAt0 m c t.val t.isLt
      = (k0_pay3 (F := Ideal) (normG (iblk m c 0 t) (iblk m c 1 t)) (iblk m c 2 t) (iblk m c 3 t) (iblk m c 0 t) (iblk m c 4 t), normG (iblk m c 0 t) (iblk m c 1 t)) := by
  rw [outsAt0_A m c t h0 h1, out_A, sout_A]
theorem at_B (n : ℕ) (hn : n + 1 < cfg0.N) (h0 : ¬(n + 1) % 11 = 0) (h1 : ¬(n + 1) % 11 = 10) :
    outsAt0 m c (n + 1) hn
      = (k0_pay3 (F := Ideal) (outsAt0 m c n (Nat.lt_of_succ_lt hn)).2 (iblk m c 2 ⟨n + 1, hn⟩) (iblk m c 3 ⟨n + 1, hn⟩) (outsAt0 m c n (Nat.lt_of_succ_lt hn)).1 (iblk m c 4 ⟨n + 1, hn⟩),
          (outsAt0 m c n (Nat.lt_of_succ_lt hn)).2) := by
  rw [outsAt0_succ]
  refine (stAt0_B m c ⟨n + 1, hn⟩ _ h0 h1).trans ?_
  rw [out_B]
  rfl
theorem at_C (n : ℕ) (hn : n + 1 < cfg0.N) (h0 : ¬(n + 1) % 11 = 0) (h1 : (n + 1) % 11 = 10) :
    outsAt0 m c (n + 1) hn
      = (normG (k0_pay3 (F := Ideal) (outsAt0 m c n (Nat.lt_of_succ_lt hn)).2 (iblk m c 2 ⟨n + 1, hn⟩) (iblk m c 3 ⟨n + 1, hn⟩) (outsAt0 m c n (Nat.lt_of_succ_lt hn)).1 (iblk m c 4 ⟨n + 1, hn⟩)) (iblk m c 5 ⟨n + 1, hn⟩),
          (outsAt0 m c n (Nat.lt_of_succ_lt hn)).2) := by
  rw [outsAt0_succ]
  refine (stAt0_C m c ⟨n + 1, hn⟩ _ h0 h1).trans ?_
  rw [out_C]
  rfl

variable (X : S8192x2048.Idx → Elt Ideal .f32) (g h : S1x2048.Idx → Elt Ideal .f32) (G U : S2048x5632.Idx → Elt Ideal .f32) (D : S5632x2048.Idx → Elt Ideal .f32)
  (hX : V m c main_v0 = X) (hg : V m c main_v1 = g) (hG : V m c main_v2 = G) (hU : V m c main_v3 = U) (hD : V m c main_v4 = D) (hh : V m c main_v5 = h)

include hG hU hD in
/-- A block's part of the sum, over the normalized rows. -/
theorem part_at (t : Fin cfg0.N) (s : S1024x2048.Idx → EReal) (hs : ∀ r k, s (ix2 r k) = rmsAt (fun k => X (ix2 (rowIx (t.val / 11) r) k)) (fun k => g (ix2 0 k)) k)
    (o : S1024x2048.Idx → EReal) (r : Fin 1024) (l : Fin 2048) :
    k0_pay3 (F := Ideal) s (iblk m c 2 t) (iblk m c 3 t) o (iblk m c 4 t) (ix2 r l)
      = o (ix2 r l) + ∑ u : Fin 512, unitAt X g G U D (rowIx (t.val / 11) r) l (unitIx (t.val % 11) u) := by
  refine (pay3_at s (iblk m c 2 t) (iblk m c 3 t) o (iblk m c 4 t) r l).trans ?_
  refine congrArg (o (ix2 r l) + ·) (Finset.sum_congr rfl fun u _ => ?_)
  unfold unitAt
  rw [blk4 m c D hD]
  refine congrArg₂ (fun a b => unitK a b * _) (Finset.sum_congr rfl fun k _ => ?_) (Finset.sum_congr rfl fun k _ => ?_)
  · rw [hs, blk2 m c G hG]
  · rw [hs, blk3 m c U hU]

include hX hg hG hU hD in
/-- After `j + 1` of a row block's first ten points: the normalized rows kept, and the sum so far. -/
theorem run_at (b : ℕ) (hb : b < 8) : ∀ (j : ℕ) (_ : j < 10) (hn : 11 * b + j < cfg0.N),
    (∀ r k, (outsAt0 m c (11 * b + j) hn).2 (ix2 r k) = rmsAt (fun k => X (ix2 (rowIx b r) k)) (fun k => g (ix2 0 k)) k)
    ∧ (∀ r l, (outsAt0 m c (11 * b + j) hn).1 (ix2 r l) = accTo X g G U D (j + 1) (rowIx b r) l)
  | 0, _, hn => by
    have hq : (⟨11 * b + 0, hn⟩ : Fin cfg0.N).val / 11 = b := by show (11 * b + 0) / 11 = b; omega
    have hm : (⟨11 * b + 0, hn⟩ : Fin cfg0.N).val % 11 = 0 := by show (11 * b + 0) % 11 = 0; omega
    have e := at_A m c ⟨11 * b + 0, hn⟩ hm (by omega)
    have hs : ∀ r k, normG (iblk m c 0 ⟨11 * b + 0, hn⟩) (iblk m c 1 ⟨11 * b + 0, hn⟩) (ix2 r k)
        = rmsAt (fun k => X (ix2 (rowIx b r) k)) (fun k => g (ix2 0 k)) k := fun r k => by
      rw [blk1 m c g hg]
      refine congrArg (fun f => rmsAt f _ k) (funext fun k => ?_)
      exact (blk0 m c X hX _ r k).trans (by rw [hq])
    refine ⟨fun r k => (congrArg (fun p => p.2 (ix2 r k)) e).trans (hs r k), fun r l => (congrArg (fun p => p.1 (ix2 r l)) e).trans ?_⟩
    refine (part_at m c X g G U D hG hU hD _ _ (fun r k => (hs r k).trans (by rw [hq])) _ r l).trans ?_
    rw [accTo_succ, hq, hm]
    refine congrArg (· + _) ?_
    refine (blk0 m c X hX _ r l).trans ?_
    rw [hq]
    unfold accTo
    rw [Finset.sum_range_zero, add_zero]
  | j + 1, hj, hn => by
    obtain ⟨ih1, ih2⟩ := run_at b hb j (by omega) (Nat.lt_of_succ_lt hn)
    have hq : (⟨11 * b + j + 1, hn⟩ : Fin cfg0.N).val / 11 = b := by show (11 * b + j + 1) / 11 = b; omega
    have hm : (⟨11 * b + j + 1, hn⟩ : Fin cfg0.N).val % 11 = j + 1 := by show (11 * b + j + 1) % 11 = j + 1; omega
    have e := at_B m c (11 * b + j) hn (by omega) (by omega)
    refine ⟨fun r k => (congrArg (fun p => p.2 (ix2 r k)) e).trans (ih1 r k), fun r l => (congrArg (fun p => p.1 (ix2 r l)) e).trans ?_⟩
    refine (part_at m c X g G U D hG hU hD _ _ (fun r k => (ih1 r k).trans (by rw [hq])) _ r l).trans ?_
    rw [accTo_succ X g G U D (j + 1), hq, hm, ih2]

include hX hg hG hU hD hh in
/-- At the last of the row block's points: the finished rows, normalized. -/
theorem last_at (b : ℕ) (hb : b < 8) (hn : 11 * b + 10 < cfg0.N) (r : Fin 1024) (l : Fin 2048) :
    (outsAt0 m c (11 * b + 10) hn).1 (ix2 r l) = rmsAt (fun l => accTo X g G U D 11 (rowIx b r) l) (fun k => h (ix2 0 k)) l := by
  obtain ⟨ih1, ih2⟩ := run_at m c X g G U D hX hg hG hU hD b hb 9 (by omega) (Nat.lt_of_succ_lt hn)
  have hq : (⟨11 * b + 9 + 1, hn⟩ : Fin cfg0.N).val / 11 = b := by show (11 * b + 9 + 1) / 11 = b; omega
  have hm : (⟨11 * b + 9 + 1, hn⟩ : Fin cfg0.N).val % 11 = 10 := by show (11 * b + 9 + 1) % 11 = 10; omega
  have e := at_C m c (11 * b + 9) hn (by omega) (by omega)
  refine (congrArg (fun p => p.1 (ix2 r l)) e).trans ?_
  dsimp only
  rw [blk5 m c h hh]
  refine congrArg (fun f => rmsAt f _ l) (funext fun k => ?_)
  refine (part_at m c X g G U D hG hU hD _ _ (fun r k => (ih1 r k).trans (by rw [hq])) _ r k).trans ?_
  rw [accTo_succ X g G U D 10, hq, hm, ih2]

end Blocks

/-- What the kernel writes, from its arguments. -/
theorem out_eq (m : (ℓ : Loc nD τ sig) → Buf (Elt Ideal) ℓ) (c : Dev nD) :
    G6 (F := Ideal) m c
      = refAll (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  funext i
  obtain ⟨r, l, rfl⟩ : ∃ (r : Fin 8192) (l : Fin 2048), i = ix2 r l := ⟨i 0, i 1, eq_ix2 i⟩
  have hr := r.isLt
  have hl := l.isLt
  have hb : r.val / 1024 < 8 := by omega
  have hn : 11 * (r.val / 1024) + 10 < cfg0.N := lt_of_lt_of_eq (by omega) (show cfg0.N = 88 from N_0).symm
  have hp : pt6Of (ix2 r l) = 11 * (r.val / 1024) + 10 := by
    show 11 * (1 * (r.val / 1024 - 0) + 1 * (l.val / 2048 - 0)) + 10 = _
    omega
  have hloc : loc6Of (ix2 r l) = ix2 ⟨r.val % 1024, Nat.mod_lt _ (by decide)⟩ l := by
    funext a
    fin_cases a
    · rfl
    · exact Fin.ext (Nat.mod_eq_of_lt hl)
  have hrow : rowIx (r.val / 1024) ⟨r.val % 1024, Nat.mod_lt _ (by decide)⟩ = r := Fin.ext (by
    show r.val / 1024 % 8 * 1024 + r.val % 1024 = r.val; omega)
  unfold G6
  rw [dif_pos (lt_of_eq_of_lt hp hn), fold0_congr m c _ _ _ (by omega) hp, ← outsAt0_sweep m c _ hn, hloc]
  rw [last_at m c _ _ _ _ _ _ (V_main_v0 m c) (V_main_v1 m c) (V_main_v2 m c) (V_main_v3 m c) (V_main_v4 m c) (V_main_v5 m c) _ hb, hrow]
  exact rows_eq _ _ _ _ _ _ r l

end Cert.Proof.Ffn2

end
-- ==== Proof.lean ====
module

public import proofs.«01_k».proof.Defs
public import proofs.«01_k».proof.Proof.Gen.Kernel
public import proofs.«01_k».proof.Proof.Launch
public import proofs.«01_k».proof.Proof.Agree
public import proofs.«01_k».proof.Proof.Agree3
public import proofs.«01_k».proof.Proof.Agree4
public import proofs.«01_k».proof.Proof.Agree6
public import proofs.«01_k».proof.Proof.Agree2
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.ReferenceIdeal
public import proofs.«01_k».proof.Proof.Gen.ReferenceIdeal.Run

@[expose] public section

noncomputable section

namespace Cert.Proof

open Idealize.ShloMosaic Idealize.SL.Sem

/-- Of what the run ends with: the arguments and the counters. -/
theorem quiet {F : FTy → Type} [FloatOps F] (m : (ℓ : Loc Cert.KernelIdeal.nD Cert.KernelIdeal.τ Cert.KernelIdeal.sig) → Buf (Elt F) ℓ)
    (r : PUnit × MemSt Cert.KernelIdeal.nD Cert.KernelIdeal.τ Cert.KernelIdeal.sig (Elt F)) (h : Ffn.Final m r) :
    (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
    ∧ r.2.sem = fun _ => 0 := ⟨fun c => (h.1 c).2.2.2.2, h.2⟩

/-- The two printed bodies are the same program: the idealization rewrote no operation. -/
theorem bodies_eq : Cert.Kernel.defs₀ (F := Bits) = Cert.KernelIdeal.defs₀ (F := Bits) :=
  congrArg Defs.onTc (funext fun l => match l with
    | 0 => funext fun ⟨_, _⟩ => rfl
    | ⟨_ + 1, h⟩ => absurd h (Nat.not_lt.2 (Nat.le_add_left _ _)))

theorem defs_eq : Cert.Kernel.defs (F := Bits) = Cert.KernelIdeal.defs (F := Bits) :=
  congrArg (Pipeline.defs (Cert.KernelIdeal.pcfgs (F := Bits))) bodies_eq

theorem frame_kernel : Cert.quiescent_Kernel := by
  intro m ρ _
  rw [defs_eq]
  exact (θ_run Cert.KernelIdeal.defs _ _).mono (fun r h => quiet m r h) (Ffn.run_main (F := Bits) m ρ)

theorem frame_ideal : Cert.quiescent_KernelIdeal := fun m ρ _ =>
  (θ_run Cert.KernelIdeal.defs _ _).mono (fun r h => quiet m r h) (Ffn.run_main (F := Ideal) m ρ)

theorem frame_reference : Cert.quiescent_ReferenceIdeal := fun m ρ _ =>
  (θ_run Cert.ReferenceIdeal.defs _ _).mono
    (fun r h => ⟨fun c => (h c).2.2.2.2, sem_eq_zero_of_no_sems (by decide) r.2⟩) (Cert.ReferenceIdeal.Value.run (F := Ideal) m ρ)

/-- The two programs end with the same four arrays: the rows (Proof/Agree.lean), and the weights, of which a change of format keeps
    every element. -/
theorem algebraic : Cert.algebraic_KernelIdeal_ReferenceIdeal := by
  intro m ρ m' ρ' _ hagree
  refine ⟨fun c => Ffn.refNorm (Ffn.refStep (shapeCast Cert.KernelIdeal.S1024x2048 (m ((c.tc : Thread Cert.KernelIdeal.nD Cert.KernelIdeal.τ).loc Cert.KernelIdeal.main_arg0)) Cert.KernelIdeal.Gen.shapeCasts_S128x8x2048_S1024x2048)
        (Ffn.refNorm (shapeCast Cert.KernelIdeal.S1024x2048 (m ((c.tc : Thread Cert.KernelIdeal.nD Cert.KernelIdeal.τ).loc Cert.KernelIdeal.main_arg0)) Cert.KernelIdeal.Gen.shapeCasts_S128x8x2048_S1024x2048) (m ((c.tc : Thread Cert.KernelIdeal.nD Cert.KernelIdeal.τ).loc Cert.KernelIdeal.main_arg1)))
        (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)))
      (m ((c.tc : Thread Cert.KernelIdeal.nD Cert.KernelIdeal.τ).loc Cert.KernelIdeal.main_arg5)),
    fun c => m ((c.tc : Thread Cert.KernelIdeal.nD Cert.KernelIdeal.τ).loc Cert.KernelIdeal.main_arg2),
    fun c => m ((c.tc : Thread Cert.KernelIdeal.nD Cert.KernelIdeal.τ).loc Cert.KernelIdeal.main_arg3),
    fun c => m ((c.tc : Thread Cert.KernelIdeal.nD Cert.KernelIdeal.τ).loc Cert.KernelIdeal.main_arg4), ?_, ?_⟩
  · refine (θ_run Cert.KernelIdeal.defs _ _).mono (fun r h c => ?_) (Ffn.run_main (F := Ideal) m ρ)
    obtain ⟨h0, h1, h2, h3, hargs⟩ := h.1 c
    exact ⟨h0.trans (Ffn.arr_out m c _ fun t => Ffn.outAt_eq m c t), h1.trans (Cert.KernelIdeal.Gen.V_main_arg2 m c),
      h2.trans (Cert.KernelIdeal.Gen.V_main_arg3 m c), h3.trans (Cert.KernelIdeal.Gen.V_main_arg4 m c), hargs⟩
  · refine (θ_run Cert.ReferenceIdeal.defs _ _).mono (fun r h c => ?_) (Cert.ReferenceIdeal.Value.run (F := Ideal) m' ρ')
    obtain ⟨a0, a1, a2, a3, a4, a5⟩ := hagree c
    obtain ⟨h0, h1, h2, h3, hargs⟩ := h c
    refine ⟨h0.trans ((Ffn.res_eq m' c).trans ?_), h1.trans a2, h2.trans a3, h3.trans a4, hargs⟩
    rw [a0, a1, a2, a3, a4, a5]

/-! ## The second call -/

theorem frame_kernel2 : Cert.quiescent_Kernel2 := fun m ρ _ => Cert.Kernel2.Gen.frame m ρ

theorem frame_ideal2 : Cert.quiescent_Kernel2Ideal := fun m ρ _ => Cert.Kernel2Ideal.Gen.frame m ρ

theorem frame_reference2 : Cert.quiescent_Reference2Ideal := fun m ρ _ =>
  (θ_run Cert.Reference2Ideal.defs _ _).mono
    (fun r h => ⟨fun c => (h c).2, sem_eq_zero_of_no_sems (by decide) r.2⟩) (Cert.Reference2Ideal.Value.run (F := Ideal) m ρ)

/-- The second call's two programs end with the same rows (Proof/Agree2.lean). -/
theorem algebraic2 : Cert.algebraic_Kernel2Ideal_Reference2Ideal := by
  intro m ρ m' ρ' _ hagree
  refine ⟨fun c => Cert.Kernel2Ideal.Value.G6 (F := Ideal) m c, Cert.Kernel2Ideal.Value.run (F := Ideal) m ρ, ?_⟩
  refine (θ_run Cert.Reference2Ideal.defs _ _).mono (fun r h c => ?_) (Cert.Reference2Ideal.Value.run (F := Ideal) m' ρ')
  obtain ⟨a0, a1, a2, a3, a4, a5⟩ := hagree c
  obtain ⟨h0, hargs⟩ := h c
  refine ⟨h0.trans ((Ffn2.res_eq m' c).trans ?_), hargs⟩
  rw [a0, a1, a2, a3, a4, a5]
  exact (Ffn2.out_eq m c).symm

/-! ## The third call -/

theorem frame_kernel3 : Cert.quiescent_Kernel3 := fun m ρ _ => Cert.Kernel3.Gen.frame m ρ

theorem frame_ideal3 : Cert.quiescent_Kernel3Ideal := fun m ρ _ => Cert.Kernel3Ideal.Gen.frame m ρ

theorem frame_reference3 : Cert.quiescent_Reference3Ideal := fun m ρ _ =>
  (θ_run Cert.Reference3Ideal.defs _ _).mono
    (fun r h => ⟨fun c => (h c).2.2, sem_eq_zero_of_no_sems (by decide) r.2⟩) (Cert.Reference3Ideal.Value.run (F := Ideal) m ρ)

/-- The third call's two programs end with the same keys and values (Proof/Agree3.lean). -/
theorem algebraic3 : Cert.algebraic_Kernel3Ideal_Reference3Ideal := by
  intro m ρ m' ρ' _ hagree
  refine ⟨fun c => MemKv.refAll (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2)),
    fun c => MemKv.refAll (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg3)), ?_, ?_⟩
  · refine (θ_run Cert.Kernel3Ideal.defs _ _).mono (fun r h c => ?_) (Cert.Kernel3Ideal.Value.run_blocks (F := Ideal) m ρ)
    obtain ⟨h0, h1, hargs⟩ := h c
    exact ⟨h0.trans (MemKv.arr_4 m c), h1.trans (MemKv.arr_5 m c), hargs⟩
  · refine (θ_run Cert.Reference3Ideal.defs _ _).mono (fun r h c => ?_) (Cert.Reference3Ideal.Value.run (F := Ideal) m' ρ')
    obtain ⟨a0, a1, a2, a3⟩ := hagree c
    obtain ⟨h0, h1, hargs⟩ := h c
    refine ⟨h0.trans ?_, h1.trans ?_, hargs⟩
    · rw [a0, a1, a2]
      unfold MemKv.refAll MemKv.refNorm
      rfl
    · rw [a0, a1, a3]
      unfold MemKv.refAll MemKv.refNorm
      rfl

/-! ## The fourth call -/

theorem frame_kernel4 : Cert.quiescent_Kernel4 := fun m ρ _ => Cert.Kernel4.Gen.frame m ρ

theorem frame_ideal4 : Cert.quiescent_Kernel4Ideal := fun m ρ _ => Cert.Kernel4Ideal.Gen.frame m ρ

theorem frame_reference4 : Cert.quiescent_Reference4Ideal := fun m ρ _ =>
  (θ_run Cert.Reference4Ideal.defs _ _).mono
    (fun r h => ⟨fun c => (h c).2, sem_eq_zero_of_no_sems (by decide) r.2⟩) (Cert.Reference4Ideal.Value.run (F := Ideal) m ρ)

/-- The fourth call's two programs end with the same products (Proof/Agree4.lean). -/
theorem algebraic4 : Cert.algebraic_Kernel4Ideal_Reference4Ideal := by
  intro m ρ m' ρ' _ hagree
  refine ⟨fun c => InProj.refAll (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2)), ?_, ?_⟩
  · refine (θ_run Cert.Kernel4Ideal.defs _ _).mono (fun r h c => ?_) (Cert.Kernel4Ideal.Value.run (F := Ideal) m ρ)
    obtain ⟨h0, hargs⟩ := h c
    exact ⟨h0.trans (InProj.out_eq m c), hargs⟩
  · refine (θ_run Cert.Reference4Ideal.defs _ _).mono (fun r h c => ?_) (Cert.Reference4Ideal.Value.run (F := Ideal) m' ρ')
    obtain ⟨a0, a1, a2⟩ := hagree c
    obtain ⟨h0, hargs⟩ := h c
    refine ⟨h0.trans ?_, hargs⟩
    rw [a0, a1, a2]
    unfold InProj.refAll InProj.refNorm
    rfl

/-! ## The call of the output projection and the cross-attention -/

/-- The side conditions of the predicate's broadcasts. -/
instance facts_finite : Cert.Pre_finite.Facts where
  bcast_S_S2048 := by decide
  bcast_S_S4x256x4x128 := by decide
  bcast_S_S2048x512 := by decide

theorem frame_kernel6 : Cert.quiescent_Kernel6 := fun m ρ _ => Cert.Kernel6.Gen.frame m ρ

theorem frame_ideal6 : Cert.quiescent_Kernel6Ideal := fun m ρ _ => Cert.Kernel6Ideal.Gen.frame m ρ

theorem frame_ideal6_finite : Cert.quiescent_Kernel6Ideal_pre_finite := fun m ρ _ => Cert.Kernel6Ideal.Gen.frame m ρ

theorem frame_reference6 : Cert.quiescent_Reference6Ideal := fun m ρ _ =>
  (θ_run Cert.Reference6Ideal.defs _ _).mono
    (fun r h => ⟨fun c => (h c).2, sem_eq_zero_of_no_sems (by decide) r.2⟩) (Cert.Reference6Ideal.Value.run (F := Ideal) m ρ)

theorem frame_reference6_finite : Cert.quiescent_Reference6Ideal_pre_finite := fun m ρ _ =>
  (θ_run Cert.Reference6Ideal.defs _ _).mono
    (fun r h => ⟨fun c => (h c).2, sem_eq_zero_of_no_sems (by decide) r.2⟩) (Cert.Reference6Ideal.Value.run (F := Ideal) m ρ)

/-- A comparison that holds, read back. -/
theorem le_of_bit (a b : EReal) (h : BitVec.ofBool (decide (a ≤ b)) = 1#1) : a ≤ b := by
  by_contra hn
  rw [decide_eq_false hn] at h
  exact absurd h (by decide)

/-- Where the comparison of absolute values with the largest finite value holds everywhere, every entry is real. -/
theorem isR_of_pre {S : Shape} (x : FVec Ideal S .f32) (b : FVec Ideal S .f32) (hb : ∀ i, b i = Ideal.ofBits .f32 0x7F7FFFFF#32)
    (h : cmpf .ole (Host.absf x) b = (fun _ => 1#1)) (i : S.Idx) : Attn.IsR (x i) :=
  Attn.isR_of_abs (x i) (by
    rw [← hb i]
    exact le_of_bit _ _ (congrFun h i))

/-- The call's two programs end with the same rows (Proof/Agree6.lean). -/
theorem algebraic6 : Cert.algebraic_Kernel6Ideal_Reference6Ideal_pre_finite := by
  intro m ρ m' ρ' hpre hagree
  refine ⟨fun c => Attn.refAll (m ((c.tc : Thread Cert.Kernel6Ideal.nD Cert.Kernel6Ideal.τ).loc Cert.Kernel6Ideal.main_arg0))
      (m ((c.tc : Thread Cert.Kernel6Ideal.nD Cert.Kernel6Ideal.τ).loc Cert.Kernel6Ideal.main_arg1))
      (m ((c.tc : Thread Cert.Kernel6Ideal.nD Cert.Kernel6Ideal.τ).loc Cert.Kernel6Ideal.main_arg2))
      (m ((c.tc : Thread Cert.Kernel6Ideal.nD Cert.Kernel6Ideal.τ).loc Cert.Kernel6Ideal.main_arg3))
      (m ((c.tc : Thread Cert.Kernel6Ideal.nD Cert.Kernel6Ideal.τ).loc Cert.Kernel6Ideal.main_arg4))
      (m ((c.tc : Thread Cert.Kernel6Ideal.nD Cert.Kernel6Ideal.τ).loc Cert.Kernel6Ideal.main_arg5))
      (m ((c.tc : Thread Cert.Kernel6Ideal.nD Cert.Kernel6Ideal.τ).loc Cert.Kernel6Ideal.main_arg6))
      (m ((c.tc : Thread Cert.Kernel6Ideal.nD Cert.Kernel6Ideal.τ).loc Cert.Kernel6Ideal.main_arg7))
      (m ((c.tc : Thread Cert.Kernel6Ideal.nD Cert.Kernel6Ideal.τ).loc Cert.Kernel6Ideal.main_arg8)), ?_, ?_⟩
  · refine (θ_run Cert.Kernel6Ideal.defs _ _).mono (fun r h c => ?_) (Cert.Kernel6Ideal.Value.run_blocks (F := Ideal) m ρ)
    obtain ⟨h0, hargs⟩ := h c
    obtain ⟨p0, p1, p2⟩ := hpre c
    exact ⟨h0.trans (Attn.arr_10 m c (isR_of_pre _ _ (fun _ => rfl) p0) (isR_of_pre _ _ (fun _ => rfl) p1) (isR_of_pre _ _ (fun _ => rfl) p2)), hargs⟩
  · refine (θ_run Cert.Reference6Ideal.defs _ _).mono (fun r h c => ?_) (Cert.Reference6Ideal.Value.run (F := Ideal) m' ρ')
    obtain ⟨a0, a1, a2, a3, a4, a5, a6, a7, a8⟩ := hagree c
    obtain ⟨h0, hargs⟩ := h c
    refine ⟨h0.trans ((Attn.res_eq m' c).trans ?_), hargs⟩
    rw [a0, a1, a2, a3, a4, a5, a6, a7, a8]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel6.Gen.facts, Cert.Kernel6Ideal.Gen.facts, Cert.Reference6Ideal.Gen.facts, facts_finite,
  frame_kernel, frame_ideal, frame_reference, frame_kernel2, frame_ideal2, frame_reference2,
  frame_kernel3, frame_ideal3, frame_reference3, frame_kernel4, frame_ideal4, frame_reference4,
  frame_kernel6, frame_ideal6, frame_ideal6_finite, frame_reference6, frame_reference6_finite,
  trivial, algebraic, trivial, algebraic2, trivial, algebraic3, trivial, algebraic4,
  trivial, algebraic6⟩

end Cert.Proof

end
